-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)) (v6 : (c : Dev Cert.Kernel4Ideal.nD) → Buf (Elt Ideal) ((c.tc : Thread Cert.Kernel4Ideal.nD Cert.Kernel4Ideal.τ).loc Cert.Kernel4Ideal.main_v20_6)) (v7 : (c : Dev Cert.Kernel4Ideal.nD) → Buf (Elt Ideal) ((c.tc : Thread Cert.Kernel4Ideal.nD Cert.Kernel4Ideal.τ).loc Cert.Kernel4Ideal.main_v20_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_v20_6) = v6 c
          ∧ r.2.mem ((c.tc : Thread Cert.Kernel4Ideal.nD Cert.Kernel4Ideal.τ).loc Cert.Kernel4Ideal.main_v20_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v55) = v4 c
          ∧ r.2.mem ((c.tc : Thread Cert.Reference4Ideal.nD Cert.Reference4Ideal.τ).loc Cert.Reference4Ideal.main_v57) = v5 c
          ∧ r.2.mem ((c.tc : Thread Cert.Reference4Ideal.nD Cert.Reference4Ideal.τ).loc Cert.Reference4Ideal.main_v37) = v6 c
          ∧ r.2.mem ((c.tc : Thread Cert.Reference4Ideal.nD Cert.Reference4Ideal.τ).loc Cert.Reference4Ideal.main_v58) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_v43) = v4 c
          ∧ r.2.mem ((c.tc : Thread Cert.Reference5Ideal.nD Cert.Reference5Ideal.τ).loc Cert.Reference5Ideal.main_v46) = v5 c
          ∧ r.2.mem ((c.tc : Thread Cert.Reference5Ideal.nD Cert.Reference5Ideal.τ).loc Cert.Reference5Ideal.main_v37) = v6 c
          ∧ r.2.mem ((c.tc : Thread Cert.Reference5Ideal.nD Cert.Reference5Ideal.τ).loc Cert.Reference5Ideal.main_v38) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v0) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_v63) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8)) (v1 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v64) = v0 c
          ∧ r.2.mem ((c.tc : Thread Cert.Reference9Ideal.nD Cert.Reference9Ideal.τ).loc Cert.Reference9Ideal.main_v65) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v20_0)) (v1 : (c : Dev Cert.Kernel10Ideal.nD) → Buf (Elt Ideal) ((c.tc : Thread Cert.Kernel10Ideal.nD Cert.Kernel10Ideal.τ).loc Cert.Kernel10Ideal.main_v22)) (v2 : (c : Dev Cert.Kernel10Ideal.nD) → Buf (Elt Ideal) ((c.tc : Thread Cert.Kernel10Ideal.nD Cert.Kernel10Ideal.τ).loc Cert.Kernel10Ideal.main_v24)) (v3 : (c : Dev Cert.Kernel10Ideal.nD) → Buf (Elt Ideal) ((c.tc : Thread Cert.Kernel10Ideal.nD Cert.Kernel10Ideal.τ).loc Cert.Kernel10Ideal.main_v20_3)) (v4 : (c : Dev Cert.Kernel10Ideal.nD) → Buf (Elt Ideal) ((c.tc : Thread Cert.Kernel10Ideal.nD Cert.Kernel10Ideal.τ).loc Cert.Kernel10Ideal.main_v20_4)) (v5 : (c : Dev Cert.Kernel10Ideal.nD) → Buf (Elt Ideal) ((c.tc : Thread Cert.Kernel10Ideal.nD Cert.Kernel10Ideal.τ).loc Cert.Kernel10Ideal.main_v20_5)) (v6 : (c : Dev Cert.Kernel10Ideal.nD) → Buf (Elt Ideal) ((c.tc : Thread Cert.Kernel10Ideal.nD Cert.Kernel10Ideal.τ).loc Cert.Kernel10Ideal.main_v20_6)) (v7 : (c : Dev Cert.Kernel10Ideal.nD) → Buf (Elt Ideal) ((c.tc : Thread Cert.Kernel10Ideal.nD Cert.Kernel10Ideal.τ).loc Cert.Kernel10Ideal.main_v20_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20_0) = v0 c
          ∧ r.2.mem ((c.tc : Thread Cert.Kernel10Ideal.nD Cert.Kernel10Ideal.τ).loc Cert.Kernel10Ideal.main_v22) = v1 c
          ∧ r.2.mem ((c.tc : Thread Cert.Kernel10Ideal.nD Cert.Kernel10Ideal.τ).loc Cert.Kernel10Ideal.main_v24) = v2 c
          ∧ r.2.mem ((c.tc : Thread Cert.Kernel10Ideal.nD Cert.Kernel10Ideal.τ).loc Cert.Kernel10Ideal.main_v20_3) = v3 c
          ∧ r.2.mem ((c.tc : Thread Cert.Kernel10Ideal.nD Cert.Kernel10Ideal.τ).loc Cert.Kernel10Ideal.main_v20_4) = v4 c
          ∧ r.2.mem ((c.tc : Thread Cert.Kernel10Ideal.nD Cert.Kernel10Ideal.τ).loc Cert.Kernel10Ideal.main_v20_5) = v5 c
          ∧ r.2.mem ((c.tc : Thread Cert.Kernel10Ideal.nD Cert.Kernel10Ideal.τ).loc Cert.Kernel10Ideal.main_v20_6) = v6 c
          ∧ r.2.mem ((c.tc : Thread Cert.Kernel10Ideal.nD Cert.Kernel10Ideal.τ).loc Cert.Kernel10Ideal.main_v20_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v34) = v1 c
          ∧ r.2.mem ((c.tc : Thread Cert.Reference10Ideal.nD Cert.Reference10Ideal.τ).loc Cert.Reference10Ideal.main_v35) = v2 c
          ∧ r.2.mem ((c.tc : Thread Cert.Reference10Ideal.nD Cert.Reference10Ideal.τ).loc Cert.Reference10Ideal.main_v43) = v3 c
          ∧ r.2.mem ((c.tc : Thread Cert.Reference10Ideal.nD Cert.Reference10Ideal.τ).loc Cert.Reference10Ideal.main_v45) = v4 c
          ∧ r.2.mem ((c.tc : Thread Cert.Reference10Ideal.nD Cert.Reference10Ideal.τ).loc Cert.Reference10Ideal.main_v47) = v5 c
          ∧ r.2.mem ((c.tc : Thread Cert.Reference10Ideal.nD Cert.Reference10Ideal.τ).loc Cert.Reference10Ideal.main_v37) = v6 c
          ∧ r.2.mem ((c.tc : Thread Cert.Reference10Ideal.nD Cert.Reference10Ideal.τ).loc Cert.Reference10Ideal.main_v48) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_separated (hKernelIdeal := hKernelIdeal) (hReferenceIdeal := hReferenceIdeal) (hPre_separated := hPre_separated)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_separated.lean ====
abbrev S256x8320 : Shape := ⟨2, ![256, 8320]⟩
abbrev S256x257 : Shape := ⟨2, ![256, 257]⟩
abbrev S256x1 : Shape := ⟨2, ![256, 1]⟩
abbrev S256 : Shape := ⟨1, ![256]⟩
abbrev S_ : Shape := ⟨0, ![]⟩
abbrev S8320 : Shape := ⟨1, ![8320]⟩
abbrev S1x8320 : Shape := ⟨2, ![1, 8320]⟩

class Facts : Prop where
  sliceFits_S256x8320_S256x257 : S256x8320.Slices (fun _ => 0) S256x257
  slices_S256x257_S256x1_0_255 : S256x257.Slices ![0, 255] S256x1
  shapeCasts_S256x1_S256 : S256x1.ShapeCasts S256
  bcast_S_S256 : S_.BroadcastsInDim S256 (![] : Fin 0 → Fin S256.rank)
  slices_S256x257_S256x1_0_256 : S256x257.Slices ![0, 256] S256x1
  bcast_S8320_S1x8320_1 : S8320.BroadcastsInDim S1x8320 (![1] : Fin 1 → Fin S1x8320.rank)
  bcast_S256_S256x1_0 : S256.BroadcastsInDim S256x1 (![0] : Fin 1 → Fin S256x1.rank)
  bcast_S1x8320_S256x8320_0_1 : S1x8320.BroadcastsInDim S256x8320 (![0, 1] : Fin 2 → Fin S256x8320.rank)
  bcast_S256x1_S256x8320_0_1 : S256x1.BroadcastsInDim S256x8320 (![0, 1] : Fin 2 → Fin S256x8320.rank)
  bcast_S_S256x8320 : S_.BroadcastsInDim S256x8320 (![] : Fin 0 → Fin S256x8320.rank)
  reducesTo_S256_S_d0 : S256.ReducesTo [0] S_
  h_S_ : 0 < S_.numel
  reducesTo_S256x8320_S_d0_1 : S256x8320.ReducesTo [0, 1] S_

variable [Facts]

def fn_part2 {F : FTy → Type} [FloatOps F] (main_v34 : IVec S_ 1) (main_v35 : IVec S_ 1) : IVec S_ 1 :=
  let main_v36 : IVec S_ 1 := andi main_v34 main_v35
  main_v36

def fn_part1 {F : FTy → Type} [FloatOps F] (main_arg0 : FVec F S256x8320 .f32) (main_v11 : IVec S256 1) (main_v16 : IVec S256 32) (main_v17 : IVec S8320 32) : IVec S_ 1 :=
  let main_v18 : IVec S1x8320 32 := broadcastInDim S1x8320 ![1] bcast_S8320_S1x8320_1 main_v17
  let main_v19 : IVec S256x1 32 := broadcastInDim S256x1 ![0] bcast_S256_S256x1_0 main_v16
  let main_v20 : IVec S256x8320 32 := broadcastInDim S256x8320 ![0, 1] bcast_S1x8320_S256x8320_0_1 main_v18
  let main_v21 : IVec S256x8320 32 := broadcastInDim S256x8320 ![0, 1] bcast_S256x1_S256x8320_0_1 main_v19
  let main_v22 : IVec S256x8320 1 := cmpi .sle main_v20 main_v21
  let main_cst_2 : FVec F S_ .f32 := constant S_ .f32 0xFF800000#32
  let main_v23 : FVec F S256x8320 .f32 := broadcastInDim S256x8320 ![] bcast_S_S256x8320 main_cst_2
  let main_v24 : IVec S256x8320 1 := cmpf .oeq main_arg0 main_v23
  let main_v25 : IVec S256x8320 1 := ori main_v22 main_v24
  let main_cst_3 : FVec F S_ .f32 := constant S_ .f32 0xFF800000#32
  let main_v26 : FVec F S256x8320 .f32 := broadcastInDim S256x8320 ![] bcast_S_S256x8320 main_cst_3
  let main_v27 : IVec S256x8320 1 := cmpf .oeq main_arg0 main_v26
  let main_v28 : FVec F S256x8320 .f32 := Host.absf main_arg0
  let main_cst_4 : FVec F S_ .f32 := constant S_ .f32 0x7F7FFFFF#32
  let main_v29 : FVec F S256x8320 .f32 := broadcastInDim S256x8320 ![] bcast_S_S256x8320 main_cst_4
  let main_v30 : IVec S256x8320 1 := cmpf .ole main_v28 main_v29
  let main_v31 : IVec S256x8320 1 := ori main_v27 main_v30
  let main_c_5 : IVec S_ 1 := constantI S_ 1 1#1
  let main_v32 : IVec S_ 1 := (fun x v => Host.reduce IntOp.andi x v reducesTo_S256_S_d0 h_S_) main_v11 main_c_5
  let main_c_6 : IVec S_ 1 := constantI S_ 1 1#1
  let main_v33 : IVec S_ 1 := (fun x v => Host.reduce IntOp.andi x v reducesTo_S256x8320_S_d0_1 h_S_) main_v25 main_c_6
  let main_v34 : IVec S_ 1 := andi main_v32 main_v33
  let main_c_7 : IVec S_ 1 := constantI S_ 1 1#1
  let main_v35 : IVec S_ 1 := (fun x v => Host.reduce IntOp.andi x v reducesTo_S256x8320_S_d0_1 h_S_) main_v31 main_c_7
  fn_part2 (F := F) main_v34 main_v35

def fn {F : FTy → Type} [FloatOps F] (main_arg0 : FVec F S256x8320 .f32) : IVec S_ 1 :=
  let main_values : FVec F S256x257 .f32 := (fun x => (Host.topK S256x257 1 (FloatOps.cmpfTotal .gt) x sliceFits_S256x8320_S256x257).1) main_arg0
  let main_indices : IVec S256x257 32 := (fun x => (Host.topK S256x257 1 (FloatOps.cmpfTotal .gt) x sliceFits_S256x8320_S256x257).2) main_arg0
  let main_v0 : FVec F S256x1 .f32 := (extractStridedSlice S256x1 ![0, 255] · slices_S256x257_S256x1_0_255) main_values
  let main_v1 : FVec F S256 .f32 := shapeCast S256 main_v0 shapeCasts_S256x1_S256
  let main_cst : FVec F S_ .f32 := constant S_ .f32 0xFF800000#32
  let main_v2 : FVec F S256 .f32 := broadcastInDim S256 ![] bcast_S_S256 main_cst
  let main_v3 : IVec S256 1 := cmpf .oeq main_v1 main_v2
  let main_v4 : FVec F S256x1 .f32 := (extractStridedSlice S256x1 ![0, 255] · slices_S256x257_S256x1_0_255) main_values
  let main_v5 : FVec F S256 .f32 := shapeCast S256 main_v4 shapeCasts_S256x1_S256
  let main_v6 : FVec F S256x1 .f32 := (extractStridedSlice S256x1 ![0, 256] · slices_S256x257_S256x1_0_256) main_values
  let main_v7 : FVec F S256 .f32 := shapeCast S256 main_v6 shapeCasts_S256x1_S256
  let main_v8 : FVec F S256 .f32 := subf main_v5 main_v7
  let main_cst_0 : FVec F S_ .f32 := constant S_ .f32 0x00800000#32
  let main_v9 : FVec F S256 .f32 := broadcastInDim S256 ![] bcast_S_S256 main_cst_0
  let main_v10 : IVec S256 1 := cmpf .oge main_v8 main_v9
  let main_v11 : IVec S256 1 := ori main_v3 main_v10
  let main_v12 : IVec S256 32 := iotaInDim S256 32 0
  let main_c : IVec S_ 32 := constantI S_ 32 8#32
  let main_v13 : IVec S256 32 := broadcastInDim S256 ![] bcast_S_S256 main_c
  let main_v14 : IVec S256 32 := Host.remsi main_v12 main_v13
  let main_c_1 : IVec S_ 32 := constantI S_ 32 8192#32
  let main_v15 : IVec S256 32 := broadcastInDim S256 ![] bcast_S_S256 main_c_1
  let main_v16 : IVec S256 32 := addi main_v15 main_v14
  let main_v17 : IVec S8320 32 := iotaInDim S8320 32 0
  fn_part1 (F := F) main_arg0 main_v11 main_v16 main_v17
-- ==== Kernel.lean ====
abbrev S256x8320 : Shape := ⟨2, ![256, 8320]⟩
abbrev S1x256 : Shape := ⟨2, ![1, 256]⟩
abbrev S128x128 : Shape := ⟨2, ![128, 128]⟩
abbrev S128x640 : Shape := ⟨2, ![128, 640]⟩
abbrev S128 : Shape := ⟨1, ![128]⟩
abbrev S1x128 : Shape := ⟨2, ![1, 128]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S256x8320, .f32⟩
  | .hbm, ⟨1, _⟩ => ⟨S256x8320, .f32⟩
  | .local _ .vmem, ⟨0, _⟩ => ⟨S256x8320, .f32⟩
  | .local _ .vmem, ⟨1, _⟩ => ⟨S256x8320, .f32⟩
  | _, _ => ⟨S256x8320, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c13_i32 : BitVec 32 := 13#32
  let v10 : BitVec 32 := Scalar.addi c0_i32 c13_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c640_i32 : BitVec 32 := 640#32
  let v117 : BitVec 32 := Scalar.muli arg3 c640_i32
  v117
def k0_off1 (k0_t1 : Fin k0_t1_loop.trips) : Fin 2 → Nat :=
  let c0_52 : Index := 0#32
  let c0_i32 : BitVec 32 := 0#32
  let c1_i32 : BitVec 32 := 1#32
  let arg3 : BitVec 32 := Scf.iv c0_i32 c1_i32 k0_t1
  let c640_i32 : BitVec 32 := 640#32
  let v117 : BitVec 32 := Scalar.muli arg3 c640_i32
  let v118 : BitVec 32 := v117
  let v119 : Index := Scalar.indexCast v118
  ![0, v119.toNat]
@[reducible] def k0_t2_loop : Scf.Loop 32 :=
  let c0_i32_5 : BitVec 32 := 0#32
  let c13_i32_6 : BitVec 32 := 13#32
  let v12 : BitVec 32 := Scalar.addi c0_i32_5 c13_i32_6
  let c1_i32_7 : BitVec 32 := 1#32
  ⟨c0_i32_5, v12, c1_i32_7⟩
def k0_mult2 (k0_t2 : Fin k0_t2_loop.trips) : BitVec 32 :=
  let c0_i32_5 : BitVec 32 := 0#32
  let c1_i32_7 : BitVec 32 := 1#32
  let arg3 : BitVec 32 := Scf.iv c0_i32_5 c1_i32_7 k0_t2
  let c640_i32 : BitVec 32 := 640#32
  let v117 : BitVec 32 := Scalar.muli arg3 c640_i32
  v117
def k0_off2 (k0_t2 : Fin k0_t2_loop.trips) : Fin 2 → Nat :=
  let c128 : Index := 128#32
  let c0_i32_5 : BitVec 32 := 0#32
  let c1_i32_7 : BitVec 32 := 1#32
  let arg3 : BitVec 32 := Scf.iv c0_i32_5 c1_i32_7 k0_t2
  let c640_i32 : BitVec 32 := 640#32
  let v117 : BitVec 32 := Scalar.muli arg3 c640_i32
  let v118 : BitVec 32 := v117
  let v119 : Index := Scalar.indexCast v118
  ![128, v119.toNat]
@[reducible] def k0_t3_loop : Scf.Loop 32 :=
  let c0_i32_53 : BitVec 32 := 0#32
  let c13_i32_54 : BitVec 32 := 13#32
  let v122 : BitVec 32 := Scalar.addi c0_i32_53 c13_i32_54
  let c1_i32_55 : BitVec 32 := 1#32
  ⟨c0_i32_53, v122, c1_i32_55⟩
def k0_mult3 (k0_t3 : Fin k0_t3_loop.trips) : BitVec 32 :=
  let c0_i32_53 : BitVec 32 := 0#32
  let c1_i32_55 : BitVec 32 := 1#32
  let arg11 : BitVec 32 := Scf.iv c0_i32_53 c1_i32_55 k0_t3
  let c640_i32 : BitVec 32 := 640#32
  let v204 : BitVec 32 := Scalar.muli arg11 c640_i32
  v204
def k0_off3 (k0_t3 : Fin k0_t3_loop.trips) : Fin 2 → Nat :=
  let c0_86 : Index := 0#32
  let c0_i32_53 : BitVec 32 := 0#32
  let c1_i32_55 : BitVec 32 := 1#32
  let arg11 : BitVec 32 := Scf.iv c0_i32_53 c1_i32_55 k0_t3
  let c640_i32 : BitVec 32 := 640#32
  let v204 : BitVec 32 := Scalar.muli arg11 c640_i32
  let v205 : BitVec 32 := v204
  let v206 : Index := Scalar.indexCast v205
  ![0, v206.toNat]
@[reducible] def k0_t4_loop : Scf.Loop 32 :=
  let c0_i32_57 : BitVec 32 := 0#32
  let c13_i32_58 : BitVec 32 := 13#32
  let v128 : BitVec 32 := Scalar.addi c0_i32_57 c13_i32_58
  let c1_i32_59 : BitVec 32 := 1#32
  ⟨c0_i32_57, v128, c1_i32_59⟩
def k0_mult4 (k0_t4 : Fin k0_t4_loop.trips) : BitVec 32 :=
  let c0_i32_57 : BitVec 32 := 0#32
  let c1_i32_59 : BitVec 32 := 1#32
  let arg11 : BitVec 32 := Scf.iv c0_i32_57 c1_i32_59 k0_t4
  let c640_i32 : BitVec 32 := 640#32
  let v204 : BitVec 32 := Scalar.muli arg11 c640_i32
  v204
def k0_off4 (k0_t4 : Fin k0_t4_loop.trips) : Fin 2 → Nat :=
  let c128 : Index := 128#32
  let c0_i32_57 : BitVec 32 := 0#32
  let c1_i32_59 : BitVec 32 := 1#32
  let arg11 : BitVec 32 := Scf.iv c0_i32_57 c1_i32_59 k0_t4
  let c640_i32 : BitVec 32 := 640#32
  let v204 : BitVec 32 := Scalar.muli arg11 c640_i32
  let v205 : BitVec 32 := v204
  let v206 : Index := Scalar.indexCast v205
  ![128, v206.toNat]
@[reducible] def k0_t5_loop : Scf.Loop 32 :=
  let c0_i32_54 : BitVec 32 := 0#32
  let c14_i32 : BitVec 32 := 14#32
  let v122 : BitVec 32 := Scalar.addi c0_i32_54 c14_i32
  let c1_i32_55 : BitVec 32 := 1#32
  ⟨c0_i32_54, v122, c1_i32_55⟩
@[reducible] def k0_t6_loop : Scf.Loop 32 :=
  let c0_i32_58 : BitVec 32 := 0#32
  let c13_i32_59 : BitVec 32 := 13#32
  let v138 : BitVec 32 := Scalar.addi c0_i32_58 c13_i32_59
  let c1_i32_60 : BitVec 32 := 1#32
  ⟨c0_i32_58, v138, c1_i32_60⟩
def k0_mult5 (k0_t6 : Fin k0_t6_loop.trips) : BitVec 32 :=
  let c0_i32_58 : BitVec 32 := 0#32
  let c1_i32_60 : BitVec 32 := 1#32
  let arg6 : BitVec 32 := Scf.iv c0_i32_58 c1_i32_60 k0_t6
  let c640_i32 : BitVec 32 := 640#32
  let v160 : BitVec 32 := Scalar.muli arg6 c640_i32
  v160
def k0_off5 (k0_t6 : Fin k0_t6_loop.trips) : Fin 2 → Nat :=
  let c0_68 : Index := 0#32
  let c0_i32_58 : BitVec 32 := 0#32
  let c1_i32_60 : BitVec 32 := 1#32
  let arg6 : BitVec 32 := Scf.iv c0_i32_58 c1_i32_60 k0_t6
  let c640_i32 : BitVec 32 := 640#32
  let v160 : BitVec 32 := Scalar.muli arg6 c640_i32
  let v161 : BitVec 32 := v160
  let v162 : Index := Scalar.indexCast v161
  ![0, v162.toNat]
@[reducible] def k0_t7_loop : Scf.Loop 32 :=
  let c0_i32_62 : BitVec 32 := 0#32
  let c13_i32_63 : BitVec 32 := 13#32
  let v148 : BitVec 32 := Scalar.addi c0_i32_62 c13_i32_63
  let c1_i32_64 : BitVec 32 := 1#32
  ⟨c0_i32_62, v148, c1_i32_64⟩
def k0_mult6 (k0_t7 : Fin k0_t7_loop.trips) : BitVec 32 :=
  let c0_i32_62 : BitVec 32 := 0#32
  let c1_i32_64 : BitVec 32 := 1#32
  let arg6 : BitVec 32 := Scf.iv c0_i32_62 c1_i32_64 k0_t7
  let c640_i32 : BitVec 32 := 640#32
  let v160 : BitVec 32 := Scalar.muli arg6 c640_i32
  v160
def k0_off6 (k0_t7 : Fin k0_t7_loop.trips) : Fin 2 → Nat :=
  let c128 : Index := 128#32
  let c0_i32_62 : BitVec 32 := 0#32
  let c1_i32_64 : BitVec 32 := 1#32
  let arg6 : BitVec 32 := Scf.iv c0_i32_62 c1_i32_64 k0_t7
  let c640_i32 : BitVec 32 := 640#32
  let v160 : BitVec 32 := Scalar.muli arg6 c640_i32
  let v161 : BitVec 32 := v160
  let v162 : Index := Scalar.indexCast v161
  ![128, v162.toNat]
@[reducible] def k0_t8_loop : Scf.Loop 32 :=
  let c0_i32_44 : BitVec 32 := 0#32
  let c13_i32_45 : BitVec 32 := 13#32
  let v107 : BitVec 32 := Scalar.addi c0_i32_44 c13_i32_45
  let c1_i32_46 : BitVec 32 := 1#32
  ⟨c0_i32_44, v107, c1_i32_46⟩
def k0_mult7 (k0_t8 : Fin k0_t8_loop.trips) : BitVec 32 :=
  let c0_i32_44 : BitVec 32 := 0#32
  let c1_i32_46 : BitVec 32 := 1#32
  let arg3 : BitVec 32 := Scf.iv c0_i32_44 c1_i32_46 k0_t8
  let c640_i32 : BitVec 32 := 640#32
  let v117 : BitVec 32 := Scalar.muli arg3 c640_i32
  v117
def k0_off7 (k0_t8 : Fin k0_t8_loop.trips) : Fin 2 → Nat :=
  let c0_52 : Index := 0#32
  let c0_i32_44 : BitVec 32 := 0#32
  let c1_i32_46 : BitVec 32 := 1#32
  let arg3 : BitVec 32 := Scf.iv c0_i32_44 c1_i32_46 k0_t8
  let c640_i32 : BitVec 32 := 640#32
  let v117 : BitVec 32 := Scalar.muli arg3 c640_i32
  let v118 : BitVec 32 := v117
  let v119 : Index := Scalar.indexCast v118
  ![0, v119.toNat]
@[reducible] def k0_t9_loop : Scf.Loop 32 :=
  let c0_i32_48 : BitVec 32 := 0#32
  let c13_i32_49 : BitVec 32 := 13#32
  let v116 : BitVec 32 := Scalar.addi c0_i32_48 c13_i32_49
  let c1_i32_50 : BitVec 32 := 1#32
  ⟨c0_i32_48, v116, c1_i32_50⟩
def k0_mult8 (k0_t9 : Fin k0_t9_loop.trips) : BitVec 32 :=
  let c0_i32_48 : BitVec 32 := 0#32
  let c1_i32_50 : BitVec 32 := 1#32
  let arg3 : BitVec 32 := Scf.iv c0_i32_48 c1_i32_50 k0_t9
  let c640_i32 : BitVec 32 := 640#32
  let v117 : BitVec 32 := Scalar.muli arg3 c640_i32
  v117
def k0_off8 (k0_t9 : Fin k0_t9_loop.trips) : Fin 2 → Nat :=
  let c128 : Index := 128#32
  let c0_i32_48 : BitVec 32 := 0#32
  let c1_i32_50 : BitVec 32 := 1#32
  let arg3 : BitVec 32 := Scf.iv c0_i32_48 c1_i32_50 k0_t9
  let c640_i32 : BitVec 32 := 640#32
  let v117 : BitVec 32 := Scalar.muli arg3 c640_i32
  let v118 : BitVec 32 := v117
  let v119 : Index := Scalar.indexCast v118
  ![128, v119.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x8320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x8320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S256x8320 : Shape := ⟨2, ![256, 8320]⟩
abbrev S256x256 : Shape := ⟨2, ![256, 256]⟩
abbrev S256 : Shape := ⟨1, ![256]⟩
abbrev S_ : Shape := ⟨0, ![]⟩
abbrev S256x1 : Shape := ⟨2, ![256, 1]⟩
abbrev S256x256x1 : Shape := ⟨3, ![256, 256, 1]⟩
abbrev S8320 : Shape := ⟨1, ![8320]⟩
abbrev S1x1x8320 : Shape := ⟨3, ![1, 1, 8320]⟩
abbrev S256x256x8320 : Shape := ⟨3, ![256, 256, 8320]⟩

abbrev nBuf : Space → Nat
  | .hbm => 29
  | .vmem => 0
  | .smem => 0
  | _ => 0

abbrev bufTy : (tb : Table) → Fin (tcTables nBuf tb) → BufTy
  | .hbm, ⟨0, _⟩ => ⟨S256x8320, .f32⟩
  | .hbm, ⟨1, _⟩ => ⟨S256x256, .f32⟩
  | .hbm, ⟨2, _⟩ => ⟨S256x256, .i32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x256, .i32⟩
  | .hbm, ⟨12, _⟩ => ⟨S256x256, .i1⟩
  | .hbm, ⟨13, _⟩ => ⟨S256x256x1, .i32⟩
  | .hbm, ⟨14, _⟩ => ⟨S8320, .i32⟩
  | .hbm, ⟨15, _⟩ => ⟨S1x1x8320, .i32⟩
  | .hbm, ⟨16, _⟩ => ⟨S256x256x8320, .i32⟩
  | .hbm, ⟨17, _⟩ => ⟨S256x256x8320, .i32⟩
  | .hbm, ⟨18, _⟩ => ⟨S256x256x8320, .i1⟩
  | .hbm, ⟨19, _⟩ => ⟨S256x256x1, .i1⟩
  | .hbm, ⟨20, _⟩ => ⟨S256x256x8320, .i1⟩
  | .hbm, ⟨21, _⟩ => ⟨S256x256x8320, .i1⟩
  | .hbm, ⟨22, _⟩ => ⟨S_, .i1⟩
  | .hbm, ⟨23, _⟩ => ⟨S256x8320, .i1⟩
  | .hbm, ⟨24, _⟩ => ⟨S_, .f32⟩
  | .hbm, ⟨25, _⟩ => ⟨S_, .f32⟩
  | .hbm, ⟨26, _⟩ => ⟨S256x8320, .f32⟩
  | .hbm, ⟨27, _⟩ => ⟨S256x8320, .f32⟩
  | .hbm, ⟨28, _⟩ => ⟨S256x8320, .f32⟩
  | _, _ => ⟨S256x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x4096 : Shape := ⟨2, ![1024, 4096]⟩
abbrev S4096x1024 : Shape := ⟨2, ![4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024x4096 : Shape := ⟨2, ![1024, 4096]⟩
abbrev S4096x1024 : Shape := ⟨2, ![4096, 1024]⟩
abbrev S1024 : Shape := ⟨1, ![1024]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2x8192x4096, .f32⟩
  | .hbm, ⟨6, _⟩ => ⟨S_, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S2x8192x4096, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S32x8x1024 : Shape := ⟨3, ![32, 8, 1024]⟩
abbrev S1024x4096 : Shape := ⟨2, ![1024, 4096]⟩
abbrev S4096x1024 : Shape := ⟨2, ![4096, 1024]⟩
abbrev S1024 : Shape := ⟨1, ![1024]⟩
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S32x8x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S256x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1024x4096, .bf16⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference3Ideal.lean ====
abbrev S32x8x1024 : Shape := ⟨3, ![32, 8, 1024]⟩
abbrev S1024x4096 : Shape := ⟨2, ![1024, 4096]⟩
abbrev S4096x1024 : Shape := ⟨2, ![4096, 1024]⟩
abbrev S1024 : Shape := ⟨1, ![1024]⟩
abbrev S32x8x4096 : Shape := ⟨3, ![32, 8, 4096]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S32x8x4096, .f32⟩
  | .hbm, ⟨6, _⟩ => ⟨S_, .f32⟩
  | .hbm, ⟨7, _⟩ => ⟨S32x8x4096, .f32⟩
  | .hbm, ⟨8, _⟩ => ⟨S32x8x4096, .f32⟩
  | .hbm, ⟨9, _⟩ => ⟨S_, .f32⟩
  | .hbm, ⟨10, _⟩ => ⟨S32x8x1024, .f32⟩
  | .hbm, ⟨11, _⟩ => ⟨S32x8x1024, .f32⟩
  | .hbm, ⟨12, _⟩ => ⟨S32x8x4096, .f32⟩
  | .hbm, ⟨13, _⟩ => ⟨S32x8x1024, .f32⟩
  | .hbm, ⟨14, _⟩ => ⟨S32x8x1024, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S32x8x1024, .f32⟩
  | .hbm, ⟨22, _⟩ => ⟨S32x8x1024, .f32⟩
  | .hbm, ⟨23, _⟩ => ⟨S32x8x1024, .f32⟩
  | .hbm, ⟨24, _⟩ => ⟨S_, .f32⟩
  | .hbm, ⟨25, _⟩ => ⟨S32x8, .f32⟩
  | .hbm, ⟨26, _⟩ => ⟨S32x8x1, .f32⟩
  | .hbm, ⟨27, _⟩ => ⟨S_, .f32⟩
  | .hbm, ⟨28, _⟩ => ⟨S32x8x1, .f32⟩
  | .hbm, ⟨29, _⟩ => ⟨S32x8x1, .f32⟩
  | .hbm, ⟨30, _⟩ => ⟨S32x8x1024, .f32⟩
  | .hbm, ⟨31, _⟩ => ⟨S32x8x1024, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S32x8x1, .f32⟩
  | .hbm, ⟨36, _⟩ => ⟨S32x8x1024, .f32⟩
  | .hbm, ⟨37, _⟩ => ⟨S32x8x1024, .f32⟩
  | .hbm, ⟨38, _⟩ => ⟨S1x1x1024, .f32⟩
  | .hbm, ⟨39, _⟩ => ⟨S32x8x1024, .f32⟩
  | .hbm, ⟨40, _⟩ => ⟨S32x8x1024, .f32⟩
  | .hbm, ⟨41, _⟩ => ⟨S1x1x1024, .f32⟩
  | .hbm, ⟨42, _⟩ => ⟨S32x8x1024, .f32⟩
  | .hbm, ⟨43, _⟩ => ⟨S32x8x1024, .f32⟩
  | .hbm, ⟨44, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x3656 : Shape := ⟨2, ![1024, 3656]⟩
abbrev S64 : Shape := ⟨1, ![64]⟩
abbrev S2x16384x1024 : Shape := ⟨3, ![2, 16384, 1024]⟩
abbrev S16384x1024 : Shape := ⟨2, ![16384, 1024]⟩
abbrev S1x64 : Shape := ⟨2, ![1, 64]⟩
abbrev S1024x1024 : Shape := ⟨2, ![1024, 1024]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S512x1024 : Shape := ⟨2, ![512, 1024]⟩
abbrev S128x1024 : Shape := ⟨2, ![128, 1024]⟩
abbrev S1024x16384 : Shape := ⟨2, ![1024, 16384]⟩
abbrev S512x16384 : Shape := ⟨2, ![512, 16384]⟩
abbrev S16384x64 : Shape := ⟨2, ![16384, 64]⟩
abbrev S8x16384 : Shape := ⟨2, ![8, 16384]⟩
abbrev S1x512x1024 : Shape := ⟨3, ![1, 512, 1024]⟩
abbrev S512x512 : Shape := ⟨2, ![512, 512]⟩
abbrev S512x64 : Shape := ⟨2, ![512, 64]⟩
abbrev S8x512 : Shape := ⟨2, ![8, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩

abbrev nBuf : Space → Nat
  | .hbm => 36
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S2x16384x1024, .f32⟩
  | .hbm, ⟨5, _⟩ => ⟨S2x16384x1024, .f32⟩
  | .hbm, ⟨6, _⟩ => ⟨S16384x1024, .f32⟩
  | .hbm, ⟨7, _⟩ => ⟨S1x64, .f32⟩
  | .hbm, ⟨8, _⟩ => ⟨S1x64, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x512, .f32⟩
  | .hbm, ⟨13, _⟩ => ⟨S1024x72, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S512x1024, .f32⟩
  | .hbm, ⟨24, _⟩ => ⟨S512x1024, .bf16⟩
  | .hbm, ⟨25, _⟩ => ⟨S1024x128, .bf16⟩
  | .hbm, ⟨26, _⟩ => ⟨S128x1024, .f32⟩
  | .hbm, ⟨27, _⟩ => ⟨S128x1024, .bf16⟩
  | .hbm, ⟨28, _⟩ => ⟨S1024x16384, .bf16⟩
  | .hbm, ⟨29, _⟩ => ⟨S2x16384x1024, .f32⟩
  | .hbm, ⟨30, _⟩ => ⟨S2x16384x1024, .f32⟩
  | .hbm, ⟨31, _⟩ => ⟨S16384x1024, .bf16⟩
  | .hbm, ⟨32, _⟩ => ⟨S1024x16384, .bf16⟩
  | .hbm, ⟨33, _⟩ => ⟨S512x16384, .bf16⟩
  | .hbm, ⟨34, _⟩ => ⟨S16384x64, .f32⟩
  | .hbm, ⟨35, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S1024x128, .bf16⟩
  | .local _ .vmem, ⟨8, _⟩ => ⟨S128x1024, .bf16⟩
  | .local _ .vmem, ⟨9, _⟩ => ⟨S1x64, .f32⟩
  | .local _ .vmem, ⟨10, _⟩ => ⟨S1x64, .f32⟩
  | .local _ .vmem, ⟨11, _⟩ => ⟨S1024x512, .bf16⟩
  | .local _ .vmem, ⟨12, _⟩ => ⟨S1024x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S512x512, .bf16⟩
  | .local _ .vmem, ⟨22, _⟩ => ⟨S512x512, .bf16⟩
  | .local _ .vmem, ⟨23, _⟩ => ⟨S512x64, .f32⟩
  | .local _ .vmem, ⟨24, _⟩ => ⟨S512x64, .f32⟩
  | .local _ .vmem, ⟨25, _⟩ => ⟨S8x512, .f32⟩
  | .local _ .vmem, ⟨26, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev main_v20_7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S2x8192x1024 : Shape := ⟨3, ![2, 8192, 1024]⟩
abbrev S1024x3656 : Shape := ⟨2, ![1024, 3656]⟩
abbrev S64 : Shape := ⟨1, ![64]⟩
abbrev S2x16384x1024 : Shape := ⟨3, ![2, 16384, 1024]⟩
abbrev S2x8192x3656 : Shape := ⟨3, ![2, 8192, 3656]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x64 : Shape := ⟨3, ![1, 1, 64]⟩
abbrev S2x8192x512 : Shape := ⟨3, ![2, 8192, 512]⟩
abbrev S2x8192x8 : Shape := ⟨3, ![2, 8192, 8]⟩
abbrev S16384x1024 : Shape := ⟨2, ![16384, 1024]⟩
abbrev S16384x512 : Shape := ⟨2, ![16384, 512]⟩
abbrev S16384x64 : Shape := ⟨2, ![16384, 64]⟩
abbrev S16384x8 : Shape := ⟨2, ![16384, 8]⟩
abbrev S1024x16384 : Shape := ⟨2, ![1024, 16384]⟩
abbrev S1x16384x1024 : Shape := ⟨3, ![1, 16384, 1024]⟩
abbrev S512x16384 : Shape := ⟨2, ![512, 16384]⟩
abbrev S8x16384 : Shape := ⟨2, ![8, 16384]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S2x16384x1024, .f32⟩
  | .hbm, ⟨5, _⟩ => ⟨S2x16384x1024, .f32⟩
  | .hbm, ⟨6, _⟩ => ⟨S2x8192x3656, .f32⟩
  | .hbm, ⟨7, _⟩ => ⟨S2x8192x64, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x64, .f32⟩
  | .hbm, ⟨15, _⟩ => ⟨S2x8192x64, .f32⟩
  | .hbm, ⟨16, _⟩ => ⟨S2x8192x64, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x64, .f32⟩
  | .hbm, ⟨24, _⟩ => ⟨S2x8192x64, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x64, .f32⟩
  | .hbm, ⟨30, _⟩ => ⟨S2x8192x64, .f32⟩
  | .hbm, ⟨31, _⟩ => ⟨S1x1x64, .f32⟩
  | .hbm, ⟨32, _⟩ => ⟨S2x8192x64, .f32⟩
  | .hbm, ⟨33, _⟩ => ⟨S2x8192x64, .f32⟩
  | .hbm, ⟨34, _⟩ => ⟨S1x1x64, .f32⟩
  | .hbm, ⟨35, _⟩ => ⟨S2x8192x64, .f32⟩
  | .hbm, ⟨36, _⟩ => ⟨S2x8192x64, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x512, .f32⟩
  | .hbm, ⟨41, _⟩ => ⟨S2x8192x8, .f32⟩
  | .hbm, ⟨42, _⟩ => ⟨S_, .f32⟩
  | .hbm, ⟨43, _⟩ => ⟨S2x8192x8, .f32⟩
  | .hbm, ⟨44, _⟩ => ⟨S2x8192x8, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x512, .f32⟩
  | .hbm, ⟨49, _⟩ => ⟨S16384x64, .f32⟩
  | .hbm, ⟨50, _⟩ => ⟨S16384x8, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .bf16⟩
  | .hbm, ⟨55, _⟩ => ⟨S1024x16384, .bf16⟩
  | .hbm, ⟨56, _⟩ => ⟨S1x16384x1024, .f32⟩
  | .hbm, ⟨57, _⟩ => ⟨S16384x1024, .f32⟩
  | .hbm, ⟨58, _⟩ => ⟨S1x16384x1024, .f32⟩
  | .hbm, ⟨59, _⟩ => ⟨S1x16384x1024, .f32⟩
  | .hbm, ⟨60, _⟩ => ⟨S2x16384x1024, .f32⟩
  | .hbm, ⟨61, _⟩ => ⟨S1x16384x1024, .f32⟩
  | .hbm, ⟨62, _⟩ => ⟨S16384x1024, .f32⟩
  | .hbm, ⟨63, _⟩ => ⟨S1x16384x1024, .f32⟩
  | .hbm, ⟨64, _⟩ => ⟨S1x16384x1024, .f32⟩
  | .hbm, ⟨65, _⟩ => ⟨S2x16384x1024, .f32⟩
  | .hbm, ⟨66, _⟩ => ⟨S16384x1024, .bf16⟩
  | .hbm, ⟨67, _⟩ => ⟨S16384x1024, .bf16⟩
  | .hbm, ⟨68, _⟩ => ⟨S1024x16384, .bf16⟩
  | .hbm, ⟨69, _⟩ => ⟨S16384x512, .bf16⟩
  | .hbm, ⟨70, _⟩ => ⟨S512x16384, .bf16⟩
  | .hbm, ⟨71, _⟩ => ⟨S8x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel5.lean ====
abbrev S32x8x1024 : Shape := ⟨3, ![32, 8, 1024]⟩
abbrev S1024x3656 : Shape := ⟨2, ![1024, 3656]⟩
abbrev S64 : Shape := ⟨1, ![64]⟩
abbrev S1024x3072 : Shape := ⟨2, ![1024, 3072]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S256x1024 : Shape := ⟨2, ![256, 1024]⟩
abbrev S1x64 : Shape := ⟨2, ![1, 64]⟩
abbrev S8x256x64 : Shape := ⟨3, ![8, 256, 64]⟩
abbrev S256x64 : Shape := ⟨2, ![256, 64]⟩
abbrev S256x8 : Shape := ⟨2, ![256, 8]⟩
abbrev S1024x1024 : Shape := ⟨2, ![1024, 1024]⟩
abbrev S256x512 : Shape := ⟨2, ![256, 512]⟩
abbrev S1x256x64 : Shape := ⟨3, ![1, 256, 64]⟩
abbrev S256x128 : Shape := ⟨2, ![256, 128]⟩
abbrev S256 : Shape := ⟨1, ![256]⟩
abbrev S256x1 : Shape := ⟨2, ![256, 1]⟩

abbrev nBuf : Space → Nat
  | .hbm => 24
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S1024x3072, .f32⟩
  | .hbm, ⟨5, _⟩ => ⟨S1024x3072, .bf16⟩
  | .hbm, ⟨6, _⟩ => ⟨S1024x512, .f32⟩
  | .hbm, ⟨7, _⟩ => ⟨S1024x512, .bf16⟩
  | .hbm, ⟨8, _⟩ => ⟨S1024x72, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S256x1024, .f32⟩
  | .hbm, ⟨14, _⟩ => ⟨S1x64, .f32⟩
  | .hbm, ⟨15, _⟩ => ⟨S1x64, .f32⟩
  | .hbm, ⟨16, _⟩ => ⟨S256x1024, .bf16⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .bf16⟩
  | .hbm, ⟨21, _⟩ => ⟨S8x256x64, .bf16⟩
  | .hbm, ⟨22, _⟩ => ⟨S256x64, .f32⟩
  | .hbm, ⟨23, _⟩ => ⟨S256x8, .f32⟩
  | .local _ .vmem, ⟨0, _⟩ => ⟨S256x1024, .f32⟩
  | .local _ .vmem, ⟨1, _⟩ => ⟨S1024x3072, .bf16⟩
  | .local _ .vmem, ⟨2, _⟩ => ⟨S1024x512, .bf16⟩
  | .local _ .vmem, ⟨3, _⟩ => ⟨S1024x128, .bf16⟩
  | .local _ .vmem, ⟨4, _⟩ => ⟨S1x64, .f32⟩
  | .local _ .vmem, ⟨5, _⟩ => ⟨S1x64, .f32⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S8x256x64, .bf16⟩
  | .local _ .vmem, ⟨12, _⟩ => ⟨S256x64, .f32⟩
  | .local _ .vmem, ⟨13, _⟩ => ⟨S256x8, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S8x256x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference5Ideal.lean ====
abbrev S32x8x1024 : Shape := ⟨3, ![32, 8, 1024]⟩
abbrev S1024x3656 : Shape := ⟨2, ![1024, 3656]⟩
abbrev S64 : Shape := ⟨1, ![64]⟩
abbrev S32x8x3656 : Shape := ⟨3, ![32, 8, 3656]⟩
abbrev S32x8x64 : Shape := ⟨3, ![32, 8, 64]⟩
abbrev S_ : Shape := ⟨0, ![]⟩
abbrev S32x8 : Shape := ⟨2, ![32, 8]⟩
abbrev S32x8x1 : Shape := ⟨3, ![32, 8, 1]⟩
abbrev S1x1x64 : Shape := ⟨3, ![1, 1, 64]⟩
abbrev S32x8x512 : Shape := ⟨3, ![32, 8, 512]⟩
abbrev S32x8x8 : Shape := ⟨3, ![32, 8, 8]⟩
abbrev S256x1024 : Shape := ⟨2, ![256, 1024]⟩
abbrev S256x512 : Shape := ⟨2, ![256, 512]⟩
abbrev S256x64 : Shape := ⟨2, ![256, 64]⟩
abbrev S256x8 : Shape := ⟨2, ![256, 8]⟩
abbrev S256x8x64 : Shape := ⟨3, ![256, 8, 64]⟩
abbrev S8x256x64 : Shape := ⟨3, ![8, 256, 64]⟩

abbrev nBuf : Space → Nat
  | .hbm => 58
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S32x8x3656, .f32⟩
  | .hbm, ⟨5, _⟩ => ⟨S32x8x64, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S32x8x64, .f32⟩
  | .hbm, ⟨13, _⟩ => ⟨S32x8x64, .f32⟩
  | .hbm, ⟨14, _⟩ => ⟨S32x8x64, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S32x8x64, .f32⟩
  | .hbm, ⟨22, _⟩ => ⟨S32x8x64, .f32⟩
  | .hbm, ⟨23, _⟩ => ⟨S_, .f32⟩
  | .hbm, ⟨24, _⟩ => ⟨S32x8x1, .f32⟩
  | .hbm, ⟨25, _⟩ => ⟨S32x8x1, .f32⟩
  | .hbm, ⟨26, _⟩ => ⟨S32x8x1, .f32⟩
  | .hbm, ⟨27, _⟩ => ⟨S32x8x64, .f32⟩
  | .hbm, ⟨28, _⟩ => ⟨S32x8x64, .f32⟩
  | .hbm, ⟨29, _⟩ => ⟨S1x1x64, .f32⟩
  | .hbm, ⟨30, _⟩ => ⟨S32x8x64, .f32⟩
  | .hbm, ⟨31, _⟩ => ⟨S32x8x64, .f32⟩
  | .hbm, ⟨32, _⟩ => ⟨S1x1x64, .f32⟩
  | .hbm, ⟨33, _⟩ => ⟨S32x8x64, .f32⟩
  | .hbm, ⟨34, _⟩ => ⟨S32x8x64, .f32⟩
  | .hbm, ⟨35, _⟩ => ⟨S32x8x1024, .f32⟩
  | .hbm, ⟨36, _⟩ => ⟨S32x8x1024, .f32⟩
  | .hbm, ⟨37, _⟩ => ⟨S32x8x1024, .f32⟩
  | .hbm, ⟨38, _⟩ => ⟨S32x8x512, .f32⟩
  | .hbm, ⟨39, _⟩ => ⟨S32x8x8, .f32⟩
  | .hbm, ⟨40, _⟩ => ⟨S_, .f32⟩
  | .hbm, ⟨41, _⟩ => ⟨S32x8x8, .f32⟩
  | .hbm, ⟨42, _⟩ => ⟨S32x8x8, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x512, .f32⟩
  | .hbm, ⟨47, _⟩ => ⟨S256x64, .f32⟩
  | .hbm, ⟨48, _⟩ => ⟨S256x8, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S256x1024, .bf16⟩
  | .hbm, ⟨53, _⟩ => ⟨S256x1024, .bf16⟩
  | .hbm, ⟨54, _⟩ => ⟨S256x1024, .bf16⟩
  | .hbm, ⟨55, _⟩ => ⟨S256x8x64, .f32⟩
  | .hbm, ⟨56, _⟩ => ⟨S8x256x64, .f32⟩
  | .hbm, ⟨57, _⟩ => ⟨S8x256x64, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Kernel6.lean ====
abbrev S16384x1024 : Shape := ⟨2, ![16384, 1024]⟩
abbrev S2x8192x1024 : Shape := ⟨3, ![2, 8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x1024 : Shape := ⟨2, ![16384, 1024]⟩
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel7.lean ====
abbrev S2x8192x1024 : Shape := ⟨3, ![2, 8192, 1024]⟩
abbrev S4x256x256 : Shape := ⟨3, ![4, 256, 256]⟩
abbrev S1024 : Shape := ⟨1, ![1024]⟩
abbrev S2x15x1024 : Shape := ⟨3, ![2, 15, 1024]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x15x1024, .f32⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x8192x1024 : Shape := ⟨3, ![2, 8192, 1024]⟩
abbrev S4x256x256 : Shape := ⟨3, ![4, 256, 256]⟩
abbrev S1024 : Shape := ⟨1, ![1024]⟩
abbrev S4 : Shape := ⟨1, ![4]⟩
abbrev S_ : Shape := ⟨0, ![]⟩
abbrev S2x15x1024 : Shape := ⟨3, ![2, 15, 1024]⟩
abbrev S2x8207x1024 : Shape := ⟨3, ![2, 8207, 1024]⟩
abbrev S2x8192x256 : Shape := ⟨3, ![2, 8192, 256]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S2x8192x4x256 : Shape := ⟨4, ![2, 8192, 4, 256]⟩
abbrev S1x8192x4x1 : Shape := ⟨4, ![1, 8192, 4, 1]⟩
abbrev S4x256x2x8192 : Shape := ⟨4, ![4, 256, 2, 8192]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4, .i32⟩
  | .hbm, ⟨6, _⟩ => ⟨S_, .f32⟩
  | .hbm, ⟨7, _⟩ => ⟨S2x15x1024, .f32⟩
  | .hbm, ⟨8, _⟩ => ⟨S2x8207x1024, .f32⟩
  | .hbm, ⟨9, _⟩ => ⟨S2x8192x256, .f32⟩
  | .hbm, ⟨10, _⟩ => ⟨S_, .f32⟩
  | .hbm, ⟨11, _⟩ => ⟨S_, .f32⟩
  | .hbm, ⟨12, _⟩ => ⟨S2x8192x256, .f32⟩
  | .hbm, ⟨13, _⟩ => ⟨S2x8192x256, .f32⟩
  | .hbm, ⟨14, _⟩ => ⟨S_, .f32⟩
  | .hbm, ⟨15, _⟩ => ⟨S_, .f32⟩
  | .hbm, ⟨16, _⟩ => ⟨S2x8192x256, .f32⟩
  | .hbm, ⟨17, _⟩ => ⟨S2x8192x256, .f32⟩
  | .hbm, ⟨18, _⟩ => ⟨S_, .f32⟩
  | .hbm, ⟨19, _⟩ => ⟨S_, .f32⟩
  | .hbm, ⟨20, _⟩ => ⟨S2x8192x256, .f32⟩
  | .hbm, ⟨21, _⟩ => ⟨S2x8192x256, .f32⟩
  | .hbm, ⟨22, _⟩ => ⟨S_, .f32⟩
  | .hbm, ⟨23, _⟩ => ⟨S_, .f32⟩
  | .hbm, ⟨24, _⟩ => ⟨S2x8192x256, .f32⟩
  | .hbm, ⟨25, _⟩ => ⟨S2x8192x1024, .f32⟩
  | .hbm, ⟨26, _⟩ => ⟨S8192, .i32⟩
  | .hbm, ⟨27, _⟩ => ⟨S8192x1, .i32⟩
  | .hbm, ⟨28, _⟩ => ⟨S_, .i32⟩
  | .hbm, ⟨29, _⟩ => ⟨S8192x1, .i32⟩
  | .hbm, ⟨30, _⟩ => ⟨S8192x1, .i32⟩
  | .hbm, ⟨31, _⟩ => ⟨S1x4, .i32⟩
  | .hbm, ⟨32, _⟩ => ⟨S8192x4, .i32⟩
  | .hbm, ⟨33, _⟩ => ⟨S8192x4, .i32⟩
  | .hbm, ⟨34, _⟩ => ⟨S8192x4, .i32⟩
  | .hbm, ⟨35, _⟩ => ⟨S8192x4, .f32⟩
  | .hbm, ⟨36, _⟩ => ⟨S2x8192x4x256, .f32⟩
  | .hbm, ⟨37, _⟩ => ⟨S1x8192x4x1, .f32⟩
  | .hbm, ⟨38, _⟩ => ⟨S2x8192x4x256, .f32⟩
  | .hbm, ⟨39, _⟩ => ⟨S2x8192x4x256, .f32⟩
  | .hbm, ⟨40, _⟩ => ⟨S2x8192x4x256, .f32⟩
  | .hbm, ⟨41, _⟩ => ⟨S2x8192x4x256, .f32⟩
  | .hbm, ⟨42, _⟩ => ⟨S4x256x2x8192, .f32⟩
  | .hbm, ⟨43, _⟩ => ⟨S2x8192x4x256, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S2x15x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel8.lean ====
abbrev S256x1024 : Shape := ⟨2, ![256, 1024]⟩
abbrev S32x8x1024 : Shape := ⟨3, ![32, 8, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S256x1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference8Ideal.lean ====
abbrev S256x1024 : Shape := ⟨2, ![256, 1024]⟩
abbrev S32x8x1024 : Shape := ⟨3, ![32, 8, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel9.lean ====
abbrev S32x8x1024 : Shape := ⟨3, ![32, 8, 1024]⟩
abbrev S32x15x1024 : Shape := ⟨3, ![32, 15, 1024]⟩
abbrev S4x256x256 : Shape := ⟨3, ![4, 256, 256]⟩
abbrev S1024 : Shape := ⟨1, ![1024]⟩
abbrev S_ : Shape := ⟨0, ![]⟩
abbrev S32x1x1024 : Shape := ⟨3, ![32, 1, 1024]⟩
abbrev S32x16x1024 : Shape := ⟨3, ![32, 16, 1024]⟩
abbrev S32x24x1024 : Shape := ⟨3, ![32, 24, 1024]⟩
abbrev S1x1024 : Shape := ⟨2, ![1, 1024]⟩
abbrev S1x8x1024 : Shape := ⟨3, ![1, 8, 1024]⟩
abbrev S1x16x1024 : Shape := ⟨3, ![1, 16, 1024]⟩
abbrev S8x1024 : Shape := ⟨2, ![8, 1024]⟩
abbrev S16x1024 : Shape := ⟨2, ![16, 1024]⟩
abbrev S24x1024 : Shape := ⟨2, ![24, 1024]⟩
abbrev S8x1 : Shape := ⟨2, ![8, 1]⟩
abbrev S24x256 : Shape := ⟨2, ![24, 256]⟩
abbrev S8x256 : Shape := ⟨2, ![8, 256]⟩
abbrev S1x256x256 : Shape := ⟨3, ![1, 256, 256]⟩
abbrev S256x256 : Shape := ⟨2, ![256, 256]⟩
abbrev S8 : Shape := ⟨1, ![8]⟩

abbrev nBuf : Space → Nat
  | .hbm => 16
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S32x15x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32x1x1024, .f32⟩
  | .hbm, ⟨8, _⟩ => ⟨S32x16x1024, .f32⟩
  | .hbm, ⟨9, _⟩ => ⟨S32x24x1024, .f32⟩
  | .hbm, ⟨10, _⟩ => ⟨S32x15x1024, .f32⟩
  | .hbm, ⟨11, _⟩ => ⟨S4x256x256, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x16x1024, .f32⟩
  | .local _ .vmem, ⟨3, _⟩ => ⟨S1x16x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x8x1024, .f32⟩
  | .local _ .vmem, ⟨9, _⟩ => ⟨S1x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S32x8x1024 : Shape := ⟨3, ![32, 8, 1024]⟩
abbrev S32x15x1024 : Shape := ⟨3, ![32, 15, 1024]⟩
abbrev S4x256x256 : Shape := ⟨3, ![4, 256, 256]⟩
abbrev S1024 : Shape := ⟨1, ![1024]⟩
abbrev S4 : Shape := ⟨1, ![4]⟩
abbrev S32x23x1024 : Shape := ⟨3, ![32, 23, 1024]⟩
abbrev S32x23x256 : Shape := ⟨3, ![32, 23, 256]⟩
abbrev S_ : Shape := ⟨0, ![]⟩
abbrev S8 : Shape := ⟨1, ![8]⟩
abbrev S8x1 : Shape := ⟨2, ![8, 1]⟩
abbrev S1x4 : Shape := ⟨2, ![1, 4]⟩
abbrev S8x4 : Shape := ⟨2, ![8, 4]⟩
abbrev S32x8x4x256 : Shape := ⟨4, ![32, 8, 4, 256]⟩
abbrev S1x8x4x1 : Shape := ⟨4, ![1, 8, 4, 1]⟩
abbrev S4x256x32x8 : Shape := ⟨4, ![4, 256, 32, 8]⟩
abbrev S1x1x1024 : Shape := ⟨3, ![1, 1, 1024]⟩
abbrev S32x8 : Shape := ⟨2, ![32, 8]⟩
abbrev S32x8x1 : Shape := ⟨3, ![32, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x15x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4, .i32⟩
  | .hbm, ⟨7, _⟩ => ⟨S32x23x1024, .f32⟩
  | .hbm, ⟨8, _⟩ => ⟨S32x23x256, .f32⟩
  | .hbm, ⟨9, _⟩ => ⟨S_, .f32⟩
  | .hbm, ⟨10, _⟩ => ⟨S_, .f32⟩
  | .hbm, ⟨11, _⟩ => ⟨S32x23x256, .f32⟩
  | .hbm, ⟨12, _⟩ => ⟨S32x23x256, .f32⟩
  | .hbm, ⟨13, _⟩ => ⟨S_, .f32⟩
  | .hbm, ⟨14, _⟩ => ⟨S_, .f32⟩
  | .hbm, ⟨15, _⟩ => ⟨S32x23x256, .f32⟩
  | .hbm, ⟨16, _⟩ => ⟨S32x23x256, .f32⟩
  | .hbm, ⟨17, _⟩ => ⟨S_, .f32⟩
  | .hbm, ⟨18, _⟩ => ⟨S_, .f32⟩
  | .hbm, ⟨19, _⟩ => ⟨S32x23x256, .f32⟩
  | .hbm, ⟨20, _⟩ => ⟨S32x23x256, .f32⟩
  | .hbm, ⟨21, _⟩ => ⟨S_, .f32⟩
  | .hbm, ⟨22, _⟩ => ⟨S_, .f32⟩
  | .hbm, ⟨23, _⟩ => ⟨S32x23x256, .f32⟩
  | .hbm, ⟨24, _⟩ => ⟨S32x23x1024, .f32⟩
  | .hbm, ⟨25, _⟩ => ⟨S32x8x1024, .f32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S_, .i32⟩
  | .hbm, ⟨32, _⟩ => ⟨S8x1, .i32⟩
  | .hbm, ⟨33, _⟩ => ⟨S8x1, .i32⟩
  | .hbm, ⟨34, _⟩ => ⟨S1x4, .i32⟩
  | .hbm, ⟨35, _⟩ => ⟨S8x4, .i32⟩
  | .hbm, ⟨36, _⟩ => ⟨S8x4, .i32⟩
  | .hbm, ⟨37, _⟩ => ⟨S8x4, .i32⟩
  | .hbm, ⟨38, _⟩ => ⟨S8x4, .f32⟩
  | .hbm, ⟨39, _⟩ => ⟨S32x8x4x256, .f32⟩
  | .hbm, ⟨40, _⟩ => ⟨S1x8x4x1, .f32⟩
  | .hbm, ⟨41, _⟩ => ⟨S32x8x4x256, .f32⟩
  | .hbm, ⟨42, _⟩ => ⟨S32x8x4x256, .f32⟩
  | .hbm, ⟨43, _⟩ => ⟨S32x8x4x256, .f32⟩
  | .hbm, ⟨44, _⟩ => ⟨S32x8x4x256, .f32⟩
  | .hbm, ⟨45, _⟩ => ⟨S4x256x32x8, .f32⟩
  | .hbm, ⟨46, _⟩ => ⟨S32x8x4x256, .f32⟩
  | .hbm, ⟨47, _⟩ => ⟨S32x8x1024, .f32⟩
  | .hbm, ⟨48, _⟩ => ⟨S1x1x1024, .f32⟩
  | .hbm, ⟨49, _⟩ => ⟨S32x8x1024, .f32⟩
  | .hbm, ⟨50, _⟩ => ⟨S32x8x1024, .f32⟩
  | .hbm, ⟨51, _⟩ => ⟨S_, .f32⟩
  | .hbm, ⟨52, _⟩ => ⟨S32x8x1024, .f32⟩
  | .hbm, ⟨53, _⟩ => ⟨S32x8x1024, .f32⟩
  | .hbm, ⟨54, _⟩ => ⟨S32x8x1024, .f32⟩
  | .hbm, ⟨55, _⟩ => ⟨S_, .f32⟩
  | .hbm, ⟨56, _⟩ => ⟨S32x8, .f32⟩
  | .hbm, ⟨57, _⟩ => ⟨S32x8x1, .f32⟩
  | .hbm, ⟨58, _⟩ => ⟨S_, .f32⟩
  | .hbm, ⟨59, _⟩ => ⟨S32x8x1, .f32⟩
  | .hbm, ⟨60, _⟩ => ⟨S32x8x1, .f32⟩
  | .hbm, ⟨61, _⟩ => ⟨S32x8x1024, .f32⟩
  | .hbm, ⟨62, _⟩ => ⟨S32x8x1024, .f32⟩
  | .hbm, ⟨63, _⟩ => ⟨S32x8x1024, .f32⟩
  | .hbm, ⟨64, _⟩ => ⟨S_, .f32⟩
  | .hbm, ⟨65, _⟩ => ⟨S32x8, .f32⟩
  | .hbm, ⟨66, _⟩ => ⟨S32x8x1, .f32⟩
  | .hbm, ⟨67, _⟩ => ⟨S_, .f32⟩
  | .hbm, ⟨68, _⟩ => ⟨S32x8x1, .f32⟩
  | .hbm, ⟨69, _⟩ => ⟨S32x8x1, .f32⟩
  | .hbm, ⟨70, _⟩ => ⟨S32x8x1024, .f32⟩
  | .hbm, ⟨71, _⟩ => ⟨S32x8x1024, .f32⟩
  | .hbm, ⟨72, _⟩ => ⟨S_, .f32⟩
  | .hbm, ⟨73, _⟩ => ⟨S32x8x1, .f32⟩
  | .hbm, ⟨74, _⟩ => ⟨S32x8x1, .f32⟩
  | .hbm, ⟨75, _⟩ => ⟨S32x8x1, .f32⟩
  | .hbm, ⟨76, _⟩ => ⟨S32x8x1024, .f32⟩
  | .hbm, ⟨77, _⟩ => ⟨S32x8x1024, .f32⟩
  | .hbm, ⟨78, _⟩ => ⟨S1x1x1024, .f32⟩
  | .hbm, ⟨79, _⟩ => ⟨S32x8x1024, .f32⟩
  | .hbm, ⟨80, _⟩ => ⟨S32x8x1024, .f32⟩
  | .hbm, ⟨81, _⟩ => ⟨S1x1x1024, .f32⟩
  | .hbm, ⟨82, _⟩ => ⟨S32x8x1024, .f32⟩
  | .hbm, ⟨83, _⟩ => ⟨S32x8x1024, .f32⟩
  | .hbm, ⟨84, _⟩ => ⟨S32x15x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel10.lean ====
abbrev S2x8192x1024 : Shape := ⟨3, ![2, 8192, 1024]⟩
abbrev S1024x3656 : Shape := ⟨2, ![1024, 3656]⟩
abbrev S64 : Shape := ⟨1, ![64]⟩
abbrev S16384x1024 : Shape := ⟨2, ![16384, 1024]⟩
abbrev S1x64 : Shape := ⟨2, ![1, 64]⟩
abbrev S1024x1024 : Shape := ⟨2, ![1024, 1024]⟩
abbrev S1024x512 : Shape := ⟨2, ![1024, 512]⟩
abbrev S1024x72 : Shape := ⟨2, ![1024, 72]⟩
abbrev S_ : Shape := ⟨0, ![]⟩
abbrev S1024x128 : Shape := ⟨2, ![1024, 128]⟩
abbrev S512x1024 : Shape := ⟨2, ![512, 1024]⟩
abbrev S128x1024 : Shape := ⟨2, ![128, 1024]⟩
abbrev S1024x16384 : Shape := ⟨2, ![1024, 16384]⟩
abbrev S2x16384x1024 : Shape := ⟨3, ![2, 16384, 1024]⟩
abbrev S512x16384 : Shape := ⟨2, ![512, 16384]⟩
abbrev S16384x64 : Shape := ⟨2, ![16384, 64]⟩
abbrev S8x16384 : Shape := ⟨2, ![8, 16384]⟩
abbrev S1x512x1024 : Shape := ⟨3, ![1, 512, 1024]⟩
abbrev S512x512 : Shape := ⟨2, ![512, 512]⟩
abbrev S512x64 : Shape := ⟨2, ![512, 64]⟩
abbrev S8x512 : Shape := ⟨2, ![8, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x16384x1024 : Shape := ⟨3, ![1, 16384, 1024]⟩

abbrev nBuf : Space → Nat
  | .hbm => 38
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S16384x1024, .f32⟩
  | .hbm, ⟨5, _⟩ => ⟨S1x64, .f32⟩
  | .hbm, ⟨6, _⟩ => ⟨S1x64, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x512, .f32⟩
  | .hbm, ⟨11, _⟩ => ⟨S1024x72, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S512x1024, .f32⟩
  | .hbm, ⟨22, _⟩ => ⟨S512x1024, .bf16⟩
  | .hbm, ⟨23, _⟩ => ⟨S1024x128, .bf16⟩
  | .hbm, ⟨24, _⟩ => ⟨S128x1024, .f32⟩
  | .hbm, ⟨25, _⟩ => ⟨S128x1024, .bf16⟩
  | .hbm, ⟨26, _⟩ => ⟨S1024x16384, .bf16⟩
  | .hbm, ⟨27, _⟩ => ⟨S2x16384x1024, .f32⟩
  | .hbm, ⟨28, _⟩ => ⟨S2x16384x1024, .f32⟩
  | .hbm, ⟨29, _⟩ => ⟨S16384x1024, .bf16⟩
  | .hbm, ⟨30, _⟩ => ⟨S1024x16384, .bf16⟩
  | .hbm, ⟨31, _⟩ => ⟨S512x16384, .bf16⟩
  | .hbm, ⟨32, _⟩ => ⟨S16384x64, .f32⟩
  | .hbm, ⟨33, _⟩ => ⟨S8x16384, .f32⟩
  | .hbm, ⟨34, _⟩ => ⟨S1x16384x1024, .f32⟩
  | .hbm, ⟨35, _⟩ => ⟨S16384x1024, .f32⟩
  | .hbm, ⟨36, _⟩ => ⟨S1x16384x1024, .f32⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S1024x128, .bf16⟩
  | .local _ .vmem, ⟨8, _⟩ => ⟨S128x1024, .bf16⟩
  | .local _ .vmem, ⟨9, _⟩ => ⟨S1x64, .f32⟩
  | .local _ .vmem, ⟨10, _⟩ => ⟨S1x64, .f32⟩
  | .local _ .vmem, ⟨11, _⟩ => ⟨S1024x512, .bf16⟩
  | .local _ .vmem, ⟨12, _⟩ => ⟨S1024x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S512x512, .bf16⟩
  | .local _ .vmem, ⟨22, _⟩ => ⟨S512x512, .bf16⟩
  | .local _ .vmem, ⟨23, _⟩ => ⟨S512x64, .f32⟩
  | .local _ .vmem, ⟨24, _⟩ => ⟨S512x64, .f32⟩
  | .local _ .vmem, ⟨25, _⟩ => ⟨S8x512, .f32⟩
  | .local _ .vmem, ⟨26, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev main_v20_4 : Ref sig .tc := ⟨.hbm, 30, rfl⟩
abbrev main_v20_5 : Ref sig .tc := ⟨.hbm, 31, rfl⟩
abbrev main_v20_6 : Ref sig .tc := ⟨.hbm, 32, rfl⟩
abbrev main_v20_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference10Ideal.lean ====
abbrev S2x8192x1024 : Shape := ⟨3, ![2, 8192, 1024]⟩
abbrev S1024x3656 : Shape := ⟨2, ![1024, 3656]⟩
abbrev S64 : Shape := ⟨1, ![64]⟩
abbrev S2x8192x3656 : Shape := ⟨3, ![2, 8192, 3656]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x64 : Shape := ⟨3, ![1, 1, 64]⟩
abbrev S2x8192x512 : Shape := ⟨3, ![2, 8192, 512]⟩
abbrev S2x8192x8 : Shape := ⟨3, ![2, 8192, 8]⟩
abbrev S16384x1024 : Shape := ⟨2, ![16384, 1024]⟩
abbrev S16384x512 : Shape := ⟨2, ![16384, 512]⟩
abbrev S16384x64 : Shape := ⟨2, ![16384, 64]⟩
abbrev S16384x8 : Shape := ⟨2, ![16384, 8]⟩
abbrev S1024x16384 : Shape := ⟨2, ![1024, 16384]⟩
abbrev S512x16384 : Shape := ⟨2, ![512, 16384]⟩
abbrev S8x16384 : Shape := ⟨2, ![8, 16384]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3656, .f32⟩
  | .hbm, ⟨2, _⟩ => ⟨S64, .f32⟩
  | .hbm, ⟨3, _⟩ => ⟨S64, .f32⟩
  | .hbm, ⟨4, _⟩ => ⟨S2x8192x3656, .f32⟩
  | .hbm, ⟨5, _⟩ => ⟨S2x8192x64, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x64, .f32⟩
  | .hbm, ⟨13, _⟩ => ⟨S2x8192x64, .f32⟩
  | .hbm, ⟨14, _⟩ => ⟨S2x8192x64, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x64, .f32⟩
  | .hbm, ⟨22, _⟩ => ⟨S2x8192x64, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x64, .f32⟩
  | .hbm, ⟨28, _⟩ => ⟨S2x8192x64, .f32⟩
  | .hbm, ⟨29, _⟩ => ⟨S1x1x64, .f32⟩
  | .hbm, ⟨30, _⟩ => ⟨S2x8192x64, .f32⟩
  | .hbm, ⟨31, _⟩ => ⟨S2x8192x64, .f32⟩
  | .hbm, ⟨32, _⟩ => ⟨S1x1x64, .f32⟩
  | .hbm, ⟨33, _⟩ => ⟨S2x8192x64, .f32⟩
  | .hbm, ⟨34, _⟩ => ⟨S2x8192x64, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x512, .f32⟩
  | .hbm, ⟨39, _⟩ => ⟨S2x8192x8, .f32⟩
  | .hbm, ⟨40, _⟩ => ⟨S_, .f32⟩
  | .hbm, ⟨41, _⟩ => ⟨S2x8192x8, .f32⟩
  | .hbm, ⟨42, _⟩ => ⟨S2x8192x8, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x512, .f32⟩
  | .hbm, ⟨47, _⟩ => ⟨S16384x64, .f32⟩
  | .hbm, ⟨48, _⟩ => ⟨S16384x8, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .bf16⟩
  | .hbm, ⟨53, _⟩ => ⟨S1024x16384, .bf16⟩
  | .hbm, ⟨54, _⟩ => ⟨S16384x1024, .bf16⟩
  | .hbm, ⟨55, _⟩ => ⟨S16384x1024, .bf16⟩
  | .hbm, ⟨56, _⟩ => ⟨S1024x16384, .bf16⟩
  | .hbm, ⟨57, _⟩ => ⟨S16384x512, .bf16⟩
  | .hbm, ⟨58, _⟩ => ⟨S512x16384, .bf16⟩
  | .hbm, ⟨59, _⟩ => ⟨S8x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Proof.Frames.lean ====
/-
  The references' frames: a reference is host operations alone, so its run gives its arguments kept, and a program with no
  semaphore ends with every counter at zero.
-/
module

public import proofs.«01_k».proof.Defs
public import Idealize.ShloMosaic.Lib.Quiescent
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run

@[expose] public section

namespace Cert.Proof.Frames

open Idealize.ShloMosaic Idealize.SL.Sem

/-- The selection's reference runs, its argument kept. -/
theorem reference1 : Cert.quiescent_ReferenceIdeal := by
  intro m ρ _
  exact (θ_run Cert.ReferenceIdeal.defs _ _).mono
    (fun r h => ⟨fun c => (h c).2, Idealize.ShloMosaic.sem_eq_zero_of_no_sems (by decide) r.2⟩) (Cert.ReferenceIdeal.Value.run m ρ)

/-- The prompt's MLP's reference runs, its arguments kept. -/
theorem reference2 : Cert.quiescent_Reference2Ideal := by
  intro m ρ _
  exact (θ_run Cert.Reference2Ideal.defs _ _).mono
    (fun r h => ⟨fun c => (h c).2, Idealize.ShloMosaic.sem_eq_zero_of_no_sems (by decide) r.2⟩) (Cert.Reference2Ideal.Value.run m ρ)

/-- The sample's MLP's reference runs, its arguments kept. -/
theorem reference3 : Cert.quiescent_Reference3Ideal := by
  intro m ρ _
  exact (θ_run Cert.Reference3Ideal.defs _ _).mono
    (fun r h => ⟨fun c => (h c).2, Idealize.ShloMosaic.sem_eq_zero_of_no_sems (by decide) r.2⟩) (Cert.Reference3Ideal.Value.run m ρ)

/-- The prompt's projections' reference runs, its arguments kept. -/
theorem reference4 : Cert.quiescent_Reference4Ideal := by
  intro m ρ _
  exact (θ_run Cert.Reference4Ideal.defs _ _).mono
    (fun r h => ⟨fun c => (h c).2.2.2.2.2.2.2.2, Idealize.ShloMosaic.sem_eq_zero_of_no_sems (by decide) r.2⟩) (Cert.Reference4Ideal.Value.run m ρ)

/-- The sample's projections' reference runs, its arguments kept. -/
theorem reference5 : Cert.quiescent_Reference5Ideal := by
  intro m ρ _
  exact (θ_run Cert.Reference5Ideal.defs _ _).mono
    (fun r h => ⟨fun c => (h c).2.2.2.2.2.2.2.2, Idealize.ShloMosaic.sem_eq_zero_of_no_sems (by decide) r.2⟩) (Cert.Reference5Ideal.Value.run m ρ)

/-- The output projection's reference runs, its arguments kept. -/
theorem reference6 : Cert.quiescent_Reference6Ideal := by
  intro m ρ _
  exact (θ_run Cert.Reference6Ideal.defs _ _).mono
    (fun r h => ⟨fun c => (h c).2, Idealize.ShloMosaic.sem_eq_zero_of_no_sems (by decide) r.2⟩) (Cert.Reference6Ideal.Value.run m ρ)

/-- The pooling mixer's reference runs, its arguments kept. -/
theorem reference7 : Cert.quiescent_Reference7Ideal := by
  intro m ρ _
  exact (θ_run Cert.Reference7Ideal.defs _ _).mono
    (fun r h => ⟨fun c => (h c).2.2, Idealize.ShloMosaic.sem_eq_zero_of_no_sems (by decide) r.2⟩) (Cert.Reference7Ideal.Value.run m ρ)

/-- The output projection's reference on the sample's rows runs, its arguments kept. -/
theorem reference8 : Cert.quiescent_Reference8Ideal := by
  intro m ρ _
  exact (θ_run Cert.Reference8Ideal.defs _ _).mono
    (fun r h => ⟨fun c => (h c).2, Idealize.ShloMosaic.sem_eq_zero_of_no_sems (by decide) r.2⟩) (Cert.Reference8Ideal.Value.run m ρ)

/-- The pooling mixer's reference on the sample's rows runs, its arguments kept. -/
theorem reference9 : Cert.quiescent_Reference9Ideal := by
  intro m ρ _
  exact (θ_run Cert.Reference9Ideal.defs _ _).mono
    (fun r h => ⟨fun c => (h c).2.2, Idealize.ShloMosaic.sem_eq_zero_of_no_sems (by decide) r.2⟩) (Cert.Reference9Ideal.Value.run m ρ)

/-- The first layer's prompt projections' reference runs, its arguments kept. -/
theorem reference10 : Cert.quiescent_Reference10Ideal := by
  intro m ρ _
  exact (θ_run Cert.Reference10Ideal.defs _ _).mono
    (fun r h => ⟨fun c => (h c).2.2.2.2.2.2.2.2, Idealize.ShloMosaic.sem_eq_zero_of_no_sems (by decide) r.2⟩) (Cert.Reference10Ideal.Value.run m ρ)

end Cert.Proof.Frames
-- ==== Proof.Sel.Values.lean ====
/-
  What the selection kernel computes, as pure functions of the buffer it scans, for any float values: the 13-trip folds
  over 640-wide column tiles (the extremes, the counts above a pivot, the tie positions), one step of the threshold search
  and its iteration until the test fails, the tie bisection, and the buffer after the tiles of the result are stored.
  `Run.lean` shows that the run returns exactly these.
-/
module

public import proofs.«01_k».proof.KernelIdeal
public import proofs.«01_k».proof.Proof.Gen.KernelIdeal
public import proofs.«01_k».proof.Proof.Gen.KernelIdeal.Skeleton

@[expose] public section

noncomputable section

namespace Cert.Proof.Sel

open Cert.KernelIdeal Cert.KernelIdeal.Gen
open Idealize.ShloMosaic
open Idealize.ShloMosaic.TcCoe

/-- The state of a counted loop after the first `j` of its trips. -/
def iter {n : ℕ} {α : Type _} (f : Fin n → α → α) (a : α) : ℕ → α
  | 0 => a
  | j + 1 => if h : j < n then f ⟨j, h⟩ (iter f a j) else iter f a j

/-- One more trip applies the trip's function. -/
theorem iter_succ {n : ℕ} {α : Type _} (f : Fin n → α → α) (a : α) (k : Fin n) :
    iter f a (k.val + 1) = f k (iter f a k.val) := by
  rw [iter, dif_pos k.isLt]

/-- All the trips of a loop. -/
def iterAll {n : ℕ} {α : Type _} (f : Fin n → α → α) (a : α) : α := iter f a n

variable {F : FTy → Type} [FloatOps F]

/-- The contents of the scanned buffer. -/
abbrev Bf (F : FTy → Type) : Type := (cc0_stg1_0 : Ref sig .tc).ty.Contents (Elt F)

/-- The tile each trip of the first scan reads, -/
def rd1 (B : Bf F) (k : Fin k0_t1_loop.trips) : Vec F S128x640 .f32 :=
  (Memref.whole cc0_stg1_0 : Memref sig .tc _ _ _).view.readAt (Elt F) (Rect.unit (s := S256x8320) (k0_off1 k) S128x640.size (k0_off1_inb k)).toLoadRect B
/-- of the second (the lower 128 rows), -/
def rd2 (B : Bf F) (k : Fin k0_t2_loop.trips) : Vec F S128x640 .f32 :=
  (Memref.whole cc0_stg1_0 : Memref sig .tc _ _ _).view.readAt (Elt F) (Rect.unit (s := S256x8320) (k0_off2 k) S128x640.size (k0_off2_inb k)).toLoadRect B
/-- of the counting scans, -/
def rd3 (B : Bf F) (k : Fin k0_t3_loop.trips) : Vec F S128x640 .f32 :=
  (Memref.whole cc0_stg1_0 : Memref sig .tc _ _ _).view.readAt (Elt F) (Rect.unit (s := S256x8320) (k0_off3 k) S128x640.size (k0_off3_inb k)).toLoadRect B
/-- likewise on the lower rows, -/
def rd4 (B : Bf F) (k : Fin k0_t4_loop.trips) : Vec F S128x640 .f32 :=
  (Memref.whole cc0_stg1_0 : Memref sig .tc _ _ _).view.readAt (Elt F) (Rect.unit (s := S256x8320) (k0_off4 k) S128x640.size (k0_off4_inb k)).toLoadRect B
/-- of the tie scans, -/
def rd6 (B : Bf F) (k : Fin k0_t6_loop.trips) : Vec F S128x640 .f32 :=
  (Memref.whole cc0_stg1_0 : Memref sig .tc _ _ _).view.readAt (Elt F) (Rect.unit (s := S256x8320) (k0_off5 k) S128x640.size (k0_off5_inb k)).toLoadRect B
/-- likewise on the lower rows, -/
def rd7 (B : Bf F) (k : Fin k0_t7_loop.trips) : Vec F S128x640 .f32 :=
  (Memref.whole cc0_stg1_0 : Memref sig .tc _ _ _).view.readAt (Elt F) (Rect.unit (s := S256x8320) (k0_off6 k) S128x640.size (k0_off6_inb k)).toLoadRect B
/-- of the writing scans, -/
def rd8 (B : Bf F) (k : Fin k0_t8_loop.trips) : Vec F S128x640 .f32 :=
  (Memref.whole cc0_stg1_0 : Memref sig .tc _ _ _).view.readAt (Elt F) (Rect.unit (s := S256x8320) (k0_off7 k) S128x640.size (k0_off7_inb k)).toLoadRect B
/-- likewise on the lower rows. -/
def rd9 (B : Bf F) (k : Fin k0_t9_loop.trips) : Vec F S128x640 .f32 :=
  (Memref.whole cc0_stg1_0 : Memref sig .tc _ _ _).view.readAt (Elt F) (Rect.unit (s := S256x8320) (k0_off8 k) S128x640.size (k0_off8_inb k)).toLoadRect B

/-- One trip of the extremes' scan, upper rows, -/
def f1 (B : Bf F) (k : Fin k0_t1_loop.trips) (a : FVec F S128x128 .f32 × FVec F S128x128 .f32) :
    FVec F S128x128 .f32 × FVec F S128x128 .f32 := (k0_pay30 a.1 (rd1 B k), k0_pay31 a.2 (rd1 B k))
/-- lower rows. -/
def f2 (B : Bf F) (k : Fin k0_t2_loop.trips) (a : FVec F S128x128 .f32 × FVec F S128x128 .f32) :
    FVec F S128x128 .f32 × FVec F S128x128 .f32 := (k0_pay38 a.1 (rd2 B k), k0_pay39 a.2 (rd2 B k))
/-- The extremes per lane, upper rows, -/
def ext1 (B : Bf F) : FVec F S128x128 .f32 × FVec F S128x128 .f32 := iterAll (f1 B) (k0_pay22 (F := F), k0_pay23 (F := F))
/-- lower rows. -/
def ext2 (B : Bf F) : FVec F S128x128 .f32 × FVec F S128x128 .f32 := iterAll (f2 B) (k0_pay22 (F := F), k0_pay23 (F := F))
/-- Each row's greatest score, -/
def rmax (B : Bf F) : FVec F S1x256 .f32 := k0_pay40 (ext1 B).1 (ext2 B).1
/-- its least. -/
def rmin (B : Bf F) : FVec F S1x256 .f32 := k0_pay41 (ext1 B).2 (ext2 B).2

/-- One trip of the count at or above the pivots, upper rows, -/
def f3 (B : Bf F) (p : FVec F S1x256 .f32) (k : Fin k0_t3_loop.trips) (a : FVec F S128x128 .f32) : FVec F S128x128 .f32 :=
  k0_pay84 p (k0_pay77 (k0_pay83 p) a (rd3 B k)) (k0_pay78 (rd3 B k))
/-- lower rows. -/
def f4 (B : Bf F) (p : FVec F S1x256 .f32) (k : Fin k0_t4_loop.trips) (a : FVec F S128x128 .f32) : FVec F S128x128 .f32 :=
  k0_pay86 p (k0_pay80 (k0_pay85 p) a (rd4 B k)) (k0_pay81 (rd4 B k))
/-- The counts per lane, upper rows, -/
def cnt3 (B : Bf F) (p : FVec F S1x256 .f32) : FVec F S128x128 .f32 := iterAll (f3 B p) (k0_pay82 (F := F))
/-- lower rows. -/
def cnt4 (B : Bf F) (p : FVec F S1x256 .f32) : FVec F S128x128 .f32 := iterAll (f4 B p) (k0_pay82 (F := F))

/-- The search's state: the step, the bracket's ends, the counts above them, which rows are done, the next pivots, whether
    all rows are done. -/
abbrev St (F : FTy → Type) : Type :=
  BitVec 32 × FVec F S1x256 .f32 × FVec F S1x256 .f32 × FVec F S1x256 .f32 × FVec F S1x256 .f32 × FVec F S1x256 .f32 × FVec F S1x256 .f32 × BitVec 32

/-- Whether the search runs on. -/
def wtest (s : St F) : BitVec 1 := Scalar.andi (Scalar.cmpi .slt s.1 400#32) (Scalar.cmpi .eq s.2.2.2.2.2.2.2 0#32)

/-- The new lower end, -/
def nlo (s : St F) (a b : FVec F S128x128 .f32) : FVec F S1x256 .f32 := k0_pay91 s.2.1 s.2.2.2.2.2.1 s.2.2.2.2.2.2.1 a b
/-- the new upper end, -/
def nhi (s : St F) (a b : FVec F S128x128 .f32) : FVec F S1x256 .f32 := k0_pay93 s.2.2.1 s.2.2.2.2.2.1 s.2.2.2.2.2.2.1 a b
/-- the count above the new lower end, -/
def nclo (s : St F) (a b : FVec F S128x128 .f32) : FVec F S1x256 .f32 := k0_pay92 s.2.2.2.1 s.2.2.2.2.2.1 a b
/-- the count above the new upper end, -/
def nchi (s : St F) (a b : FVec F S128x128 .f32) : FVec F S1x256 .f32 := k0_pay94 s.2.2.2.2.1 s.2.2.2.2.2.1 a b
/-- the middle of the new bracket, -/
def nmid (s : St F) (a b : FVec F S128x128 .f32) : FVec F S1x256 .f32 := k0_pay95 s.2.1 s.2.2.1 s.2.2.2.2.2.1 s.2.2.2.2.2.2.1 a b
/-- whether its lower end, -/
def nzl (s : St F) (a b : FVec F S128x128 .f32) : IVec S1x256 1 := k0_pay96 s.2.1 s.2.2.2.2.2.1 s.2.2.2.2.2.2.1 a b
/-- and its upper end, is as the middle's guards ask, -/
def nzh (s : St F) (a b : FVec F S128x128 .f32) : IVec S1x256 1 := k0_pay97 s.2.2.1 s.2.2.2.2.2.1 s.2.2.2.2.2.2.1 a b
/-- the rows done. -/
def ndone (v20 : FVec F S1x256 .f32) (s : St F) (a b : FVec F S128x128 .f32) : FVec F S1x256 .f32 :=
  k0_pay99 v20 (nlo s a b) (nclo s a b) (nhi s a b) (nmid s a b) (nzl s a b) (nzh s a b)
/-- the next pivots, -/
def npiv (v27 v20 : FVec F S1x256 .f32) (s : St F) (a b : FVec F S128x128 .f32) : FVec F S1x256 .f32 :=
  k0_pay98 v27 v20 (nlo s a b) (nhi s a b) (nmid s a b) (nzl s a b) (nzh s a b) (Scalar.ofBits .f32 0x00000000#32)
/-- whether all are. -/
def nall (v20 : FVec F S1x256 .f32) (s : St F) (a b : FVec F S128x128 .f32) : BitVec 32 :=
  Scalar.extui (Scalar.cmpf .ogt (k0_pay100 v20 (nlo s a b) (nclo s a b) (nhi s a b) (nmid s a b) (nzl s a b) (nzh s a b))
    (Scalar.ofBits (F := F) .f32 0x3F000000#32))

/-- One step of the search, the counts at the pivots given, -/
def wstepAt (v27 v20 : FVec F S1x256 .f32) (s : St F) (a b : FVec F S128x128 .f32) : St F :=
  (Scalar.addi s.1 1#32, nlo s a b, nhi s a b, nclo s a b, nchi s a b, ndone v20 s a b, npiv v27 v20 s a b, nall v20 s a b)
/-- and taken. -/
def wstep (B : Bf F) (v27 v20 : FVec F S1x256 .f32) (s : St F) : St F :=
  wstepAt v27 v20 s (cnt3 B s.2.2.2.2.2.2.1) (cnt4 B s.2.2.2.2.2.2.1)

/-- The search with at most `k` more steps: it stops once the test fails. -/
def wrun (B : Bf F) (v27 v20 : FVec F S1x256 .f32) : ℕ → St F → St F
  | 0, s => s
  | k + 1, s => if wtest s = 1#1 then wrun B v27 v20 k (wstep B v27 v20 s) else s

/-- The search's first state. -/
def wstart (B : Bf F) : St F :=
  (0#32, k0_pay42 (F := F), k0_pay43 (F := F), k0_pay44 (F := F), k0_pay51 (F := F),
    k0_pay50 (k0_pay49 (rmax B) (k0_pay42 (F := F)) (k0_pay43 (F := F)) (k0_pay44 (F := F)) (Scalar.ofBits .f32 0x3F000000#32)) (Scalar.ofBits .f32 0x3F800000#32),
    k0_pay48 (rmax B) (rmin B) (k0_pay42 (F := F)) (k0_pay43 (F := F)) (Scalar.ofBits .f32 0x3F000000#32), 0#32)

/-- The search's last. -/
def wend (B : Bf F) : St F := wrun B (rmin B) (rmax B) 400 (wstart B)

/-- The lane numbers. -/
def lanes : IVec S128x128 32 := iota .tc S128x128 32 [1] iota_S128x128_d1_w32

/-- One trip of the tie count, upper rows, -/
def f6 (B : Bf F) (thr : FVec F S1x256 .f32) (a4 a5 : IVec S1x256 32) (k : Fin k0_t6_loop.trips) (a : FVec F S128x128 .f32) :
    FVec F S128x128 .f32 :=
  k0_pay60 lanes thr a4 a5 (Scf.iv 0#32 1#32 k) (k0_pay1 (rd6 B k))
    (k0_pay2 lanes (k0_pay58 thr) (k0_pay59 a4 a5) 0#32 1#32 k a (rd6 B k)) (k0_pay3 (k0_pay58 thr) (rd6 B k))
    (k0_pay4 (F := F) lanes (k0_pay59 a4 a5) 0#32 1#32 k) (k0_pay5 (F := F))
/-- lower rows. -/
def f7 (B : Bf F) (thr : FVec F S1x256 .f32) (a4 a5 : IVec S1x256 32) (k : Fin k0_t7_loop.trips) (a : FVec F S128x128 .f32) :
    FVec F S128x128 .f32 :=
  k0_pay63 lanes thr a4 a5 (Scf.iv 0#32 1#32 k) (k0_pay6 (rd7 B k))
    (k0_pay7 lanes (k0_pay61 thr) (k0_pay62 a4 a5) 0#32 1#32 k a (rd7 B k)) (k0_pay8 (k0_pay61 thr) (rd7 B k))
    (k0_pay9 (F := F) lanes (k0_pay62 a4 a5) 0#32 1#32 k) (k0_pay10 (F := F))
/-- One step of the bisection for the last tied column kept. -/
def f5 (B : Bf F) (thr chi : FVec F S1x256 .f32) (_k : Fin k0_t5_loop.trips) (a : IVec S1x256 32 × IVec S1x256 32) :
    IVec S1x256 32 × IVec S1x256 32 :=
  (k0_pay65 chi a.1 a.2 (iterAll (f6 B thr a.1 a.2) (k0_pay57 (F := F))) (iterAll (f7 B thr a.1 a.2) (k0_pay57 (F := F))),
   k0_pay66 chi a.1 a.2 (iterAll (f6 B thr a.1 a.2) (k0_pay57 (F := F))) (iterAll (f7 B thr a.1 a.2) (k0_pay57 (F := F))))

/-- The column up to which ties are kept: bisected for when some row was left undecided, else all. -/
def jcut (B : Bf F) (s : St F) : IVec S1x256 32 :=
  if Scalar.cmpi .ne (Scalar.extui (Scalar.cmpf .ogt (k0_pay53 s.2.2.2.1) (Scalar.ofBits (F := F) .f32 0x00000000#32)) : BitVec 32) 0#32 = 1#1 then
    k0_pay67 s.2.2.2.1 (iterAll (f5 B s.2.1 s.2.2.2.2.1) (k0_pay54, k0_pay55)).2
  else k0_pay68

/-- The tile one trip of the writing scan stores, upper rows, -/
def tile8 (thr : FVec F S1x256 .f32) (jc : IVec S1x256 32) (k : Fin k0_t8_loop.trips) (x : Vec F S128x640 .f32) : FVec F S128x640 .f32 :=
  k0_pay72 k0_pay21 lanes thr jc (Scf.iv 0#32 1#32 k) (k0_pay11 x) (k0_pay12 lanes (k0_pay70 thr) (k0_pay71 k0_pay21 jc) 0#32 1#32 k x)
    (k0_pay13 lanes (k0_pay70 thr) (k0_pay71 k0_pay21 jc) 0#32 1#32 k x) (k0_pay14 x) (k0_pay15 lanes (k0_pay71 k0_pay21 jc) 0#32 1#32 k)
    (Scalar.ofBits .f32 0x00000000#32) (Scalar.ofBits .f32 0xF149F2CA#32)
/-- lower rows. -/
def tile9 (thr : FVec F S1x256 .f32) (jc : IVec S1x256 32) (k : Fin k0_t9_loop.trips) (x : Vec F S128x640 .f32) : FVec F S128x640 .f32 :=
  k0_pay75 k0_pay21 lanes thr jc (Scf.iv 0#32 1#32 k) (k0_pay16 x) (k0_pay17 lanes (k0_pay73 thr) (k0_pay74 k0_pay21 jc) 0#32 1#32 k x)
    (k0_pay18 lanes (k0_pay73 thr) (k0_pay74 k0_pay21 jc) 0#32 1#32 k x) (k0_pay19 x) (k0_pay20 lanes (k0_pay74 k0_pay21 jc) 0#32 1#32 k)
    (Scalar.ofBits .f32 0x00000000#32) (Scalar.ofBits .f32 0xF149F2CA#32)

/-- The buffer after one trip of the writing scan, upper rows, -/
def g8 (thr : FVec F S1x256 .f32) (jc : IVec S1x256 32) (k : Fin k0_t8_loop.trips) (B : Bf F) : Bf F :=
  ((Memref.whole cc0_stg1_0).access (Rect.unit (s := S256x8320) (k0_off7 k) S128x640.size (k0_off7_inb k)) : View sig .tc _ _ _).write (Elt F) B
    (tile8 thr jc k (rd8 B k)) Finset.univ
/-- lower rows. -/
def g9 (thr : FVec F S1x256 .f32) (jc : IVec S1x256 32) (k : Fin k0_t9_loop.trips) (B : Bf F) : Bf F :=
  ((Memref.whole cc0_stg1_0).access (Rect.unit (s := S256x8320) (k0_off8 k) S128x640.size (k0_off8_inb k)) : View sig .tc _ _ _).write (Elt F) B
    (tile9 thr jc k (rd9 B k)) Finset.univ

/-- The buffer at the end, from the scores `B`. -/
def final (B : Bf F) : Bf F :=
  iterAll (g9 (wend B).2.1 (jcut B (wend B))) (iterAll (g8 (wend B).2.1 (jcut B (wend B))) B)

end Cert.Proof.Sel

end
-- ==== Proof.Sel.Common.lean ====
/-
  The proof data of the selection kernel's run: the resource algebra (the rounds library's, for the pipeline's staging
  cells), the launch memory, what the pipeline fetches, the pipeline's data, and the rule for a counted loop that returns a
  fold while it updates a held resource.
-/
module

public import proofs.«01_k».proof.Proof.Sel.Values
public import Idealize.ShloMosaic.Lib.Pipeline.Sound
public import proofs.«01_k».proof.Proof.Gen.KernelIdeal.Launch
public import Idealize.ShloMosaic.Lib.Tactic

@[expose] public section

noncomputable section

namespace Cert.Proof.Sel

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra: rounds over the machine's cells. -/
abbrev UA (nD : Nat) (τ : Topo) : Type := URounds (GSem nD τ sig) Unit

local notation "𝕄" => MT nD τ sig Unit (Elt F) ℕ (UA nD τ) ℕ

/-- Its embedding into the machine's algebra. -/
def EP : Emb (UA nD τ) (MT nD τ sig Unit (Elt F) ℕ (UA nD τ) ℕ) :=
  (Emb.refl _).trans (uEmb (nD := nD) (sig := sig) (Ix := Unit) (Val := Elt F) (Name := ℕ) (U := UA nD τ) (Lvl := ℕ)).toEmb

/-- The embedding lands among the user's resources. -/
instance EP_landsIn : (EP : Emb (UA nD τ) 𝕄).LandsIn (upEmb : UEmb _ 𝕄) := by unfold EP; infer_instance

/-- The recursion of the search's label is measured by naturals. -/
abbrev 𝒱₀ : Variants := Variants.nat

/-- A loop that carries nothing and updates the resource. -/
theorem wp_fold_unit {σ : Type} (c : Dev nD) (bd : Option 𝒱₀.V) (E : Set ℕ) (l : Scf.Loop 32) (hok : l.OK)
    (P : σ → sProp 𝕄) (f : Fin l.trips → σ → σ) (body : Fin l.trips → Unit → Prog (TpuEff nD τ sig (Elt F) (Λ₀ F) .tc) Unit)
    (hbody : ∀ k s Q, iprop(P s ∗ (P (f k s) -∗ Q ()))
      ⊢ wp frame (wpE (defs₀ (F := F)) 𝒱₀ (c : Thread nD τ) bd) E (body k ()) Q)
    (s : σ) (Q : Unit → sProp 𝕄) :
    iprop(P s ∗ (P (iterAll f s) -∗ Q ()))
      ⊢ wp frame (wpE (defs₀ (F := F)) 𝒱₀ (c : Thread nD τ) bd) E (Scf.Loop.for l hok () body) Q := by
  have hb : ∀ (k : Fin l.trips) (acc : Unit), (fun (j : ℕ) (acc : Unit) => (iprop(P (iter f s j)) : sProp 𝕄)) k.val acc
      ⊢ wp frame (wpE (defs₀ (F := F)) 𝒱₀ (c : Thread nD τ) bd) E (body k acc)
          ((fun (j : ℕ) (acc : Unit) => (iprop(P (iter f s j)) : sProp 𝕄)) (k.val + 1)) := by
    rintro k ⟨⟩
    iintro HP
    iapply (hbody k (iter f s k.val))
    isplitl [HP]; · iexact HP
    iintro HP
    simp only [iter_succ]
    iexact HP
  iintro ⟨HP, HQ⟩
  iapply (Scf.wp_for frame (wpE (defs₀ (F := F)) 𝒱₀ (c : Thread nD τ) bd) E l.lb l.ub l.st hok () body
    (fun (j : ℕ) (acc : Unit) => (iprop(P (iter f s j)) : sProp 𝕄)) hb)
  isplitl [HP]
  · simp only [iter]; iexact HP
  iintro %acc HP
  unfold iterAll
  iapply HQ
  iexact HP

/-- A loop that leaves the resource as it is. -/
theorem wp_fold_read {α : Type} (c : Dev nD) (bd : Option 𝒱₀.V) (E : Set ℕ) (l : Scf.Loop 32) (hok : l.OK)
    (P : sProp 𝕄) (f : Fin l.trips → α → α) (body : Fin l.trips → α → Prog (TpuEff nD τ sig (Elt F) (Λ₀ F) .tc) α)
    (hbody : ∀ k acc Q, iprop(P ∗ (P -∗ Q (f k acc)))
      ⊢ wp frame (wpE (defs₀ (F := F)) 𝒱₀ (c : Thread nD τ) bd) E (body k acc) Q)
    (init : α) (Q : α → sProp 𝕄) :
    iprop(P ∗ (P -∗ Q (iterAll f init)))
      ⊢ wp frame (wpE (defs₀ (F := F)) 𝒱₀ (c : Thread nD τ) bd) E (Scf.Loop.for l hok init body) Q := by
  have hb : ∀ (k : Fin l.trips) (acc : α), (fun (j : ℕ) (acc : α) => (iprop(⌜iter f init j = acc⌝ ∗ P) : sProp 𝕄)) k.val acc
      ⊢ wp frame (wpE (defs₀ (F := F)) 𝒱₀ (c : Thread nD τ) bd) E (body k acc)
          ((fun (j : ℕ) (acc : α) => (iprop(⌜iter f init j = acc⌝ ∗ P) : sProp 𝕄)) (k.val + 1)) := by
    intro k acc
    iintro ⟨%he, HP⟩
    iapply (hbody k acc)
    isplitl [HP]; · iexact HP
    iintro HP
    isplitr; swap; · iexact HP
    ipureintro
    rw [iter_succ, he]
  iintro ⟨HP, HQ⟩
  iapply (Scf.wp_for frame (wpE (defs₀ (F := F)) 𝒱₀ (c : Thread nD τ) bd) E l.lb l.ub l.st hok init body (fun (j : ℕ) (acc : α) => (iprop(⌜iter f init j = acc⌝ ∗ P) : sProp 𝕄)) hb)
  isplitl [HP]
  · isplitr; · (ipureintro; rfl)
    iexact HP
  iintro %acc ⟨%he, HP⟩
  have h1 : (iterAll f init) = acc := he
  rw [h1]
  iapply HQ; iexact HP

variable (m : (ℓ : Loc nD τ sig) → Buf (Elt F) ℓ) (ρ : Dev nD → PrngReg)

/-- The memory at launch. -/
def s₀ : MemSt nD τ sig (Elt F) := ⟨m, fun _ => 0, ρ⟩

/-- The one grid point. -/
abbrev t₀ : Fin (cfg0 (F := F)).N := t0_0

/-- The scores as the pipeline fetches them. -/
def scores (c : Dev nD) : Bf F :=
  (win0_0.blk (t₀ (F := F))).view.read (Elt F) ((s₀ m ρ).mem ((c : Thread nD τ).loc main_arg0))

/-- The pipeline's data: the arrays as launched; after the body the scores as fetched and the result at `final`. -/
def dats (_ : Fin 1) (c : Dev nD) : Dat τ (Elt F) Unit ℕ (UA nD τ) ℕ (cfg0 (F := F)) c where
  A w := (s₀ m ρ).mem (((cfg0 (F := F)).win w).arr.view.loc (c : Thread nD τ))
  after w _ := match w with
    | ⟨0, _⟩ => scores m ρ c
    | ⟨1, _⟩ => final (scores m ρ c)
  Φ _ := iprop(emp)
  q _ := fullShare
  owed _ := 0

/-- The input's window fetches at the one point. -/
theorem fetch_0 (t : Fin (cfg0 (F := F)).N) : ((cfg0 (F := F)).win (0 : Fin 2)).fetch t = true := by
  rw [show t = t0_0 from fin_N0 t]; rfl

/-- Owning a whole buffer is its points-to at equal contents. -/
theorem owns_whole_eq (c : Dev nD) (b : Ref sig .tc) (X : b.ty.Contents (Elt F)) :
    (owns (Ix := Unit) (Name := ℕ) (U := UA nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Proof.Sel

end
-- ==== Proof.Sel.Loops.lean ====
/-
  The selection kernel's body obligation: each counted loop returns its fold, the search's label meets its specification by
  induction on the steps left, and the whole body leaves `final` of the scores in the result's buffer.
-/
module

public import proofs.«01_k».proof.Proof.Sel.Common

@[expose] public section

noncomputable section

namespace Cert.Proof.Sel

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UA nD τ) ℕ

/-- The result's buffer held at contents `B`. -/
abbrev pt (c : Dev nD) (B : Bf F) : sProp 𝕄 := iprop(((c : Thread nD τ).loc cc0_stg1_0) ↦{fullShare} B)

section Loops

variable (c : Dev nD) (bd : Option 𝒱₀.V) (B : Bf F) (i : grid0.Coords)

/-- The scan for the extremes, upper rows. -/
theorem wp_t1  (Q : FVec F S128x128 .f32 × FVec F S128x128 .f32 → sProp 𝕄) :
    iprop(pt c B ∗ (pt c B -∗ Q (iterAll (f1 B) (k0_pay22 (F := F), k0_pay23 (F := F)))))
      ⊢ wp frame (wpE (defs₀ (F := F)) 𝒱₀ (c : Thread nD τ) bd) Set.univ (Scf.Loop.for k0_t1_loop k0_t1_ok (k0_pay22 (F := F), k0_pay23 (F := F)) (k0_t1_body i (Memref.whole cc0_stg0_0) (Memref.isWhole_whole _) (Memref.whole cc0_stg1_0) (Memref.isWhole_whole _))) Q := by
  refine wp_fold_read c bd Set.univ k0_t1_loop k0_t1_ok (pt c B) (f1 B) _ ?_ _ Q
  intro k acc Q
  unfold f1 rd1 k0_t1_body
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The scan for the extremes, lower rows. -/
theorem wp_t2  (Q : FVec F S128x128 .f32 × FVec F S128x128 .f32 → sProp 𝕄) :
    iprop(pt c B ∗ (pt c B -∗ Q (iterAll (f2 B) (k0_pay22 (F := F), k0_pay23 (F := F)))))
      ⊢ wp frame (wpE (defs₀ (F := F)) 𝒱₀ (c : Thread nD τ) bd) Set.univ (Scf.Loop.for k0_t2_loop k0_t2_ok (k0_pay22 (F := F), k0_pay23 (F := F)) (k0_t2_body i (Memref.whole cc0_stg0_0) (Memref.isWhole_whole _) (Memref.whole cc0_stg1_0) (Memref.isWhole_whole _))) Q := by
  refine wp_fold_read c bd Set.univ k0_t2_loop k0_t2_ok (pt c B) (f2 B) _ ?_ _ Q
  intro k acc Q
  unfold f2 rd2 k0_t2_body
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The count at or above the pivots, upper rows. -/
theorem wp_t3 (v27 v20 : FVec F S1x256 .f32) (s : St F) (Q : FVec F S128x128 .f32 → sProp 𝕄) :
    iprop(pt c B ∗ (pt c B -∗ Q (iterAll (f3 B s.2.2.2.2.2.2.1) (k0_pay82 (F := F)))))
      ⊢ wp frame (wpE (defs₀ (F := F)) 𝒱₀ (c : Thread nD τ) bd) Set.univ (Scf.Loop.for k0_t3_loop k0_t3_ok (k0_pay82 (F := F)) (k0_t3_body i (Memref.whole cc0_stg1_0) (Memref.isWhole_whole _) v27 v20 s.1 s.2.1 s.2.2.1 s.2.2.2.1 s.2.2.2.2.1 s.2.2.2.2.2.1 s.2.2.2.2.2.2.1 s.2.2.2.2.2.2.2)) Q := by
  refine wp_fold_read c bd Set.univ k0_t3_loop k0_t3_ok (pt c B) (f3 B s.2.2.2.2.2.2.1) _ ?_ _ Q
  intro k acc Q
  unfold f3 rd3 k0_t3_body
  simp only [k0_part8_eq_skeleton]; unfold k0_part8_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The count at or above the pivots, lower rows. -/
theorem wp_t4 (v27 v20 : FVec F S1x256 .f32) (s : St F) (Q : FVec F S128x128 .f32 → sProp 𝕄) :
    iprop(pt c B ∗ (pt c B -∗ Q (iterAll (f4 B s.2.2.2.2.2.2.1) (k0_pay82 (F := F)))))
      ⊢ wp frame (wpE (defs₀ (F := F)) 𝒱₀ (c : Thread nD τ) bd) Set.univ (Scf.Loop.for k0_t4_loop k0_t4_ok (k0_pay82 (F := F)) (k0_t4_body i (Memref.whole cc0_stg1_0) (Memref.isWhole_whole _) v27 v20 s.1 s.2.1 s.2.2.1 s.2.2.2.1 s.2.2.2.2.1 s.2.2.2.2.2.1 s.2.2.2.2.2.2.1 s.2.2.2.2.2.2.2)) Q := by
  refine wp_fold_read c bd Set.univ k0_t4_loop k0_t4_ok (pt c B) (f4 B s.2.2.2.2.2.2.1) _ ?_ _ Q
  intro k acc Q
  unfold f4 rd4 k0_t4_body
  simp only [k0_part9_eq_skeleton]; unfold k0_part9_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The tie count, upper rows. -/
theorem wp_t6 (v6 : IVec S1x256 32) (v20 v27 v28 v29 v32 v60 : FVec F S1x256 .f32) (v77 : IVec S1x256 1) (cst_32 : F .f32) (thr : FVec F S1x256 .f32) (a4 a5 : IVec S1x256 32) (Q : FVec F S128x128 .f32 → sProp 𝕄) :
    iprop(pt c B ∗ (pt c B -∗ Q (iterAll (f6 B thr a4 a5) (k0_pay57 (F := F)))))
      ⊢ wp frame (wpE (defs₀ (F := F)) 𝒱₀ (c : Thread nD τ) bd) Set.univ (Scf.Loop.for k0_t6_loop k0_t6_ok (k0_pay57 (F := F)) (k0_t6_body i (Memref.whole cc0_stg0_0) (Memref.isWhole_whole _) (Memref.whole cc0_stg1_0) (Memref.isWhole_whole _) v6 lanes v20 v27 v28 v29 v32 v60 v77 cst_32 thr a4 a5)) Q := by
  refine wp_fold_read c bd Set.univ k0_t6_loop k0_t6_ok (pt c B) (f6 B thr a4 a5) _ ?_ _ Q
  intro k acc Q
  unfold f6 rd6 k0_t6_body
  simp only [k0_part1_eq_skeleton]; unfold k0_part1_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The tie count, lower rows. -/
theorem wp_t7 (v6 : IVec S1x256 32) (v20 v27 v28 v29 v32 v60 : FVec F S1x256 .f32) (v77 : IVec S1x256 1) (cst_32 : F .f32) (thr : FVec F S1x256 .f32) (a4 a5 : IVec S1x256 32) (Q : FVec F S128x128 .f32 → sProp 𝕄) :
    iprop(pt c B ∗ (pt c B -∗ Q (iterAll (f7 B thr a4 a5) (k0_pay57 (F := F)))))
      ⊢ wp frame (wpE (defs₀ (F := F)) 𝒱₀ (c : Thread nD τ) bd) Set.univ (Scf.Loop.for k0_t7_loop k0_t7_ok (k0_pay57 (F := F)) (k0_t7_body i (Memref.whole cc0_stg0_0) (Memref.isWhole_whole _) (Memref.whole cc0_stg1_0) (Memref.isWhole_whole _) v6 lanes v20 v27 v28 v29 v32 v60 v77 cst_32 thr a4 a5)) Q := by
  refine wp_fold_read c bd Set.univ k0_t7_loop k0_t7_ok (pt c B) (f7 B thr a4 a5) _ ?_ _ Q
  intro k acc Q
  unfold f7 rd7 k0_t7_body
  simp only [k0_part2_eq_skeleton]; unfold k0_part2_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  rw [wp_ret]; imodintro; iapply Hk; iexact H

/-- The bisection for the tied columns kept. -/
theorem wp_t5 (v6 : IVec S1x256 32) (v20 v27 v28 v29 v32 v60 : FVec F S1x256 .f32) (v77 : IVec S1x256 1) (cst_32 : F .f32) (thr chi : FVec F S1x256 .f32) (Q : IVec S1x256 32 × IVec S1x256 32 → sProp 𝕄) :
    iprop(pt c B ∗ (pt c B -∗ Q (iterAll (f5 B thr chi) (k0_pay54, k0_pay55))))
      ⊢ wp frame (wpE (defs₀ (F := F)) 𝒱₀ (c : Thread nD τ) bd) Set.univ (Scf.Loop.for k0_t5_loop k0_t5_ok (k0_pay54, k0_pay55) (k0_t5_body i (Memref.whole cc0_stg0_0) (Memref.isWhole_whole _) (Memref.whole cc0_stg1_0) (Memref.isWhole_whole _) v6 lanes v20 v27 v28 v29 v32 v60 v77 cst_32 thr chi)) Q := by
  refine wp_fold_read c bd Set.univ k0_t5_loop k0_t5_ok (pt c B) (f5 B thr chi) _ ?_ _ Q
  rintro k ⟨a4, a5⟩ Q
  unfold f5 k0_t5_body
  simp only [wp_bind]
  iintro ⟨H, Hk⟩
  iapply (wp_t6 c bd B i v6 v20 v27 v28 v29 v32 v60 v77 cst_32 thr a4 a5)
  isplitl [H]; · iexact H
  iintro H
  iapply (wp_t7 c bd B i v6 v20 v27 v28 v29 v32 v60 v77 cst_32 thr a4 a5)
  isplitl [H]; · iexact H
  iintro H
  simp only [Prog.pure_eq_ret]
  rw [wp_ret]; imodintro; iapply Hk; iexact H

/-- The writing scan, upper rows. -/
theorem wp_t8 (v20 v27 v28 v29 v32 v60 : FVec F S1x256 .f32) (v77 : IVec S1x256 1) (cst_32 : F .f32) (thr : FVec F S1x256 .f32) (jc : IVec S1x256 32) (Q : Unit → sProp 𝕄) :
    iprop(pt c B ∗ (pt c (iterAll (g8 thr jc) B) -∗ Q ()))
      ⊢ wp frame (wpE (defs₀ (F := F)) 𝒱₀ (c : Thread nD τ) bd) Set.univ (Scf.Loop.for k0_t8_loop k0_t8_ok ⟨⟩ (k0_t8_body i (Memref.whole cc0_stg0_0) (Memref.isWhole_whole _) (Memref.whole cc0_stg1_0) (Memref.isWhole_whole _) k0_pay21 lanes v20 v27 v28 v29 v32 v60 v77 cst_32 thr jc)) Q := by
  refine wp_fold_unit c bd Set.univ k0_t8_loop k0_t8_ok (fun B => pt c B) (g8 thr jc) _ ?_ B Q
  intro k B Q
  unfold g8 tile8 rd8 k0_t8_body
  simp only [k0_part3_eq_skeleton]; unfold k0_part3_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  iapply (wp_load 𝒱₀ (c : Thread nD τ) bd Set.univ (m := Memref.whole cc0_stg1_0) (Finset.subset_univ _)) $$ H; iintro H
  iapply (wp_store 𝒱₀ (c : Thread nD τ) bd Set.univ (m := Memref.whole cc0_stg1_0) (r := Rect.unit (s := S256x8320) (k0_off7 k) S128x640.size (k0_off7_inb k)) (Mk := Finset.univ) (Finset.subset_univ _)) $$ H; iintro H
  rw [wp_ret]; imodintro; iapply Hk; iexact H

/-- The writing scan, lower rows. -/
theorem wp_t9 (v20 v27 v28 v29 v32 v60 : FVec F S1x256 .f32) (v77 : IVec S1x256 1) (cst_32 : F .f32) (thr : FVec F S1x256 .f32) (jc : IVec S1x256 32) (Q : Unit → sProp 𝕄) :
    iprop(pt c B ∗ (pt c (iterAll (g9 thr jc) B) -∗ Q ()))
      ⊢ wp frame (wpE (defs₀ (F := F)) 𝒱₀ (c : Thread nD τ) bd) Set.univ (Scf.Loop.for k0_t9_loop k0_t9_ok ⟨⟩ (k0_t9_body i (Memref.whole cc0_stg0_0) (Memref.isWhole_whole _) (Memref.whole cc0_stg1_0) (Memref.isWhole_whole _) k0_pay21 lanes v20 v27 v28 v29 v32 v60 v77 cst_32 thr jc)) Q := by
  refine wp_fold_unit c bd Set.univ k0_t9_loop k0_t9_ok (fun B => pt c B) (g9 thr jc) _ ?_ B Q
  intro k B Q
  unfold g9 tile9 rd9 k0_t9_body
  simp only [k0_part4_eq_skeleton]; unfold k0_part4_skel
  simp only [Prog.lift, Prog.bind_op, Prog.bind_ret, Prog.pure_eq_ret]
  iintro ⟨H, Hk⟩
  iapply (wp_load 𝒱₀ (c : Thread nD τ) bd Set.univ (m := Memref.whole cc0_stg1_0) (Finset.subset_univ _)) $$ H; iintro H
  iapply (wp_load 𝒱₀ (c : Thread nD τ) bd Set.univ (m := Memref.whole cc0_stg1_0) (Finset.subset_univ _)) $$ H; iintro H
  iapply (wp_store 𝒱₀ (c : Thread nD τ) bd Set.univ (m := Memref.whole cc0_stg1_0) (r := Rect.unit (s := S256x8320) (k0_off8 k) S128x640.size (k0_off8_inb k)) (Mk := Finset.univ) (Finset.subset_univ _)) $$ H; iintro H
  rw [wp_ret]; imodintro; iapply Hk; iexact H

/-- The search's scans in one step: the new ends, counts, middle and guards. -/
theorem wp_part10 (v27 v20 : FVec F S1x256 .f32) (s : St F) (Q : _ → sProp 𝕄) :
    iprop(pt c B ∗ (pt c B -∗ Q ⟨nlo s (cnt3 B s.2.2.2.2.2.2.1) (cnt4 B s.2.2.2.2.2.2.1), nclo s (cnt3 B s.2.2.2.2.2.2.1) (cnt4 B s.2.2.2.2.2.2.1),
        nhi s (cnt3 B s.2.2.2.2.2.2.1) (cnt4 B s.2.2.2.2.2.2.1), nchi s (cnt3 B s.2.2.2.2.2.2.1) (cnt4 B s.2.2.2.2.2.2.1),
        nmid s (cnt3 B s.2.2.2.2.2.2.1) (cnt4 B s.2.2.2.2.2.2.1), nzl s (cnt3 B s.2.2.2.2.2.2.1) (cnt4 B s.2.2.2.2.2.2.1),
        nzh s (cnt3 B s.2.2.2.2.2.2.1) (cnt4 B s.2.2.2.2.2.2.1), Scalar.ofBits .f32 0x00000000#32⟩))
      ⊢ wp frame (wpE (defs₀ (F := F)) 𝒱₀ (c : Thread nD τ) bd) Set.univ (k0_part10 i (Memref.whole cc0_stg1_0) (Memref.isWhole_whole _) v27 v20 s.1 s.2.1 s.2.2.1 s.2.2.2.1 s.2.2.2.2.1 s.2.2.2.2.2.1 s.2.2.2.2.2.2.1 s.2.2.2.2.2.2.2) Q := by
  simp only [k0_part10_eq_skeleton]; unfold k0_part10_skel nlo nclo nhi nchi nmid nzl nzh cnt3 cnt4
  simp only [wp_bind]
  iintro ⟨H, Hk⟩
  iapply (wp_t3 c bd B i v27 v20 s)
  isplitl [H]; · iexact H
  iintro H
  iapply (wp_t4 c bd B i v27 v20 s)
  isplitl [H]; · iexact H
  iintro H
  simp only [Prog.pure_eq_ret]
  rw [wp_ret]; imodintro; iapply Hk; iexact H

end Loops

end Cert.Proof.Sel

end
-- ==== Proof.Sel.Body.lean ====
/-
  The selection kernel's body obligation: each counted loop returns its fold, the search's label meets its specification by
  induction on the steps left, and the whole body leaves `final` of the scores in the result's buffer.
-/
module

public import proofs.«01_k».proof.Proof.Sel.Loops
public import Idealize.ShloMosaic.Lib.Pipeline.FrameBody
public import Idealize.ShloMosaic.Lib.Pipeline.ValueKit

@[expose] public section

noncomputable section

namespace Cert.Proof.Sel

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UA nD τ) ℕ

/-! ### The search's label -/

/-- The label's specification with `k` steps left: the buffer kept, the state run on. -/
def spec (c : Dev nD) (B : Bf F) (v27 v20 : FVec F S1x256 .f32) (k : ℕ) (s : St F) : sWPT 𝕄 (St F) := do
  sWPT.consume (pt c B)
  sWPT.produce (pt c B)
  pure (wrun B v27 v20 k s)

/-- The specification, spelled out. -/
theorem spec_apply (c : Dev nD) (B : Bf F) (v27 v20 : FVec F S1x256 .f32) (k : ℕ) (s : St F) (K : St F → sProp 𝕄) :
    spec c B v27 v20 k s K = iprop(pt c B ∗ (pt c B -∗ K (wrun B v27 v20 k s))) := rfl

/-- Below 400 steps the count's test decides nothing; -/
theorem slt_of_lt : ∀ j < 400, Scalar.cmpi .slt (BitVec.ofNat 32 j) 400#32 = 1#1 := by decide +kernel

/-- at 400 it stops the search; -/
theorem wtest_end (s : St F) (h : s.1 = BitVec.ofNat 32 400) : ¬wtest s = 1#1 := by
  unfold wtest; rw [h]
  rw [show Scalar.cmpi .slt (BitVec.ofNat 32 400) 400#32 = 0#1 from by decide]
  unfold Scalar.andi
  generalize Scalar.cmpi .eq s.2.2.2.2.2.2.2 0#32 = b
  revert b; decide

/-- a step counts one. -/
theorem addi_succ (j : ℕ) : Scalar.addi (BitVec.ofNat 32 j) 1#32 = BitVec.ofNat 32 (j + 1) := by
  unfold Scalar.addi IntOp.addi
  apply BitVec.eq_of_toNat_eq
  simp [BitVec.toNat_add]

/-- The label meets its specification, by induction on the steps left. -/
theorem spec_le (c : Dev nD) (B : Bf F) (v27 v20 : FVec F S1x256 .f32) (i : grid0.Coords) (E : Set ℕ) (hE : E = Set.univ) :
    ∀ (k j : ℕ), j + k = 400 → ∀ s : St F, s.1 = BitVec.ofNat 32 j → ∀ K, spec c B v27 v20 k s K
      ⊢ wp frame (wpE (defs₀ (F := F)) 𝒱₀ (c : Thread nD τ) (some k)) E
          (defs₀ (F := F) .tc 1 ⟨i, Memref.whole cc0_stg1_0, Memref.isWhole_whole _, v27, v20, s.1, s.2.1, s.2.2.1, s.2.2.2.1, s.2.2.2.2.1, s.2.2.2.2.2.1, s.2.2.2.2.2.2.1, s.2.2.2.2.2.2.2⟩) K := by
  subst hE
  intro k
  induction k with
  | zero =>
    intro j hj s hs K
    rw [spec_apply]
    show _ ⊢ wp frame (wpE (defs₀ (F := F)) 𝒱₀ (c : Thread nD τ) (some 0)) Set.univ
      (cc0_while1 i (Memref.whole cc0_stg1_0) (Memref.isWhole_whole _) v27 v20 s.1 s.2.1 s.2.2.1 s.2.2.2.1 s.2.2.2.2.1 s.2.2.2.2.2.1 s.2.2.2.2.2.2.1 s.2.2.2.2.2.2.2) K
    simp only [cc0_while1_eq_skeleton]; unfold cc0_while1_skel
    have ht := wtest_end s (by rw [hs]; congr 1)
    unfold wtest at ht
    simp only [ht, ↓reduceIte, Prog.pure_eq_ret, wrun]
    iintro ⟨H, Hk⟩
    rw [wp_ret]; imodintro
    iapply Hk; iexact H
  | succ k ih =>
    intro j hj s hs K
    rw [spec_apply]
    show _ ⊢ wp frame (wpE (defs₀ (F := F)) 𝒱₀ (c : Thread nD τ) (some (k + 1))) Set.univ
      (cc0_while1 i (Memref.whole cc0_stg1_0) (Memref.isWhole_whole _) v27 v20 s.1 s.2.1 s.2.2.1 s.2.2.2.1 s.2.2.2.2.1 s.2.2.2.2.2.1 s.2.2.2.2.2.2.1 s.2.2.2.2.2.2.2) K
    simp only [cc0_while1_eq_skeleton]; unfold cc0_while1_skel
    by_cases ht : wtest s = 1#1
    · have ht' := ht
      unfold wtest at ht'
      simp only [ht', ↓reduceIte, wp_bind, wrun, ht]
      iintro ⟨H, Hk⟩
      iapply (wp_part10 c (some (k + 1)) B i v27 v20 s)
      isplitl [H]; · iexact H
      iintro H
      simp only [k0_part11_eq_skeleton]; unfold k0_part11_skel
      simp only [Prog.pure_eq_ret, Prog.lift]
      rw [wp_ret]; imodintro
      iapply (wp_call_spec 𝒱₀ (c : Thread nD τ) (some (k+1)) Set.univ (spec c B v27 v20 k (wstep B v27 v20 s)) k
        (fun u hu => by cases hu; exact Nat.lt_succ_self k)
        (ih (j + 1) (by omega) (wstep B v27 v20 s) (by unfold wstep wstepAt; rw [hs, addi_succ])))
      rw [spec_apply]
      isplitl [H]; · iexact H
      iintro H
      rw [wp_ret]; imodintro
      iapply Hk; iexact H
    · have ht' := ht
      unfold wtest at ht'
      simp only [ht', ↓reduceIte, Prog.pure_eq_ret, wrun, ht]
      iintro ⟨H, Hk⟩
      rw [wp_ret]; imodintro
      iapply Hk; iexact H

/-! ### The body -/

/-- A whole store leaves the stored value. -/
theorem write_whole_o (f w : Bf F) :
    ((Memref.whole cc0_stg1_0).access (Rect.unit (s := S256x8320) ![0, 0] S256x8320.size inb_S256x8320_S256x8320_0_0) : View sig .tc _ _ _).write (Elt F) f w Finset.univ = w :=
  Memref.write_access_unit_zero_univ (Elt F) cc0_stg1_0 (funext fun a => by fin_cases a <;> rfl) _ f w

/-- The first part: the scores copied to the result's buffer, and their extremes. -/
theorem wp_part5 (c : Dev nD) (i : grid0.Coords) (X B : Bf F) (Q : _ → sProp 𝕄) :
    iprop((((c : Thread nD τ).loc cc0_stg0_0) ↦{fullShare} X) ∗ pt c B ∗ ((((c : Thread nD τ).loc cc0_stg0_0) ↦{fullShare} X) -∗ pt c X -∗
        Q ⟨k0_pay21, lanes, rmax X, rmin X, k0_pay42 (F := F), k0_pay43 (F := F), k0_pay44 (F := F), Scalar.ofBits .f32 0x3F000000#32⟩))
      ⊢ wp frame (wpE (defs₀ (F := F)) 𝒱₀ (c : Thread nD τ) none) Set.univ
        (k0_part5 i (Memref.whole cc0_stg0_0) (Memref.isWhole_whole _) (Memref.whole cc0_stg1_0) (Memref.isWhole_whole _)) Q := by
  simp only [k0_part5_eq_skeleton]; unfold k0_part5_skel rmax rmin ext1 ext2 lanes
  simp only [Prog.lift, Prog.bind_op, Prog.bind_ret]
  iintro ⟨HX, H, Hk⟩
  iapply (wp_load 𝒱₀ (c : Thread nD τ) none Set.univ (m := Memref.whole cc0_stg0_0) (Finset.subset_univ _)) $$ HX; iintro HX
  iapply (wp_load 𝒱₀ (c : Thread nD τ) none Set.univ (m := Memref.whole cc0_stg1_0) (Finset.subset_univ _)) $$ H; iintro H
  iapply (wp_store 𝒱₀ (c : Thread nD τ) none Set.univ (m := Memref.whole cc0_stg1_0) (r := Rect.unit (s := S256x8320) ![0, 0] S256x8320.size inb_S256x8320_S256x8320_0_0) (Mk := Finset.univ) (Finset.subset_univ _)) $$ H; iintro H
  rw [write_whole_o]
  have hX : (Memref.whole cc0_stg0_0 : Memref sig .tc _ _ _).view.readAt (Elt F) (Rect.unit (s := S256x8320) ![0, 0] S256x8320.size inb_S256x8320_S256x8320_0_0).toLoadRect X = X := by
    rw [View.readAt_eq_ld]
    exact View.ld_unit_zero (funext fun a => by fin_cases a <;> rfl) _ _
  rw [hX]
  simp only [wp_bind]
  iapply (wp_t1 c none X i)
  isplitl [H]; · iexact H
  iintro H
  iapply (wp_t2 c none X i)
  isplitl [H]; · iexact H
  iintro H
  simp only [Prog.pure_eq_ret]
  rw [wp_ret]; imodintro; iapply Hk $$ HX; iexact H

/-- The last part, from the buffer at the scores to the buffer at `final`. -/
theorem wp_part7 (c : Dev nD) (i : grid0.Coords) (B : Bf F) (Q : PUnit → sProp 𝕄) :
    iprop(pt c B ∗ (pt c (final B) -∗ Q ⟨⟩))
      ⊢ wp frame (wpE (defs₀ (F := F)) 𝒱₀ (c : Thread nD τ) none) Set.univ
        (k0_part7 i (Memref.whole cc0_stg0_0) (Memref.isWhole_whole _) (Memref.whole cc0_stg1_0) (Memref.isWhole_whole _)
          k0_pay21 lanes (rmax B) (rmin B) (k0_pay42 (F := F)) (k0_pay43 (F := F)) (k0_pay44 (F := F))
          (k0_pay48 (rmax B) (rmin B) (k0_pay42 (F := F)) (k0_pay43 (F := F)) (Scalar.ofBits .f32 0x3F000000#32))
          (k0_pay49 (rmax B) (k0_pay42 (F := F)) (k0_pay43 (F := F)) (k0_pay44 (F := F)) (Scalar.ofBits .f32 0x3F000000#32))
          (Scalar.ofBits .f32 0x3F800000#32)) Q := by
  simp only [k0_part7_eq_skeleton]; unfold k0_part7_skel final
  simp only [Prog.lift, Prog.bind_op, Prog.bind_ret]
  iintro ⟨H, Hk⟩
  iapply (wp_call_spec 𝒱₀ (c : Thread nD τ) none Set.univ (spec c B (rmin B) (rmax B) 400 (wstart B)) 400
    (fun u hu => nomatch hu) (spec_le c B (rmin B) (rmax B) i Set.univ rfl 400 0 rfl (wstart B) rfl))
  rw [spec_apply]
  isplitl [H]; · iexact H
  iintro H
  rw [show wrun B (rmin B) (rmax B) 400 (wstart B) = wend B from rfl]
  unfold jcut
  split
  · rw [wp_bind]
    iapply (wp_t5 c none B i)
    isplitl [H]; · iexact H
    iintro H
    simp only [Prog.pure_eq_ret, Prog.bind_ret, wp_bind]
    iapply (wp_t8 c none B i)
    isplitl [H]; · iexact H
    iintro H
    iapply (wp_t9 c none _ i)
    isplitl [H]; · iexact H
    iintro H
    rw [wp_ret]; imodintro; iapply Hk; iexact H
  · simp only [Prog.pure_eq_ret, Prog.bind_ret, wp_bind]
    iapply (wp_t8 c none B i)
    isplitl [H]; · iexact H
    iintro H
    iapply (wp_t9 c none _ i)
    isplitl [H]; · iexact H
    iintro H
    rw [wp_ret]; imodintro; iapply Hk; iexact H

variable (m : (ℓ : Loc nD τ sig) → Buf (Elt F) ℓ) (ρ : Dev nD → PrngReg)

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is called with. -/
def bodyPre (c : Dev nD) : sProp 𝕄 :=
  iprop((dats m ρ 0 c).Φ (t₀ (F := F)).castSucc ∗ (dats m ρ 0 c).owesAt () (t₀ (F := F)).castSucc
    ∗ (∃ d, stg c cc0_stg0_0 ((dats m ρ 0 c).before (0 : Fin 2) t₀ d))
    ∗ (∃ d, stg c cc0_stg1_0 ((dats m ρ 0 c).before (1 : Fin 2) t₀ d)))

/-- What it returns. -/
def bodyPost (c : Dev nD) : sProp 𝕄 :=
  iprop((dats m ρ 0 c).Φ (t₀ (F := F)).succ ∗ (dats m ρ 0 c).owesAt () (t₀ (F := F)).succ
    ∗ stg c cc0_stg0_0 (scores m ρ c) ∗ stg c cc0_stg1_0 (final (scores m ρ c)))

/-- The body, from the scores in the input's staging buffer to `final` of them in the result's. -/
theorem sound_body (c : Dev nD) (i : grid0.Coords) (K : PUnit → sProp 𝕄) :
    iprop(bodyPre m ρ c ∗ (bodyPost m ρ c -∗ K ⟨⟩))
      ⊢ wp frame (wpE (defs₀ (F := F)) 𝒱₀ c none) Set.univ
          (cc0_sample_select i (Memref.whole cc0_stg0_0) (Memref.isWhole_whole _) (Memref.whole cc0_stg1_0) (Memref.isWhole_whole _)) K := by
  simp only [cc0_sample_select_eq_skeleton]; unfold cc0_sample_select_skel
  simp only [wp_bind]
  unfold bodyPre
  iintro ⟨⟨HΦ, Howes, ⟨%d0, %fx, %hfx, Hx⟩, ⟨%d1, %fo, %hfo, Ho⟩⟩, Hk⟩
  have hx : fx = scores m ρ c := by rw [hfx]; unfold Dat.before; rw [if_pos (fetch_0 t₀)]; rfl
  subst hx
  iapply (wp_part5 c i (scores m ρ c) fo)
  isplitl [Hx]; · iexact Hx
  isplitl [Ho]; · iexact Ho
  iintro Hx Ho
  simp only [k0_part6_eq_skeleton]; unfold k0_part6_skel
  simp only [Prog.pure_eq_ret]
  rw [wp_ret]; imodintro
  iapply (wp_part7 c i (scores m ρ c))
  isplitl [Ho]; · iexact Ho
  iintro Ho
  rw [wp_ret]; imodintro
  iapply Hk
  unfold bodyPost
  rw [show (dats m ρ 0 c).Φ (t₀ (F := F)).succ = (dats m ρ 0 c).Φ (t₀ (F := F)).castSucc from rfl,
    show (dats m ρ 0 c).owesAt () (t₀ (F := F)).succ = (dats m ρ 0 c).owesAt () (t₀ (F := F)).castSucc from rfl]
  isplitl [HΦ]; · iexact HΦ
  isplitl [Howes]; · iexact Howes
  isplitl [Hx]
  · iexists _; isplitr; · (ipureintro; rfl)
    iexact Hx
  iexists _; isplitr; swap; · iexact Ho
  ipureintro; rfl

/-- The same, to the body's own postcondition. -/
theorem sound_body' (c : Dev nD) (i : grid0.Coords) :
    bodyPre m ρ c ⊢ wp frame (wpE (defs₀ (F := F)) 𝒱₀ c none) Set.univ
          (cc0_sample_select i (Memref.whole cc0_stg0_0) (Memref.isWhole_whole _) (Memref.whole cc0_stg1_0) (Memref.isWhole_whole _))
          (fun _ => bodyPost m ρ c) := by
  iintro H
  iapply (sound_body m ρ c i fun _ => bodyPost m ρ c)
  isplitl [H]; · iexact H
  iintro H; iexact H

/-- The scores' buffer after the body. -/
theorem after_0 (c : Dev nD) (t : Fin (cfg0 (F := F)).N) : (dats m ρ 0 c).after 0 t = scores m ρ c := by
  dsimp only [dats]; rfl
/-- The result's buffer after the body. -/
theorem after_1 (c : Dev nD) (t : Fin (cfg0 (F := F)).N) : (dats m ρ 0 c).after 1 t = final (scores m ρ c) := by
  dsimp only [dats]; rfl

/-- The pipeline's obligation on the body. -/
theorem body_obligation (c : Dev nD) :
    BodyObligation (dats (F := F) m ρ 0 c) (defs₀ (F := F)) 𝒱₀ () Set.univ := fun t => by
  rw [show t = t₀ from fin_N0 t]
  rw [bigSep_W0, bigSep_W0]
  sl_whnfR [defs₀, Defs.onTc]
  show iprop((dats m ρ 0 c).Φ (t₀ (F := F)).castSucc ∗ (dats m ρ 0 c).owesAt () (t₀ (F := F)).castSucc
      ∗ (∃ d, owns (c : Thread nD τ) (Memref.whole cc0_stg0_0) fullShare ((dats m ρ 0 c).before (0 : Fin 2) t₀ d))
      ∗ (∃ d, owns (c : Thread nD τ) (Memref.whole cc0_stg1_0) fullShare ((dats m ρ 0 c).before (1 : Fin 2) t₀ d)))
    ⊢ wp frame (wpE (defs₀ (F := F)) 𝒱₀ c none) Set.univ
        (cc0_sample_select (grid0.coords t₀) (Memref.whole cc0_stg0_0) (Memref.isWhole_whole _) (Memref.whole cc0_stg1_0) (Memref.isWhole_whole _))
        (fun _ => iprop((dats m ρ 0 c).Φ (t₀ (F := F)).succ ∗ (dats m ρ 0 c).owesAt () (t₀ (F := F)).succ
          ∗ owns (c : Thread nD τ) (Memref.whole cc0_stg0_0) fullShare ((dats m ρ 0 c).after 0 t₀)
          ∗ owns (c : Thread nD τ) (Memref.whole cc0_stg1_0) fullShare ((dats m ρ 0 c).after 1 t₀)))
  simp only [owns_whole_eq]
  rw [after_0, after_1]
  simp only [owns_whole_eq]
  exact sound_body' m ρ c (grid0.coords t₀)

end Cert.Proof.Sel

end
-- ==== Proof.Sel.Run.lean ====
/-
  The selection kernel's run, for any float values, and its frames: every execution ends, with the scores untouched, every
  semaphore at zero, and the result at the pipeline's last write of `final`.
-/
module

public import proofs.«01_k».proof.Proof.Sel.Body
public import proofs.«01_k».proof.Defs
public import Idealize.ShloMosaic.Lib.Pipeline.KitQuiescent
public import Idealize.ShloMosaic.PureOps.BitExact

@[expose] public section

noncomputable section

namespace Cert.Proof.Sel

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UA nD τ) ℕ

variable (m : (ℓ : Loc nD τ sig) → Buf (Elt F) ℓ) (ρ : Dev nD → PrngReg)

/-- The launch's ghost state. -/
def u₀ : UA nD τ := initOf (Pipeline.cells (cfgs (F := F)) cellOf_inj) (Pipeline.launchToks (cfgs (F := F)) cellOf_inj)

/-- Every window holds its array wholly. -/
theorem share_eq (c : Dev nD) (w : Fin (cfg0 (F := F)).W) : (dats m ρ 0 c).share w = fullShare := by
  unfold Dat.share; split <;> rfl

/-- Nothing is brought into the region, -/
theorem phi0_intro (c : Dev nD) :
    iprop(emp ∗ Pipeline.scopedRest spec0 c) ⊢ (dats m ρ 0 c).Φ 0 := by
  rw [show (dats m ρ 0 c).Φ 0 = BI.emp from rfl, scopedRest0_eq]
  iintro ⟨-, -⟩; iempintro

/-- nor out of it. -/
theorem phi1_exit (c : Dev nD) :
    (dats m ρ 0 c).Φ (Fin.last (cfg0 (F := F)).N) ⊢ iprop(emp ∗ Pipeline.scopedRest spec0 c) := by
  rw [show (dats m ρ 0 c).Φ (Fin.last (cfg0 (F := F)).N) = BI.emp from rfl, scopedRest0_eq]
  iintro -; isplitr <;> iempintro

/-- The run: it ends with each array at what the pipeline wrote last and the semaphores at zero. -/
theorem run_arr : θ_run defs (onTc (τ := τ) (main (F := F))) (s₀ m ρ) (fun r =>
    (∀ (c : Dev nD) (w : Fin (cfg0 (F := F)).W), r.2.mem (((cfg0 (F := F)).win w).arr.view.loc (c : Thread nD τ)) = (dats m ρ 0 c).arrAt w (cfg0 (F := F)).N)
      ∧ r.2.sem = fun _ => 0) :=
  Pipeline.θ_run_region_noSem_kit_quiescent cfgs (dats m ρ) () (0 : Fin 1)
    launch0 EP defs₀ 𝒱₀ m ρ main
    (hbody := body_obligation m ρ) (hshare := share_eq m ρ) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi0_intro m ρ) (hout := phi1_exit m ρ)
    (QY := fun _ _ => True)
    (hY := fun c s' => by
      iintro ⟨-, -, HSI⟩; imodintro
      isplitr; · ipureintro; trivial
      iexact HSI)
    (hQ := fun _ h hz => ⟨fun c w => (h c).1 w, hz⟩)

/-- The scores after the run. -/
theorem arr_in (c : Dev nD) : (dats m ρ 0 c).arrAt (0 : Fin 2) (cfg0 (F := F)).N = (s₀ m ρ).mem (win0_0.arr.view.loc (c : Thread nD τ)) :=
  (dats (F := F) m ρ 0 c).arrAt_in (0 : Fin 2) rfl _

/-- The run's value: the scores kept, the semaphores at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun _ h => ⟨fun c => (h.1 c (0 : Fin 2)).trans (arr_in m ρ c), h.2⟩) (run_arr m ρ)

/-- The kernel's frame. -/
theorem frame_kernelIdeal : Cert.quiescent_KernelIdeal := fun m ρ _ => run_main m ρ

end Cert.Proof.Sel

end
-- ==== Proof.Sel.Order.lean ====
/-
  A row's columns in descending order of their scores, ties in the columns' order: the stable sort that a top-k takes its
  prefix of. A column's place in that order is the number of columns before it, and the number of scores at or above a
  threshold says which places are at or above it.
-/
module

public import Idealize.ShloMosaic.Lib.SortFacts
public import Idealize.ShloMosaic.Lib.SortPrefix
public import Mathlib.Data.EReal.Basic
public import Mathlib.Data.Fintype.Card
public import Mathlib.Order.Interval.Finset.Fin

@[expose] public section

noncomputable section

namespace Cert.Proof.Sel

open Idealize.ShloMosaic

variable {n : ℕ}

/-- The comparison that the sort is given: a greater score goes first. -/
def gtKey (x : Fin n → EReal) (k k' : Fin n) : Bool := decide (x k' < x k)

/-- The order that a stable sort makes of it: of two equal scores the earlier column goes first. -/
def ahead (x : Fin n → EReal) (k k' : Fin n) : Bool := decide (x k' < x k) || (decide (x k = x k') && decide (k < k'))

/-- The column at each place of the sorted row. -/
def order (x : Fin n → EReal) : Fin n → Fin n := sortedFrom (gtKey x)

/-- The order is strict and total. -/
theorem ahead_total (x : Fin n → EReal) : StrictTotalBefore (ahead x) :=
  StrictTotalBefore.of_key_then_position (fun a b : EReal => decide (b < a)) x (fun a => by simp)
    (fun a b c h h' => by simp only [decide_eq_true_eq] at *; exact h'.trans h)
    (fun a b => by
      simp only [decide_eq_true_eq]
      rcases lt_trichotomy a b with h | h | h
      · exact .inr (.inr h)
      · exact .inr (.inl h)
      · exact .inl h)

/-- Inserting a column that comes before all the listed ones is the same under either comparison. -/
theorem insert_ahead (x : Fin n → EReal) (a : Fin n) (l : List (Fin n)) (h : ∀ b ∈ l, a < b) :
    insertBefore (gtKey x) a l = insertBefore (ahead x) a l := by
  induction l with
  | nil => rfl
  | cons b l ih =>
    have hb : a < b := h b (by simp)
    have e : gtKey x b a = ahead x b a := by simp [gtKey, ahead, not_lt.mpr hb.le]
    unfold insertBefore
    rw [e, ih fun c hc => h c (by simp [hc])]

/-- The stable sort by score alone sorts by score, then by column. -/
theorem stableSort_ahead (x : Fin n → EReal) (l : List (Fin n)) (h : l.Pairwise (· < ·)) :
    stableSort (gtKey x) l = stableSort (ahead x) l := by
  induction l with
  | nil => rfl
  | cons a l ih =>
    rw [List.pairwise_cons] at h
    unfold stableSort
    rw [ih h.2]
    exact insert_ahead x a _ fun b hb => h.1 b ((perm_stableSort _ l).mem_iff.mp hb)

/-- So the columns' order is the strict total one. -/
theorem order_eq (x : Fin n → EReal) : order x = sortedFrom (ahead x) := by
  have e : sortPositions n (gtKey x) = sortPositions n (ahead x) := by
    unfold sortPositions
    exact stableSort_ahead x _ (List.pairwise_lt_finRange n)
  funext k
  unfold order sortedFrom
  rw [List.get_of_eq e]
  rfl

/-- Every column has one place. -/
theorem order_bij (x : Fin n → EReal) : Function.Bijective (order x) :=
  ⟨sortedFrom_injective _, sortedFrom_surjective _⟩

/-- Of two places, the earlier holds the column that goes first. -/
theorem ahead_order (x : Fin n → EReal) {i j : Fin n} (h : i < j) : ahead x (order x i) (order x j) = true := by
  have hB := ahead_total x
  have h1 : ahead x (order x j) (order x i) = false := by
    rw [order_eq]
    exact sortedFrom_noInversion (ahead x) (ahead x) (fun a b => hB.asymm a b) (fun _ _ h => h) hB.negTrans i j h
  have h2 : order x i ≠ order x j := fun e => h.ne ((order_bij x).1 e)
  rcases hB.total _ _ h2 with h3 | h3
  · exact h3
  · rw [h3] at h1; exact absurd h1 (by decide)

/-- The scores go down along the order. -/
theorem order_anti (x : Fin n → EReal) {i j : Fin n} (h : i ≤ j) : x (order x j) ≤ x (order x i) := by
  rcases h.eq_or_lt with rfl | h
  · exact le_rfl
  · have := ahead_order x h
    simp only [ahead, Bool.or_eq_true, Bool.and_eq_true, decide_eq_true_eq] at this
    rcases this with h | h
    · exact h.le
    · exact h.1.symm.le

/-- The place of a column is the number of columns before it. -/
theorem card_ahead (x : Fin n → EReal) (p : Fin n) :
    (Finset.univ.filter fun c => ahead x c (order x p) = true).card = p.val := by
  have hB := ahead_total x
  have e : (Finset.univ.filter fun c => ahead x c (order x p) = true) = (Finset.Iio p).image (order x) := by
    ext c
    obtain ⟨q, rfl⟩ := (order_bij x).2 c
    simp only [Finset.mem_filter, Finset.mem_univ, true_and, Finset.mem_image, Finset.mem_Iio]
    constructor
    · intro h
      refine ⟨q, ?_, rfl⟩
      by_contra hq
      rcases (not_lt.mp hq).eq_or_lt with rfl | hq
      · rw [hB.irrefl] at h; exact absurd h (by decide)
      · rw [hB.asymm _ _ (ahead_order x hq)] at h; exact absurd h (by decide)
    · rintro ⟨q', hq', e⟩
      rw [← e]; exact ahead_order x hq'
  rw [e, Finset.card_image_of_injective _ (order_bij x).1, Fin.card_Iio]

/-- The number of scores at or above a threshold. -/
def above (x : Fin n → EReal) (t : EReal) : ℕ := (Finset.univ.filter fun c => t ≤ x c).card

/-- The places at or above a threshold are as many first ones as there are scores at or above it. -/
theorem lt_above (x : Fin n → EReal) (t : EReal) (p : Fin n) : p.val < above x t ↔ t ≤ x (order x p) := by
  constructor
  · intro h
    by_contra ht
    have hs : (Finset.univ.filter fun c => t ≤ x c) ⊆ (Finset.Iio p).image (order x) := by
      intro c hc
      obtain ⟨q, rfl⟩ := (order_bij x).2 c
      simp only [Finset.mem_filter, Finset.mem_univ, true_and] at hc
      refine Finset.mem_image_of_mem _ (Finset.mem_Iio.mpr ?_)
      by_contra hq
      exact ht (hc.trans (order_anti x (not_lt.mp hq)))
    have := (Finset.card_le_card hs).trans Finset.card_image_le
    rw [Fin.card_Iio] at this
    exact absurd h (not_lt.mpr this)
  · intro h
    have hs : (Finset.Iic p).image (order x) ⊆ (Finset.univ.filter fun c => t ≤ x c) := by
      intro c hc
      obtain ⟨q, hq, rfl⟩ := Finset.mem_image.mp hc
      simp only [Finset.mem_filter, Finset.mem_univ, true_and]
      exact h.trans (order_anti x (Finset.mem_Iic.mp hq))
    have := Finset.card_le_card hs
    rw [Finset.card_image_of_injective _ (order_bij x).1, Fin.card_Iic] at this
    exact this

end Cert.Proof.Sel

end
-- ==== Proof.Sel.Top.lean ====
/-
  The host's top-k of the rows, at one place: the score and the column that the sorted row has there.
-/
module

public import proofs.«01_k».proof.Proof.Sel.Order
public import Idealize.ShloMosaic.Lib.StableHlo
public import Idealize.ShloMosaic.Lib.Pipeline.ValueKit

@[expose] public section

noncomputable section

namespace Cert.Proof.Sel

open Idealize.ShloMosaic

/-- The columns of a row, sorted. -/
theorem sorted_place (x : (⟨2, ![256, 8320]⟩ : Shape).Idx → EReal) (r : Fin 256) (i : Fin 8320) :
    (sortedFrom (fun k k' : Fin 8320 => (FloatOps.cmpfTotal (F := Ideal) (φ := .f32) .gt (x ((ix2 r i : (⟨2, ![256, 8320]⟩ : Shape).Idx).along (1 : Fin 2) k))
      (x ((ix2 r i : (⟨2, ![256, 8320]⟩ : Shape).Idx).along (1 : Fin 2) k'))) == 1#1) i) = order (fun c => x (ix2 r c)) i := by
  have al : ∀ k : Fin 8320, (ix2 r i : (⟨2, ![256, 8320]⟩ : Shape).Idx).along (1 : Fin 2) k = ix2 r k := by
    intro k
    unfold Shape.Idx.along
    funext a
    match a with
    | ⟨0, _⟩ => rfl
    | ⟨1, _⟩ => rfl
  unfold order
  refine congrFun (congrArg sortedFrom ?_) i
  funext k k'
  rw [al, al]
  show (BitVec.ofBool (decide (x (ix2 r k') < x (ix2 r k))) == 1#1) = gtKey _ k k'
  unfold gtKey
  cases decide (x (ix2 r k') < x (ix2 r k)) <;> rfl

/-- A top-k's score and column. -/
theorem topK_apply {k : ℕ} (hk : k ≤ 8320) (x : (⟨2, ![256, 8320]⟩ : Shape).Idx → EReal)
    (h : (⟨2, ![256, 8320]⟩ : Shape).Slices (fun _ => 0) ⟨2, ![256, k]⟩) (r : Fin 256) (j : Fin k) :
    (Host.topK ⟨2, ![256, k]⟩ 1 (FloatOps.cmpfTotal (F := Ideal) (φ := .f32) .gt) x h).1 (ix2 r j)
        = x (ix2 r (order (fun c => x (ix2 r c)) ⟨j.val, by omega⟩))
      ∧ (Host.topK ⟨2, ![256, k]⟩ 1 (FloatOps.cmpfTotal (F := Ideal) (φ := .f32) .gt) x h).2 (ix2 r j)
        = BitVec.ofNat 32 (order (fun c => x (ix2 r c)) ⟨j.val, by omega⟩).val := by
  have al : ∀ i k : Fin 8320, (ix2 r i : (⟨2, ![256, 8320]⟩ : Shape).Idx).along (1 : Fin 2) k = ix2 r k := by
    intro i k
    unfold Shape.Idx.along
    funext a
    match a with
    | ⟨0, _⟩ => rfl
    | ⟨1, _⟩ => rfl
  have hi : (fun a : Fin 2 => (⟨0 + ((ix2 r j : (⟨2, ![256, k]⟩ : Shape).Idx) (a.cast h.1.symm)).val,
      Nat.lt_of_lt_of_le (Nat.add_lt_add_left (Fin.isLt _) _) (h.2 a)⟩ : Fin ((⟨2, ![256, 8320]⟩ : Shape).size a)))
      = ix2 r (⟨j.val, by omega⟩ : Fin 8320) := by
    funext a
    apply Fin.ext
    match a with
    | ⟨0, _⟩ => exact Nat.zero_add _
    | ⟨1, _⟩ => exact Nat.zero_add _
  have hs := sorted_place x r ⟨j.val, by omega⟩
  unfold Host.topK Host.sort2
  simp only [dif_pos (show 1 < (⟨2, ![256, 8320]⟩ : Shape).rank by decide)]
  unfold extractStridedSlice
  constructor
  · refine (congrArg (fun i : (⟨2, ![256, 8320]⟩ : Shape).Idx => x (i.along (1 : Fin 2) (sortedFrom (fun k k' : Fin 8320 =>
      (FloatOps.cmpfTotal (F := Ideal) (φ := .f32) .gt (x (i.along (1 : Fin 2) k)) (x (i.along (1 : Fin 2) k'))) == 1#1) (i (1 : Fin 2))))) hi).trans ?_
    exact congrArg x ((al _ _).trans (congrArg (ix2 r) hs))
  · refine (congrArg (fun i : (⟨2, ![256, 8320]⟩ : Shape).Idx => BitVec.ofNat 32 ((i.along (1 : Fin 2) (sortedFrom (fun k k' : Fin 8320 =>
      (FloatOps.cmpfTotal (F := Ideal) (φ := .f32) .gt (x (i.along (1 : Fin 2) k)) (x (i.along (1 : Fin 2) k'))) == 1#1) (i (1 : Fin 2)))) (1 : Fin 2)).val) hi).trans ?_
    have e := (al ⟨j.val, by omega⟩ _).trans (congrArg (ix2 r) hs)
    have e1 : ∀ i i' : (⟨2, ![256, 8320]⟩ : Shape).Idx, i = i' → BitVec.ofNat 32 (i (1 : Fin 2)).val = BitVec.ofNat 32 (i' (1 : Fin 2)).val :=
      fun i i' h => by rw [h]
    generalize order (fun c => x (ix2 r c)) ⟨j.val, by omega⟩ = q at e ⊢
    refine (e1 _ (ix2 r q) ?_).trans ?_
    rotate_left
    · rfl
    · exact e

end Cert.Proof.Sel

end
-- ==== Proof.Sel.Search.lean ====
/-
  The threshold search of one row, over the extended reals: a bracket of the threshold is narrowed by counting the scores at
  or above a pivot. If exactly 256 scores can be separated from the rest by at least the smallest normal number, the search
  ends within 400 steps with a lower end that has exactly 256 scores at or above it. If fewer than 256 scores are finite, it
  ends with the count of the finite ones above its upper end.
-/
module

public import Mathlib.Data.EReal.Basic
public import Mathlib.Data.EReal.Operations
public import Mathlib.Tactic.Linarith
public import Mathlib.Tactic.Positivity
public import Mathlib.Tactic.Ring
public import Mathlib.Tactic.NormNum

@[expose] public section

noncomputable section

namespace Cert.Proof.Sel

/-- One half, -/
def half : EReal := ((1 / 2 : ℝ) : EReal)
/-- the smallest normal number, -/
def tiny : EReal := ((1 / 2 ^ 126 : ℝ) : EReal)
/-- the greatest finite one, as a real, -/
def fmaxR : ℝ := 16777215 * 2 ^ 104
/-- and as an extended real. -/
def fmax : EReal := ((fmaxR : ℝ) : EReal)

/-- The middle of a bracket. -/
def mid (lo hi : EReal) : EReal := half * lo + half * hi

open Classical in
/-- The next pivot. -/
def pivot (mx mn lo hi : EReal) : EReal :=
  if hi = ⊤ then mx
  else if lo = ⊥ then (if mn < hi then mn else -fmax)
  else if lo < 0 ∧ 0 < hi then 0
  else if lo = 0 ∧ tiny < hi then tiny
  else mid lo hi

/-- When a row is done. -/
def Done (mx lo hi : EReal) (clo : ℕ) : Prop :=
  clo = 256 ∨ ((lo ≠ ⊥ ∧ hi ≠ ⊤) ∧ (mid lo hi ≤ lo ∨ hi ≤ mid lo hi)) ∨ (hi = ⊤ ∧ mx ≤ lo) ∨ (lo = ⊥ ∧ hi ≤ -fmax)

/-- A row's bracket, and the counts at its ends. -/
structure Row where
  /-- The lower end, -/
  lo : EReal
  /-- the upper end, -/
  hi : EReal
  /-- the count at the lower end, -/
  clo : ℕ
  /-- at the upper end. -/
  chi : ℕ

/-- Whether it is done. -/
def Row.Done (mx : EReal) (s : Row) : Prop := Sel.Done mx s.lo s.hi s.clo

open Classical in
/-- One step: the pivot becomes the lower end if at least 256 scores are at or above it, else the upper end. -/
def Row.step (N : EReal → ℕ) (mx mn : EReal) (s : Row) : Row :=
  if s.Done mx then s
  else if 256 ≤ N (pivot mx mn s.lo s.hi) then
    { s with lo := pivot mx mn s.lo s.hi, clo := N (pivot mx mn s.lo s.hi) }
  else { s with hi := pivot mx mn s.lo s.hi, chi := N (pivot mx mn s.lo s.hi) }

/-- The first bracket. -/
def Row.start : Row := ⟨⊥, ⊤, 8320, 0⟩

variable {N : EReal → ℕ} {mx mn : EReal}

/-- A row that is done stays as it is, -/
theorem Row.step_done {s : Row} (h : s.Done mx) : s.step N mx mn = s := by
  unfold Row.step; rw [if_pos h]

/-- however many steps follow. -/
theorem Row.iterate_done {s : Row} (h : s.Done mx) (k : ℕ) : (Row.step N mx mn)^[k] s = s := by
  induction k with
  | zero => rfl
  | succ k ih => rw [Function.iterate_succ_apply, Row.step_done h, ih]

/-- Once done, done. -/
theorem Row.done_mono {s : Row} {j k : ℕ} (hjk : j ≤ k) (h : ((Row.step N mx mn)^[j] s).Done mx) :
    (Row.step N mx mn)^[k] s = (Row.step N mx mn)^[j] s := by
  obtain ⟨d, rfl⟩ := Nat.exists_eq_add_of_le hjk
  rw [Nat.add_comm, Function.iterate_add_apply, Row.iterate_done h]

/-- What the search keeps, when the 256 greatest scores end in a finite `a`: `a` lies in the bracket. -/
structure Row.Inv (N : EReal → ℕ) (a : EReal) (s : Row) : Prop where
  /-- `a` is not below the lower end, -/
  lo_le : s.lo ≤ a
  /-- is below the upper end, -/
  lt_hi : a < s.hi
  /-- and the lower end's count is its count. -/
  clo_eq : s.clo = N s.lo

/-- The setting: `a` is the 256th greatest score, `b` the 257th, `mx` the greatest and `mn` the least finite one. -/
structure Sep (N : EReal → ℕ) (mx mn a b : EReal) : Prop where
  /-- At least 256 scores are at or above what is at most `a`, -/
  at256 : ∀ t, 256 ≤ N t ↔ t ≤ a
  /-- at least 257 at or above what is at most `b`. -/
  at257 : ∀ t, 257 ≤ N t ↔ t ≤ b
  /-- The two are apart. -/
  gap : tiny ≤ a - b
  /-- The bounds of `a`, -/
  ge : -fmax ≤ a
  /-- above, -/
  le : a ≤ fmax
  /-- of the greatest score, -/
  mx_le : mx ≤ fmax
  /-- which is at least `a`, -/
  le_mx : a ≤ mx
  /-- and of the least finite one, -/
  le_mn : -fmax ≤ mn
  /-- which is at most `a`. -/
  mn_le : mn ≤ a

/-- The greatest finite number is not an infinity. -/
theorem fmax_lt_top : fmax < ⊤ := EReal.coe_lt_top _
/-- Nor is its negative. -/
theorem bot_lt_neg_fmax : ⊥ < -fmax := by
  rw [fmax, ← EReal.coe_neg]; exact EReal.bot_lt_coe _

/-- What lies between finite bounds is a real. -/
theorem eq_coe {x : EReal} (h : -fmax ≤ x) (h' : x ≤ fmax) : ∃ u : ℝ, x = (u : EReal) ∧ -fmaxR ≤ u ∧ u ≤ fmaxR := by
  induction x using EReal.rec with
  | bot => exact absurd (bot_lt_neg_fmax.trans_le h) (lt_irrefl _)
  | top => exact absurd (h'.trans_lt fmax_lt_top) (lt_irrefl _)
  | coe u =>
    refine ⟨u, rfl, ?_, EReal.coe_le_coe_iff.mp h'⟩
    rw [fmax, ← EReal.coe_neg] at h
    exact EReal.coe_le_coe_iff.mp h

/-- The middle of a real bracket. -/
theorem mid_coe (u v : ℝ) : mid u v = (((u + v) / 2 : ℝ) : EReal) := by
  unfold mid half
  rw [← EReal.coe_mul, ← EReal.coe_mul, ← EReal.coe_add]
  congr 1; ring

variable {a b : EReal}

/-- A step keeps `a` in the bracket. -/
theorem Row.Inv.step (S : Sep N mx mn a b) {s : Row} (h : s.Inv N a) : (s.step N mx mn).Inv N a := by
  unfold Row.step
  split
  · exact h
  · split
    · next h2 => exact ⟨(S.at256 _).mp h2, h.lt_hi, rfl⟩
    · next h2 => exact ⟨h.lo_le, not_le.mp fun h3 => h2 ((S.at256 _).mpr h3), h.clo_eq⟩

/-- A lower end above `b` has exactly 256 scores at or above it, so a row not done has its lower end at or below `b`. -/
theorem Row.Inv.lo_le_b (S : Sep N mx mn a b) {s : Row} (h : s.Inv N a) (hd : s.clo ≠ 256) : s.lo ≤ b := by
  have h1 := (S.at256 _).mpr h.lo_le
  rw [← h.clo_eq] at h1
  rw [← S.at257, ← h.clo_eq]
  omega

/-- A row done has exactly 256 scores at or above its lower end. -/
theorem Row.Inv.done (S : Sep N mx mn a b) {s : Row} (h : s.Inv N a) (hd : s.Done mx) : s.clo = 256 := by
  by_contra hc
  have hb := h.lo_le_b S hc
  obtain ⟨ua, rfl, ha1, ha2⟩ := eq_coe S.ge S.le
  rcases hd with hd | ⟨⟨hl, hh⟩, hd⟩ | ⟨hh, hd⟩ | ⟨hl, hd⟩
  · exact hc hd
  · have h1 := h.lo_le
    have h2 := h.lt_hi
    obtain ⟨lo, hi, clo, chi⟩ := s
    simp only at *
    induction lo using EReal.rec with
    | bot => exact hl rfl
    | top => exact absurd h1 (not_le.mpr (EReal.coe_lt_top _))
    | coe u =>
    induction hi using EReal.rec with
    | bot => exact absurd h2 (not_lt.mpr bot_le)
    | top => exact hh rfl
    | coe v =>
      rw [mid_coe, EReal.coe_le_coe_iff, EReal.coe_le_coe_iff] at hd
      rw [EReal.coe_le_coe_iff] at h1
      rw [EReal.coe_lt_coe_iff] at h2
      rcases hd with hd | hd <;> linarith
  · have : (ua : EReal) ≤ b := S.le_mx.trans (hd.trans hb)
    have hg := S.gap
    induction b using EReal.rec with
    | bot => exact absurd this (not_le.mpr (EReal.bot_lt_coe _))
    | top => rw [EReal.sub_top] at hg; exact absurd hg (not_le.mpr (EReal.bot_lt_coe _))
    | coe ub =>
      rw [EReal.coe_le_coe_iff] at this
      rw [← EReal.coe_sub, tiny, EReal.coe_le_coe_iff] at hg
      have : (0 : ℝ) < 1 / 2 ^ 126 := by positivity
      linarith
  · exact absurd (S.ge.trans_lt (h.lt_hi.trans_le hd)) (lt_irrefl _)

open Classical in
/-- A bound of the steps left, beside the halvings: whether zero, and whether the smallest normal number, is still to be
    tried as a pivot. -/
def flags (u v : ℝ) : ℕ := (if u < 0 ∧ 0 < v then 1 else 0) + (if u ≤ 0 ∧ 1 / 2 ^ 126 < v then 1 else 0)

/-- A narrower bracket has no more left to try. -/
theorem flags_mono {u v u' v' : ℝ} (hu : u ≤ u') (hv : v' ≤ v) : flags u' v' ≤ flags u v := by
  unfold flags
  refine Nat.add_le_add ?_ ?_
  · by_cases h : u' < 0 ∧ 0 < v'
    · rw [if_pos h, if_pos ⟨hu.trans_lt h.1, h.2.trans_le hv⟩]
    · rw [if_neg h]; exact Nat.zero_le _
  · by_cases h : u' ≤ 0 ∧ 1 / 2 ^ 126 < v'
    · rw [if_pos h, if_pos ⟨hu.trans h.1, h.2.trans_le hv⟩]
    · rw [if_neg h]; exact Nat.zero_le _

/-- There are at most two. -/
theorem flags_le (u v : ℝ) : flags u v ≤ 2 := by
  unfold flags; split <;> split <;> omega

/-- From a real bracket the search ends: each step halves the bracket, or tries zero or the smallest normal number, which
    happens once each, and the bracket stays wider than the smallest normal number. -/
theorem Row.ends (S : Sep N mx mn a b) (M : ℕ) : ∀ (n : ℕ) (s : Row) (u v : ℝ), s.lo = (u : EReal) → s.hi = (v : EReal) →
    s.Inv N a → v - u < 1 / 2 ^ 126 * 2 ^ n → n + flags u v ≤ M → ((Row.step N mx mn)^[M] s).Done mx := by
  induction M with
  | zero =>
    intro n s u v hu hv h hw hM
    by_contra hd
    have hc : s.clo ≠ 256 := fun e => hd (.inl e)
    have hb := h.lo_le_b S hc
    have hn : n = 0 := by omega
    subst hn
    have hg := S.gap
    have h2 := h.lt_hi
    rw [hu] at hb; rw [hv] at h2
    obtain ⟨ua, rfl, -, -⟩ := eq_coe S.ge S.le
    induction b using EReal.rec with
    | bot => exact absurd hb (not_le.mpr (EReal.bot_lt_coe _))
    | top => rw [EReal.sub_top] at hg; exact absurd hg (not_le.mpr (EReal.bot_lt_coe _))
    | coe ub =>
      rw [EReal.coe_le_coe_iff] at hb
      rw [EReal.coe_lt_coe_iff] at h2
      rw [← EReal.coe_sub, tiny, EReal.coe_le_coe_iff] at hg
      simp only [pow_zero, mul_one] at hw
      linarith
  | succ M ih =>
    intro n s u v hu hv h hw hM
    by_cases hd : s.Done mx
    · rw [Row.iterate_done hd]; exact hd
    have hc : s.clo ≠ 256 := fun e => hd (.inl e)
    have hb := h.lo_le_b S hc
    have hg := S.gap
    have h1 := h.lo_le
    have h2 := h.lt_hi
    have hS := h.step S
    rw [Function.iterate_succ_apply]
    rw [hu] at hb h1; rw [hv] at h2
    obtain ⟨ua, rfl, -, -⟩ := eq_coe S.ge S.le
    have hwide : 1 / 2 ^ 126 ≤ v - u := by
      induction b using EReal.rec with
      | bot => exact absurd hb (not_le.mpr (EReal.bot_lt_coe _))
      | top => rw [EReal.sub_top] at hg; exact absurd hg (not_le.mpr (EReal.bot_lt_coe _))
      | coe ub =>
        rw [EReal.coe_le_coe_iff] at hb
        rw [EReal.coe_lt_coe_iff] at h2
        rw [← EReal.coe_sub, tiny, EReal.coe_le_coe_iff] at hg
        linarith
    rw [EReal.coe_le_coe_iff] at h1
    rw [EReal.coe_lt_coe_iff] at h2
    -- one step to a real pivot
    have key : ∀ (p : ℝ) (n' : ℕ), pivot mx mn s.lo s.hi = (p : EReal) → v - p < 1 / 2 ^ 126 * 2 ^ n' →
        p - u < 1 / 2 ^ 126 * 2 ^ n' → n' + flags p v ≤ M → n' + flags u p ≤ M →
        ((Row.step N mx mn)^[M] (s.step N mx mn)).Done mx := by
      intro p n' hp hw1 hw2 hf1 hf2
      unfold Row.step at hS ⊢
      rw [if_neg hd] at hS ⊢
      by_cases h3 : 256 ≤ N (pivot mx mn s.lo s.hi)
      · rw [if_pos h3] at hS ⊢
        exact ih n' _ p v hp hv hS hw1 hf1
      · rw [if_neg h3] at hS ⊢
        exact ih n' _ u p hu hp hS hw2 hf2
    have e0 : pivot mx mn s.lo s.hi = if u < 0 ∧ 0 < v then 0 else if u = 0 ∧ 1 / 2 ^ 126 < v then tiny else mid u v := by
      unfold pivot
      rw [hu, hv, if_neg (EReal.coe_ne_top v), if_neg (EReal.coe_ne_bot u)]
      have c1 : ((u : EReal) < 0 ∧ (0 : EReal) < v) ↔ (u < 0 ∧ 0 < v) := by
        rw [← EReal.coe_zero, EReal.coe_lt_coe_iff, EReal.coe_lt_coe_iff]
      have c2 : ((u : EReal) = 0 ∧ tiny < v) ↔ (u = 0 ∧ 1 / 2 ^ 126 < v) := by
        rw [← EReal.coe_zero, EReal.coe_eq_coe_iff, tiny, EReal.coe_lt_coe_iff]
      simp only [c1, c2]
    have ht : (0 : ℝ) < 1 / 2 ^ 126 := by positivity
    by_cases hz : u < 0 ∧ 0 < v
    · rw [if_pos hz] at e0
      have fz : flags u v = 1 + (if u ≤ 0 ∧ 1 / 2 ^ 126 < v then 1 else 0) := by unfold flags; rw [if_pos hz]
      refine key 0 n (by rw [e0, EReal.coe_zero]) (by linarith [hz.1]) (by linarith [hz.2]) ?_ ?_
      · have : flags 0 v + 1 ≤ flags u v := by
          rw [fz]; unfold flags; rw [if_neg (by simp)]
          have : (if (0 : ℝ) ≤ 0 ∧ 1 / 2 ^ 126 < v then 1 else 0) = (if u ≤ 0 ∧ 1 / 2 ^ 126 < v then 1 else 0 : ℕ) := by
            simp only [le_refl, true_and, hz.1.le]
          omega
        omega
      · have : flags u 0 = 0 := by
          unfold flags; rw [if_neg (by simp), if_neg (fun h => absurd (ht.trans h.2) (lt_irrefl _))]
        omega
    · rw [if_neg hz] at e0
      by_cases hy : u = 0 ∧ 1 / 2 ^ 126 < v
      · rw [if_pos hy] at e0
        have fy : flags u v = 1 := by
          unfold flags; rw [if_neg hz, if_pos ⟨hy.1.le, hy.2⟩]
        refine key (1 / 2 ^ 126) n (by rw [e0, tiny]) (by linarith [hy.1]) (by linarith [hy.2]) ?_ ?_
        · have : flags (1 / 2 ^ 126) v = 0 := by
            unfold flags
            rw [if_neg (fun h => absurd (h.1.trans ht) (lt_irrefl _)), if_neg (fun h => absurd (ht.trans_le h.1) (lt_irrefl _))]
          omega
        · have : flags u (1 / 2 ^ 126) = 0 := by
            unfold flags; rw [if_neg (fun h => absurd (h.1.trans_le hy.1.ge) (lt_irrefl _)), if_neg (fun h => absurd h.2 (lt_irrefl _))]
          omega
      · rw [if_neg hy, mid_coe] at e0
        obtain ⟨n', rfl⟩ : ∃ n', n = n' + 1 := by
          cases n with
          | zero => simp only [pow_zero, mul_one] at hw; linarith
          | succ n' => exact ⟨n', rfl⟩
        have hw' : (v - u) / 2 < 1 / 2 ^ 126 * 2 ^ n' := by
          rw [pow_succ (2 : ℝ) n'] at hw; linarith
        refine key _ n' e0 (by linarith) (by linarith) ?_ ?_
        · have := flags_mono (u := u) (v := v) (u' := (u + v) / 2) (v' := v) (by linarith) le_rfl
          omega
        · have := flags_mono (u := u) (v := v) (u' := u) (v' := (u + v) / 2) le_rfl (by linarith)
          omega

/-- The first step takes the greatest score for its pivot, the second the least finite one. -/
theorem Row.separated (S : Sep N mx mn a b) (hN : N ⊥ = 8320) :
    ((Row.step N mx mn)^[400] Row.start).Done mx ∧ ((Row.step N mx mn)^[400] Row.start).Inv N a := by
  have i0 : Row.start.Inv N a := ⟨bot_le, S.le.trans_lt fmax_lt_top, hN.symm⟩
  have inv : ∀ k, ((Row.step N mx mn)^[k] Row.start).Inv N a := by
    intro k
    induction k with
    | zero => exact i0
    | succ k ih => rw [Function.iterate_succ_apply']; exact ih.step S
  refine ⟨?_, inv 400⟩
  suffices h : ∃ k ≤ 400, ((Row.step N mx mn)^[k] Row.start).Done mx by
    obtain ⟨k, hk, h⟩ := h
    rw [Row.done_mono hk h]; exact h
  by_cases d0 : Row.start.Done mx
  · exact ⟨0, by omega, d0⟩
  have s1 : Row.start.step N mx mn = if 256 ≤ N mx then ⟨mx, ⊤, N mx, 0⟩ else ⟨⊥, mx, 8320, N mx⟩ := by
    unfold Row.step
    rw [if_neg d0]
    have : pivot mx mn Row.start.lo Row.start.hi = mx := by unfold pivot Row.start; rw [if_pos rfl]
    rw [this]; rfl
  by_cases h1 : 256 ≤ N mx
  · refine ⟨1, by omega, ?_⟩
    rw [if_pos h1] at s1
    rw [Function.iterate_one, s1]
    exact .inr (.inr (.inl ⟨rfl, le_rfl⟩))
  rw [if_neg h1] at s1
  have i1 := inv 1
  rw [Function.iterate_one, s1] at i1
  by_cases d1 : (Row.mk ⊥ mx 8320 (N mx)).Done mx
  · exact ⟨1, by omega, by rw [Function.iterate_one, s1]; exact d1⟩
  have hmx : a < mx := i1.lt_hi
  have s2 : (Row.mk ⊥ mx 8320 (N mx)).step N mx mn = ⟨mn, mx, N mn, N mx⟩ := by
    unfold Row.step
    rw [if_neg d1]
    have : pivot mx mn ⊥ mx = mn := by
      unfold pivot
      rw [if_neg (S.mx_le.trans_lt fmax_lt_top).ne, if_pos rfl, if_pos (S.mn_le.trans_lt hmx)]
    simp only
    rw [this, if_pos ((S.at256 mn).mpr S.mn_le)]
  have i2 := inv 2
  have e2 : (Row.step N mx mn)^[2] Row.start = ⟨mn, mx, N mn, N mx⟩ := by
    rw [Function.iterate_succ_apply, Function.iterate_one, s1, s2]
  rw [e2] at i2
  obtain ⟨u, hu, hu1, hu2⟩ := eq_coe S.le_mn (S.mn_le.trans S.le)
  obtain ⟨v, hv, hv1, hv2⟩ := eq_coe (S.ge.trans S.le_mx) S.mx_le
  refine ⟨257 + 2, by omega, ?_⟩
  rw [Function.iterate_add_apply, e2]
  refine Row.ends S 257 255 _ u v hu hv i2 ?_ (by have := flags_le u v; omega)
  have : (1 / 2 ^ 126 * 2 ^ 255 : ℝ) = 2 ^ 129 := by norm_num
  rw [this]
  have : fmaxR + fmaxR < 2 ^ 129 := by unfold fmaxR; norm_num
  linarith

/-- With fewer than 256 finite scores, the search leaves the lower end at the least of all and counts the finite scores at
    its upper end. -/
theorem Row.short (hN : ∀ t, 256 ≤ N t ↔ t = ⊥) (mx_le : mx ≤ fmax) (le_mn : -fmax ≤ mn) (n : ℕ)
    (hn : ∀ t, ⊥ < t → t ≤ -fmax → N t = n) (h0 : mx = ⊥ → n = 0) :
    ((Row.step N mx mn)^[400] Row.start).Done mx ∧ ((Row.step N mx mn)^[400] Row.start).lo = ⊥ ∧
      ((Row.step N mx mn)^[400] Row.start).clo = 8320 ∧ ((Row.step N mx mn)^[400] Row.start).chi = n := by
  suffices h : ∃ k ≤ 400, ((Row.step N mx mn)^[k] Row.start).Done mx ∧ ((Row.step N mx mn)^[k] Row.start).lo = ⊥ ∧
      ((Row.step N mx mn)^[k] Row.start).clo = 8320 ∧ ((Row.step N mx mn)^[k] Row.start).chi = n by
    obtain ⟨k, hk, h⟩ := h
    rw [Row.done_mono hk h.1]; exact h
  by_cases hmx : mx = ⊥
  · exact ⟨0, by omega, .inr (.inr (.inl ⟨rfl, hmx.le⟩)), rfl, rfl, (h0 hmx).symm⟩
  have htop : mx ≠ ⊤ := (mx_le.trans_lt fmax_lt_top).ne
  have nd : ∀ hi c, ¬ hi = ⊤ → ¬ hi ≤ -fmax → ¬ (Row.mk ⊥ hi 8320 c).Done mx := by
    rintro hi c h1 h2 (h | ⟨⟨h, -⟩, -⟩ | ⟨h, -⟩ | ⟨-, h⟩)
    · exact absurd h (by norm_num)
    · exact h rfl
    · exact h1 h
    · exact h2 h
  have s1 : Row.start.step N mx mn = ⟨⊥, mx, 8320, N mx⟩ := by
    unfold Row.step
    rw [if_neg]
    · have : pivot mx mn Row.start.lo Row.start.hi = mx := by unfold pivot Row.start; rw [if_pos rfl]
      rw [this, if_neg fun h => hmx ((hN _).mp h)]; rfl
    · rintro (h | ⟨⟨h, -⟩, -⟩ | ⟨-, h⟩ | ⟨-, h⟩)
      · exact absurd h (by norm_num [Row.start])
      · exact h rfl
      · exact hmx (le_bot_iff.mp h)
      · exact absurd (top_le_iff.mp h) (by rw [fmax, ← EReal.coe_neg]; exact EReal.coe_ne_top _)
  -- a finishing state
  have fin : ∀ hi, ⊥ < hi → hi ≤ -fmax → (Row.mk ⊥ hi 8320 (N hi)).Done mx ∧ N hi = n := fun hi h1 h2 =>
    ⟨.inr (.inr (.inr ⟨rfl, h2⟩)), hn hi h1 h2⟩
  by_cases c1 : mx ≤ -fmax
  · have := fin mx (bot_lt_iff_ne_bot.mpr hmx) c1
    exact ⟨1, by omega, by rw [Function.iterate_one, s1]; exact ⟨this.1, rfl, rfl, this.2⟩⟩
  have bf : -fmax ≠ ⊥ := bot_lt_neg_fmax.ne'
  have ff := fin (-fmax) bot_lt_neg_fmax le_rfl
  by_cases c2 : mn < mx
  · have s2 : (Row.mk ⊥ mx 8320 (N mx)).step N mx mn = ⟨⊥, mn, 8320, N mn⟩ := by
      unfold Row.step
      rw [if_neg (nd _ _ htop c1)]
      have : pivot mx mn ⊥ mx = mn := by unfold pivot; rw [if_neg htop, if_pos rfl, if_pos c2]
      simp only
      rw [this, if_neg fun h => (bot_lt_neg_fmax.trans_le le_mn).ne' ((hN _).mp h)]
    by_cases c3 : mn ≤ -fmax
    · have := fin mn (bot_lt_neg_fmax.trans_le le_mn) c3
      refine ⟨2, by omega, ?_⟩
      rw [Function.iterate_succ_apply, Function.iterate_one, s1, s2]; exact ⟨this.1, rfl, rfl, this.2⟩
    · have s3 : (Row.mk ⊥ mn 8320 (N mn)).step N mx mn = ⟨⊥, -fmax, 8320, N (-fmax)⟩ := by
        unfold Row.step
        have mt : mn ≠ ⊤ := (c2.trans_le le_top).ne
        rw [if_neg (nd _ _ mt c3)]
        have : pivot mx mn ⊥ mn = -fmax := by unfold pivot; rw [if_neg mt, if_pos rfl, if_neg (lt_irrefl _)]
        simp only
        rw [this, if_neg fun h => bf ((hN _).mp h)]
      refine ⟨3, by omega, ?_⟩
      rw [Function.iterate_succ_apply, Function.iterate_succ_apply, Function.iterate_one, s1, s2, s3]
      exact ⟨ff.1, rfl, rfl, ff.2⟩
  · have s2 : (Row.mk ⊥ mx 8320 (N mx)).step N mx mn = ⟨⊥, -fmax, 8320, N (-fmax)⟩ := by
      unfold Row.step
      rw [if_neg (nd _ _ htop c1)]
      have : pivot mx mn ⊥ mx = -fmax := by unfold pivot; rw [if_neg htop, if_pos rfl, if_neg c2]
      simp only
      rw [this, if_neg fun h => bf ((hN _).mp h)]
    refine ⟨2, by omega, ?_⟩
    rw [Function.iterate_succ_apply, Function.iterate_one, s1, s2]; exact ⟨ff.1, rfl, rfl, ff.2⟩

end Cert.Proof.Sel

end
-- ==== Proof.Sel.Scan.lean ====
/-
  What the scans find in one row, at the extended reals: the greatest score, the least finite one, the number of scores at
  or above a pivot, and the number of tied ones up to a column. A scan folds 13 tiles of five 128-lane chunks, then the
  lanes: together every column once.
-/
module

public import proofs.«01_k».proof.Proof.Sel.Values
public import proofs.«01_k».proof.Proof.Sel.Order
public import proofs.«01_k».proof.Proof.Sel.Search
public import Idealize.ShloMosaic.Lib.Pointwise
public import Idealize.ShloMosaic.Lib.WordCmp
public import Idealize.ShloMosaic.Lib.IdealHost
public import Idealize.ShloMosaic.Lib.Pipeline.FrameBody
public import Idealize.ShloMosaic.Lib.Pipeline.ValueKit

@[expose] public section

noncomputable section

namespace Cert.Proof.Sel

open Cert.KernelIdeal Cert.KernelIdeal.Gen
open Idealize.ShloMosaic
open Idealize.ShloMosaic.TcCoe

/-- The upper 128 rows, -/
def up (r : Fin 128) : Fin 256 := ⟨r.val, by omega⟩
/-- the lower ones. -/
def dn (r : Fin 128) : Fin 256 := ⟨128 + r.val, by omega⟩

/-- One row of the scores. -/
def row (B : Bf Ideal) (r : Fin 256) : Fin 8320 → EReal := fun c => B (ix2 r c)

/-! ## The columns, as tile, chunk and lane -/

/-- The column of a lane of the chunk at `o` of a tile. -/
def col {n : ℕ} (hn : n = 13) (k : Fin n) (o : ℕ) (ho : o + 128 ≤ 640) (l : Fin 128) : Fin 8320 :=
  ⟨640 * k.val + (o + l.val), by omega⟩

/-- A statement about every tile, chunk and lane is one about every column. -/
theorem all_cols {n : ℕ} (hn : n = 13) (P : Fin 8320 → Prop) :
    (∀ (l : Fin 128) (k : Fin n), (P (col hn k 0 (by norm_num) l) ∧ P (col hn k 128 (by norm_num) l) ∧
      P (col hn k 256 (by norm_num) l) ∧ P (col hn k 384 (by norm_num) l) ∧ P (col hn k 512 (by norm_num) l))) ↔ ∀ c, P c := by
  constructor
  · intro h c
    have hk : c.val / 640 < n := by omega
    have h' := h ⟨c.val % 128, by omega⟩ ⟨c.val / 640, hk⟩
    obtain ⟨h0, h1, h2, h3, h4⟩ := h'
    have hq : c.val % 640 / 128 = 0 ∨ c.val % 640 / 128 = 1 ∨ c.val % 640 / 128 = 2 ∨ c.val % 640 / 128 = 3 ∨ c.val % 640 / 128 = 4 := by
      omega
    rcases hq with hq | hq | hq | hq | hq
    · convert h0 using 1; apply Fin.ext; simp only [col]; omega
    · convert h1 using 1; apply Fin.ext; simp only [col]; omega
    · convert h2 using 1; apply Fin.ext; simp only [col]; omega
    · convert h3 using 1; apply Fin.ext; simp only [col]; omega
    · convert h4 using 1; apply Fin.ext; simp only [col]; omega
  · exact fun h l k => ⟨h _, h _, h _, h _, h _⟩

/-- A sum over lanes, tiles and chunks is one over the columns. -/
theorem sum_cols {n : ℕ} (hn : n = 13) (g : Fin 8320 → EReal) :
    ∑ l : Fin 128, ∑ k : Fin n, (g (col hn k 0 (by norm_num) l) + g (col hn k 128 (by norm_num) l) +
      g (col hn k 256 (by norm_num) l) + g (col hn k 384 (by norm_num) l) + g (col hn k 512 (by norm_num) l)) = ∑ c, g c := by
  subst hn
  have e1 : ∑ c, g c = ∑ a : Fin 65, ∑ l : Fin 128, g (finProdFinEquiv (a, l)) := by
    rw [← Equiv.sum_comp (finProdFinEquiv (m := 65) (n := 128)) g, Fintype.sum_prod_type]
  have e2 : ∀ h : Fin 65 → EReal, ∑ a, h a = ∑ k : Fin 13, ∑ q : Fin 5, h (finProdFinEquiv (k, q)) := by
    intro h
    rw [← Equiv.sum_comp (finProdFinEquiv (m := 13) (n := 5)) h, Fintype.sum_prod_type]
  rw [e1]
  conv_rhs => rw [Finset.sum_comm]
  refine Finset.sum_congr rfl fun l _ => ?_
  rw [e2]
  refine Finset.sum_congr rfl fun k _ => ?_
  rw [Fin.sum_univ_five]
  have c : ∀ (q : Fin 5) (o : ℕ) (ho : o + 128 ≤ 640), o = 128 * q.val →
      finProdFinEquiv (finProdFinEquiv (k, q), l) = col (n := 13) rfl k o ho l := by
    intro q o ho e
    apply Fin.ext
    simp only [col, finProdFinEquiv_apply_val]
    omega
  rw [c 0 0 (by norm_num) rfl, c 1 128 (by norm_num) rfl, c 2 256 (by norm_num) rfl, c 3 384 (by norm_num) rfl, c 4 512 (by norm_num) rfl]

/-- A sum of ones over what satisfies a condition is its number. -/
theorem sum_ones {n : ℕ} (P : Fin n → Prop) [DecidablePred P] :
    ∑ c, (if P c then (1 : EReal) else 0) = (((Finset.univ.filter P).card : ℕ) : EReal) := by
  rw [Finset.card_filter]
  push_cast
  rfl

/-! ## The loops, at one place -/

/-- A loop each of whose trips adds something at a place. -/
theorem iter_add {n : ℕ} {ι : Type _} (f : Fin n → (ι → EReal) → ι → EReal) (a : ι → EReal) (j : ι) (g : Fin n → EReal)
    (h : ∀ k a, f k a j = a j + g k) : iterAll f a j = a j + ∑ k, g k := by
  have key : ∀ m (hm : m ≤ n), iter f a m j = a j + ∑ k : Fin m, g ⟨k.val, by omega⟩ := by
    intro m
    induction m with
    | zero => intro _; simp [iter]
    | succ m ih =>
      intro hm
      have := iter_succ f a ⟨m, hm⟩
      simp only at this
      rw [this, h, ih (by omega), Fin.sum_univ_castSucc, add_assoc]
      rfl
  exact key n le_rfl

/-- A loop each of whose trips adds a condition. -/
theorem iter_and {n : ℕ} {α : Type _} (f : Fin n → α → α) (a : α) (P : α → Prop) (Q : Fin n → Prop)
    (h : ∀ k a, P (f k a) ↔ P a ∧ Q k) : P (iterAll f a) ↔ P a ∧ ∀ k, Q k := by
  have key : ∀ m, m ≤ n → (P (iter f a m) ↔ P a ∧ ∀ k : Fin n, k.val < m → Q k) := by
    intro m
    induction m with
    | zero => intro _; simp [iter]
    | succ m ih =>
      intro hm
      have := iter_succ f a ⟨m, hm⟩
      simp only at this
      rw [this, h, ih (by omega)]
      constructor
      · rintro ⟨⟨h1, h2⟩, h3⟩
        refine ⟨h1, fun k hk => ?_⟩
        rcases Nat.lt_succ_iff_lt_or_eq.mp hk with hk | hk
        · exact h2 k hk
        · have : k = ⟨m, hm⟩ := Fin.ext hk
          rw [this]; exact h3
      · rintro ⟨h1, h2⟩
        exact ⟨⟨h1, fun k hk => h2 k (by omega)⟩, h2 _ (by simp)⟩
  have := key n le_rfl
  unfold iterAll
  rw [this]
  exact ⟨fun ⟨a, b⟩ => ⟨a, fun k => b k k.isLt⟩, fun ⟨a, b⟩ => ⟨a, fun k _ => b k⟩⟩

/-! ## The tiles -/

/-- A tile, read at one place. -/
theorem ld_apply (B : Bf Ideal) (off : Fin 2 → ℕ) (h) (r : Fin 128) (l : Fin 640) (o0 o1 : ℕ) (e : off = ![o0, o1])
    (h0 : o0 + r.val < 256) (h1 : o1 + l.val < 8320) :
    View.ld B (Rect.unit (s := S256x8320) off S128x640.size h) (ix2 r l) = B (ix2 ⟨o0 + r.val, h0⟩ ⟨o1 + l.val, h1⟩) := by
  subst e
  unfold View.ld
  congr 1
  funext a
  apply Fin.ext
  match a with
  | ⟨0, _⟩ => simp
  | ⟨1, _⟩ => simp

/-- The trips are thirteen. -/
theorem trips1 : k0_t1_loop.trips = 13 := by decide +kernel
/-- Likewise. -/
theorem trips2 : k0_t2_loop.trips = 13 := by decide +kernel
/-- Likewise. -/
theorem trips3 : k0_t3_loop.trips = 13 := by decide +kernel
/-- Likewise. -/
theorem trips4 : k0_t4_loop.trips = 13 := by decide +kernel
/-- Likewise. -/
theorem trips6 : k0_t6_loop.trips = 13 := by decide +kernel
/-- Likewise. -/
theorem trips7 : k0_t7_loop.trips = 13 := by decide +kernel
/-- Likewise. -/
theorem trips8 : k0_t8_loop.trips = 13 := by decide +kernel
/-- Likewise. -/
theorem trips9 : k0_t9_loop.trips = 13 := by decide +kernel

/-- A tile of the upper rows at a chunk's lane is the score of its column. -/
theorem rd_up {n : ℕ} (hn : n = 13) (B : Bf Ideal) (off : Fin 2 → ℕ) (h) (k : Fin n) (e : off = ![0, 640 * k.val]) (r : Fin 128)
    (o : ℕ) (ho : o + 128 ≤ 640) (l : Fin 128) :
    View.ld B (Rect.unit (s := S256x8320) off S128x640.size h) (ix2 r ⟨o + l.val, by omega⟩) = row B (up r) (col hn k o ho l) := by
  rw [ld_apply B off h r _ 0 (640 * k.val) e (by omega) (by simp only; omega)]
  unfold row up col
  congr 2
  apply Fin.ext; simp

/-- A tile of the lower rows likewise. -/
theorem rd_dn {n : ℕ} (hn : n = 13) (B : Bf Ideal) (off : Fin 2 → ℕ) (h) (k : Fin n) (e : off = ![128, 640 * k.val]) (r : Fin 128)
    (o : ℕ) (ho : o + 128 ≤ 640) (l : Fin 128) :
    View.ld B (Rect.unit (s := S256x8320) off S128x640.size h) (ix2 r ⟨o + l.val, by omega⟩) = row B (dn r) (col hn k o ho l) := by
  rw [ld_apply B off h r _ 128 (640 * k.val) e (by omega) (by simp only; omega)]
  unfold row dn col
  rfl

/-- A tile's first chunk has no offset: the same, so written. -/
theorem rd_up0 {n : ℕ} (hn : n = 13) (B : Bf Ideal) (off : Fin 2 → ℕ) (h) (k : Fin n) (e : off = ![0, 640 * k.val]) (r : Fin 128)
    (l : Fin 128) :
    View.ld B (Rect.unit (s := S256x8320) off S128x640.size h) (ix2 r ⟨l.val, by omega⟩) = row B (up r) (col hn k 0 (by norm_num) l) := by
  rw [← rd_up hn B off h k e r 0 (by norm_num) l]
  congr 2
  apply Fin.ext; simp

/-- Likewise for the lower rows. -/
theorem rd_dn0 {n : ℕ} (hn : n = 13) (B : Bf Ideal) (off : Fin 2 → ℕ) (h) (k : Fin n) (e : off = ![128, 640 * k.val]) (r : Fin 128)
    (l : Fin 128) :
    View.ld B (Rect.unit (s := S256x8320) off S128x640.size h) (ix2 r ⟨l.val, by omega⟩) = row B (dn r) (col hn k 0 (by norm_num) l) := by
  rw [← rd_dn hn B off h k e r 0 (by norm_num) l]
  congr 2
  apply Fin.ext; simp

/-! ## The counts -/

set_option maxRecDepth 16384 in
/-- One trip of the count in the upper rows. -/
theorem f3_apply (B : Bf Ideal) (p : FVec Ideal S1x256 .f32) (k : Fin k0_t3_loop.trips) (a : FVec Ideal S128x128 .f32) (r l : Fin 128) :
    f3 B p k a (ix2 r l) = a (ix2 r l) + (
      (if p (ix2 0 (up r)) ≤ row B (up r) (col trips3 k 0 (by norm_num) l) then 1 else 0)
      + (if p (ix2 0 (up r)) ≤ row B (up r) (col trips3 k 128 (by norm_num) l) then 1 else 0)
      + (if p (ix2 0 (up r)) ≤ row B (up r) (col trips3 k 256 (by norm_num) l) then 1 else 0)
      + (if p (ix2 0 (up r)) ≤ row B (up r) (col trips3 k 384 (by norm_num) l) then 1 else 0)
      + (if p (ix2 0 (up r)) ≤ row B (up r) (col trips3 k 512 (by norm_num) l) then 1 else 0)) := by
  have e := k0_off3_eq k
  have hb := k0_off3_inb k
  rw [← rd_up0 trips3 B _ hb k e, ← rd_up trips3 B _ hb k e _ 128, ← rd_up trips3 B _ hb k e _ 256, ← rd_up trips3 B _ hb k e _ 384,
    ← rd_up trips3 B _ hb k e _ 512]
  unfold f3 rd3
  rw [View.readAt_eq_ld]
  pointwise [k0_pay84, k0_pay77, k0_pay83, k0_pay78, k0_pay76]
  simp only [add_assoc, up]
  rfl

set_option maxRecDepth 16384 in
/-- One trip of the count in the lower rows. -/
theorem f4_apply (B : Bf Ideal) (p : FVec Ideal S1x256 .f32) (k : Fin k0_t4_loop.trips) (a : FVec Ideal S128x128 .f32) (r l : Fin 128) :
    f4 B p k a (ix2 r l) = a (ix2 r l) + (
      (if p (ix2 0 (dn r)) ≤ row B (dn r) (col trips4 k 0 (by norm_num) l) then 1 else 0)
      + (if p (ix2 0 (dn r)) ≤ row B (dn r) (col trips4 k 128 (by norm_num) l) then 1 else 0)
      + (if p (ix2 0 (dn r)) ≤ row B (dn r) (col trips4 k 256 (by norm_num) l) then 1 else 0)
      + (if p (ix2 0 (dn r)) ≤ row B (dn r) (col trips4 k 384 (by norm_num) l) then 1 else 0)
      + (if p (ix2 0 (dn r)) ≤ row B (dn r) (col trips4 k 512 (by norm_num) l) then 1 else 0)) := by
  have e := k0_off4_eq k
  have hb := k0_off4_inb k
  rw [← rd_dn0 trips4 B _ hb k e, ← rd_dn trips4 B _ hb k e _ 128, ← rd_dn trips4 B _ hb k e _ 256, ← rd_dn trips4 B _ hb k e _ 384,
    ← rd_dn trips4 B _ hb k e _ 512]
  unfold f4 rd4
  rw [View.readAt_eq_ld]
  pointwise [k0_pay86, k0_pay80, k0_pay85, k0_pay81, k0_pay79]
  simp only [add_assoc, dn]
  rfl

set_option maxRecDepth 16384 in
/-- The lanes' sum, upper rows, -/
theorem pay87_up (a b : FVec Ideal S128x128 .f32) (r : Fin 128) : k0_pay87 a b (ix2 0 (up r)) = ∑ l, a (ix2 r l) := by
  pointwise [k0_pay87]
  rw [dif_pos (by simp [up])]
  rfl

set_option maxRecDepth 16384 in
/-- lower rows. -/
theorem pay87_dn (a b : FVec Ideal S128x128 .f32) (r : Fin 128) : k0_pay87 a b (ix2 0 (dn r)) = ∑ l, b (ix2 r l) := by
  pointwise [k0_pay87]
  rw [dif_neg (by simp [dn])]
  refine Finset.sum_congr rfl fun l _ => ?_
  congr 2
  apply Fin.ext; simp [dn]

/-- A row is an upper or a lower one. -/
theorem rows {P : Fin 256 → Prop} (hu : ∀ r, P (up r)) (hd : ∀ r, P (dn r)) (r : Fin 256) : P r := by
  by_cases h : r.val < 128
  · exact hu ⟨r.val, h⟩
  · have e : r = dn ⟨r.val - 128, by omega⟩ := Fin.ext (by simp only [dn]; omega)
    rw [e]; exact hd _

/-- The count at a row is the number of its scores at or above the row's pivot. -/
theorem count_apply (B : Bf Ideal) (p : FVec Ideal S1x256 .f32) (r : Fin 256) :
    k0_pay87 (cnt3 B p) (cnt4 B p) (ix2 0 r) = ((above (row B r) (p (ix2 0 r)) : ℕ) : EReal) := by
  have z : ∀ r l : Fin 128, k0_pay82 (F := Ideal) (ix2 r l) = 0 := fun r l => by pointwise [k0_pay82]
  refine rows (P := fun r => k0_pay87 (cnt3 B p) (cnt4 B p) (ix2 0 r) = ((above (row B r) (p (ix2 0 r)) : ℕ) : EReal))
    (fun r => ?_) (fun r => ?_) r
  · rw [pay87_up]
    unfold above
    rw [← sum_ones, ← sum_cols trips3]
    refine Finset.sum_congr rfl fun l _ => ?_
    unfold cnt3
    rw [iter_add (f3 B p) _ (ix2 r l) _ (fun k a => f3_apply B p k a _ l), z, zero_add]
  · rw [pay87_dn]
    unfold above
    rw [← sum_ones, ← sum_cols trips4]
    refine Finset.sum_congr rfl fun l _ => ?_
    unfold cnt4
    rw [iter_add (f4 B p) _ (ix2 r l) _ (fun k a => f4_apply B p k a _ l), z, zero_add]

end Cert.Proof.Sel

end
-- ==== Proof.Sel.Ends.lean ====
/-
  The other scans of one row, at the extended reals: its greatest score, its least finite one, and the number of scores equal
  to a threshold in the columns up to one.
-/
module

public import proofs.«01_k».proof.Proof.Sel.Scan

@[expose] public section

noncomputable section

namespace Cert.Proof.Sel

open Cert.KernelIdeal Cert.KernelIdeal.Gen
open Idealize.ShloMosaic
open Idealize.ShloMosaic.TcCoe

/-- The word of minus infinity, -/
theorem bits_bot : Ideal.ofBits .f32 0xFF800000#32 = ⊥ := by simp [Ideal.ofBits, Ideal.ieee]
/-- of plus infinity, -/
theorem bits_top : Ideal.ofBits .f32 0x7F800000#32 = ⊤ := by simp [Ideal.ofBits, Ideal.ieee]
/-- of one half, -/
theorem bits_half : Ideal.ofBits .f32 0x3F000000#32 = half := by
  unfold half
  simp [Ideal.ofBits, Ideal.ieee, -EReal.coe_mul]
  try norm_num
/-- of the smallest normal number, -/
theorem bits_tiny : Ideal.ofBits .f32 0x00800000#32 = tiny := by
  unfold tiny
  simp [Ideal.ofBits, Ideal.ieee, -EReal.coe_mul]
  try norm_num
/-- of the least finite number, -/
theorem bits_nfmax : Ideal.ofBits .f32 0xFF7FFFFF#32 = -fmax := by
  unfold fmax fmaxR
  rw [← EReal.coe_neg]
  simp [Ideal.ofBits, Ideal.ieee, -EReal.coe_mul, -EReal.coe_neg]
  try norm_num
/-- of the greatest one, -/
theorem bits_fmax : Ideal.ofBits .f32 0x7F7FFFFF#32 = fmax := by
  unfold fmax fmaxR
  simp [Ideal.ofBits, Ideal.ieee, -EReal.coe_mul]
  try norm_num
/-- of 256, -/
theorem bits_256 : Ideal.ofBits .f32 0x43800000#32 = ((256 : ℕ) : EReal) := by
  rw [show ((256 : ℕ) : EReal) = ((256 : ℝ) : EReal) by norm_cast]
  simp [Ideal.ofBits, Ideal.ieee, -EReal.coe_mul]
  try norm_num
/-- of 8320. -/
theorem bits_8320 : Ideal.ofBits .f32 0x46020000#32 = ((8320 : ℕ) : EReal) := by
  rw [show ((8320 : ℕ) : EReal) = ((8320 : ℝ) : EReal) by norm_cast]
  simp [Ideal.ofBits, Ideal.ieee, -EReal.coe_mul]
  try norm_num

/-! ## The greatest score -/

set_option maxRecDepth 16384 in
/-- A bound of one trip of the greatest score's scan, upper rows, -/
theorem f1_le (B : Bf Ideal) (k : Fin k0_t1_loop.trips) (a : FVec Ideal S128x128 .f32 × FVec Ideal S128x128 .f32) (r l : Fin 128) (t : EReal) :
    (f1 B k a).1 (ix2 r l) ≤ t ↔ a.1 (ix2 r l) ≤ t ∧ (
      row B (up r) (col trips1 k 0 (by norm_num) l) ≤ t ∧ row B (up r) (col trips1 k 128 (by norm_num) l) ≤ t
      ∧ row B (up r) (col trips1 k 256 (by norm_num) l) ≤ t ∧ row B (up r) (col trips1 k 384 (by norm_num) l) ≤ t
      ∧ row B (up r) (col trips1 k 512 (by norm_num) l) ≤ t) := by
  have e := k0_off1_eq k
  have hb := k0_off1_inb k
  rw [← rd_up0 trips1 B _ hb k e, ← rd_up trips1 B _ hb k e _ 128, ← rd_up trips1 B _ hb k e _ 256, ← rd_up trips1 B _ hb k e _ 384,
    ← rd_up trips1 B _ hb k e _ 512]
  unfold f1 rd1
  rw [View.readAt_eq_ld]
  simp only
  pointwise [k0_pay30, k0_pay25, k0_pay26, k0_pay27, k0_pay28, k0_pay29, k0_pay24]
  simp only [max_le_iff, and_assoc]
  rfl

set_option maxRecDepth 16384 in
/-- lower rows. -/
theorem f2_le (B : Bf Ideal) (k : Fin k0_t2_loop.trips) (a : FVec Ideal S128x128 .f32 × FVec Ideal S128x128 .f32) (r l : Fin 128) (t : EReal) :
    (f2 B k a).1 (ix2 r l) ≤ t ↔ a.1 (ix2 r l) ≤ t ∧ (
      row B (dn r) (col trips2 k 0 (by norm_num) l) ≤ t ∧ row B (dn r) (col trips2 k 128 (by norm_num) l) ≤ t
      ∧ row B (dn r) (col trips2 k 256 (by norm_num) l) ≤ t ∧ row B (dn r) (col trips2 k 384 (by norm_num) l) ≤ t
      ∧ row B (dn r) (col trips2 k 512 (by norm_num) l) ≤ t) := by
  have e := k0_off2_eq k
  have hb := k0_off2_inb k
  rw [← rd_dn0 trips2 B _ hb k e, ← rd_dn trips2 B _ hb k e _ 128, ← rd_dn trips2 B _ hb k e _ 256, ← rd_dn trips2 B _ hb k e _ 384,
    ← rd_dn trips2 B _ hb k e _ 512]
  unfold f2 rd2
  rw [View.readAt_eq_ld]
  simp only
  pointwise [k0_pay38, k0_pay33, k0_pay34, k0_pay35, k0_pay36, k0_pay37, k0_pay32]
  simp only [max_le_iff, and_assoc]
  rfl

set_option maxRecDepth 16384 in
/-- The lanes' greatest, upper rows, -/
theorem pay40_up (a b : FVec Ideal S128x128 .f32) (r : Fin 128) (t : EReal) : k0_pay40 a b (ix2 0 (up r)) ≤ t ↔ ∀ l, a (ix2 r l) ≤ t := by
  pointwise [k0_pay40]
  rw [dif_pos (by simp [up]), Finset.fold_max_le, bits_bot]
  simp only [bot_le, true_and, Finset.mem_univ, forall_const]
  rfl

set_option maxRecDepth 16384 in
/-- lower rows. -/
theorem pay40_dn (a b : FVec Ideal S128x128 .f32) (r : Fin 128) (t : EReal) : k0_pay40 a b (ix2 0 (dn r)) ≤ t ↔ ∀ l, b (ix2 r l) ≤ t := by
  pointwise [k0_pay40]
  rw [dif_neg (by simp [dn]), Finset.fold_max_le, bits_bot]
  simp only [bot_le, true_and, Finset.mem_univ, forall_const]
  have e : (⟨(dn r).val - 128, by have := (dn r).isLt; omega⟩ : Fin 128) = r := by apply Fin.ext; simp [dn]
  rw [e]

/-- A row's greatest score: what bounds it bounds all. -/
theorem rmax_le (B : Bf Ideal) (r : Fin 256) (t : EReal) : rmax B (ix2 0 r) ≤ t ↔ ∀ c, row B r c ≤ t := by
  have z : ∀ r l : Fin 128, k0_pay22 (F := Ideal) (ix2 r l) = ⊥ := fun r l => by pointwise [k0_pay22]; exact bits_bot
  refine rows (P := fun r => rmax B (ix2 0 r) ≤ t ↔ ∀ c, row B r c ≤ t) (fun r => ?_) (fun r => ?_) r
  · unfold rmax
    rw [pay40_up, ← all_cols trips1]
    refine forall_congr' fun l => ?_
    unfold ext1
    rw [iter_and (f1 B) _ (fun a => a.1 (ix2 r l) ≤ t) _ (fun k a => f1_le B k a r l t)]
    simp only [z, bot_le, true_and]
  · unfold rmax
    rw [pay40_dn, ← all_cols trips2]
    refine forall_congr' fun l => ?_
    unfold ext2
    rw [iter_and (f2 B) _ (fun a => a.1 (ix2 r l) ≤ t) _ (fun k a => f2_le B k a r l t)]
    simp only [z, bot_le, true_and]

/-! ## The least finite score -/

/-- A bound below a score with minus infinity put out of the way. -/
theorem le_mask (t v : EReal) : (t ≤ if v = ⊥ then ⊤ else v) ↔ (v ≠ ⊥ → t ≤ v) := by
  by_cases h : v = ⊥
  · simp [h]
  · simp [h]

set_option maxRecDepth 16384 in
/-- A bound of one trip of the least score's scan, upper rows, -/
theorem le_f1 (B : Bf Ideal) (k : Fin k0_t1_loop.trips) (a : FVec Ideal S128x128 .f32 × FVec Ideal S128x128 .f32) (r l : Fin 128) (t : EReal) :
    t ≤ (f1 B k a).2 (ix2 r l) ↔ t ≤ a.2 (ix2 r l) ∧ (
      (row B (up r) (col trips1 k 0 (by norm_num) l) ≠ ⊥ → t ≤ row B (up r) (col trips1 k 0 (by norm_num) l))
      ∧ (row B (up r) (col trips1 k 128 (by norm_num) l) ≠ ⊥ → t ≤ row B (up r) (col trips1 k 128 (by norm_num) l))
      ∧ (row B (up r) (col trips1 k 256 (by norm_num) l) ≠ ⊥ → t ≤ row B (up r) (col trips1 k 256 (by norm_num) l))
      ∧ (row B (up r) (col trips1 k 384 (by norm_num) l) ≠ ⊥ → t ≤ row B (up r) (col trips1 k 384 (by norm_num) l))
      ∧ (row B (up r) (col trips1 k 512 (by norm_num) l) ≠ ⊥ → t ≤ row B (up r) (col trips1 k 512 (by norm_num) l))) := by
  have e := k0_off1_eq k
  have hb := k0_off1_inb k
  rw [← rd_up0 trips1 B _ hb k e, ← rd_up trips1 B _ hb k e _ 128, ← rd_up trips1 B _ hb k e _ 256, ← rd_up trips1 B _ hb k e _ 384,
    ← rd_up trips1 B _ hb k e _ 512]
  unfold f1 rd1
  rw [View.readAt_eq_ld]
  simp only
  pointwise [k0_pay31, k0_pay25, k0_pay26, k0_pay27, k0_pay28, k0_pay29, k0_pay24]
  simp only [le_min_iff, and_assoc, bits_bot, bits_top, le_mask]
  rfl

set_option maxRecDepth 16384 in
/-- lower rows. -/
theorem le_f2 (B : Bf Ideal) (k : Fin k0_t2_loop.trips) (a : FVec Ideal S128x128 .f32 × FVec Ideal S128x128 .f32) (r l : Fin 128) (t : EReal) :
    t ≤ (f2 B k a).2 (ix2 r l) ↔ t ≤ a.2 (ix2 r l) ∧ (
      (row B (dn r) (col trips2 k 0 (by norm_num) l) ≠ ⊥ → t ≤ row B (dn r) (col trips2 k 0 (by norm_num) l))
      ∧ (row B (dn r) (col trips2 k 128 (by norm_num) l) ≠ ⊥ → t ≤ row B (dn r) (col trips2 k 128 (by norm_num) l))
      ∧ (row B (dn r) (col trips2 k 256 (by norm_num) l) ≠ ⊥ → t ≤ row B (dn r) (col trips2 k 256 (by norm_num) l))
      ∧ (row B (dn r) (col trips2 k 384 (by norm_num) l) ≠ ⊥ → t ≤ row B (dn r) (col trips2 k 384 (by norm_num) l))
      ∧ (row B (dn r) (col trips2 k 512 (by norm_num) l) ≠ ⊥ → t ≤ row B (dn r) (col trips2 k 512 (by norm_num) l))) := by
  have e := k0_off2_eq k
  have hb := k0_off2_inb k
  rw [← rd_dn0 trips2 B _ hb k e, ← rd_dn trips2 B _ hb k e _ 128, ← rd_dn trips2 B _ hb k e _ 256, ← rd_dn trips2 B _ hb k e _ 384,
    ← rd_dn trips2 B _ hb k e _ 512]
  unfold f2 rd2
  rw [View.readAt_eq_ld]
  simp only
  pointwise [k0_pay39, k0_pay33, k0_pay34, k0_pay35, k0_pay36, k0_pay37, k0_pay32]
  simp only [le_min_iff, and_assoc, bits_bot, bits_top, le_mask]
  rfl

set_option maxRecDepth 16384 in
/-- The lanes' least, upper rows, -/
theorem pay41_up (a b : FVec Ideal S128x128 .f32) (r : Fin 128) (t : EReal) : t ≤ k0_pay41 a b (ix2 0 (up r)) ↔ ∀ l, t ≤ a (ix2 r l) := by
  pointwise [k0_pay41]
  rw [dif_pos (by simp [up]), Finset.le_fold_min, bits_top]
  simp only [le_top, true_and, Finset.mem_univ, forall_const]
  rfl

set_option maxRecDepth 16384 in
/-- lower rows. -/
theorem pay41_dn (a b : FVec Ideal S128x128 .f32) (r : Fin 128) (t : EReal) : t ≤ k0_pay41 a b (ix2 0 (dn r)) ↔ ∀ l, t ≤ b (ix2 r l) := by
  pointwise [k0_pay41]
  rw [dif_neg (by simp [dn]), Finset.le_fold_min, bits_top]
  simp only [le_top, true_and, Finset.mem_univ, forall_const]
  have e : (⟨(dn r).val - 128, by have := (dn r).isLt; omega⟩ : Fin 128) = r := by apply Fin.ext; simp [dn]
  rw [e]

/-- A row's least finite score: what bounds it below bounds all the finite ones. -/
theorem le_rmin (B : Bf Ideal) (r : Fin 256) (t : EReal) : t ≤ rmin B (ix2 0 r) ↔ ∀ c, row B r c ≠ ⊥ → t ≤ row B r c := by
  have z : ∀ r l : Fin 128, k0_pay23 (F := Ideal) (ix2 r l) = ⊤ := fun r l => by pointwise [k0_pay23]; exact bits_top
  refine rows (P := fun r => t ≤ rmin B (ix2 0 r) ↔ ∀ c, row B r c ≠ ⊥ → t ≤ row B r c) (fun r => ?_) (fun r => ?_) r
  · unfold rmin
    rw [pay41_up, ← all_cols trips1 (fun c => row B (up r) c ≠ ⊥ → t ≤ row B (up r) c)]
    refine forall_congr' fun l => ?_
    unfold ext1
    rw [iter_and (f1 B) _ (fun a => t ≤ a.2 (ix2 r l)) _ (fun k a => le_f1 B k a r l t)]
    simp only [z, le_top, true_and]
  · unfold rmin
    rw [pay41_dn, ← all_cols trips2 (fun c => row B (dn r) c ≠ ⊥ → t ≤ row B (dn r) c)]
    refine forall_congr' fun l => ?_
    unfold ext2
    rw [iter_and (f2 B) _ (fun a => t ≤ a.2 (ix2 r l)) _ (fun k a => le_f2 B k a r l t)]
    simp only [z, le_top, true_and]

/-! ## The ties -/

/-- The word of a column. -/
theorem colWord (k o l : ℕ) (h : 640 * k + (o + l) < 8320) :
    (IntOp.addi (BitVec.ofNat 32 l) (Scalar.addi (Scalar.muli (Scf.iv 0#32 1#32 k) 640#32) (BitVec.ofNat 32 o))).toInt
      = ((640 * k + (o + l) : ℕ) : ℤ) := by
  have e : IntOp.addi (BitVec.ofNat 32 l) (Scalar.addi (Scalar.muli (Scf.iv 0#32 1#32 k) 640#32) (BitVec.ofNat 32 o))
      = BitVec.ofNat 32 (640 * k + (o + l)) := by
    apply BitVec.eq_of_toNat_eq
    simp only [IntOp.addi, Scalar.addi, Scalar.muli, IntOp.muli, Scf.iv, BitVec.toNat_add, BitVec.toNat_mul, BitVec.toNat_ofNat]
    omega
  rw [e, WordCmp.toInt_ofNat_of_lt (by omega)]

/-- One score's contribution to the tie count. -/
def tied (v t : EReal) (c j : ℤ) : EReal := if v = t ∧ c ≤ j then 1 else 0

/-- As the kernel computes it. -/
theorem tied_eq (v t : EReal) (w j : BitVec 32) (c : ℕ) (h : w.toInt = (c : ℤ)) :
    (if v = t then Scalar.select (IntOp.cmpi .sle w j) (1 : EReal) 0 else 0) = tied v t c j.toInt := by
  unfold tied
  rw [WordCmp.cmpi_sle_eq, WordCmp.select_ofBool, h]
  by_cases h1 : v = t
  · by_cases h2 : (c : ℤ) ≤ j.toInt <;> simp [h1, h2]
  · simp [h1]

end Cert.Proof.Sel

end
-- ==== Proof.Sel.Steps.lean ====
/-
  The search over all 256 rows at once is each row's search: a step of the vectors is a step of every row, and the search
  stops when every row is done.
-/
module

public import proofs.«01_k».proof.Proof.Sel.Ends

@[expose] public section

noncomputable section

namespace Cert.Proof.Sel

open Cert.KernelIdeal Cert.KernelIdeal.Gen
open Idealize.ShloMosaic
open Idealize.ShloMosaic.TcCoe

open Classical in
/-- The state holds, at a row, the row's bracket, counts, whether it is done, and its next pivot. -/
structure Holds (B : Bf Ideal) (r : Fin 256) (w : Row) (s : St Ideal) : Prop where
  /-- The lower end, -/
  lo : s.2.1 (ix2 0 r) = w.lo
  /-- the upper end, -/
  hi : s.2.2.1 (ix2 0 r) = w.hi
  /-- the count at the lower end, -/
  clo : s.2.2.2.1 (ix2 0 r) = (w.clo : EReal)
  /-- at the upper end, -/
  chi : s.2.2.2.2.1 (ix2 0 r) = (w.chi : EReal)
  /-- whether it is done, -/
  done : s.2.2.2.2.2.1 (ix2 0 r) = (if w.Done (rmax B (ix2 0 r)) then 1 else 0 : EReal)
  /-- the next pivot. -/
  piv : s.2.2.2.2.2.2.1 (ix2 0 r) = pivot (rmax B (ix2 0 r)) (rmin B (ix2 0 r)) w.lo w.hi

/-- A row's step. -/
abbrev rstep (B : Bf Ideal) (r : Fin 256) : Row → Row := Row.step (above (row B r)) (rmax B (ix2 0 r)) (rmin B (ix2 0 r))

/-- Counts compare as numbers. -/
theorem count_le (n : ℕ) : (((256 : ℕ) : EReal) ≤ (n : EReal)) ↔ 256 ≤ n := Nat.cast_le
/-- Likewise strictly. -/
theorem count_lt (n : ℕ) : ((n : EReal) < ((256 : ℕ) : EReal)) ↔ ¬ 256 ≤ n := Nat.cast_lt.trans Nat.not_le.symm
/-- Likewise equality. -/
theorem count_eq (n : ℕ) : ((n : EReal) = ((256 : ℕ) : EReal)) ↔ n = 256 := Nat.cast_inj

/-- Zero is below one half, -/
theorem zero_lt_half : (0 : EReal) < half := by
  unfold half; rw [← EReal.coe_zero, EReal.coe_lt_coe_iff]; norm_num
/-- and one is not. -/
theorem half_lt_one : half < (1 : EReal) := by
  unfold half; rw [← EReal.coe_one, EReal.coe_lt_coe_iff]; norm_num

open Classical in
/-- The mark of a done row is below one half just if it is not done. -/
theorem mark_lt (D : Prop) : ((if D then (1 : EReal) else 0) < half) ↔ ¬ D := by
  by_cases h : D
  · simp only [h, if_true, not_true, iff_false, not_lt]; exact half_lt_one.le
  · simp only [h, if_false, not_false_eq_true, iff_true]; exact zero_lt_half

open Classical in
/-- It is above just if it is. -/
theorem lt_mark (D : Prop) : (half < (if D then (1 : EReal) else 0)) ↔ D := by
  by_cases h : D
  · simp only [h, if_true, iff_true]; exact half_lt_one
  · simp only [h, if_false, iff_false, not_lt]; exact zero_lt_half.le

/-- A choice by two conditions. -/
theorem select_and {α : Type _} (p q : Prop) [Decidable p] [Decidable q] (x y : α) :
    Scalar.select (IntOp.andi (BitVec.ofBool (decide p)) (BitVec.ofBool (decide q))) x y = if p ∧ q then x else y := by
  rw [WordCmp.andi_ofBool, WordCmp.select_ofBool]
  by_cases hp : p <;> by_cases hq : q <;> simp [hp, hq]

set_option maxRecDepth 16384 in
/-- The next pivot at a row, from the bracket there. -/
theorem pay48_apply (mx mn lo hi : FVec Ideal S1x256 .f32) (r : Fin 256) :
    k0_pay48 mx mn lo hi (Scalar.ofBits .f32 0x3F000000#32) (ix2 0 r)
      = pivot (mx (ix2 0 r)) (mn (ix2 0 r)) (lo (ix2 0 r)) (hi (ix2 0 r)) := by
  pointwise [k0_pay48, k0_pay45, k0_pay46, k0_pay47]
  simp only [select_and, bits_bot, bits_top, bits_half, bits_tiny, bits_nfmax]
  unfold pivot mid
  congr

set_option maxRecDepth 16384 in
open Classical in
/-- The mark at a row, from the bracket there. -/
theorem pay49_apply (mx lo hi clo : FVec Ideal S1x256 .f32) (r : Fin 256) (n : ℕ) (h : clo (ix2 0 r) = (n : EReal)) :
    k0_pay50 (F := Ideal) (k0_pay49 mx lo hi clo (Scalar.ofBits .f32 0x3F000000#32)) (Scalar.ofBits .f32 0x3F800000#32) (ix2 0 r)
      = if Done (mx (ix2 0 r)) (lo (ix2 0 r)) (hi (ix2 0 r)) n then (1 : EReal) else 0 := by
  pointwise [k0_pay50, k0_pay49, k0_pay45, k0_pay46, k0_pay47]
  simp only [bits_bot, bits_top, bits_half, bits_tiny, bits_nfmax, bits_256, h, count_eq]
  have x1 : ∀ b : Bool, IntOp.xori (BitVec.ofBool b) 1#1 = BitVec.ofBool (!b) := by decide
  simp only [x1, WordCmp.andi_ofBool, WordCmp.ori_ofBool, WordCmp.select_ofBool]
  unfold Done mid
  congr 1
  simp only [Bool.or_eq_true, Bool.and_eq_true, Bool.not_eq_true', decide_eq_true_eq, decide_eq_false_iff_not, or_assoc, ne_eq]

/-- In a step the mark and the pivot are computed as at the start. -/
theorem ndone_eq (v20 : FVec Ideal S1x256 .f32) (s : St Ideal) (a b : FVec Ideal S128x128 .f32) :
    ndone v20 s a b = k0_pay50 (k0_pay49 v20 (nlo s a b) (nhi s a b) (nclo s a b) (Scalar.ofBits .f32 0x3F000000#32)) (Scalar.ofBits .f32 0x3F800000#32) := rfl

/-- Likewise the pivot. -/
theorem npiv_eq (v27 v20 : FVec Ideal S1x256 .f32) (s : St Ideal) (a b : FVec Ideal S128x128 .f32) :
    npiv v27 v20 s a b = k0_pay48 v20 v27 (nlo s a b) (nhi s a b) (Scalar.ofBits .f32 0x3F000000#32) := rfl

set_option maxRecDepth 16384 in
/-- A step of the state is a step of each row. -/
theorem Holds.step {B : Bf Ideal} {r : Fin 256} {w : Row} {s : St Ideal} (h : Holds B r w s) :
    Holds B r (rstep B r w) (wstep B (rmin B) (rmax B) s) := by
  classical
  have cnt := count_apply B s.2.2.2.2.2.2.1 r
  rw [h.piv] at cnt
  have e1 : nlo s (cnt3 B s.2.2.2.2.2.2.1) (cnt4 B s.2.2.2.2.2.2.1) (ix2 0 r) = (rstep B r w).lo := by
    unfold nlo
    pointwise [k0_pay91, k0_pay89, k0_pay88]
    rw [cnt, h.done, h.piv, h.lo, bits_half, bits_256, select_and]
    refine (if_congr (and_congr (mark_lt _) (count_le _)) rfl rfl).trans ?_
    unfold rstep Row.step
    by_cases hd : w.Done (rmax B (ix2 0 r))
    · simp [hd]
    · by_cases hc : 256 ≤ above (row B r) (pivot (rmax B (ix2 0 r)) (rmin B (ix2 0 r)) w.lo w.hi) <;> simp [hd, hc]
  have e2 : nhi s (cnt3 B s.2.2.2.2.2.2.1) (cnt4 B s.2.2.2.2.2.2.1) (ix2 0 r) = (rstep B r w).hi := by
    unfold nhi
    pointwise [k0_pay93, k0_pay90, k0_pay88]
    rw [cnt, h.done, h.piv, h.hi, bits_half, bits_256, select_and]
    refine (if_congr (and_congr (mark_lt _) (count_lt _)) rfl rfl).trans ?_
    unfold rstep Row.step
    by_cases hd : w.Done (rmax B (ix2 0 r))
    · simp [hd]
    · by_cases hc : 256 ≤ above (row B r) (pivot (rmax B (ix2 0 r)) (rmin B (ix2 0 r)) w.lo w.hi) <;> simp [hd, hc]
  have e3 : nclo s (cnt3 B s.2.2.2.2.2.2.1) (cnt4 B s.2.2.2.2.2.2.1) (ix2 0 r) = ((rstep B r w).clo : EReal) := by
    unfold nclo
    pointwise [k0_pay92, k0_pay89, k0_pay88]
    rw [cnt, h.done, h.clo, bits_half, bits_256, select_and]
    refine (if_congr (and_congr (mark_lt _) (count_le _)) rfl rfl).trans ?_
    unfold rstep Row.step
    by_cases hd : w.Done (rmax B (ix2 0 r))
    · simp [hd]
    · by_cases hc : 256 ≤ above (row B r) (pivot (rmax B (ix2 0 r)) (rmin B (ix2 0 r)) w.lo w.hi) <;> simp [hd, hc]
  have e4 : nchi s (cnt3 B s.2.2.2.2.2.2.1) (cnt4 B s.2.2.2.2.2.2.1) (ix2 0 r) = ((rstep B r w).chi : EReal) := by
    unfold nchi
    pointwise [k0_pay94, k0_pay90, k0_pay88]
    rw [cnt, h.done, h.chi, bits_half, bits_256, select_and]
    refine (if_congr (and_congr (mark_lt _) (count_lt _)) rfl rfl).trans ?_
    unfold rstep Row.step
    by_cases hd : w.Done (rmax B (ix2 0 r))
    · simp [hd]
    · by_cases hc : 256 ≤ above (row B r) (pivot (rmax B (ix2 0 r)) (rmin B (ix2 0 r)) w.lo w.hi) <;> simp [hd, hc]
  refine ⟨e1, e2, e3, e4, ?_, ?_⟩
  · show ndone _ _ _ _ (ix2 0 r) = _
    rw [ndone_eq, pay49_apply _ _ _ _ _ _ e3, e1, e2]
    rfl
  · show npiv _ _ _ _ _ (ix2 0 r) = _
    rw [npiv_eq, pay48_apply, e1, e2]

set_option maxRecDepth 16384 in
/-- The state says that all rows are done only if they are. -/
theorem nall_done {B : Bf Ideal} {w : Fin 256 → Row} {s : St Ideal} (h : ∀ r, Holds B r (w r) s)
    (hn : (wstep B (rmin B) (rmax B) s).2.2.2.2.2.2.2 ≠ 0#32) (r : Fin 256) : (rstep B r (w r)).Done (rmax B (ix2 0 r)) := by
  have hd := (h r).step.done
  have e : (wstep B (rmin B) (rmax B) s).2.2.2.2.2.2.2
      = Scalar.extui (BitVec.ofBool (decide (half < k0_pay100 (rmax B)
          (nlo s (cnt3 B s.2.2.2.2.2.2.1) (cnt4 B s.2.2.2.2.2.2.1)) (nclo s (cnt3 B s.2.2.2.2.2.2.1) (cnt4 B s.2.2.2.2.2.2.1))
          (nhi s (cnt3 B s.2.2.2.2.2.2.1) (cnt4 B s.2.2.2.2.2.2.1)) (nmid s (cnt3 B s.2.2.2.2.2.2.1) (cnt4 B s.2.2.2.2.2.2.1))
          (nzl s (cnt3 B s.2.2.2.2.2.2.1) (cnt4 B s.2.2.2.2.2.2.1)) (nzh s (cnt3 B s.2.2.2.2.2.2.1) (cnt4 B s.2.2.2.2.2.2.1))))) := by
    rw [← bits_half]; rfl
  rw [e, WordCmp.scalar_extui_ofBool] at hn
  have hn2 := of_not_not fun hc => hn (if_neg hc)
  rw [decide_eq_true_eq] at hn2
  have hp : k0_pay100 (rmax B)
          (nlo s (cnt3 B s.2.2.2.2.2.2.1) (cnt4 B s.2.2.2.2.2.2.1)) (nclo s (cnt3 B s.2.2.2.2.2.2.1) (cnt4 B s.2.2.2.2.2.2.1))
          (nhi s (cnt3 B s.2.2.2.2.2.2.1) (cnt4 B s.2.2.2.2.2.2.1)) (nmid s (cnt3 B s.2.2.2.2.2.2.1) (cnt4 B s.2.2.2.2.2.2.1))
          (nzl s (cnt3 B s.2.2.2.2.2.2.1) (cnt4 B s.2.2.2.2.2.2.1)) (nzh s (cnt3 B s.2.2.2.2.2.2.1) (cnt4 B s.2.2.2.2.2.2.1))
        ≤ ndone (rmax B) s (cnt3 B s.2.2.2.2.2.2.1) (cnt4 B s.2.2.2.2.2.2.1) (ix2 0 r) := by
    unfold ndone
    generalize nlo s (cnt3 B s.2.2.2.2.2.2.1) (cnt4 B s.2.2.2.2.2.2.1) = v1
    generalize nhi s (cnt3 B s.2.2.2.2.2.2.1) (cnt4 B s.2.2.2.2.2.2.1) = v2
    generalize nclo s (cnt3 B s.2.2.2.2.2.2.1) (cnt4 B s.2.2.2.2.2.2.1) = v3
    generalize nmid s (cnt3 B s.2.2.2.2.2.2.1) (cnt4 B s.2.2.2.2.2.2.1) = v4
    generalize nzl s (cnt3 B s.2.2.2.2.2.2.1) (cnt4 B s.2.2.2.2.2.2.1) = v5
    generalize nzh s (cnt3 B s.2.2.2.2.2.2.1) (cnt4 B s.2.2.2.2.2.2.1) = v6
    pointwise [k0_pay100]
    exact (Finset.le_fold_min _).mp le_rfl |>.2 (0, r) (Finset.mem_univ _)
  have hlt := hn2.trans_le hp
  have hd' : ndone (rmax B) s (cnt3 B s.2.2.2.2.2.2.1) (cnt4 B s.2.2.2.2.2.2.1) (ix2 0 r) = _ := hd
  rw [hd', lt_mark] at hlt
  exact hlt

/-- So the search with some steps left is each row's search with as many. -/
theorem wrun_holds (B : Bf Ideal) (k : ℕ) : ∀ (w : Fin 256 → Row) (s : St Ideal), (∀ r, Holds B r (w r) s) →
    (s.2.2.2.2.2.2.2 ≠ 0#32 → ∀ r, (w r).Done (rmax B (ix2 0 r))) → k ≤ 400 → s.1 = BitVec.ofNat 32 (400 - k) →
    ∀ r, Holds B r ((rstep B r)^[k] (w r)) (wrun B (rmin B) (rmax B) k s) := by
  induction k with
  | zero => intro w s h _ _ _ r; exact h r
  | succ k ih =>
    intro w s h hall hk hs r
    unfold wrun
    by_cases ht : wtest s = 1#1
    · rw [if_pos ht, Function.iterate_succ_apply]
      refine ih (fun r => rstep B r (w r)) _ (fun r => (h r).step) (fun hn r => nall_done h hn r) (by omega) ?_ r
      show Scalar.addi s.1 1#32 = _
      rw [hs]
      apply BitVec.eq_of_toNat_eq
      simp only [Scalar.addi, IntOp.addi, BitVec.toNat_add, BitVec.toNat_ofNat]
      omega
    · rw [if_neg ht]
      have hne : s.2.2.2.2.2.2.2 ≠ 0#32 := by
        intro h0
        apply ht
        unfold wtest
        rw [h0, hs]
        have h1 : Scalar.cmpi .slt (BitVec.ofNat 32 (400 - (k + 1))) 400#32 = 1#1 := by
          rw [WordCmp.scalar_cmpi_eq, WordCmp.cmpi_slt_ofNat_eq_one_iff (by omega) (by norm_num)]; omega
        rw [h1]; rfl
      rw [Row.iterate_done (hall hne r)]
      exact h r

set_option maxRecDepth 16384 in
/-- The first state holds every row's first bracket. -/
theorem wstart_holds (B : Bf Ideal) (r : Fin 256) : Holds B r Row.start (wstart B) := by
  have e1 : k0_pay42 (F := Ideal) (ix2 0 r) = ⊥ := by pointwise [k0_pay42]; exact bits_bot
  have e2 : k0_pay43 (F := Ideal) (ix2 0 r) = ⊤ := by pointwise [k0_pay43]; exact bits_top
  have e3 : k0_pay44 (F := Ideal) (ix2 0 r) = ((8320 : ℕ) : EReal) := by
    pointwise [k0_pay44]
    simp only [bits_8320, zero_add]
  have e4 : k0_pay51 (F := Ideal) (ix2 0 r) = ((0 : ℕ) : EReal) := by
    pointwise [k0_pay51]
    simp
  refine ⟨e1, e2, e3, e4, ?_, ?_⟩
  · show k0_pay50 _ _ (ix2 0 r) = _
    rw [pay49_apply _ _ _ _ _ _ e3, e1, e2]
    rfl
  · have e := pay48_apply (rmax B) (rmin B) (k0_pay42 (F := Ideal)) (k0_pay43 (F := Ideal)) r
    rw [e1, e2] at e
    exact e

/-- The search's end at every row. -/
theorem wend_holds (B : Bf Ideal) (r : Fin 256) : Holds B r ((rstep B r)^[400] Row.start) (wend B) :=
  wrun_holds B 400 (fun _ => Row.start) (wstart B) (wstart_holds B) (fun h => absurd rfl h) le_rfl rfl r

end Cert.Proof.Sel

end
-- ==== Proof.Sel.Ties.lean ====
/-
  The number of scores of a row that equal its threshold in the columns up to a given one, and the bisection for the least
  column up to which enough of them lie.
-/
module

public import proofs.«01_k».proof.Proof.Sel.Ends

@[expose] public section

noncomputable section

namespace Cert.Proof.Sel

open Cert.KernelIdeal Cert.KernelIdeal.Gen
open Idealize.ShloMosaic
open Idealize.ShloMosaic.TcCoe

set_option maxRecDepth 16384 in
/-- One trip of the tie count, upper rows, -/
theorem f6_apply (B : Bf Ideal) (thr : FVec Ideal S1x256 .f32) (a4 a5 : IVec S1x256 32) (k : Fin k0_t6_loop.trips)
    (a : FVec Ideal S128x128 .f32) (r l : Fin 128) :
    f6 B thr a4 a5 k a (ix2 r l) = a (ix2 r l) + (
      tied (row B (up r) (col trips6 k 0 (by norm_num) l)) (thr (ix2 0 (up r))) ((col trips6 k 0 (by norm_num) l).val : ℕ) (k0_pay56 a4 a5 (ix2 0 (up r))).toInt
      + tied (row B (up r) (col trips6 k 128 (by norm_num) l)) (thr (ix2 0 (up r))) ((col trips6 k 128 (by norm_num) l).val : ℕ) (k0_pay56 a4 a5 (ix2 0 (up r))).toInt
      + tied (row B (up r) (col trips6 k 256 (by norm_num) l)) (thr (ix2 0 (up r))) ((col trips6 k 256 (by norm_num) l).val : ℕ) (k0_pay56 a4 a5 (ix2 0 (up r))).toInt
      + tied (row B (up r) (col trips6 k 384 (by norm_num) l)) (thr (ix2 0 (up r))) ((col trips6 k 384 (by norm_num) l).val : ℕ) (k0_pay56 a4 a5 (ix2 0 (up r))).toInt
      + tied (row B (up r) (col trips6 k 512 (by norm_num) l)) (thr (ix2 0 (up r))) ((col trips6 k 512 (by norm_num) l).val : ℕ) (k0_pay56 a4 a5 (ix2 0 (up r))).toInt) := by
  have e := k0_off5_eq k
  have hb := k0_off5_inb k
  have w : ∀ o (ho : o + 128 ≤ 640), (IntOp.addi (BitVec.ofNat 32 l) (Scalar.addi (Scalar.muli (Scf.iv 0#32 1#32 k) 640#32) (BitVec.ofNat 32 o))).toInt
      = ((col trips6 k o ho l).val : ℕ) := fun o ho => colWord k o l (col trips6 k o ho l).isLt
  simp only [← tied_eq _ _ _ _ _ (w _ _)]
  rw [← rd_up0 trips6 B _ hb k e, ← rd_up trips6 B _ hb k e _ 128, ← rd_up trips6 B _ hb k e _ 256, ← rd_up trips6 B _ hb k e _ 384,
    ← rd_up trips6 B _ hb k e _ 512]
  unfold f6 rd6 lanes
  rw [View.readAt_eq_ld]
  pointwise [k0_pay60, k0_pay1, k0_pay2, k0_pay3, k0_pay4, k0_pay5, k0_pay58, k0_pay59]
  simp only [add_assoc]
  rfl

set_option maxRecDepth 16384 in
/-- lower rows. -/
theorem f7_apply (B : Bf Ideal) (thr : FVec Ideal S1x256 .f32) (a4 a5 : IVec S1x256 32) (k : Fin k0_t7_loop.trips)
    (a : FVec Ideal S128x128 .f32) (r l : Fin 128) :
    f7 B thr a4 a5 k a (ix2 r l) = a (ix2 r l) + (
      tied (row B (dn r) (col trips7 k 0 (by norm_num) l)) (thr (ix2 0 (dn r))) ((col trips7 k 0 (by norm_num) l).val : ℕ) (k0_pay56 a4 a5 (ix2 0 (dn r))).toInt
      + tied (row B (dn r) (col trips7 k 128 (by norm_num) l)) (thr (ix2 0 (dn r))) ((col trips7 k 128 (by norm_num) l).val : ℕ) (k0_pay56 a4 a5 (ix2 0 (dn r))).toInt
      + tied (row B (dn r) (col trips7 k 256 (by norm_num) l)) (thr (ix2 0 (dn r))) ((col trips7 k 256 (by norm_num) l).val : ℕ) (k0_pay56 a4 a5 (ix2 0 (dn r))).toInt
      + tied (row B (dn r) (col trips7 k 384 (by norm_num) l)) (thr (ix2 0 (dn r))) ((col trips7 k 384 (by norm_num) l).val : ℕ) (k0_pay56 a4 a5 (ix2 0 (dn r))).toInt
      + tied (row B (dn r) (col trips7 k 512 (by norm_num) l)) (thr (ix2 0 (dn r))) ((col trips7 k 512 (by norm_num) l).val : ℕ) (k0_pay56 a4 a5 (ix2 0 (dn r))).toInt) := by
  have e := k0_off6_eq k
  have hb := k0_off6_inb k
  have w : ∀ o (ho : o + 128 ≤ 640), (IntOp.addi (BitVec.ofNat 32 l) (Scalar.addi (Scalar.muli (Scf.iv 0#32 1#32 k) 640#32) (BitVec.ofNat 32 o))).toInt
      = ((col trips7 k o ho l).val : ℕ) := fun o ho => colWord k o l (col trips7 k o ho l).isLt
  simp only [← tied_eq _ _ _ _ _ (w _ _)]
  rw [← rd_dn0 trips7 B _ hb k e, ← rd_dn trips7 B _ hb k e _ 128, ← rd_dn trips7 B _ hb k e _ 256, ← rd_dn trips7 B _ hb k e _ 384,
    ← rd_dn trips7 B _ hb k e _ 512]
  unfold f7 rd7 lanes
  rw [View.readAt_eq_ld]
  pointwise [k0_pay63, k0_pay6, k0_pay7, k0_pay8, k0_pay9, k0_pay10, k0_pay61, k0_pay62]
  simp only [add_assoc]
  rfl

/-- The number of scores of a row equal to `t` in the columns up to `j`. -/
def ties (x : Fin 8320 → EReal) (t : EReal) (j : ℤ) : ℕ := (Finset.univ.filter fun c : Fin 8320 => x c = t ∧ (c.val : ℤ) ≤ j).card

/-- Whether enough ties lie up to the middle. -/
theorem pay64_apply (chi : FVec Ideal S1x256 .f32) (a b : FVec Ideal S128x128 .f32) (r : Fin 256) :
    k0_pay64 chi a b (ix2 0 r) = BitVec.ofBool (decide (((256 : ℕ) : EReal) - chi (ix2 0 r) ≤ k0_pay87 a b (ix2 0 r))) := by
  rw [← bits_256]
  rfl

/-- The bisection's test at a row. -/
theorem enough (B : Bf Ideal) (thr chi : FVec Ideal S1x256 .f32) (a4 a5 : IVec S1x256 32) (r : Fin 256) :
    k0_pay64 chi (iterAll (f6 B thr a4 a5) (k0_pay57 (F := Ideal))) (iterAll (f7 B thr a4 a5) (k0_pay57 (F := Ideal))) (ix2 0 r)
      = BitVec.ofBool (decide (((256 : ℕ) : EReal) - chi (ix2 0 r)
          ≤ ((ties (row B r) (thr (ix2 0 r)) (k0_pay56 a4 a5 (ix2 0 r)).toInt : ℕ) : EReal))) := by
  have z : ∀ r l : Fin 128, k0_pay57 (F := Ideal) (ix2 r l) = 0 := fun r l => by pointwise [k0_pay57]
  refine rows (P := fun r => k0_pay64 chi (iterAll (f6 B thr a4 a5) (k0_pay57 (F := Ideal))) (iterAll (f7 B thr a4 a5) (k0_pay57 (F := Ideal))) (ix2 0 r)
      = BitVec.ofBool (decide (((256 : ℕ) : EReal) - chi (ix2 0 r)
          ≤ ((ties (row B r) (thr (ix2 0 r)) (k0_pay56 a4 a5 (ix2 0 r)).toInt : ℕ) : EReal)))) (fun r => ?_) (fun r => ?_) r
  · rw [pay64_apply, pay87_up]
    have e : ∑ l, iterAll (f6 B thr a4 a5) (k0_pay57 (F := Ideal)) (ix2 r l)
        = ((ties (row B (up r)) (thr (ix2 0 (up r))) (k0_pay56 a4 a5 (ix2 0 (up r))).toInt : ℕ) : EReal) := by
      unfold ties
      rw [← sum_ones, ← sum_cols trips6]
      refine Finset.sum_congr rfl fun l _ => ?_
      rw [iter_add (f6 B thr a4 a5) _ (ix2 r l) _ (fun k a => f6_apply B thr a4 a5 k a r l), z, zero_add]
      rfl
    rw [e]
  · rw [pay64_apply, pay87_dn]
    have e : ∑ l, iterAll (f7 B thr a4 a5) (k0_pay57 (F := Ideal)) (ix2 r l)
        = ((ties (row B (dn r)) (thr (ix2 0 (dn r))) (k0_pay56 a4 a5 (ix2 0 (dn r))).toInt : ℕ) : EReal) := by
      unfold ties
      rw [← sum_ones, ← sum_cols trips7]
      refine Finset.sum_congr rfl fun l _ => ?_
      rw [iter_add (f7 B thr a4 a5) _ (ix2 r l) _ (fun k a => f7_apply B thr a4 a5 k a r l), z, zero_add]
      rfl
    rw [e]

/-! ## The bisection -/

/-- The middle of two columns. -/
theorem pay56_apply (a4 a5 : IVec S1x256 32) (j : S1x256.Idx) (h4 : -1 ≤ (a4 j).toInt) (h5 : (a5 j).toInt < 8320)
    (h : (a4 j).toInt ≤ (a5 j).toInt) :
    (k0_pay56 a4 a5 j).toInt = ((a4 j).toInt + (a5 j).toInt) / 2 := by
  have e : k0_pay56 a4 a5 j = IntOp.shrsi .vector (IntOp.addi (a4 j) (a5 j)) 1#32 := rfl
  rw [e]
  have e2 : IntOp.shrsi .vector (IntOp.addi (a4 j) (a5 j)) 1#32 = (a4 j + a5 j).sshiftRight 1 := rfl
  rw [e2, BitVec.toInt_sshiftRight, BitVec.toInt_add, Int.shiftRight_eq_div_pow]
  have e3 : ((a4 j).toInt + (a5 j).toInt).bmod (2 ^ 32) = (a4 j).toInt + (a5 j).toInt := by
    apply Int.bmod_eq_of_le <;> omega
  rw [e3]
  rfl

/-- The bisection's two columns at a row: the ties up to the lower one are too few, up to the upper one enough, and they are
    close after some trips. -/
structure Bis (x : Fin 8320 → EReal) (t : EReal) (need : ℤ) (i : ℕ) (lo hi : ℤ) : Prop where
  /-- The columns' bounds, -/
  ge : -1 ≤ lo
  /-- above, -/
  lt : hi < 8320
  /-- their order, -/
  le : lo < hi
  /-- too few, -/
  few : (ties x t lo : ℤ) < need
  /-- enough, -/
  many : need ≤ (ties x t hi : ℤ)
  /-- their distance. -/
  close : i ≤ 14 → hi - lo ≤ 2 ^ (14 - i)

/-- One step of the bisection keeps it. -/
theorem Bis.step {x : Fin 8320 → EReal} {t : EReal} {need : ℤ} {i : ℕ} {lo hi : ℤ} (h : Bis x t need i lo hi) (hi' : i < 14) (m : ℤ)
    (hm : m = (lo + hi) / 2) :
    Bis x t need (i + 1) (if need ≤ (ties x t m : ℤ) then lo else m) (if need ≤ (ties x t m : ℤ) then m else hi) := by
  have hc := h.close (by omega)
  have e : (2 : ℤ) ^ (14 - i) = 2 * 2 ^ (14 - (i + 1)) := by
    rw [show 14 - i = (14 - (i + 1)) + 1 by omega, pow_succ]; ring
  have h1 := h.ge
  have h2 := h.lt
  have h3 := h.le
  by_cases hq : need ≤ (ties x t m : ℤ)
  · rw [if_pos hq, if_pos hq]
    have hne : lo ≠ m := fun e => absurd h.few (by rw [e]; omega)
    exact ⟨h1, by omega, by omega, h.few, hq, fun _ => by omega⟩
  · rw [if_neg hq, if_neg hq]
    have hne : m ≠ hi := fun e => absurd h.many (by rw [← e]; omega)
    exact ⟨by omega, h2, by omega, by omega, h.many, fun _ => by omega⟩

/-- A condition kept by every trip of a loop. -/
theorem iter_keep {n : ℕ} {α : Type _} (f : Fin n → α → α) (a : α) (P : ℕ → α → Prop) (h0 : P 0 a)
    (h : ∀ k b, P k.val b → P (k.val + 1) (f k b)) : P n (iterAll f a) := by
  have key : ∀ m, m ≤ n → P m (iter f a m) := by
    intro m
    induction m with
    | zero => intro _; exact h0
    | succ m ih =>
      intro hm
      have := iter_succ f a ⟨m, hm⟩
      simp only at this
      rw [this]
      exact h ⟨m, hm⟩ _ (ih (by omega))
  exact key n le_rfl

/-- The bisection's trips are fourteen. -/
theorem trips5 : k0_t5_loop.trips = 14 := by decide +kernel

/-- No column is at or before the one before the first. -/
theorem ties_neg (x : Fin 8320 → EReal) (t : EReal) : ties x t (-1) = 0 := by
  unfold ties
  rw [Finset.card_eq_zero, Finset.filter_eq_empty_iff]
  rintro c - ⟨-, h⟩
  omega

/-- More columns hold no fewer ties. -/
theorem ties_mono (x : Fin 8320 → EReal) (t : EReal) {i j : ℤ} (h : i ≤ j) : ties x t i ≤ ties x t j := by
  unfold ties
  exact Finset.card_le_card fun c hc => by
    simp only [Finset.mem_filter, Finset.mem_univ, true_and] at hc ⊢
    exact ⟨hc.1, hc.2.trans h⟩

/-- A difference of counts is at most a count just if it is so of the whole numbers. -/
theorem sub_le_count (n T : ℕ) : (((256 : ℕ) : EReal) - (n : EReal) ≤ (T : EReal)) ↔ (256 : ℤ) - n ≤ T := by
  have e : (((256 : ℕ) : EReal) - (n : EReal)) = (((256 : ℝ) - (n : ℝ) : ℝ) : EReal) := by
    rw [EReal.coe_sub]; rfl
  have e2 : (T : EReal) = ((T : ℝ) : EReal) := rfl
  rw [e, e2, EReal.coe_le_coe_iff]
  constructor
  · intro h
    have : ((256 - n : ℤ) : ℝ) ≤ ((T : ℤ) : ℝ) := by push_cast; exact h
    exact_mod_cast this
  · intro h
    have : ((256 - n : ℤ) : ℝ) ≤ ((T : ℤ) : ℝ) := by exact_mod_cast h
    push_cast at this; exact this

/-- What the bisection ends with at a row whose threshold has enough ties. -/
theorem bisect (B : Bf Ideal) (thr chi : FVec Ideal S1x256 .f32) (r : Fin 256) (n : ℕ) (hchi : chi (ix2 0 r) = (n : EReal))
    (hn : n < 256) (hm : 256 - n ≤ ties (row B r) (thr (ix2 0 r)) 8319) :
    Bis (row B r) (thr (ix2 0 r)) (256 - n) 14 ((iterAll (f5 B thr chi) (k0_pay54, k0_pay55)).1 (ix2 0 r)).toInt
      ((iterAll (f5 B thr chi) (k0_pay54, k0_pay55)).2 (ix2 0 r)).toInt := by
  have key := iter_keep (f5 B thr chi) (k0_pay54, k0_pay55)
    (fun i a => i ≤ 14 → Bis (row B r) (thr (ix2 0 r)) (256 - n) i (a.1 (ix2 0 r)).toInt (a.2 (ix2 0 r)).toInt) ?_ ?_
  · exact (congrArg (fun z => Bis (row B r) (thr (ix2 0 r)) (256 - n) z _ _) trips5).mp (key trips5.le)
  · intro _
    have e1 : (k0_pay54 (ix2 0 r)).toInt = -1 := by
      have : k0_pay54 (ix2 0 r) = 4294967295#32 := rfl
      rw [this]; decide
    have e2 : (k0_pay55 (ix2 0 r)).toInt = 8319 := by
      have : k0_pay55 (ix2 0 r) = 8319#32 := rfl
      rw [this]; decide
    simp only
    rw [e1, e2]
    refine ⟨le_rfl, by norm_num, by norm_num, ?_, ?_, fun _ => by norm_num⟩
    · rw [ties_neg]; push_cast; omega
    · omega
  · intro k a h hk
    have h' := h (by omega)
    have hmid := pay56_apply a.1 a.2 (ix2 0 r) h'.ge h'.lt h'.le.le
    have hs := h'.step (by omega) _ hmid
    have e := enough B thr chi a.1 a.2 r
    rw [hchi] at e
    have c1 : (f5 B thr chi k a).1 (ix2 0 r) = if ((256 : ℤ) - n ≤ (ties (row B r) (thr (ix2 0 r)) (k0_pay56 a.1 a.2 (ix2 0 r)).toInt : ℤ))
        then a.1 (ix2 0 r) else k0_pay56 a.1 a.2 (ix2 0 r) := by
      unfold f5
      show Scalar.select (k0_pay64 chi _ _ (ix2 0 r)) (a.1 (ix2 0 r)) (k0_pay56 a.1 a.2 (ix2 0 r)) = _
      rw [e, WordCmp.select_decide]
      simp only [sub_le_count]
    have c2 : (f5 B thr chi k a).2 (ix2 0 r) = if ((256 : ℤ) - n ≤ (ties (row B r) (thr (ix2 0 r)) (k0_pay56 a.1 a.2 (ix2 0 r)).toInt : ℤ))
        then k0_pay56 a.1 a.2 (ix2 0 r) else a.2 (ix2 0 r) := by
      unfold f5
      show Scalar.select (k0_pay64 chi _ _ (ix2 0 r)) (k0_pay56 a.1 a.2 (ix2 0 r)) (a.2 (ix2 0 r)) = _
      rw [e, WordCmp.select_decide]
      simp only [sub_le_count]
    rw [c1, c2, apply_ite BitVec.toInt, apply_ite BitVec.toInt]
    exact hs

/-- The kept ties are those with too few ties before them. -/
theorem Bis.cut {x : Fin 8320 → EReal} {t : EReal} {need : ℤ} {lo hi : ℤ} (h : Bis x t need 14 lo hi) (c : Fin 8320) :
    (c.val : ℤ) ≤ hi ↔ (ties x t (c.val - 1) : ℤ) < need := by
  have hc := h.close le_rfl
  have h3 := h.le
  norm_num at hc
  have e : lo = hi - 1 := by omega
  constructor
  · intro hle
    have := ties_mono x t (i := c.val - 1) (j := lo) (by omega)
    have := h.few
    omega
  · intro hlt
    by_contra hgt
    have := ties_mono x t (i := hi) (j := c.val - 1) (by omega)
    have := h.many
    omega

end Cert.Proof.Sel

end
-- ==== Proof.Sel.Write.lean ====
/-
  What the last scan writes: at each place the bias of its score against its row's threshold and last kept column.
-/
module

public import proofs.«01_k».proof.Proof.Sel.Steps
public import proofs.«01_k».proof.Proof.Sel.Ties

@[expose] public section

noncomputable section

namespace Cert.Proof.Sel

open Cert.KernelIdeal Cert.KernelIdeal.Gen
open Idealize.ShloMosaic
open Idealize.ShloMosaic.TcCoe

/-- The bias of what is not selected. -/
abbrev neg : EReal := Ideal.ofBits .f32 0xF149F2CA#32

/-- The bias of a score: selected if above the threshold, or at it and no later than the last kept column. -/
def bias (v t : EReal) (c j : ℤ) : EReal := if t < v then 0 else if v = t then (if c ≤ j then 0 else neg) else neg

/-- The lesser of two words, as a number. -/
theorem minsi_toInt (a b : BitVec 32) : (IntOp.minsi a b).toInt = min a.toInt b.toInt := by
  unfold IntOp.minsi
  by_cases h : a.toInt < b.toInt
  · simp [BitVec.slt, h, h.le]
  · simp [BitVec.slt, h]; omega

/-- A row's query position. -/
theorem qpos (r : Fin 256) : (IntOp.addi 8192#32 (IntOp.remsi ArithUnit.vector (BitVec.ofNat 32 r.val) 8#32)).toInt = 8192 + (r.val % 8 : ℕ) := by
  revert r; decide +kernel

/-- As the kernel computes a bias. -/
theorem bias_eq (v t : EReal) (k o l : ℕ) (h : 640 * k + (o + l) < 8320) (jc q : BitVec 32) :
    (if t < v then 0 else if v = t then Scalar.select (IntOp.cmpi .sle
      (IntOp.addi (BitVec.ofNat 32 l) (Scalar.addi (Scalar.muli (Scf.iv 0#32 1#32 k) 640#32) (BitVec.ofNat 32 o))) (IntOp.minsi jc q)) 0 neg
      else neg) = bias v t ((640 * k + (o + l) : ℕ) : ℤ) (min jc.toInt q.toInt) := by
  unfold bias
  rw [WordCmp.cmpi_sle_eq, WordCmp.select_decide, colWord k o l h, minsi_toInt]

/-- The same for the lane of a chunk that has an offset. -/
theorem bias_at (x : Vec Ideal S128x640 .f32) (t : EReal) (r : Fin 128) (q : Fin 640) (k : ℕ) (hk : k < 13) (jc w : BitVec 32) (o l : ℕ)
    (e : o + l = q.val) (h : o + l < 640) :
    (if t < x (ix2 r ⟨o + l, h⟩) then 0 else if x (ix2 r ⟨o + l, h⟩) = t then Scalar.select (IntOp.cmpi .sle
      (IntOp.addi (BitVec.ofNat 32 l) (Scalar.addi (Scalar.muli (Scf.iv 0#32 1#32 k) 640#32) (BitVec.ofNat 32 o))) (IntOp.minsi jc w)) 0 neg
      else neg) = bias (x (ix2 r q)) t ((640 * k + q.val : ℕ) : ℤ) (min jc.toInt w.toInt) := by
  have h1 : (⟨o + l, h⟩ : Fin 640) = q := Fin.ext e
  have := bias_eq (x (ix2 r ⟨o + l, h⟩)) t k o l (by omega) jc w
  rw [h1, e] at this
  rw [h1]
  exact this

set_option maxRecDepth 16384 in
/-- A written tile at one place, upper rows, -/
theorem tile8_apply (thr : FVec Ideal S1x256 .f32) (jc : IVec S1x256 32) (k : Fin k0_t8_loop.trips) (x : Vec Ideal S128x640 .f32)
    (r : Fin 128) (q : Fin 640) :
    tile8 thr jc k x (ix2 r q) = bias (x (ix2 r q)) (thr (ix2 0 (up r))) ((640 * k.val + q.val : ℕ) : ℤ)
      (min (jc (ix2 0 (up r))).toInt (8192 + ((up r).val % 8 : ℕ))) := by
  have hk : k.val < 13 := k.isLt.trans_eq trips8
  have key := bias_at x (thr (ix2 0 (up r))) r q k.val hk (jc (ix2 0 (up r)))
    (IntOp.addi 8192#32 (IntOp.remsi ArithUnit.vector (BitVec.ofNat 32 (up r).val) 8#32))
  rw [← qpos]
  unfold tile8 lanes
  pointwise [k0_pay72, k0_pay11, k0_pay12, k0_pay13, k0_pay14, k0_pay15, k0_pay70, k0_pay71, k0_pay69, k0_pay21]
  split
  · have e := bias_eq (x (ix2 r q)) (thr (ix2 0 (up r))) k.val 0 q.val (by omega) (jc (ix2 0 (up r)))
      (IntOp.addi 8192#32 (IntOp.remsi ArithUnit.vector (BitVec.ofNat 32 (up r).val) 8#32))
    rw [Nat.zero_add] at e
    exact e
  · split
    · exact key 128 _ (by omega) _
    · split
      · exact key 256 _ (by omega) _
      · split
        · exact key 384 _ (by omega) _
        · exact key 512 _ (by omega) _

set_option maxRecDepth 16384 in
/-- lower rows. -/
theorem tile9_apply (thr : FVec Ideal S1x256 .f32) (jc : IVec S1x256 32) (k : Fin k0_t9_loop.trips) (x : Vec Ideal S128x640 .f32)
    (r : Fin 128) (q : Fin 640) :
    tile9 thr jc k x (ix2 r q) = bias (x (ix2 r q)) (thr (ix2 0 (dn r))) ((640 * k.val + q.val : ℕ) : ℤ)
      (min (jc (ix2 0 (dn r))).toInt (8192 + ((dn r).val % 8 : ℕ))) := by
  have hk : k.val < 13 := k.isLt.trans_eq trips9
  have key := bias_at x (thr (ix2 0 (dn r))) r q k.val hk (jc (ix2 0 (dn r)))
    (IntOp.addi 8192#32 (IntOp.remsi ArithUnit.vector (BitVec.ofNat 32 (dn r).val) 8#32))
  rw [← qpos]
  unfold tile9 lanes
  pointwise [k0_pay75, k0_pay16, k0_pay17, k0_pay18, k0_pay19, k0_pay20, k0_pay73, k0_pay74, k0_pay69, k0_pay21]
  split
  · have e := bias_eq (x (ix2 r q)) (thr (ix2 0 (dn r))) k.val 0 q.val (by omega) (jc (ix2 0 (dn r)))
      (IntOp.addi 8192#32 (IntOp.remsi ArithUnit.vector (BitVec.ofNat 32 (dn r).val) 8#32))
    rw [Nat.zero_add] at e
    exact e
  · split
    · exact key 128 _ (by omega) _
    · split
      · exact key 256 _ (by omega) _
      · split
        · exact key 384 _ (by omega) _
        · exact key 512 _ (by omega) _

/-- One trip of the writing scan at one place, upper rows. -/
theorem g8_apply (thr : FVec Ideal S1x256 .f32) (jc : IVec S1x256 32) (k : Fin k0_t8_loop.trips) (B : Bf Ideal) (r : Fin 256) (c : Fin 8320) :
    g8 thr jc k B (ix2 r c) = if r.val < 128 ∧ 640 * k.val ≤ c.val ∧ c.val < 640 * k.val + 640 then
      bias (B (ix2 r c)) (thr (ix2 0 r)) (c.val : ℤ) (min (jc (ix2 0 r)).toInt (8192 + (r.val % 8 : ℕ))) else B (ix2 r c) := by
  have hk : k.val < 13 := k.isLt.trans_eq trips8
  have e := k0_off7_eq k
  have hb := k0_off7_inb k
  have hw : g8 thr jc k B = updateSlice B (tile8 thr jc k (rd8 B k)) (k0_off7 k) ⟨rfl, hb⟩ :=
    View.write_whole_slice_unit cc0_stg1_0 _ _ _ B _
  rw [hw]
  unfold updateSlice
  have e0 : k0_off7 k 0 = 0 := by rw [e]; rfl
  have e1 : k0_off7 k 1 = 640 * k.val := by rw [e]; rfl
  by_cases hc : r.val < 128 ∧ 640 * k.val ≤ c.val ∧ c.val < 640 * k.val + 640
  · rw [dif_pos, if_pos hc]
    swap
    · intro a
      match a with
      | ⟨0, _⟩ =>
        show k0_off7 k 0 ≤ r.val ∧ r.val < k0_off7 k 0 + 128
        rw [e0]; omega
      | ⟨1, _⟩ =>
        show k0_off7 k 1 ≤ c.val ∧ c.val < k0_off7 k 1 + 640
        rw [e1]; omega
    have hi : (fun b : Fin 2 => (⟨(ix2 r c b).val - k0_off7 k b, by
        match b with
        | ⟨0, _⟩ => show r.val - k0_off7 k 0 < 128; rw [e0]; omega
        | ⟨1, _⟩ => show c.val - k0_off7 k 1 < 640; rw [e1]; omega⟩ : Fin (S128x640.size b)))
        = ix2 (⟨r.val - 0, by omega⟩ : Fin 128) (⟨c.val - 640 * k.val, by omega⟩ : Fin 640) := by
      funext b
      apply Fin.ext
      match b with
      | ⟨0, _⟩ => show r.val - k0_off7 k 0 = r.val - 0; rw [e0]
      | ⟨1, _⟩ => show c.val - k0_off7 k 1 = c.val - 640 * k.val; rw [e1]
    refine (congrArg (tile8 thr jc k (rd8 B k)) hi).trans ?_
    rw [tile8_apply]
    unfold rd8
    rw [View.readAt_eq_ld, show View.read (Elt Ideal) (Memref.whole cc0_stg1_0).view B = B from rfl,
      ld_apply B _ hb (⟨r.val - 0, by omega⟩ : Fin 128) (⟨c.val - 640 * k.val, by omega⟩ : Fin 640) 0 (640 * k.val) e
        (show 0 + (r.val - 0) < 256 by omega) (show 640 * k.val + (c.val - 640 * k.val) < 8320 by omega)]
    have hr : up (⟨r.val - 0, by omega⟩ : Fin 128) = r := Fin.ext (by simp only [up]; omega)
    have hr' : (⟨0 + (r.val - 0), by omega⟩ : Fin 256) = r := Fin.ext (by simp only; omega)
    have hc' : (⟨640 * k.val + (c.val - 640 * k.val), by omega⟩ : Fin 8320) = c := Fin.ext (by simp only; omega)
    have hn : 640 * k.val + (c.val - 640 * k.val) = c.val := by omega
    rw [hr]
    simp only
    rw [hr', hc', hn]
  · rw [dif_neg, if_neg hc]
    intro h
    apply hc
    have h0 := h 0
    have h1 := h 1
    change k0_off7 k 0 ≤ r.val ∧ r.val < k0_off7 k 0 + 128 at h0
    change k0_off7 k 1 ≤ c.val ∧ c.val < k0_off7 k 1 + 640 at h1
    rw [e0] at h0
    rw [e1] at h1
    omega

/-- All of them. -/
theorem run8_apply (thr : FVec Ideal S1x256 .f32) (jc : IVec S1x256 32) (B : Bf Ideal) (r : Fin 256) (c : Fin 8320) :
    iterAll (g8 thr jc) B (ix2 r c) = if r.val < 128 then
      bias (B (ix2 r c)) (thr (ix2 0 r)) (c.val : ℤ) (min (jc (ix2 0 r)).toInt (8192 + (r.val % 8 : ℕ))) else B (ix2 r c) := by
  have key := iter_keep (g8 thr jc) B (fun i B' => ∀ r c, B' (ix2 r c) = if r.val < 128 ∧ c.val < 640 * i then
      bias (B (ix2 r c)) (thr (ix2 0 r)) (c.val : ℤ) (min (jc (ix2 0 r)).toInt (8192 + (r.val % 8 : ℕ))) else B (ix2 r c)) ?_ ?_ r c
  · rw [key]
    have h := trips8
    have hc := c.isLt
    exact if_congr ⟨fun h => h.1, fun h' => ⟨h', by omega⟩⟩ rfl rfl
  · intro r c; rw [if_neg (by omega)]
  · intro k B' h r c
    rw [g8_apply, h r c]
    by_cases h1 : r.val < 128
    · by_cases h2 : c.val < 640 * k.val
      · rw [if_neg (by omega), if_pos ⟨h1, h2⟩, if_pos ⟨h1, by omega⟩]
      · by_cases h3 : c.val < 640 * k.val + 640
        · rw [if_pos ⟨h1, by omega, h3⟩, if_neg (by omega), if_pos ⟨h1, by omega⟩]
        · rw [if_neg (by omega), if_neg (by omega), if_neg (by omega)]
    · rw [if_neg (by omega), if_neg (by omega), if_neg (by omega)]

/-- One trip of the writing scan at one place, lower rows. -/
theorem g9_apply (thr : FVec Ideal S1x256 .f32) (jc : IVec S1x256 32) (k : Fin k0_t9_loop.trips) (B : Bf Ideal) (r : Fin 256) (c : Fin 8320) :
    g9 thr jc k B (ix2 r c) = if 128 ≤ r.val ∧ 640 * k.val ≤ c.val ∧ c.val < 640 * k.val + 640 then
      bias (B (ix2 r c)) (thr (ix2 0 r)) (c.val : ℤ) (min (jc (ix2 0 r)).toInt (8192 + (r.val % 8 : ℕ))) else B (ix2 r c) := by
  have hk : k.val < 13 := k.isLt.trans_eq trips9
  have e := k0_off8_eq k
  have hb := k0_off8_inb k
  have hw : g9 thr jc k B = updateSlice B (tile9 thr jc k (rd9 B k)) (k0_off8 k) ⟨rfl, hb⟩ :=
    View.write_whole_slice_unit cc0_stg1_0 _ _ _ B _
  rw [hw]
  unfold updateSlice
  have e0 : k0_off8 k 0 = 128 := by rw [e]; rfl
  have e1 : k0_off8 k 1 = 640 * k.val := by rw [e]; rfl
  by_cases hc : 128 ≤ r.val ∧ 640 * k.val ≤ c.val ∧ c.val < 640 * k.val + 640
  · rw [dif_pos, if_pos hc]
    swap
    · intro a
      match a with
      | ⟨0, _⟩ =>
        show k0_off8 k 0 ≤ r.val ∧ r.val < k0_off8 k 0 + 128
        rw [e0]; omega
      | ⟨1, _⟩ =>
        show k0_off8 k 1 ≤ c.val ∧ c.val < k0_off8 k 1 + 640
        rw [e1]; omega
    have hi : (fun b : Fin 2 => (⟨(ix2 r c b).val - k0_off8 k b, by
        match b with
        | ⟨0, _⟩ => show r.val - k0_off8 k 0 < 128; rw [e0]; omega
        | ⟨1, _⟩ => show c.val - k0_off8 k 1 < 640; rw [e1]; omega⟩ : Fin (S128x640.size b)))
        = ix2 (⟨r.val - 128, by omega⟩ : Fin 128) (⟨c.val - 640 * k.val, by omega⟩ : Fin 640) := by
      funext b
      apply Fin.ext
      match b with
      | ⟨0, _⟩ => show r.val - k0_off8 k 0 = r.val - 128; rw [e0]
      | ⟨1, _⟩ => show c.val - k0_off8 k 1 = c.val - 640 * k.val; rw [e1]
    refine (congrArg (tile9 thr jc k (rd9 B k)) hi).trans ?_
    rw [tile9_apply]
    unfold rd9
    rw [View.readAt_eq_ld, show View.read (Elt Ideal) (Memref.whole cc0_stg1_0).view B = B from rfl,
      ld_apply B _ hb (⟨r.val - 128, by omega⟩ : Fin 128) (⟨c.val - 640 * k.val, by omega⟩ : Fin 640) 128 (640 * k.val) e
        (show 128 + (r.val - 128) < 256 by omega) (show 640 * k.val + (c.val - 640 * k.val) < 8320 by omega)]
    have hr : dn (⟨r.val - 128, by omega⟩ : Fin 128) = r := Fin.ext (by simp only [dn]; omega)
    have hr' : (⟨128 + (r.val - 128), by omega⟩ : Fin 256) = r := Fin.ext (by simp only; omega)
    have hc' : (⟨640 * k.val + (c.val - 640 * k.val), by omega⟩ : Fin 8320) = c := Fin.ext (by simp only; omega)
    have hn : 640 * k.val + (c.val - 640 * k.val) = c.val := by omega
    rw [hr]
    simp only
    rw [hr', hc', hn]
  · rw [dif_neg, if_neg hc]
    intro h
    apply hc
    have h0 := h 0
    have h1 := h 1
    change k0_off8 k 0 ≤ r.val ∧ r.val < k0_off8 k 0 + 128 at h0
    change k0_off8 k 1 ≤ c.val ∧ c.val < k0_off8 k 1 + 640 at h1
    rw [e0] at h0
    rw [e1] at h1
    omega

/-- All of them. -/
theorem run9_apply (thr : FVec Ideal S1x256 .f32) (jc : IVec S1x256 32) (B : Bf Ideal) (r : Fin 256) (c : Fin 8320) :
    iterAll (g9 thr jc) B (ix2 r c) = if 128 ≤ r.val then
      bias (B (ix2 r c)) (thr (ix2 0 r)) (c.val : ℤ) (min (jc (ix2 0 r)).toInt (8192 + (r.val % 8 : ℕ))) else B (ix2 r c) := by
  have key := iter_keep (g9 thr jc) B (fun i B' => ∀ r c, B' (ix2 r c) = if 128 ≤ r.val ∧ c.val < 640 * i then
      bias (B (ix2 r c)) (thr (ix2 0 r)) (c.val : ℤ) (min (jc (ix2 0 r)).toInt (8192 + (r.val % 8 : ℕ))) else B (ix2 r c)) ?_ ?_ r c
  · rw [key]
    have h := trips9
    have hc := c.isLt
    exact if_congr ⟨fun h => h.1, fun h' => ⟨h', by omega⟩⟩ rfl rfl
  · intro r c; rw [if_neg (by omega)]
  · intro k B' h r c
    rw [g9_apply, h r c]
    by_cases h1 : 128 ≤ r.val
    · by_cases h2 : c.val < 640 * k.val
      · rw [if_neg (by omega), if_pos ⟨h1, h2⟩, if_pos ⟨h1, by omega⟩]
      · by_cases h3 : c.val < 640 * k.val + 640
        · rw [if_pos ⟨h1, by omega, h3⟩, if_neg (by omega), if_pos ⟨h1, by omega⟩]
        · rw [if_neg (by omega), if_neg (by omega), if_neg (by omega)]
    · rw [if_neg (by omega), if_neg (by omega), if_neg (by omega)]

/-- The written buffer at one place. -/
theorem final_apply (B : Bf Ideal) (r : Fin 256) (c : Fin 8320) :
    final B (ix2 r c) = bias (row B r c) ((wend B).2.1 (ix2 0 r)) (c.val : ℤ)
      (min (jcut B (wend B) (ix2 0 r)).toInt (8192 + (r.val % 8 : ℕ))) := by
  unfold final
  rw [run9_apply, run8_apply]
  unfold row
  by_cases h : r.val < 128
  · rw [if_neg (by omega), if_pos h]
  · rw [if_pos (by omega), if_neg h]

/-- The last kept column of a row without ties is past the end. -/
theorem jcut_none (B : Bf Ideal) (s : St Ideal) (r : Fin 256) (h : s.2.2.2.1 (ix2 0 r) = ((256 : ℕ) : EReal)) :
    (jcut B s (ix2 0 r)).toInt = 8320 := by
  have e8320 : (8320#32 : BitVec 32).toInt = 8320 := by decide
  unfold jcut
  split
  · have e : k0_pay67 s.2.2.2.1 (iterAll (f5 B s.2.1 s.2.2.2.2.1) (k0_pay54, k0_pay55)).2 (ix2 0 r)
        = Scalar.select (BitVec.ofBool (decide (((256 : ℕ) : EReal) < s.2.2.2.1 (ix2 0 r))))
          ((iterAll (f5 B s.2.1 s.2.2.2.2.1) (k0_pay54, k0_pay55)).2 (ix2 0 r)) 8320#32 := by
      rw [← bits_256]; rfl
    rw [e, h, WordCmp.select_decide, if_neg (lt_irrefl _), e8320]
  · exact e8320

set_option maxRecDepth 16384 in
/-- The last kept column of a row with ties is the bisection's upper end. -/
theorem jcut_ties (B : Bf Ideal) (s : St Ideal) (r : Fin 256) (h : ((256 : ℕ) : EReal) < s.2.2.2.1 (ix2 0 r)) :
    jcut B s (ix2 0 r) = (iterAll (f5 B s.2.1 s.2.2.2.2.1) (k0_pay54, k0_pay55)).2 (ix2 0 r) := by
  have e : k0_pay67 s.2.2.2.1 (iterAll (f5 B s.2.1 s.2.2.2.2.1) (k0_pay54, k0_pay55)).2 (ix2 0 r)
        = Scalar.select (BitVec.ofBool (decide (((256 : ℕ) : EReal) < s.2.2.2.1 (ix2 0 r))))
          ((iterAll (f5 B s.2.1 s.2.2.2.2.1) (k0_pay54, k0_pay55)).2 (ix2 0 r)) 8320#32 := by
    rw [← bits_256]; rfl
  have e2 : k0_pay52 s.2.2.2.1 (ix2 0 r) = BitVec.ofBool (decide (((256 : ℕ) : EReal) < s.2.2.2.1 (ix2 0 r))) := by
    rw [← bits_256]; rfl
  have hp : (0 : EReal) < k0_pay53 s.2.2.2.1 := by
    have : (1 : EReal) ≤ k0_pay53 s.2.2.2.1 := by
      generalize s.2.2.2.1 = v at h e2 ⊢
      pointwise [k0_pay53]
      refine (Finset.le_fold_max _).mpr (.inr ⟨(0, r), Finset.mem_univ _, ?_⟩)
      show (1 : EReal) ≤ Scalar.select (k0_pay52 v (ix2 0 r)) 1 0
      rw [e2, WordCmp.select_decide, if_pos h]
    exact lt_of_lt_of_le zero_lt_one this
  unfold jcut
  rw [if_pos]
  · rw [e, WordCmp.select_decide, if_pos h]
  · have e3 : Scalar.cmpf .ogt (k0_pay53 s.2.2.2.1) (Scalar.ofBits (F := Ideal) .f32 0x00000000#32) = 1#1 := by
      show BitVec.ofBool (decide (Ideal.ofBits .f32 0x00000000#32 < k0_pay53 s.2.2.2.1)) = 1#1
      rw [Ideal.ofBits_zero, decide_eq_true hp]; rfl
    rw [e3]; rfl

end Cert.Proof.Sel

end
-- ==== Proof.Sel.Row.lean ====
/-
  A row of the selection: where the precondition holds of it, the written bias is zero just at the columns of the 256
  greatest scores, the earlier first, that are no later than the row's query.
-/
module

public import proofs.«01_k».proof.Proof.Sel.Write

@[expose] public section

noncomputable section

namespace Cert.Proof.Sel

open Cert.KernelIdeal Cert.KernelIdeal.Gen
open Idealize.ShloMosaic
open Idealize.ShloMosaic.TcCoe

/-- What the precondition says of a row whose query is at column `q`. -/
structure RowOk (x : Fin 8320 → EReal) (q : ℕ) : Prop where
  /-- The 256th score is masked, or apart from the 257th, -/
  apart : x (order x 255) = ⊥ ∨ tiny ≤ x (order x 255) - x (order x 256)
  /-- what is after the query is masked, -/
  causal : ∀ c : Fin 8320, c.val ≤ q ∨ x c = ⊥
  /-- and what is not masked is finite. -/
  finite : ∀ c, x c = ⊥ ∨ (-fmax ≤ x c ∧ x c ≤ fmax)

/-- The selected columns of a row. -/
def Chosen (x : Fin 8320 → EReal) (q : ℕ) (c : Fin 8320) : Prop := ∃ j : Fin 8320, j.val < 256 ∧ order x j = c ∧ c.val ≤ q

/-- In terms of a column's place. -/
theorem chosen_order (x : Fin 8320 → EReal) (q : ℕ) (p : Fin 8320) : Chosen x q (order x p) ↔ p.val < 256 ∧ (order x p).val ≤ q := by
  constructor
  · rintro ⟨j, h1, h2, h3⟩
    rw [(order_bij x).1 h2] at h1
    exact ⟨h1, h3⟩
  · rintro ⟨h1, h2⟩
    exact ⟨p, h1, rfl, h2⟩

/-- At or above the least are all. -/
theorem above_bot (x : Fin 8320 → EReal) : above x ⊥ = 8320 := by
  unfold above
  rw [Finset.filter_true_of_mem (fun c _ => bot_le), Finset.card_univ, Fintype.card_fin]

/-- The masked columns and the others are all. -/
theorem masked_add (x : Fin 8320 → EReal) (h : ∀ c, x c = ⊥ ∨ (-fmax ≤ x c ∧ x c ≤ fmax)) :
    above x (-fmax) + ties x ⊥ 8319 = 8320 := by
  have e1 : above x (-fmax) = (Finset.univ.filter fun c => ¬ x c = ⊥).card := by
    unfold above
    refine congrArg Finset.card ?_
    ext c
    simp only [Finset.mem_filter, Finset.mem_univ, true_and]
    exact ⟨fun h1 h2 => absurd (h2 ▸ h1) (not_le.mpr bot_lt_neg_fmax), fun h1 => ((h c).resolve_left h1).1⟩
  have e2 : ties x ⊥ 8319 = (Finset.univ.filter fun c => x c = ⊥).card := by
    unfold ties
    refine congrArg Finset.card ?_
    ext c
    have := c.isLt
    simp only [Finset.mem_filter, Finset.mem_univ, true_and]
    exact ⟨fun h => h.1, fun h => ⟨h, by omega⟩⟩
  have := Finset.card_filter_add_card_filter_not (s := (Finset.univ : Finset (Fin 8320))) (fun c => x c = ⊥)
  rw [Finset.card_univ, Fintype.card_fin] at this
  omega

/-- The place of a masked column: after those not masked and the masked ones before it. -/
theorem masked_place (x : Fin 8320 → EReal) (h : ∀ c, x c = ⊥ ∨ (-fmax ≤ x c ∧ x c ≤ fmax)) (p : Fin 8320) (hp : x (order x p) = ⊥) :
    p.val = above x (-fmax) + ties x ⊥ ((order x p).val - 1) := by
  rw [← card_ahead x p]
  unfold above ties
  rw [← Finset.card_union_of_disjoint]
  · refine congrArg Finset.card ?_
    ext c
    simp only [Finset.mem_filter, Finset.mem_univ, true_and, Finset.mem_union, ahead, Bool.or_eq_true, Bool.and_eq_true,
      decide_eq_true_eq, hp]
    constructor
    · rintro (h1 | ⟨h1, h2⟩)
      · exact .inl ((h c).resolve_left h1.ne').1
      · refine .inr ⟨h1, ?_⟩
        have : c.val < (order x p).val := h2
        omega
    · rintro (h1 | ⟨h1, h2⟩)
      · exact .inl (bot_lt_neg_fmax.trans_le h1)
      · refine .inr ⟨h1, ?_⟩
        show c.val < (order x p).val
        omega
  · rw [Finset.disjoint_left]
    intro c h1 h2
    simp only [Finset.mem_filter, Finset.mem_univ, true_and] at h1 h2
    rw [h2.1] at h1
    exact absurd h1 (not_le.mpr bot_lt_neg_fmax)

variable {B : Bf Ideal} {r : Fin 256} {q : ℕ}

/-- The greatest score of a row is finite or the least. -/
theorem rmax_fin (h : RowOk (row B r) q) : rmax B (ix2 0 r) ≤ fmax := by
  rw [rmax_le]
  intro c
  rcases h.finite c with h | h
  · rw [h]; exact bot_le
  · exact h.2

/-- The least score not masked is finite. -/
theorem le_rmin_fin (h : RowOk (row B r) q) : -fmax ≤ rmin B (ix2 0 r) := by
  rw [le_rmin]
  exact fun c hc => ((h.finite c).resolve_left hc).1

open Classical in
/-- A row whose 256th score is not masked. -/
theorem row_apart (h : RowOk (row B r) (8192 + r.val % 8)) (ha : row B r (order (row B r) 255) ≠ ⊥) (c : Fin 8320) :
    final B (ix2 r c) = if Chosen (row B r) (8192 + r.val % 8) c then 0 else neg := by
  have hb := (h.finite (order (row B r) 255)).resolve_left ha
  have S : Sep (above (row B r)) (rmax B (ix2 0 r)) (rmin B (ix2 0 r)) (row B r (order (row B r) 255)) (row B r (order (row B r) 256)) :=
    { at256 := fun t => by rw [← lt_above]; exact Nat.succ_le_iff
      at257 := fun t => by rw [← lt_above]; exact Nat.succ_le_iff
      gap := h.apart.resolve_left ha
      ge := hb.1
      le := hb.2
      mx_le := rmax_fin h
      le_mx := (rmax_le B r _).mp le_rfl _
      le_mn := le_rmin_fin h
      mn_le := (le_rmin B r _).mp le_rfl _ ha }
  obtain ⟨hd, hi⟩ := Row.separated S (above_bot _)
  have hh := wend_holds B r
  have hc := hi.done S hd
  have hN := hi.clo_eq
  have h1 := hh.lo
  have h2 := hh.clo
  rw [final_apply, h1]
  unfold rstep at *
  rw [hc] at h2
  rw [jcut_none B _ r h2]
  rw [hc] at hN
  generalize ((Row.step (above (row B r)) (rmax B (ix2 0 r)) (rmin B (ix2 0 r)))^[400] Row.start).lo = lo at *
  have hlo : lo ≠ ⊥ := by rintro rfl; rw [above_bot] at hN; omega
  have hmin : min (8320 : ℤ) (8192 + (r.val % 8 : ℕ)) = ((8192 + r.val % 8 : ℕ) : ℤ) := by
    rw [min_eq_right (by omega)]; push_cast; rfl
  rw [hmin]
  have hcaus : lo ≤ row B r c → c.val ≤ 8192 + r.val % 8 := fun hle =>
    (h.causal c).resolve_right fun e => hlo (le_bot_iff.mp (e ▸ hle))
  have hcho : Chosen (row B r) (8192 + r.val % 8) c ↔ lo ≤ row B r c := by
    obtain ⟨p, rfl⟩ := (order_bij (row B r)).2 c
    rw [chosen_order, ← lt_above, ← hN]
    refine ⟨fun h => h.1, fun hp => ⟨hp, hcaus ?_⟩⟩
    rw [← lt_above, ← hN]; exact hp
  rw [if_congr hcho rfl rfl]
  unfold bias
  by_cases hle : lo ≤ row B r c
  · rw [if_pos hle]
    rcases hle.lt_or_eq with hlt | heq
    · rw [if_pos hlt]
    · rw [if_neg (by rw [heq]; exact lt_irrefl _), if_pos heq.symm, if_pos (by exact_mod_cast hcaus hle)]
  · rw [if_neg hle, if_neg (fun hlt => hle hlt.le), if_neg (fun e => hle e.ge)]

open Classical in
/-- A row whose 256th score is masked. -/
theorem row_masked (h : RowOk (row B r) (8192 + r.val % 8)) (ha : row B r (order (row B r) 255) = ⊥) (c : Fin 8320) :
    final B (ix2 r c) = if Chosen (row B r) (8192 + r.val % 8) c then 0 else neg := by
  have at256 : ∀ t, 256 ≤ above (row B r) t ↔ t = ⊥ := fun t => by
    rw [← le_bot_iff, ← ha, ← lt_above]; exact Nat.succ_le_iff.symm
  obtain ⟨hd, hlo, hclo, hchi⟩ := Row.short at256 (rmax_fin h) (le_rmin_fin h) (above (row B r) (-fmax))
    (fun t h1 h2 => by
      unfold above
      refine congrArg Finset.card ?_
      ext c
      simp only [Finset.mem_filter, Finset.mem_univ, true_and]
      exact ⟨fun h3 => ((h.finite c).resolve_left (h1.trans_le h3).ne').1, fun h3 => h2.trans h3⟩)
    (fun hm => by
      unfold above
      rw [Finset.card_eq_zero, Finset.filter_eq_empty_iff]
      intro c _ h1
      have := (rmax_le B r ⊥).mp hm.le c
      exact absurd (h1.trans this) (not_le.mpr bot_lt_neg_fmax))
  have hn : above (row B r) (-fmax) < 256 := by
    by_contra hc
    exact absurd ((at256 _).mp (not_lt.mp hc)) bot_lt_neg_fmax.ne'
  have hh := wend_holds B r
  have h1 := hh.lo
  have h2 := hh.clo
  have h3 := hh.chi
  rw [hlo] at h1
  rw [hclo] at h2
  rw [hchi] at h3
  have hm := masked_add (row B r) h.finite
  have hbis := bisect B (wend B).2.1 (wend B).2.2.2.2.1 r _ h3 hn (by rw [h1]; omega)
  rw [h1] at hbis
  have hcut := hbis.cut c
  rw [final_apply, h1, jcut_ties B _ r (by rw [h2]; exact Nat.cast_lt.mpr (by norm_num))]
  generalize ((iterAll (f5 B (wend B).2.1 (wend B).2.2.2.2.1) (k0_pay54, k0_pay55)).2 (ix2 0 r)).toInt = j at *
  unfold bias
  obtain ⟨p, rfl⟩ := (order_bij (row B r)).2 c
  by_cases hx : row B r (order (row B r) p) = ⊥
  · have hp := masked_place (row B r) h.finite p hx
    rw [if_neg (by rw [hx]; exact lt_irrefl _), if_pos hx]
    refine if_congr ?_ rfl rfl
    rw [chosen_order, le_min_iff, hcut]
    constructor <;> rintro ⟨a, b⟩ <;> constructor <;> omega
  · rw [if_pos (bot_lt_iff_ne_bot.mpr hx), if_pos]
    rw [chosen_order]
    refine ⟨?_, (h.causal _).resolve_right hx⟩
    have hp := (lt_above (row B r) (row B r (order (row B r) p)) p).mpr le_rfl
    by_contra hc
    exact hx ((at256 _).mp (by omega))

open Classical in
/-- What is written at a place of a row of which the precondition holds. -/
theorem row_final (h : RowOk (row B r) (8192 + r.val % 8)) (c : Fin 8320) :
    final B (ix2 r c) = if Chosen (row B r) (8192 + r.val % 8) c then 0 else neg := by
  by_cases ha : row B r (order (row B r) 255) = ⊥
  · exact row_masked h ha c
  · exact row_apart h ha c

end Cert.Proof.Sel

end
-- ==== Proof.Sel.Ref.lean ====
/-
  The selection's reference at one place: zero just at the selected columns of its row, the large negative bias elsewhere.
-/
module

public import proofs.«01_k».proof.Proof.Sel.Top
public import proofs.«01_k».proof.Proof.Sel.Row
public import proofs.«01_k».proof.Proof.Gen.ReferenceIdeal
public import Idealize.ShloMosaic.Lib.ReduceAll

@[expose] public section

noncomputable section

namespace Cert.Proof.Sel

open Idealize.ShloMosaic

/-- A left fold by `or` that comes out 1 started at 1 or met a 1. -/
theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    have key : ∀ p q : BitVec 1, IntOp.ori p q = 1#1 ↔ p = 1#1 ∨ q = 1#1 := by decide
    rw [List.foldl_cons, foldl_ori_eq_one f l, key, List.exists_mem_cons_iff, or_assoc]

/-- A reduction by `or` is 1 just where its start is 1 or an element that reduces into it is. -/
theorem reduce_ori_eq_one {s t u : Shape} {axes : List (Fin s.rank)} (x : s.Idx → BitVec 1) (init : u.Idx → BitVec 1)
    (h : s.ReducesTo axes t) (hu : 0 < u.numel) (j : t.Idx) :
    Host.reduce IntOp.ori x init h hu j = 1#1 ↔ init (Shape.Idx.first hu) = 1#1 ∨ ∃ i, h.drop i = j ∧ x i = 1#1 := by
  rw [Host.reduce_eq_foldl, foldl_ori_eq_one]
  refine or_congr Iff.rfl ⟨?_, ?_⟩
  · rintro ⟨i, hi, e⟩
    rw [List.mem_filter] at hi
    exact ⟨i, by simpa using hi.2, e⟩
  · rintro ⟨i, hi, e⟩
    refine ⟨i, ?_, e⟩
    rw [List.mem_filter]
    exact ⟨List.mem_map.2 ⟨s.rowMajor i, List.mem_finRange _, Equiv.symm_apply_apply _ _⟩, by simp [hi]⟩

open Cert.ReferenceIdeal Cert.ReferenceIdeal.Facts₀ Cert.ReferenceIdeal.Facts

/-- Column `c` is row `r`'s `j`th selected, and no later than the row's query, as the reference has it. -/
def member (x : FVec Ideal S256x8320 .f32) : IVec S256x256x8320 1 :=
  andi (cmpi .eq (broadcastInDim S256x256x8320 ![0, 1, 2] bcast_S256x256x1_S256x256x8320_0_1_2 (broadcastInDim S256x256x1 ![0, 1] bcast_S256x256_S256x256x1_0_1 ((Host.topK S256x256 1 (FloatOps.cmpfTotal .gt) (x) sliceFits_S256x8320_S256x256).2))) (broadcastInDim S256x256x8320 ![0, 1, 2] bcast_S1x1x8320_S256x256x8320_0_1_2 (broadcastInDim S1x1x8320 ![2] bcast_S8320_S1x1x8320_2 (iotaInDim S8320 32 0)))) (broadcastInDim S256x256x8320 ![0, 1, 2] bcast_S256x256x1_S256x256x8320_0_1_2 (broadcastInDim S256x256x1 ![0, 1] bcast_S256x256_S256x256x1_0_1 (cmpi .sle ((Host.topK S256x256 1 (FloatOps.cmpfTotal .gt) (x) sliceFits_S256x8320_S256x256).2) (broadcastInDim S256x256 ![0, 1] bcast_S256x1_S256x256_0_1 (broadcastInDim S256x1 ![0] bcast_S256_S256x1_0 (addi (broadcastInDim S256 ![] bcast_S_S256 (constantI S_ 32 8192#32)) (Host.remsi (iotaInDim S256 32 0) (broadcastInDim S256 ![] bcast_S_S256 (constantI S_ 32 8#32)))))))))

/-- The reference's result of the scores `x`. -/
def refOut (x : FVec Ideal S256x8320 .f32) : FVec Ideal S256x8320 .f32 :=
  select (Host.reduce IntOp.ori (member x) (constantI S_ 1 0#1) reducesTo_S256x256x8320_S256x8320_d1 h_S_) (broadcastInDim S256x8320 ![] bcast_S_S256x8320 (constant S_ .f32 0x00000000#32)) (broadcastInDim S256x8320 ![] bcast_S_S256x8320 (constant S_ .f32 0xF149F2CA#32))

/-- A row's query position, as the host has it. -/
theorem qpos_host (r : Fin 256) : (IntOp.addi 8192#32 (IntOp.remsi ArithUnit.host (BitVec.ofNat 32 r.val) 8#32)).toInt = 8192 + (r.val % 8 : ℕ) := by
  revert r; decide +kernel

/-- Broadcasting along the columns. -/
theorem bcast_cols {w : ℕ} (y : IVec S256x256 w) (r j : Fin 256) (c : Fin 8320) :
    broadcastInDim S256x256x8320 ![0, 1, 2] bcast_S256x256x1_S256x256x8320_0_1_2
      (broadcastInDim S256x256x1 ![0, 1] bcast_S256x256_S256x256x1_0_1 y) (ix3 r j c) = y (ix2 r j) := by
  rw [broadcastInDim_apply _ _ _ _ (ix3 r j 0) (fun a => by match a with | ⟨0, _⟩ => rfl | ⟨1, _⟩ => rfl | ⟨2, _⟩ => rfl),
    broadcastInDim_apply _ _ _ _ (ix2 r j) (fun a => by match a with | ⟨0, _⟩ => rfl | ⟨1, _⟩ => rfl)]

/-- Broadcasting along the rows and the places. -/
theorem bcast_rows {w : ℕ} (y : IVec S8320 w) (r j : Fin 256) (c : Fin 8320) :
    broadcastInDim S256x256x8320 ![0, 1, 2] bcast_S1x1x8320_S256x256x8320_0_1_2
      (broadcastInDim S1x1x8320 ![2] bcast_S8320_S1x1x8320_2 y) (ix3 r j c) = y (ix1 c) := by
  rw [broadcastInDim_apply _ _ _ _ (ix3 0 0 c) (fun a => by match a with | ⟨0, _⟩ => rfl | ⟨1, _⟩ => rfl | ⟨2, _⟩ => rfl),
    broadcastInDim_apply _ _ _ _ (ix1 c) (fun a => by match a with | ⟨0, _⟩ => rfl)]

/-- Broadcasting along the places. -/
theorem bcast_places {w : ℕ} (y : IVec S256 w) (r j : Fin 256) :
    broadcastInDim S256x256 ![0, 1] bcast_S256x1_S256x256_0_1
      (broadcastInDim S256x1 ![0] bcast_S256_S256x1_0 y) (ix2 r j) = y (ix1 r) := by
  rw [broadcastInDim_apply _ _ _ _ (ix2 r 0) (fun a => by match a with | ⟨0, _⟩ => rfl | ⟨1, _⟩ => rfl),
    broadcastInDim_apply _ _ _ _ (ix1 r) (fun a => by match a with | ⟨0, _⟩ => rfl)]

/-- The reference's relation at one place. -/
theorem member_apply (x : FVec Ideal S256x8320 .f32) (r j : Fin 256) (c : Fin 8320) :
    member x (ix3 r j c) = 1#1 ↔ order (fun c => x (ix2 r c)) ⟨j.val, by omega⟩ = c ∧ c.val ≤ 8192 + r.val % 8 := by
  have e := (topK_apply (k := 256) (by omega) x sliceFits_S256x8320_S256x256 r j).2
  unfold member
  show IntOp.andi (IntOp.cmpi .eq (broadcastInDim S256x256x8320 _ _ (broadcastInDim S256x256x1 _ _ _) (ix3 r j c))
    (broadcastInDim S256x256x8320 _ _ (broadcastInDim S1x1x8320 _ _ _) (ix3 r j c)))
    (broadcastInDim S256x256x8320 _ _ (broadcastInDim S256x256x1 _ _ _) (ix3 r j c)) = 1#1 ↔ _
  rw [bcast_cols, bcast_rows, bcast_cols]
  show IntOp.andi (IntOp.cmpi .eq _ (BitVec.ofNat 32 c.val)) (IntOp.cmpi .sle _ (broadcastInDim S256x256 _ _ (broadcastInDim S256x1 _ _ _) (ix2 r j))) = 1#1 ↔ _
  rw [bcast_places, e]
  show IntOp.andi _ (IntOp.cmpi .sle _ (IntOp.addi 8192#32 (IntOp.remsi ArithUnit.host (BitVec.ofNat 32 r.val) 8#32))) = 1#1 ↔ _
  generalize hp : order (fun c => x (ix2 r c)) ⟨j.val, _⟩ = p
  rw [WordCmp.cmpi_eq_ofNat (by omega) (by omega), WordCmp.cmpi_sle_eq, qpos_host, WordCmp.toInt_ofNat_of_lt (by omega), WordCmp.andi_ofBool,
    WordCmp.ofBool_eq_one_iff, Bool.and_eq_true, decide_eq_true_eq, decide_eq_true_eq]
  constructor
  · rintro ⟨h1, h2⟩
    exact ⟨Fin.ext h1, by omega⟩
  · rintro ⟨h1, h2⟩
    subst h1
    exact ⟨rfl, by omega⟩

open Classical in
/-- The reference's result at one place. -/
theorem refOut_apply (x : FVec Ideal S256x8320 .f32) (r : Fin 256) (c : Fin 8320) :
    refOut x (ix2 r c) = if Chosen (fun c => x (ix2 r c)) (8192 + r.val % 8) c then 0 else neg := by
  have key : Host.reduce IntOp.ori (member x) (constantI S_ 1 0#1) reducesTo_S256x256x8320_S256x8320_d1 h_S_ (ix2 r c) = 1#1
      ↔ Chosen (fun c => x (ix2 r c)) (8192 + r.val % 8) c := by
    rw [reduce_ori_eq_one]
    constructor
    · rintro (h | ⟨i, hi, h⟩)
      · exact absurd h (by decide)
      · rw [eq_ix3 i] at hi h
        have h0 : i 0 = r := congrFun hi 0
        have h2 : i 2 = c := congrFun hi 1
        rw [h0, h2] at h
        have := (member_apply x r (i 1) c).1 h
        exact ⟨⟨(i 1).val, lt_of_lt_of_le (i 1).isLt (by decide)⟩, (i 1).isLt, this.1, this.2⟩
    · rintro ⟨j, hj, h1, h2⟩
      refine Or.inr ⟨ix3 r ⟨j.val, hj⟩ c, ?_, (member_apply x r ⟨j.val, hj⟩ c).2 ⟨h1, h2⟩⟩
      funext a
      match a with
      | ⟨0, _⟩ => rfl
      | ⟨1, _⟩ => rfl
  have sel : ∀ (p : IVec S256x8320 1) (a b : FVec Ideal S256x8320 .f32) (i : S256x8320.Idx),
      select p a b i = Scalar.select (p i) (a i) (b i) := fun _ _ _ _ => rfl
  unfold refOut
  rw [sel]
  by_cases h : Chosen (fun c => x (ix2 r c)) (8192 + r.val % 8) c
  · rw [if_pos h, WordCmp.select_of_eq_one (key.2 h)]
    exact Ideal.ofBits_zero_f32
  · rw [if_neg h, WordCmp.select_of_eq_zero (by
      have := mt key.1 h
      generalize Host.reduce IntOp.ori _ _ _ _ _ = b at this ⊢
      revert b; decide)]
    rfl

end Cert.Proof.Sel

end
-- ==== Proof.Sel.Pre.lean ====
/-
  What the precondition says, row by row.
-/
module

public import proofs.«01_k».proof.Proof.Sel.Ref
public import proofs.«01_k».proof.Pre_separated

@[expose] public section

noncomputable section

namespace Cert.Proof.Sel

open Idealize.ShloMosaic

/-- The side conditions the precondition states. -/
instance preFacts : Cert.Pre_separated.Facts where
  sliceFits_S256x8320_S256x257 := by decide
  slices_S256x257_S256x1_0_255 := by decide
  shapeCasts_S256x1_S256 := by decide
  bcast_S_S256 := by decide
  slices_S256x257_S256x1_0_256 := by decide
  bcast_S8320_S1x8320_1 := by decide
  bcast_S256_S256x1_0 := by decide
  bcast_S1x8320_S256x8320_0_1 := by decide
  bcast_S256x1_S256x8320_0_1 := by decide
  bcast_S_S256x8320 := by decide
  reducesTo_S256_S_d0 := by decide
  h_S_ := by decide
  reducesTo_S256x8320_S_d0_1 := by decide

open Cert.Pre_separated Cert.Pre_separated.Facts

/-- An `or` of two words of one bit that is 1. -/
theorem ori_eq_one : ∀ p q : BitVec 1, IntOp.ori p q = 1#1 ↔ p = 1#1 ∨ q = 1#1 := by decide

/-- The column `k` of a top-k's scores, as a list of rows. -/
theorem column (y : FVec Ideal S256x257 .f32) (k : ℕ) (hk : k < 257) (h : S256x257.Slices ![0, k] S256x1) (r : Fin 256) :
    shapeCast S256 (extractStridedSlice S256x1 ![0, k] y h) shapeCasts_S256x1_S256 (ix1 r) = y (ix2 r ⟨k, hk⟩) := by
  rw [shapeCast_apply _ _ _ (ix2 r 0) (by rw [Shape.rowMajor_val_two, Shape.rowMajor_val_one]; show r.val * 1 + 0 = r.val; omega),
    extractStridedSlice_apply _ _ _ _ (ix2 r ⟨k, hk⟩) (fun a => by
      match a with
      | ⟨0, _⟩ => show r.val = 0 + r.val; omega
      | ⟨1, _⟩ => rfl)]

/-- Broadcasting a row's columns. -/
theorem bcast_cols2 {w : ℕ} (y : IVec S256 w) (r : Fin 256) (c : Fin 8320) :
    broadcastInDim S256x8320 ![0, 1] bcast_S256x1_S256x8320_0_1 (broadcastInDim S256x1 ![0] bcast_S256_S256x1_0 y) (ix2 r c) = y (ix1 r) := by
  rw [broadcastInDim_apply _ _ _ _ (ix2 r 0) (fun a => by match a with | ⟨0, _⟩ => rfl | ⟨1, _⟩ => rfl),
    broadcastInDim_apply _ _ _ _ (ix1 r) (fun a => by match a with | ⟨0, _⟩ => rfl)]

/-- Broadcasting along the rows. -/
theorem bcast_rows2 {w : ℕ} (y : IVec S8320 w) (r : Fin 256) (c : Fin 8320) :
    broadcastInDim S256x8320 ![0, 1] bcast_S1x8320_S256x8320_0_1 (broadcastInDim S1x8320 ![1] bcast_S8320_S1x8320_1 y) (ix2 r c) = y (ix1 c) := by
  rw [broadcastInDim_apply _ _ _ _ (ix2 0 c) (fun a => by match a with | ⟨0, _⟩ => rfl | ⟨1, _⟩ => rfl),
    broadcastInDim_apply _ _ _ _ (ix1 c) (fun a => by match a with | ⟨0, _⟩ => rfl)]

/-- The three parts of the precondition. -/
theorem fn_parts (x : FVec Ideal S256x8320 .f32) (h : Cert.Pre_separated.fn x = fun _ => 1#1) :
    (∀ r : Fin 256, IntOp.ori
        (FloatOps.cmpf (F := Ideal) (φ := .f32) .oeq (shapeCast S256 (extractStridedSlice S256x1 ![0, 255] (Host.topK S256x257 1 (FloatOps.cmpfTotal (F := Ideal) (φ := .f32) .gt) x sliceFits_S256x8320_S256x257).1 slices_S256x257_S256x1_0_255) shapeCasts_S256x1_S256 (ix1 r)) (Ideal.ofBits .f32 0xFF800000#32))
        (FloatOps.cmpf (F := Ideal) (φ := .f32) .oge (FloatOps.subf (F := Ideal) (φ := .f32)
          (shapeCast S256 (extractStridedSlice S256x1 ![0, 255] (Host.topK S256x257 1 (FloatOps.cmpfTotal (F := Ideal) (φ := .f32) .gt) x sliceFits_S256x8320_S256x257).1 slices_S256x257_S256x1_0_255) shapeCasts_S256x1_S256 (ix1 r))
          (shapeCast S256 (extractStridedSlice S256x1 ![0, 256] (Host.topK S256x257 1 (FloatOps.cmpfTotal (F := Ideal) (φ := .f32) .gt) x sliceFits_S256x8320_S256x257).1 slices_S256x257_S256x1_0_256) shapeCasts_S256x1_S256 (ix1 r)))
          (Ideal.ofBits .f32 0x00800000#32)) = 1#1)
    ∧ (∀ (r : Fin 256) (c : Fin 8320), IntOp.ori
        (IntOp.cmpi .sle (BitVec.ofNat 32 c.val) (IntOp.addi 8192#32 (IntOp.remsi ArithUnit.host (BitVec.ofNat 32 r.val) 8#32)))
        (FloatOps.cmpf (F := Ideal) (φ := .f32) .oeq (x (ix2 r c)) (Ideal.ofBits .f32 0xFF800000#32)) = 1#1)
    ∧ (∀ (r : Fin 256) (c : Fin 8320), IntOp.ori
        (FloatOps.cmpf (F := Ideal) (φ := .f32) .oeq (x (ix2 r c)) (Ideal.ofBits .f32 0xFF800000#32))
        (FloatOps.cmpf (F := Ideal) (φ := .f32) .ole (FloatOps.hostAbsf (F := Ideal) (φ := .f32) (x (ix2 r c))) (Ideal.ofBits .f32 0x7F7FFFFF#32)) = 1#1) := by
  unfold Cert.Pre_separated.fn fn_part1 fn_part2 at h
  have h0 := congrFun h ix0
  obtain ⟨h1, h3⟩ := IntOp.andi_eq_one.1 h0
  obtain ⟨h1, h2⟩ := IntOp.andi_eq_one.1 h1
  have sub : Subsingleton S_.Idx := ⟨fun a b => funext fun k => k.elim0⟩
  refine ⟨fun r => ?_, fun r c => ?_, fun r c => ?_⟩
  · exact Host.reduce_andi_all _ _ _ _ _ h1 (ix1 r)
  · have := Host.reduce_andi_all _ _ _ _ _ h2 (ix2 r c)
    change IntOp.ori (IntOp.cmpi .sle (broadcastInDim S256x8320 _ _ (broadcastInDim S1x8320 _ _ _) (ix2 r c))
      (broadcastInDim S256x8320 _ _ (broadcastInDim S256x1 _ _ _) (ix2 r c))) _ = 1#1 at this
    rw [bcast_rows2, bcast_cols2] at this
    exact this
  · exact Host.reduce_andi_all _ _ _ _ _ h3 (ix2 r c)

/-- Under the precondition every row is as the selection needs it. -/
theorem row_ok (x : FVec Ideal S256x8320 .f32) (h : Cert.Pre_separated.fn x = fun _ => 1#1) (r : Fin 256) :
    RowOk (fun c => x (ix2 r c)) (8192 + r.val % 8) := by
  obtain ⟨h1, h2, h3⟩ := fn_parts x h
  refine ⟨?_, fun c => ?_, fun c => ?_⟩
  · have := h1 r
    have e255 := (topK_apply (k := 257) (by omega) x sliceFits_S256x8320_S256x257 r ⟨255, by omega⟩).1
    have e256 := (topK_apply (k := 257) (by omega) x sliceFits_S256x8320_S256x257 r ⟨256, by omega⟩).1
    rw [column _ 255 (by omega) slices_S256x257_S256x1_0_255, column _ 256 (by omega) slices_S256x257_S256x1_0_256, e255, e256, bits_bot, bits_tiny, ori_eq_one] at this
    rcases this with this | this
    · exact Or.inl (of_decide_eq_true ((WordCmp.ofBool_eq_one_iff _).1 this))
    · exact Or.inr (of_decide_eq_true ((WordCmp.ofBool_eq_one_iff _).1 this))
  · have := h2 r c
    rw [ori_eq_one, WordCmp.cmpi_sle_eq, qpos_host, WordCmp.toInt_ofNat_of_lt (by omega), bits_bot, WordCmp.ofBool_decide_eq_one_iff] at this
    rcases this with this | this
    · exact Or.inl (by omega)
    · exact Or.inr (of_decide_eq_true ((WordCmp.ofBool_eq_one_iff _).1 this))
  · have := h3 r c
    rw [ori_eq_one, bits_bot, bits_fmax] at this
    rcases this with this | this
    · exact Or.inl (of_decide_eq_true ((WordCmp.ofBool_eq_one_iff _).1 this))
    · have h4 : max (x (ix2 r c) : EReal) (-(x (ix2 r c))) ≤ fmax := of_decide_eq_true ((WordCmp.ofBool_eq_one_iff _).1 this)
      exact Or.inr ⟨EReal.neg_le_of_neg_le ((le_max_right _ _).trans h4), (le_max_left _ _).trans h4⟩

end Cert.Proof.Sel

end
-- ==== Proof.Sel.Join.lean ====
/-
  The selection's value claim: under the precondition the kernel's bias is its reference's, at the extended reals.
-/
module

public import proofs.«01_k».proof.Proof.Sel.Pre
public import proofs.«01_k».proof.Proof.Sel.Run
public import proofs.«01_k».proof.Proof.Frames
public import Idealize.ShloMosaic.Lib.Pipeline.ValueKit

@[expose] public section

noncomputable section

namespace Cert.Proof.Sel

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg)

/-- The scores the one point fetches are the whole argument. -/
theorem scores_eq (c : Dev nD) : scores m ρ c = m ((c : Thread nD τ).loc main_arg0) := by
  funext j
  show m ((c : Thread nD τ).loc main_arg0) ((win0_0.blk (t₀ (F := Ideal))).view.emb j) = m ((c : Thread nD τ).loc main_arg0) j
  have e0 : win0_0.index t0_0 (0 : Fin 2) = 0 := by decide +kernel
  have e1 : win0_0.index t0_0 (1 : Fin 2) = 0 := by decide +kernel
  congr 1; funext a; apply Fin.ext
  match a with
  | ⟨0, _⟩ => show win0_0.index t0_0 (0 : Fin 2) * 256 + 1 * (j 0).val = (j 0).val; omega
  | ⟨1, _⟩ => show win0_0.index t0_0 (1 : Fin 2) * 8320 + 1 * (j 1).val = (j 1).val; omega

/-- The result array after the run. -/
theorem arr_out (c : Dev nD) : (dats m ρ 0 c).arrAt (1 : Fin 2) (cfg0 (F := Ideal)).N = final (m ((c : Thread nD τ).loc main_arg0)) := by
  refine (dats m ρ 0 c).arrAt_eq_of_after_last (1 : Fin 2) t0_0 (by decide +kernel) _ fun j => ?_
  rw [after_1, scores_eq]
  rfl

/-- The kernel's run: the result at `final` of the scores, the scores kept. -/
theorem run_final : θ_run defs (onTc (τ := τ) (main (F := Ideal))) ⟨m, fun _ => 0, ρ⟩ (fun r => ∀ c : Dev nD,
    r.2.mem ((c.tc : Thread nD τ).loc main_v0) = final (m ((c : Thread nD τ).loc main_arg0))
      ∧ r.2.mem ((c.tc : Thread nD τ).loc main_arg0) = m ((c.tc : Thread nD τ).loc main_arg0)) :=
  (θ_run defs _ _).mono (fun _ h c => ⟨(h.1 c (1 : Fin 2)).trans (arr_out m ρ c), (h.1 c (0 : Fin 2)).trans (arr_in m ρ c)⟩) (run_arr m ρ)

/-- The kernel's bias is the reference's. -/
theorem final_eq (x : FVec Ideal S256x8320 .f32) (h : Cert.Pre_separated.fn x = fun _ => 1#1) :
    refOut x = final (F := Ideal) x := by
  funext i
  obtain ⟨r, c, rfl⟩ : ∃ (r : Fin 256) (c : Fin 8320), i = ix2 r c := ⟨i 0, i 1, eq_ix2 i⟩
  exact (refOut_apply x r c).trans (row_final (row_ok x h r) c).symm

/-- The selection's kernel computes what its reference computes, at the extended reals, of scores as the precondition has them. -/
theorem algebraic : Cert.algebraic_KernelIdeal_ReferenceIdeal_pre_separated := by
  intro m g m' g' hpre hagree
  refine ⟨fun c => final (m ((c : Thread nD τ).loc main_arg0)), run_final m g, ?_⟩
  refine (θ_run Cert.ReferenceIdeal.defs _ _).mono (fun _ h c => ⟨(h c).1.trans ?_, (h c).2⟩) (Cert.ReferenceIdeal.Value.run m' g')
  rw [hagree c]
  have e := final_eq _ (hpre c)
  unfold refOut member at e
  exact e

end Cert.Proof.Sel

end
-- ==== Proof.Rows.lean ====
/- Hand-written: the mathematics that the layer's dense calls share, one row at a time, at the extended reals: a row's
   product with a weight, the layer norm of a row, and the rows of an array with two leading axes. -/
module

public import Idealize.ShloMosaic.Lib.KernelVsHost
public import Idealize.ShloMosaic.Lib.Pointwise

@[expose] public section

noncomputable section

namespace Cert.Proof.Rows

open Idealize.ShloMosaic

/-- One element of a row's product with a weight. -/
def lin {K N : Nat} (row : Fin K → EReal) (W : Fin K → Fin N → EReal) (n : Fin N) : EReal := ∑ k : Fin K, row k * W k n

/-- The mean of a row, its length given as the float it is divided by. -/
def mean {n : Nat} (len : EReal) (z : Fin n → EReal) : EReal := Ideal.div (∑ k : Fin n, z k) len

/-- The layer norm of a row, with its scale and shift. -/
def norm {n : Nat} (len : EReal) (z g b : Fin n → EReal) (l : Fin n) : EReal :=
  (z l - mean len z)
      * Ideal.rsqrt (Ideal.div (∑ k : Fin n, (z k - mean len z) * (z k - mean len z)) len + Ideal.ofBits .f32 0x3727C5AC#32)
      * g l + b l

/-- The squared rectifier of the first product, at one hidden column. -/
def hidden (row : Fin 1024 → EReal) (W1 : Fin 1024 → Fin 4096 → EReal) (f : Fin 4096) : EReal :=
  max (∑ k : Fin 1024, row k * W1 k f) 0 * max (∑ k : Fin 1024, row k * W1 k f) 0

/-- The second product, over all hidden columns. -/
def second (row : Fin 1024 → EReal) (W1 : Fin 1024 → Fin 4096 → EReal) (W2 : Fin 4096 → Fin 1024 → EReal) (l : Fin 1024) : EReal :=
  ∑ f : Fin 4096, hidden row W1 f * W2 f l

/-- The scaled row plus a block's output: what is normalised. -/
def resid (row h : Fin 1024 → EReal) (l : Fin 1024) : EReal := Ideal.ofBits .f32 0x3FD744FD#32 * row l + h l

/-- The MLP block's output for one row. -/
def mlp (row : Fin 1024 → EReal) (W1 : Fin 1024 → Fin 4096 → EReal) (W2 : Fin 4096 → Fin 1024 → EReal) (g b : Fin 1024 → EReal) :
    Fin 1024 → EReal :=
  norm (Ideal.ofBits .f32 0x44800000#32) (resid row (second row W1 W2)) g b

/-- A sum over the 4096 hidden columns is the sum of its four chunks of 1024. -/
theorem chunks (h : Fin 4096 → EReal) :
    ∑ f : Fin 4096, h f
      = ∑ f : Fin 1024, h ⟨f.val, by omega⟩ + ∑ f : Fin 1024, h ⟨1024 + f.val, by omega⟩
        + ∑ f : Fin 1024, h ⟨2048 + f.val, by omega⟩ + ∑ f : Fin 1024, h ⟨3072 + f.val, by omega⟩ := by
  have e : (4096 : Nat) = 1024 + 1024 + 1024 + 1024 := rfl
  rw [← (finCongr e).symm.sum_comp h, Fin.sum_univ_add, Fin.sum_univ_add, Fin.sum_univ_add]
  rfl

/-- Row `r` of an array with two leading axes taken as one, read in the array itself. -/
theorem flat {α : Type} {A B D N : Nat} (hN : N = A * B) (x : (⟨3, ![A, B, D]⟩ : Shape).Idx → α)
    (h : (⟨3, ![A, B, D]⟩ : Shape).ShapeCasts ⟨2, ![N, D]⟩) (r : Fin N) (l : Fin D) (a : Fin A) (b : Fin B)
    (e : r.val = a.val * B + b.val) :
    shapeCast ⟨2, ![N, D]⟩ x h (ix2 r l) = x (ix3 a b l) := by
  refine shapeCast_apply x h _ _ ?_
  rw [Shape.rowMajor_val_two, Shape.rowMajor_val_three]
  show (a.val * B + b.val) * D + l.val = r.val * D + l.val
  rw [e]

/-- Some columns cut out of an array with two leading axes, these taken as one: read in the array itself. -/
theorem flat_slice {α : Type} {A B D M N : Nat} (hN : N = A * B) (x : (⟨3, ![A, B, D]⟩ : Shape).Idx → α) (off : Nat)
    (hs : (⟨3, ![A, B, D]⟩ : Shape).Slices ![0, 0, off] ⟨3, ![A, B, M]⟩)
    (h : (⟨3, ![A, B, M]⟩ : Shape).ShapeCasts ⟨2, ![N, M]⟩) (ho : off + M ≤ D) (r : Fin N) (l : Fin M) (a : Fin A) (b : Fin B)
    (e : r.val = a.val * B + b.val) :
    shapeCast ⟨2, ![N, M]⟩ (extractStridedSlice ⟨3, ![A, B, M]⟩ ![0, 0, off] x hs) h (ix2 r l) = x (ix3 a b ⟨off + l.val, by omega⟩) := by
  refine (flat hN _ h r l a b e).trans (congrArg x (funext fun i => ?_))
  fin_cases i <;> simp [Fin.ext_iff]

/-- Row `n` of the prompt's 2 × 8192 token rows. -/
def prow (X : (⟨3, ![2, 8192, 1024]⟩ : Shape).Idx → EReal) (n : Fin 16384) : Fin 1024 → EReal :=
  fun k => X (ix3 ⟨n.val / 8192, by omega⟩ ⟨n.val % 8192, by omega⟩ k)

/-- Row `n` of the sample's 32 × 8 token rows. -/
def srow (X : (⟨3, ![32, 8, 1024]⟩ : Shape).Idx → EReal) (n : Fin 256) : Fin 1024 → EReal :=
  fun k => X (ix3 ⟨n.val / 8, by omega⟩ ⟨n.val % 8, by omega⟩ k)

/-- The prompt's rows, flattened. -/
theorem flat_prow {D : Nat} {α : Type} (X : (⟨3, ![2, 8192, D]⟩ : Shape).Idx → α) (h : (⟨3, ![2, 8192, D]⟩ : Shape).ShapeCasts ⟨2, ![16384, D]⟩)
    (n : Fin 16384) (k : Fin D) :
    shapeCast ⟨2, ![16384, D]⟩ X h (ix2 n k) = X (ix3 ⟨n.val / 8192, by omega⟩ ⟨n.val % 8192, by omega⟩ k) :=
  flat rfl X h n k _ _ (by show n.val = n.val / 8192 * 8192 + n.val % 8192; omega)

/-- The sample's rows, flattened. -/
theorem flat_srow {D : Nat} {α : Type} (X : (⟨3, ![32, 8, D]⟩ : Shape).Idx → α) (h : (⟨3, ![32, 8, D]⟩ : Shape).ShapeCasts ⟨2, ![256, D]⟩)
    (n : Fin 256) (k : Fin D) :
    shapeCast ⟨2, ![256, D]⟩ X h (ix2 n k) = X (ix3 ⟨n.val / 8, by omega⟩ ⟨n.val % 8, by omega⟩ k) :=
  flat rfl X h n k _ _ (by show n.val = n.val / 8 * 8 + n.val % 8; omega)

/-- The input projection's weight, from one of its columns on. -/
def cols {N : Nat} (W : (⟨2, ![1024, 3656]⟩ : Shape).Idx → EReal) (off : Nat) (h : off + N ≤ 3656) (k : Fin 1024) (n : Fin N) : EReal :=
  W (ix2 k ⟨off + n.val, by omega⟩)

/-- The weight's last 72 columns padded to whole lanes, read at one of the columns. -/
theorem pad_cols {N : Nat} {u : Shape} (W : (⟨2, ![1024, 3656]⟩ : Shape).Idx → EReal)
    (hs : (⟨2, ![1024, 3656]⟩ : Shape).Slices ![0, 3584] ⟨2, ![1024, 72]⟩) (v : u.Idx → EReal)
    (hp : (⟨2, ![1024, 72]⟩ : Shape).Pads ![0, 0] ![0, 56] ![0, 0] ⟨2, ![1024, 128]⟩) (hu : 0 < u.numel)
    (off : Nat) (ho : off + N ≤ 72) (k : Fin 1024) (n : Fin N) :
    pad ⟨2, ![1024, 128]⟩ ![0, 0] ![0, 56] ![0, 0] (extractStridedSlice ⟨2, ![1024, 72]⟩ ![0, 3584] W hs) v hp hu
        (ix2 k ⟨off + n.val, by omega⟩)
      = cols W (3584 + off) (by omega) k n := by
  refine (pad_apply_of_inside ![0, 0] ![0, 56] ![0, 0] _ v hp hu _ (ix2 k ⟨off + n.val, by omega⟩) ?_).trans ?_
  · intro a
    fin_cases a <;> simp
  · refine congrArg W (funext fun a => ?_)
    fin_cases a <;> simp [Fin.ext_iff]
    omega

/-- The queries of a row: its product with the first 1024 columns, scaled. -/
def query (row : Fin 1024 → EReal) (W : (⟨2, ![1024, 3656]⟩ : Shape).Idx → EReal) (n : Fin 1024) : EReal :=
  lin row (cols W 0 (by omega)) n * Ideal.ofBits .f32 0x3E0293EE#32

/-- The keys: the next 1024 columns. -/
def key (row : Fin 1024 → EReal) (W : (⟨2, ![1024, 3656]⟩ : Shape).Idx → EReal) : Fin 1024 → EReal := lin row (cols W 1024 (by omega))

/-- The values: the next 1024 columns. -/
def value (row : Fin 1024 → EReal) (W : (⟨2, ![1024, 3656]⟩ : Shape).Idx → EReal) : Fin 1024 → EReal := lin row (cols W 2048 (by omega))

/-- The indexer's queries: the next 512 columns. -/
def iquery (row : Fin 1024 → EReal) (W : (⟨2, ![1024, 3656]⟩ : Shape).Idx → EReal) : Fin 512 → EReal := lin row (cols W 3072 (by omega))

/-- The indexer's keys: the layer norm of the product with the next 64 columns. -/
def ikey (row : Fin 1024 → EReal) (W : (⟨2, ![1024, 3656]⟩ : Shape).Idx → EReal) (g b : (⟨1, ![64]⟩ : Shape).Idx → EReal) : Fin 64 → EReal :=
  norm (Ideal.ofBits .f32 0x42800000#32) (lin row (cols W 3584 (by omega))) (fun n => g (ix1 n)) (fun n => b (ix1 n))

/-- The indexer's head weights: the last 8 columns, scaled. -/
def weight (row : Fin 1024 → EReal) (W : (⟨2, ![1024, 3656]⟩ : Shape).Idx → EReal) (n : Fin 8) : EReal :=
  lin row (cols W 3648 (by omega)) n * Ideal.ofBits .f32 0x3EB504F3#32

/-- The offset that every whole read has. -/
theorem hz : (![0, 0] : Fin 2 → Nat) = fun _ => 0 := funext fun a => by fin_cases a <;> rfl

end Cert.Proof.Rows
-- ==== Proof.Mlp.lean ====
/- Hand-written: the layer's MLP block (two products around a squared rectifier, then the residual and the layer norm).
   The kernel takes the 4096 hidden columns in four chunks of 1024 and the rows in blocks of 512; the reference takes both
   products whole. At the extended reals a sum over the hidden columns is the sum of its four chunks, so each block that
   the kernel writes is the reference's block, and the blocks tile the result. -/
module

public import proofs.«01_k».proof.Proof.Gen.Kernel2Ideal.Value
public import proofs.«01_k».proof.Proof.Gen.Reference2Ideal.Run
public import proofs.«01_k».proof.Defs
public import proofs.«01_k».proof.Proof.Rows

@[expose] public section

noncomputable section

namespace Cert.Proof.Mlp

open Cert.Kernel2Ideal Cert.Kernel2Ideal.Gen Cert.Kernel2Ideal.Value Idealize.ShloMosaic Idealize.ShloMosaic.TcCoe Idealize.SL.Sem

/-- The body's input block, read whole, -/
theorem pay1 (x0 : Vec Ideal S512x1024 .f32) (r : Fin 512) (k : Fin 1024) : k0_pay1 x0 (ix2 r k) = x0 (ix2 r k) := by
  pointwise [k0_pay1]
/-- and rounded for the products, which at the extended reals is the same. -/
theorem pay2 (x0 : Vec Ideal S512x1024 .f32) (r : Fin 512) (k : Fin 1024) : k0_pay2 x0 (ix2 r k) = x0 (ix2 r k) := by
  pointwise [k0_pay1, k0_pay2]

set_option maxRecDepth 16384 in
/-- The four chunks of hidden columns together are the second product. -/
theorem sums (x0 : Vec Ideal S512x1024 .f32) (x1 : Vec Ideal S1024x4096 .bf16) (x2 : Vec Ideal S4096x1024 .bf16)
    (r : Fin 512) (l : Fin 1024) :
    k0_pay3 x0 (View.ld x1 r0_1) (View.ld x2 r0_2) (View.ld x1 r0_3) (View.ld x2 r0_4) (ix2 r l)
      + ∑ f : Fin 1024, k0_pay4 x0 (View.ld x1 r0_5) (ix2 r f) * k0_pay5 (View.ld x2 r0_6) (ix2 f l)
      + ∑ f : Fin 1024, max (∑ k : Fin 1024, x0 (ix2 r k) * View.ld x1 r0_7 (ix2 k f)) 0
          * max (∑ k : Fin 1024, x0 (ix2 r k) * View.ld x1 r0_7 (ix2 k f)) 0 * View.ld x2 r0_8 (ix2 f l)
      = Rows.second (fun k => x0 (ix2 r k)) (fun k f => x1 (ix2 k f)) (fun f n => x2 (ix2 f n)) l := by
  simp only [Rows.second, Rows.chunks, Rows.hidden]
  pointwise [k0_pay1, k0_pay2, k0_pay3, k0_pay4, k0_pay5]

set_option maxRecDepth 16384 in
/-- The body's last values: the last chunk, the residual and the layer norm. -/
theorem tail (x0 : FVec Ideal S512x1024 .f32) (x : FVec Ideal S512x1024 .bf16) (a : FVec Ideal S512x1024 .f32)
    (h : FVec Ideal S512x1024 .bf16) (w : FVec Ideal S1024x1024 .bf16) (u v : Vec Ideal S1024x1024 .bf16)
    (x3 x4 : Vec Ideal S1x1024 .f32) (r : Fin 512) (l : Fin 1024) :
    k0_pay6 x0 x a h w (constant S512x1024 .f32 0x00000000#32) u v x3 x4 (ix2 r l) = Rows.norm (Ideal.ofBits .f32 0x44800000#32)
      (Rows.resid (fun k => x0 (ix2 r k)) fun l => a (ix2 r l) + ∑ f : Fin 1024, h (ix2 r f) * w (ix2 f l)
        + ∑ f : Fin 1024, max (∑ k : Fin 1024, x (ix2 r k) * u (ix2 k f)) 0 * max (∑ k : Fin 1024, x (ix2 r k) * u (ix2 k f)) 0
            * v (ix2 f l))
      (fun n => x3 (ix2 0 n)) (fun n => x4 (ix2 0 n)) l := by
  simp only [Rows.norm, Rows.mean, Rows.resid]
  pointwise [k0_pay6]

/-- The block that the body stores is the row's mathematics. -/
theorem block (x0 : Vec Ideal S512x1024 .f32) (x1 : Vec Ideal S1024x4096 .bf16) (x2 : Vec Ideal S4096x1024 .bf16)
    (x3 x4 : Vec Ideal S1x1024 .f32) (r : Fin 512) (l : Fin 1024) :
    out0_5 x0 x1 x2 x3 x4 (ix2 r l) = Rows.mlp (fun k => x0 (ix2 r k)) (fun k f => x1 (ix2 k f)) (fun f n => x2 (ix2 f n))
      (fun n => x3 (ix2 0 n)) (fun n => x4 (ix2 0 n)) l := by
  have e0 : View.ld x0 r0_0 = x0 := View.ld_unit_zero Rows.hz _ _
  have e3 : View.ld x3 r0_9 = x3 := View.ld_unit_zero Rows.hz _ _
  have e4 : View.ld x4 r0_9 = x4 := View.ld_unit_zero Rows.hz _ _
  unfold out0_5
  rw [View.canon_unit_zero Rows.hz, e0, e3, e4, tail]
  simp only [pay1, pay2]
  exact congrArg (fun z => Rows.norm _ (Rows.resid _ z) _ _ l) (funext (sums x0 x1 x2 r))

/-- The result array as one function of the arguments. -/
def G (X : Vec Ideal S2x8192x1024 .f32) (W1 : Vec Ideal S1024x4096 .f32) (W2 : Vec Ideal S4096x1024 .f32)
    (g b : Vec Ideal S1024 .f32) : Vec Ideal S16384x1024 .f32 :=
  fun i => Rows.mlp (Rows.prow X (i 0)) (fun k f => W1 (ix2 k f)) (fun f n => W2 (ix2 f n)) (fun n => g (ix1 n)) (fun n => b (ix1 n)) (i 1)

set_option maxRecDepth 16384 in
/-- The reference's result at one element is the row's mathematics. -/
theorem ref_eq (m' : (ℓ : Loc Cert.Reference2Ideal.nD Cert.Reference2Ideal.τ Cert.Reference2Ideal.sig) → Buf (Elt Ideal) ℓ)
    (c : Dev Cert.Reference2Ideal.nD) (r : Fin 16384) (l : Fin 1024) :
    Cert.Reference2Ideal.Value.res_out0 m' c (ix2 r l)
      = G (m' ((c.tc : Thread Cert.Reference2Ideal.nD Cert.Reference2Ideal.τ).loc Cert.Reference2Ideal.main_arg0))
            (m' ((c.tc : Thread Cert.Reference2Ideal.nD Cert.Reference2Ideal.τ).loc Cert.Reference2Ideal.main_arg1))
            (m' ((c.tc : Thread Cert.Reference2Ideal.nD Cert.Reference2Ideal.τ).loc Cert.Reference2Ideal.main_arg2))
          (m' ((c.tc : Thread Cert.Reference2Ideal.nD Cert.Reference2Ideal.τ).loc Cert.Reference2Ideal.main_arg3))
          (m' ((c.tc : Thread Cert.Reference2Ideal.nD Cert.Reference2Ideal.τ).loc Cert.Reference2Ideal.main_arg4)) (ix2 r l) := by
  unfold Cert.Reference2Ideal.Value.res_out0 Cert.Reference2Ideal.Value.res_main_v32
  generalize m' ((c.tc : Thread Cert.Reference2Ideal.nD Cert.Reference2Ideal.τ).loc Cert.Reference2Ideal.main_arg0) = X
  generalize m' ((c.tc : Thread Cert.Reference2Ideal.nD Cert.Reference2Ideal.τ).loc Cert.Reference2Ideal.main_arg1) = W1
  generalize m' ((c.tc : Thread Cert.Reference2Ideal.nD Cert.Reference2Ideal.τ).loc Cert.Reference2Ideal.main_arg2) = W2
  generalize m' ((c.tc : Thread Cert.Reference2Ideal.nD Cert.Reference2Ideal.τ).loc Cert.Reference2Ideal.main_arg3) = g
  generalize m' ((c.tc : Thread Cert.Reference2Ideal.nD Cert.Reference2Ideal.τ).loc Cert.Reference2Ideal.main_arg4) = b
  refine (Rows.flat_prow _ _ r l).trans ?_
  simp only [G, Rows.prow, Rows.mlp, Rows.norm, Rows.mean, Rows.resid, Rows.second, Rows.hidden]
  pointwise []

/-! ## From blocks to the whole result -/

variable (m : (ℓ : Loc nD τ sig) → Buf (Elt Ideal) ℓ) (ρ : Dev nD → PrngReg)

/-! ## What the host prepares -/

/-- The token rows, flattened, -/
theorem V_x (c : Dev nD) : V m c main_v0 = shapeCast _ (m ((c : Thread nD τ).loc main_arg0)) shapeCasts_S2x8192x1024_S16384x1024 := rfl
/-- the first weight rounded, which at the extended reals is the weight, -/
theorem V_w1 (c : Dev nD) : V m c main_v1 = m ((c : Thread nD τ).loc main_arg1) := rfl
/-- so the second's, -/
theorem V_w2 (c : Dev nD) : V m c main_v2 = m ((c : Thread nD τ).loc main_arg2) := rfl
/-- the scale as a row, -/
theorem V_g (c : Dev nD) (n : Fin 1024) : V m c main_v3 (ix2 0 n : S1x1024.Idx) = m ((c : Thread nD τ).loc main_arg3) (ix1 n : S1024.Idx) := by
  have e : V m c main_v3 = broadcastInDim S1x1024 ![1] bcast_S1024_S1x1024_1 (m ((c : Thread nD τ).loc main_arg3)) := by
    rfl
  rw [e]; pointwise []
/-- and the shift as a row. -/
theorem V_b (c : Dev nD) (n : Fin 1024) : V m c main_v4 (ix2 0 n : S1x1024.Idx) = m ((c : Thread nD τ).loc main_arg4) (ix1 n : S1024.Idx) := by
  have e : V m c main_v4 = broadcastInDim S1x1024 ![1] bcast_S1024_S1x1024_1 (m ((c : Thread nD τ).loc main_arg4)) := by
    rfl
  rw [e]; pointwise []

/-- The block index of each window at point `t`: the row block moves with the point, the weights stay. -/
theorem idx0 : ∀ t : Fin cfg0.N, win0_0.index t (0 : Fin 2) = t.val ∧ win0_0.index t (1 : Fin 2) = 0 :=
  (by decide +kernel : ∀ t : Fin grid0.N, _)
/-- The first weight is one block, -/
theorem idx1 : ∀ t : Fin cfg0.N, win0_1.index t (0 : Fin 2) = 0 ∧ win0_1.index t (1 : Fin 2) = 0 :=
  (by decide +kernel : ∀ t : Fin grid0.N, _)
/-- so is the second, -/
theorem idx2 : ∀ t : Fin cfg0.N, win0_2.index t (0 : Fin 2) = 0 ∧ win0_2.index t (1 : Fin 2) = 0 :=
  (by decide +kernel : ∀ t : Fin grid0.N, _)
/-- the scale, -/
theorem idx3 : ∀ t : Fin cfg0.N, win0_3.index t (0 : Fin 2) = 0 ∧ win0_3.index t (1 : Fin 2) = 0 :=
  (by decide +kernel : ∀ t : Fin grid0.N, _)
/-- and the shift. -/
theorem idx4 : ∀ t : Fin cfg0.N, win0_4.index t (0 : Fin 2) = 0 ∧ win0_4.index t (1 : Fin 2) = 0 :=
  (by decide +kernel : ∀ t : Fin grid0.N, _)
/-- The result goes out in row blocks. -/
theorem idx5 : ∀ t : Fin cfg0.N, win0_5.index t (0 : Fin 2) = t.val ∧ win0_5.index t (1 : Fin 2) = 0 :=
  (by decide +kernel : ∀ t : Fin grid0.N, _)

/-- Row `r` of block `t` is row `512 t + r` of the array. -/
def rowOf (t : Fin cfg0.N) (r : Fin 512) : Fin 16384 :=
  ⟨t.val * 512 + r.val, by have h : t.val < 32 := t.isLt; omega⟩

/-- Row `r` of the input's block is its own row in the whole. -/
theorem emb0 (t : Fin cfg0.N) (r : Fin 512) (l : Fin 1024) :
    ((cfg0.win 0).blk t).view.emb (ix2 r l : S512x1024.Idx) = (ix2 (rowOf t r) l : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * l.val = l.val; omega

/-- Row `r` of the result's block is its own row in the whole. -/
theorem emb5 (t : Fin cfg0.N) (r : Fin 512) (l : Fin 1024) :
    ((cfg0.win 5).blk t).view.emb (ix2 r l : S512x1024.Idx) = (ix2 (rowOf t r) l : S16384x1024.Idx) := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 1024 + 1 * l.val = l.val; omega

/-- The first weight's block is the whole weight, -/
theorem iblk1_eq (c : Dev nD) (t : Fin cfg0.N) : iblk m c 1 t = V m c main_v1 := by
  obtain ⟨e0, e1⟩ := idx1 t
  funext j; show V m c main_v1 (((cfg0.win 1).blk t).view.emb j) = V m c main_v1 j
  congr 1; funext a; apply Fin.ext
  match a with
  | ⟨0, _⟩ => show win0_1.index t (0 : Fin 2) * 1024 + 1 * (j 0).val = (j 0).val; omega
  | ⟨1, _⟩ => show win0_1.index t (1 : Fin 2) * 4096 + 1 * (j 1).val = (j 1).val; omega

/-- so is the second's, -/
theorem iblk2_eq (c : Dev nD) (t : Fin cfg0.N) : iblk m c 2 t = V m c main_v2 := by
  obtain ⟨e0, e1⟩ := idx2 t
  funext j; show V m c main_v2 (((cfg0.win 2).blk t).view.emb j) = V m c main_v2 j
  congr 1; funext a; apply Fin.ext
  match a with
  | ⟨0, _⟩ => show win0_2.index t (0 : Fin 2) * 4096 + 1 * (j 0).val = (j 0).val; omega
  | ⟨1, _⟩ => show win0_2.index t (1 : Fin 2) * 1024 + 1 * (j 1).val = (j 1).val; omega

/-- the scale's, -/
theorem iblk3_eq (c : Dev nD) (t : Fin cfg0.N) : iblk m c 3 t = V m c main_v3 := by
  obtain ⟨e0, e1⟩ := idx3 t
  funext j; show V m c main_v3 (((cfg0.win 3).blk t).view.emb j) = V m c main_v3 j
  congr 1; funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega

/-- and the shift's. -/
theorem iblk4_eq (c : Dev nD) (t : Fin cfg0.N) : iblk m c 4 t = V m c main_v4 := by
  obtain ⟨e0, e1⟩ := idx4 t
  funext j; show V m c main_v4 (((cfg0.win 4).blk t).view.emb j) = V m c main_v4 j
  congr 1; funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- The input's block, read at one element. -/
theorem iblk0_apply (c : Dev nD) (t : Fin cfg0.N) (r : Fin 512) (l : Fin 1024) :
    iblk m c 0 t (ix2 r l : S512x1024.Idx) = V m c main_v0 (ix2 (rowOf t r) l : S16384x1024.Idx) := by
  show V m c main_v0 (((cfg0.win 0).blk t).view.emb (ix2 r l : S512x1024.Idx)) = _
  rw [emb0]

/-- What point `t` writes back is its block of `G` of the arguments. -/
theorem flushed5_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed5, iblk1_eq, iblk2_eq, iblk3_eq, iblk4_eq]
  refine funext fun (j : S512x1024.Idx) => ?_
  obtain ⟨r, l, rfl⟩ : ∃ (r : Fin 512) (l : Fin 1024), j = ix2 r l := ⟨j 0, j 1, eq_ix2 j⟩
  show out0_5 (iblk m c 0 t) (V m c main_v1) (V m c main_v2) (V m c main_v3) (V m c main_v4) (ix2 r l : S512x1024.Idx)
    = G (m ((c : Thread nD τ).loc main_arg0)) (m ((c : Thread nD τ).loc main_arg1)) (m ((c : Thread nD τ).loc main_arg2))
        (m ((c : Thread nD τ).loc main_arg3)) (m ((c : Thread nD τ).loc main_arg4))
        (((cfg0.win 5).blk t).view.emb (ix2 r l : S512x1024.Idx))
  rw [emb5, block]
  have ex : (fun k => iblk m c 0 t (ix2 r k : S512x1024.Idx)) = Rows.prow (m ((c : Thread nD τ).loc main_arg0)) (rowOf t r) :=
    funext fun k => (iblk0_apply m c t r k).trans (Rows.flat_prow _ _ _ k)
  rw [ex, funext (V_g m c), funext (V_b m c)]
  rfl

/-- Every element of the result lies in the block of its row's point. -/
theorem covered5 (i : S16384x1024.Idx) :
    ∃ t : Fin cfg0.N, (cfg0.win 5).flush t = true ∧ i ∈ ((cfg0.win 5).blk t).view.set := by
  obtain ⟨r, l, rfl⟩ : ∃ (r : Fin 16384) (l : Fin 1024), i = ix2 r l := ⟨i 0, i 1, eq_ix2 i⟩
  refine ⟨(⟨r.val / 512, by have := r.isLt; show r.val / 512 < 32; omega⟩ : Fin cfg0.N), flush0_5 _, ?_⟩
  have h := ((cfg0.win 5).blk (⟨r.val / 512, by have := r.isLt; show r.val / 512 < 32; omega⟩ : Fin cfg0.N)).view.emb_mem_set
    (ix2 (⟨r.val % 512, Nat.mod_lt _ (by decide)⟩ : Fin 512) l : S512x1024.Idx)
  rw [emb5] at h
  have e : rowOf (⟨r.val / 512, by have := r.isLt; show r.val / 512 < 32; omega⟩ : Fin cfg0.N) ⟨r.val % 512, Nat.mod_lt _ (by decide)⟩ = r :=
    Fin.ext (by show r.val / 512 * 512 + r.val % 512 = r.val; omega)
  rwa [e] at h

/-- The result array after the run. -/
theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed5_eq m c t) covered5

/-- The MLP block's kernel computes what its reference computes, at the extended reals. -/
theorem algebraic : Cert.algebraic_Kernel2Ideal_Reference2Ideal := by
  intro m g m' g' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run defs _ _).mono (fun _ h c => ⟨(h c).1.trans (final5 m c), (h c).2⟩) (run_blocks m g)
  · refine (θ_run Cert.Reference2Ideal.defs _ _).mono (fun _ h c => ⟨(h c).1.trans ?_, (h c).2⟩)
      (Cert.Reference2Ideal.Value.run m' g')
    obtain ⟨h0, h1, h2, h3, h4⟩ := hagree c
    refine funext fun (i : S16384x1024.Idx) => ?_
    obtain ⟨r, l, rfl⟩ : ∃ (r : Fin 16384) (l : Fin 1024), i = ix2 r l := ⟨i 0, i 1, eq_ix2 i⟩
    refine (ref_eq m' c r l).trans ?_
    rw [h0, h1, h2, h3, h4]

end Cert.Proof.Mlp
-- ==== Proof.MlpSample.lean ====
/- Hand-written: the MLP block on the sample's 256 token rows: one block, the weights and the mathematics as on the
   prompt's rows. -/
module

public import proofs.«01_k».proof.Proof.Gen.Kernel3Ideal.Value
public import proofs.«01_k».proof.Proof.Gen.Reference3Ideal.Run
public import proofs.«01_k».proof.Defs
public import proofs.«01_k».proof.Proof.Rows
public import Idealize.ShloMosaic.Lib.Pipeline.ValueKit

@[expose] public section

noncomputable section

namespace Cert.Proof.MlpSample

open Cert.Kernel3Ideal Cert.Kernel3Ideal.Gen Cert.Kernel3Ideal.Value Idealize.ShloMosaic Idealize.ShloMosaic.TcCoe Idealize.SL.Sem

/-- The body's input block, read whole, -/
theorem pay1 (x0 : Vec Ideal S256x1024 .f32) (r : Fin 256) (k : Fin 1024) : k0_pay1 x0 (ix2 r k) = x0 (ix2 r k) := by
  pointwise [k0_pay1]
/-- and rounded for the products, which at the extended reals is the same. -/
theorem pay2 (x0 : Vec Ideal S256x1024 .f32) (r : Fin 256) (k : Fin 1024) : k0_pay2 x0 (ix2 r k) = x0 (ix2 r k) := by
  pointwise [k0_pay1, k0_pay2]

set_option maxRecDepth 16384 in
/-- The four chunks of hidden columns together are the second product. -/
theorem sums (x0 : Vec Ideal S256x1024 .f32) (x1 : Vec Ideal S1024x4096 .bf16) (x2 : Vec Ideal S4096x1024 .bf16)
    (r : Fin 256) (l : Fin 1024) :
    k0_pay3 x0 (View.ld x1 r0_1) (View.ld x2 r0_2) (View.ld x1 r0_3) (View.ld x2 r0_4) (ix2 r l)
      + ∑ f : Fin 1024, k0_pay4 x0 (View.ld x1 r0_5) (ix2 r f) * k0_pay5 (View.ld x2 r0_6) (ix2 f l)
      + ∑ f : Fin 1024, max (∑ k : Fin 1024, x0 (ix2 r k) * View.ld x1 r0_7 (ix2 k f)) 0
          * max (∑ k : Fin 1024, x0 (ix2 r k) * View.ld x1 r0_7 (ix2 k f)) 0 * View.ld x2 r0_8 (ix2 f l)
      = Rows.second (fun k => x0 (ix2 r k)) (fun k f => x1 (ix2 k f)) (fun f n => x2 (ix2 f n)) l := by
  simp only [Rows.second, Rows.chunks, Rows.hidden]
  pointwise [k0_pay1, k0_pay2, k0_pay3, k0_pay4, k0_pay5]

set_option maxRecDepth 16384 in
/-- The body's last values: the last chunk, the residual and the layer norm. -/
theorem tail (x0 : FVec Ideal S256x1024 .f32) (x : FVec Ideal S256x1024 .bf16) (a : FVec Ideal S256x1024 .f32)
    (h : FVec Ideal S256x1024 .bf16) (w : FVec Ideal S1024x1024 .bf16) (u v : Vec Ideal S1024x1024 .bf16)
    (x3 x4 : Vec Ideal S1x1024 .f32) (r : Fin 256) (l : Fin 1024) :
    k0_pay6 x0 x a h w (constant S256x1024 .f32 0x00000000#32) u v x3 x4 (ix2 r l) = Rows.norm (Ideal.ofBits .f32 0x44800000#32)
      (Rows.resid (fun k => x0 (ix2 r k)) fun l => a (ix2 r l) + ∑ f : Fin 1024, h (ix2 r f) * w (ix2 f l)
        + ∑ f : Fin 1024, max (∑ k : Fin 1024, x (ix2 r k) * u (ix2 k f)) 0 * max (∑ k : Fin 1024, x (ix2 r k) * u (ix2 k f)) 0
            * v (ix2 f l))
      (fun n => x3 (ix2 0 n)) (fun n => x4 (ix2 0 n)) l := by
  simp only [Rows.norm, Rows.mean, Rows.resid]
  pointwise [k0_pay6]

/-- The block that the body stores is the row's mathematics. -/
theorem block (x0 : Vec Ideal S256x1024 .f32) (x1 : Vec Ideal S1024x4096 .bf16) (x2 : Vec Ideal S4096x1024 .bf16)
    (x3 x4 : Vec Ideal S1x1024 .f32) (r : Fin 256) (l : Fin 1024) :
    out0_5 x0 x1 x2 x3 x4 (ix2 r l) = Rows.mlp (fun k => x0 (ix2 r k)) (fun k f => x1 (ix2 k f)) (fun f n => x2 (ix2 f n))
      (fun n => x3 (ix2 0 n)) (fun n => x4 (ix2 0 n)) l := by
  have e0 : View.ld x0 r0_0 = x0 := View.ld_unit_zero Rows.hz _ _
  have e3 : View.ld x3 r0_9 = x3 := View.ld_unit_zero Rows.hz _ _
  have e4 : View.ld x4 r0_9 = x4 := View.ld_unit_zero Rows.hz _ _
  unfold out0_5
  rw [View.canon_unit_zero Rows.hz, e0, e3, e4, tail]
  simp only [pay1, pay2]
  exact congrArg (fun z => Rows.norm _ (Rows.resid _ z) _ _ l) (funext (sums x0 x1 x2 r))

/-- The result array as one function of the arguments. -/
def G (X : Vec Ideal S32x8x1024 .f32) (W1 : Vec Ideal S1024x4096 .f32) (W2 : Vec Ideal S4096x1024 .f32)
    (g b : Vec Ideal S1024 .f32) : Vec Ideal S256x1024 .f32 :=
  fun i => Rows.mlp (Rows.srow X (i 0)) (fun k f => W1 (ix2 k f)) (fun f n => W2 (ix2 f n)) (fun n => g (ix1 n)) (fun n => b (ix1 n)) (i 1)

set_option maxRecDepth 16384 in
/-- The reference's result at one element is the row's mathematics. -/
theorem ref_eq (m' : (ℓ : Loc Cert.Reference3Ideal.nD Cert.Reference3Ideal.τ Cert.Reference3Ideal.sig) → Buf (Elt Ideal) ℓ)
    (c : Dev Cert.Reference3Ideal.nD) (r : Fin 256) (l : Fin 1024) :
    Cert.Reference3Ideal.Value.res_out0 m' c (ix2 r l)
      = G (m' ((c.tc : Thread Cert.Reference3Ideal.nD Cert.Reference3Ideal.τ).loc Cert.Reference3Ideal.main_arg0))
            (m' ((c.tc : Thread Cert.Reference3Ideal.nD Cert.Reference3Ideal.τ).loc Cert.Reference3Ideal.main_arg1))
            (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4)) (ix2 r l) := by
  unfold Cert.Reference3Ideal.Value.res_out0 Cert.Reference3Ideal.Value.res_main_v32
  generalize m' ((c.tc : Thread Cert.Reference3Ideal.nD Cert.Reference3Ideal.τ).loc Cert.Reference3Ideal.main_arg0) = X
  generalize m' ((c.tc : Thread Cert.Reference3Ideal.nD Cert.Reference3Ideal.τ).loc Cert.Reference3Ideal.main_arg1) = W1
  generalize m' ((c.tc : Thread Cert.Reference3Ideal.nD Cert.Reference3Ideal.τ).loc Cert.Reference3Ideal.main_arg2) = W2
  generalize m' ((c.tc : Thread Cert.Reference3Ideal.nD Cert.Reference3Ideal.τ).loc Cert.Reference3Ideal.main_arg3) = g
  generalize m' ((c.tc : Thread Cert.Reference3Ideal.nD Cert.Reference3Ideal.τ).loc Cert.Reference3Ideal.main_arg4) = b
  refine (Rows.flat_srow _ _ r l).trans ?_
  simp only [G, Rows.srow, Rows.mlp, Rows.norm, Rows.mean, Rows.resid, Rows.second, Rows.hidden]
  pointwise []

variable (m : (ℓ : Loc nD τ sig) → Buf (Elt Ideal) ℓ) (ρ : Dev nD → PrngReg)

/-- The one point takes each operand whole: the rows, -/
theorem in0 (c : Dev nD) (t : Fin cfg0.N) (r : Fin 256) :
    (fun k : Fin 1024 => iblk m c 0 t (ix2 r k : S256x1024.Idx)) = Rows.srow (m ((c : Thread nD τ).loc main_arg0)) r := by
  have e : win0_0.index t = ![0, 0] := (by decide +kernel : ∀ t : Fin grid0.N, win0_0.index t = ![0, 0]) t
  have h : V m c main_v0 = shapeCast S256x1024 (m ((c : Thread nD τ).loc main_arg0)) shapeCasts_S32x8x1024_S256x1024 := rfl
  have hi : iblk m c 0 t = V m c main_v0 := by blk_ext! [iblk, e]
  funext k
  rw [hi, h]
  exact Rows.flat_srow _ _ r k
/-- the first weight, -/
theorem in1 (c : Dev nD) (t : Fin cfg0.N) : iblk m c 1 t = m ((c : Thread nD τ).loc main_arg1) := by
  have e : win0_1.index t = ![0, 0] := (by decide +kernel : ∀ t : Fin grid0.N, win0_1.index t = ![0, 0]) t
  blk_ext! [iblk, V, e]
/-- the second, -/
theorem in2 (c : Dev nD) (t : Fin cfg0.N) : iblk m c 2 t = m ((c : Thread nD τ).loc main_arg2) := by
  have e : win0_2.index t = ![0, 0] := (by decide +kernel : ∀ t : Fin grid0.N, win0_2.index t = ![0, 0]) t
  blk_ext! [iblk, V, e]
/-- the scale, -/
theorem in3 (c : Dev nD) (t : Fin cfg0.N) (n : Fin 1024) :
    iblk m c 3 t (ix2 0 n : S1x1024.Idx) = m ((c : Thread nD τ).loc main_arg3) (ix1 n : S1024.Idx) := by
  have e : win0_3.index t = ![0, 0] := (by decide +kernel : ∀ t : Fin grid0.N, win0_3.index t = ![0, 0]) t
  blk_ext! [iblk, V, e]
/-- and the shift. -/
theorem in4 (c : Dev nD) (t : Fin cfg0.N) (n : Fin 1024) :
    iblk m c 4 t (ix2 0 n : S1x1024.Idx) = m ((c : Thread nD τ).loc main_arg4) (ix1 n : S1024.Idx) := by
  have e : win0_4.index t = ![0, 0] := (by decide +kernel : ∀ t : Fin grid0.N, win0_4.index t = ![0, 0]) t
  blk_ext! [iblk, V, e]

/-- The result array after the run. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have e : win0_5.index t = ![0, 0] := (by decide +kernel : ∀ t : Fin grid0.N, win0_5.index t = ![0, 0]) t
  blk_simp
  rw [after0_5]
  obtain ⟨r, l, rfl⟩ : ∃ (r : Fin 256) (l : Fin 1024), y = (ix2 r l : S256x1024.Idx) := ⟨y 0, y 1, eq_ix2 y⟩
  have ey : (win0_5.blk t).view.emb (ix2 r l : S256x1024.Idx) = (ix2 r l : S256x1024.Idx) := by blk_ext [e]
  rw [ey]
  refine (block _ _ _ _ _ r l).trans ?_
  rw [in0, in1, in2, funext (in3 m c t), funext (in4 m c t)]
  rfl

/-- The MLP block's kernel on the sample's rows computes what its reference computes, at the extended reals. -/
theorem algebraic : Cert.algebraic_Kernel3Ideal_Reference3Ideal := by
  intro m g m' g' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run defs _ _).mono (fun _ h c => ⟨(h c).1.trans (final m c), (h c).2⟩) (run_blocks m g)
  · refine (θ_run Cert.Reference3Ideal.defs _ _).mono (fun _ h c => ⟨(h c).1.trans ?_, (h c).2⟩)
      (Cert.Reference3Ideal.Value.run m' g')
    obtain ⟨h0, h1, h2, h3, h4⟩ := hagree c
    refine funext fun (i : S256x1024.Idx) => ?_
    obtain ⟨r, l, rfl⟩ : ∃ (r : Fin 256) (l : Fin 1024), i = ix2 r l := ⟨i 0, i 1, eq_ix2 i⟩
    refine (ref_eq m' c r l).trans ?_
    rw [h0, h1, h2, h3, h4]

end Cert.Proof.MlpSample
-- ==== Proof.ProjPrompt.lean ====
/- Hand-written: the attention's input projections of the prompt's token rows: row blocks of 512, eight arrays out of one
   kernel, some of them transposed and two of them one layer's part of a larger array, each the same row mathematics as the
   reference's. -/
module

public import proofs.«01_k».proof.Proof.Gen.Kernel4Ideal.Value
public import proofs.«01_k».proof.Proof.Gen.Reference4Ideal.Run
public import proofs.«01_k».proof.Defs
public import proofs.«01_k».proof.Proof.Rows
public import Idealize.ShloMosaic.Lib.Pipeline.ValueKit

@[expose] public section

noncomputable section

namespace Cert.Proof.ProjPrompt

open Cert.Kernel4Ideal Cert.Kernel4Ideal.Gen Cert.Kernel4Ideal.Value Idealize.ShloMosaic Idealize.ShloMosaic.TcCoe Idealize.SL.Sem

/-- A column's product with a row: the two factors of every term exchanged. -/
theorem lin_comm {K N : Nat} (row : Fin K → EReal) (W : Fin K → Fin N → EReal) (n : Fin N) :
    ∑ k : Fin K, W k n * row k = Rows.lin row W n :=
  Finset.sum_congr rfl fun k _ => mul_comm (W k n) (row k)

section
variable (x0 : Vec Ideal S512x1024 .f32) (x1 : Vec Ideal S1024x1024 .bf16) (x5 : Vec Ideal S512x1024 .bf16)
  (x6 : Vec Ideal S1024x128 .bf16) (x7 : Vec Ideal S128x1024 .bf16) (x8 x9 : Vec Ideal S1x64 .f32) (r : Fin 512)

/-- The block of queries, transposed, -/
theorem block10 (l : Fin 1024) : k0_pay3 x0 x1 (ix2 l r)
    = Rows.lin (fun k => x0 (ix2 r k)) (fun k (n : Fin 1024) => x1 (ix2 n k)) l * Ideal.ofBits .f32 0x3E0293EE#32 := by
  rw [← lin_comm]
  pointwise [k0_pay3, k0_pay2]
/-- of keys, in the layer's part, -/
theorem block11 (l : Fin 1024) : k0_pay5 x0 x1 (ix3 0 r l)
    = Rows.lin (fun k => x0 (ix2 r k)) (fun k (n : Fin 1024) => x1 (ix2 k n)) l := by
  simp only [Rows.lin]
  pointwise [k0_pay5, k0_pay4, k0_pay2]
/-- of values, in the layer's part, -/
theorem block12 (l : Fin 1024) : k0_pay7 x0 x1 (ix3 0 r l)
    = Rows.lin (fun k => x0 (ix2 r k)) (fun k (n : Fin 1024) => x1 (ix2 k n)) l := by
  simp only [Rows.lin]
  pointwise [k0_pay7, k0_pay2]
/-- of the keys' copies, -/
theorem block13 (l : Fin 1024) : k0_pay6 x0 x1 (ix2 r l)
    = Rows.lin (fun k => x0 (ix2 r k)) (fun k (n : Fin 1024) => x1 (ix2 k n)) l := by
  simp only [Rows.lin]
  pointwise [k0_pay6, k0_pay4, k0_pay2]
/-- of the values' copies, transposed, -/
theorem block14 (l : Fin 1024) : k0_pay8 x0 x1 (ix2 l r)
    = Rows.lin (fun k => x0 (ix2 r k)) (fun k (n : Fin 1024) => x1 (ix2 n k)) l := by
  rw [← lin_comm]
  pointwise [k0_pay8, k0_pay2]
/-- of the indexer's queries, transposed, -/
theorem block15 (l : Fin 512) : k0_pay9 (k0_pay2 x0) x5 (ix2 l r)
    = Rows.lin (fun k => x0 (ix2 r k)) (fun k (n : Fin 512) => x5 (ix2 n k)) l := by
  rw [← lin_comm]
  pointwise [k0_pay9, k0_pay2]
set_option maxRecDepth 16384 in
/-- of the indexer's keys, -/
theorem block16 (d : Fin 64) : k0_pay10 (k0_pay2 x0) x6 x8 x9 (ix2 r d)
    = Rows.norm (Ideal.ofBits .f32 0x42800000#32)
        (Rows.lin (fun k => x0 (ix2 r k)) (fun k (n : Fin 64) => x6 (ix2 k ⟨0 + n.val, by omega⟩)))
        (fun n => x8 (ix2 0 n)) (fun n => x9 (ix2 0 n)) d := by
  simp only [Rows.norm, Rows.mean, Rows.lin]
  pointwise [k0_pay10, k0_pay2]
/-- and of the indexer's head weights, transposed. -/
theorem block17 (h : Fin 8) : k0_pay1 (k0_pay2 x0) x7 (ix2 h r)
    = Rows.lin (fun k => x0 (ix2 r k)) (fun k (n : Fin 8) => x7 (ix2 ⟨64 + n.val, by omega⟩ k)) h * Ideal.ofBits .f32 0x3EB504F3#32 := by
  rw [← lin_comm]
  pointwise [k0_pay1, k0_pay2]
end

variable (m : (ℓ : Loc nD τ sig) → Buf (Elt Ideal) ℓ) (ρ : Dev nD → PrngReg)

/-- Row `r` of block `t` is row `512 t + r` of the array. -/
def rowOf (t : Fin cfg0.N) (r : Fin 512) : Fin 16384 :=
  ⟨t.val * 512 + r.val, by have h : t.val < 32 := t.isLt; omega⟩

/-- A point takes its 512 token rows, -/
theorem in0 (c : Dev nD) (t : Fin cfg0.N) (r : Fin 512) :
    (fun k : Fin 1024 => iblk m c 0 t (ix2 r k : S512x1024.Idx)) = Rows.prow (m ((c : Thread nD τ).loc main_arg0)) (rowOf t r) := by
  have e : win0_0.index t = ![t.val, 0] := (by decide +kernel : ∀ t : Fin grid0.N, win0_0.index t = ![t.val, 0]) t
  have h : V m c main_v0 = shapeCast S16384x1024 (m ((c : Thread nD τ).loc main_arg0)) shapeCasts_S2x8192x1024_S16384x1024 := rfl
  funext k
  have hi : iblk m c 0 t (ix2 r k : S512x1024.Idx) = V m c main_v0 (ix2 (rowOf t r) k : S16384x1024.Idx) := by
    blk_ext [iblk, e, rowOf]
  rw [hi, h]
  exact Rows.flat_prow _ _ _ k
/-- the weight's columns for the queries, transposed, -/
theorem in1 (c : Dev nD) (t : Fin cfg0.N) :
    (fun (k : Fin 1024) (n : Fin 1024) => iblk m c 1 t (ix2 n k : S1024x1024.Idx))
      = Rows.cols (m ((c : Thread nD τ).loc main_arg1)) 0 (by omega) := by
  have e : win0_1.index t = ![0, 0] := (by decide +kernel : ∀ t : Fin grid0.N, win0_1.index t = ![0, 0]) t
  have h : V m c main_v10 = truncf (F := Ideal) .bf16 (transpose S1024x1024 [1, 0]
      (extractStridedSlice S1024x1024 ![0, 0] (m ((c : Thread nD τ).loc main_arg1)) slices_S1024x3656_S1024x1024_0_0)
      transposes_S1024x1024_S1024x1024_1_0) bitsLt_bf16_f32 := rfl
  funext k n
  have hi : iblk m c 1 t (ix2 n k : S1024x1024.Idx) = V m c main_v10 (ix2 n k : S1024x1024.Idx) := by
    blk_ext [iblk, e]
  rw [hi, h]
  refine congrArg (m ((c : Thread nD τ).loc main_arg1)) (funext fun a => ?_)
  fin_cases a <;> simp [Fin.ext_iff]
  all_goals rfl
/-- for the keys, -/
theorem in2 (c : Dev nD) (t : Fin cfg0.N) :
    (fun (k : Fin 1024) (n : Fin 1024) => iblk m c 2 t (ix2 k n : S1024x1024.Idx))
      = Rows.cols (m ((c : Thread nD τ).loc main_arg1)) 1024 (by omega) := by
  have e : win0_2.index t = ![0, 0] := (by decide +kernel : ∀ t : Fin grid0.N, win0_2.index t = ![0, 0]) t
  have h : V m c main_v11 = truncf (F := Ideal) .bf16
      (extractStridedSlice S1024x1024 ![0, 1024] (m ((c : Thread nD τ).loc main_arg1)) slices_S1024x3656_S1024x1024_0_1024) bitsLt_bf16_f32 := rfl
  funext k n
  have hi : iblk m c 2 t (ix2 k n : S1024x1024.Idx) = V m c main_v11 (ix2 k n : S1024x1024.Idx) := by
    blk_ext [iblk, e]
  rw [hi, h]
  refine congrArg (m ((c : Thread nD τ).loc main_arg1)) (funext fun a => ?_)
  fin_cases a <;> simp [Fin.ext_iff]
/-- for the values, -/
theorem in3 (c : Dev nD) (t : Fin cfg0.N) :
    (fun (k : Fin 1024) (n : Fin 1024) => iblk m c 3 t (ix2 k n : S1024x1024.Idx))
      = Rows.cols (m ((c : Thread nD τ).loc main_arg1)) 2048 (by omega) := by
  have e : win0_3.index t = ![0, 0] := (by decide +kernel : ∀ t : Fin grid0.N, win0_3.index t = ![0, 0]) t
  have h : V m c main_v12 = truncf (F := Ideal) .bf16
      (extractStridedSlice S1024x1024 ![0, 2048] (m ((c : Thread nD τ).loc main_arg1)) slices_S1024x3656_S1024x1024_0_2048) bitsLt_bf16_f32 := rfl
  funext k n
  have hi : iblk m c 3 t (ix2 k n : S1024x1024.Idx) = V m c main_v12 (ix2 k n : S1024x1024.Idx) := by
    blk_ext [iblk, e]
  rw [hi, h]
  refine congrArg (m ((c : Thread nD τ).loc main_arg1)) (funext fun a => ?_)
  fin_cases a <;> simp [Fin.ext_iff]
/-- these transposed too, -/
theorem in4 (c : Dev nD) (t : Fin cfg0.N) :
    (fun (k : Fin 1024) (n : Fin 1024) => iblk m c 4 t (ix2 n k : S1024x1024.Idx))
      = Rows.cols (m ((c : Thread nD τ).loc main_arg1)) 2048 (by omega) := by
  have e : win0_4.index t = ![0, 0] := (by decide +kernel : ∀ t : Fin grid0.N, win0_4.index t = ![0, 0]) t
  have h : V m c main_v14 = truncf (F := Ideal) .bf16 (transpose S1024x1024 [1, 0]
      (extractStridedSlice S1024x1024 ![0, 2048] (m ((c : Thread nD τ).loc main_arg1)) slices_S1024x3656_S1024x1024_0_2048)
      transposes_S1024x1024_S1024x1024_1_0) bitsLt_bf16_f32 := rfl
  funext k n
  have hi : iblk m c 4 t (ix2 n k : S1024x1024.Idx) = V m c main_v14 (ix2 n k : S1024x1024.Idx) := by
    blk_ext [iblk, e]
  rw [hi, h]
  refine congrArg (m ((c : Thread nD τ).loc main_arg1)) (funext fun a => ?_)
  fin_cases a <;> simp [Fin.ext_iff]
  all_goals rfl
/-- for the indexer's queries, transposed, -/
theorem in5 (c : Dev nD) (t : Fin cfg0.N) :
    (fun (k : Fin 1024) (n : Fin 512) => iblk m c 5 t (ix2 n k : S512x1024.Idx))
      = Rows.cols (m ((c : Thread nD τ).loc main_arg1)) 3072 (by omega) := by
  have e : win0_5.index t = ![0, 0] := (by decide +kernel : ∀ t : Fin grid0.N, win0_5.index t = ![0, 0]) t
  have h : V m c main_v16 = truncf (F := Ideal) .bf16 (transpose S512x1024 [1, 0]
      (extractStridedSlice S1024x512 ![0, 3072] (m ((c : Thread nD τ).loc main_arg1)) slices_S1024x3656_S1024x512_0_3072)
      transposes_S1024x512_S512x1024_1_0) bitsLt_bf16_f32 := rfl
  funext k n
  have hi : iblk m c 5 t (ix2 n k : S512x1024.Idx) = V m c main_v16 (ix2 n k : S512x1024.Idx) := by
    blk_ext [iblk, e]
  rw [hi, h]
  refine congrArg (m ((c : Thread nD τ).loc main_arg1)) (funext fun a => ?_)
  fin_cases a <;> simp [Fin.ext_iff]
  all_goals rfl
/-- the last columns, padded to whole lanes, -/
theorem in6 (c : Dev nD) (t : Fin cfg0.N) {N : Nat} (off : Nat) (ho : off + N ≤ 72) :
    (fun (k : Fin 1024) (n : Fin N) => iblk m c 6 t (ix2 k ⟨off + n.val, by omega⟩ : S1024x128.Idx))
      = Rows.cols (m ((c : Thread nD τ).loc main_arg1)) (3584 + off) (by omega) := by
  have e : win0_6.index t = ![0, 0] := (by decide +kernel : ∀ t : Fin grid0.N, win0_6.index t = ![0, 0]) t
  have h : V m c main_v17 = truncf (F := Ideal) .bf16 (pad S1024x128 ![0, 0] ![0, 56] ![0, 0]
      (extractStridedSlice S1024x72 ![0, 3584] (m ((c : Thread nD τ).loc main_arg1)) slices_S1024x3656_S1024x72_0_3584)
      (sitofp .f32 (constantI S_ 32 0#32)) pads_S1024x72_S1024x128_000_0560 h_S_) bitsLt_bf16_f32 := rfl
  funext k n
  have hi : iblk m c 6 t (ix2 k ⟨off + n.val, by omega⟩ : S1024x128.Idx) = V m c main_v17 (ix2 k ⟨off + n.val, by omega⟩ : S1024x128.Idx) := by
    blk_ext [iblk, e]
  rw [hi, h]
  exact Rows.pad_cols (m ((c : Thread nD τ).loc main_arg1)) slices_S1024x3656_S1024x72_0_3584
    (sitofp (F := Ideal) .f32 (constantI S_ 32 0#32)) pads_S1024x72_S1024x128_000_0560 h_S_ off ho k n
/-- these transposed too, -/
theorem in7 (c : Dev nD) (t : Fin cfg0.N) {N : Nat} (off : Nat) (ho : off + N ≤ 72) :
    (fun (k : Fin 1024) (n : Fin N) => iblk m c 7 t (ix2 ⟨off + n.val, by omega⟩ k : S128x1024.Idx))
      = Rows.cols (m ((c : Thread nD τ).loc main_arg1)) (3584 + off) (by omega) := by
  have e : win0_7.index t = ![0, 0] := (by decide +kernel : ∀ t : Fin grid0.N, win0_7.index t = ![0, 0]) t
  have h : V m c main_v19 = truncf (F := Ideal) .bf16 (transpose S128x1024 [1, 0] (pad S1024x128 ![0, 0] ![0, 56] ![0, 0]
      (extractStridedSlice S1024x72 ![0, 3584] (m ((c : Thread nD τ).loc main_arg1)) slices_S1024x3656_S1024x72_0_3584)
      (sitofp .f32 (constantI S_ 32 0#32)) pads_S1024x72_S1024x128_000_0560 h_S_) transposes_S1024x128_S128x1024_1_0) bitsLt_bf16_f32 := rfl
  funext k n
  have hi : iblk m c 7 t (ix2 ⟨off + n.val, by omega⟩ k : S128x1024.Idx) = V m c main_v19 (ix2 ⟨off + n.val, by omega⟩ k : S128x1024.Idx) := by
    blk_ext [iblk, e]
  rw [hi, h]
  refine Eq.trans ?_ (Rows.pad_cols (m ((c : Thread nD τ).loc main_arg1)) slices_S1024x3656_S1024x72_0_3584
    (sitofp (F := Ideal) .f32 (constantI S_ 32 0#32)) pads_S1024x72_S1024x128_000_0560 h_S_ off ho k n)
  generalize pad (s := S1024x72) S1024x128 ![0, 0] ![0, 56] ![0, 0] _ _ _ _ = P
  refine congrArg P (funext fun a => ?_)
  fin_cases a <;> rfl
/-- the scale, -/
theorem in8 (c : Dev nD) (t : Fin cfg0.N) (n : Fin 64) :
    iblk m c 8 t (ix2 0 n : S1x64.Idx) = m ((c : Thread nD τ).loc main_arg2) (ix1 n : S64.Idx) := by
  have e : win0_8.index t = ![0, 0] := (by decide +kernel : ∀ t : Fin grid0.N, win0_8.index t = ![0, 0]) t
  have h : V m c main_v1 = broadcastInDim S1x64 ![1] bcast_S64_S1x64_1 (m ((c : Thread nD τ).loc main_arg2)) := rfl
  have hi : iblk m c 8 t (ix2 0 n : S1x64.Idx) = V m c main_v1 (ix2 0 n : S1x64.Idx) := by
    blk_ext [iblk, e]
  rw [hi, h]
  refine congrArg (m ((c : Thread nD τ).loc main_arg2)) (funext fun a => ?_)
  fin_cases a
  rfl
/-- and the shift. -/
theorem in9 (c : Dev nD) (t : Fin cfg0.N) (n : Fin 64) :
    iblk m c 9 t (ix2 0 n : S1x64.Idx) = m ((c : Thread nD τ).loc main_arg3) (ix1 n : S64.Idx) := by
  have e : win0_9.index t = ![0, 0] := (by decide +kernel : ∀ t : Fin grid0.N, win0_9.index t = ![0, 0]) t
  have h : V m c main_v2 = broadcastInDim S1x64 ![1] bcast_S64_S1x64_1 (m ((c : Thread nD τ).loc main_arg3)) := rfl
  have hi : iblk m c 9 t (ix2 0 n : S1x64.Idx) = V m c main_v2 (ix2 0 n : S1x64.Idx) := by
    blk_ext [iblk, e]
  rw [hi, h]
  refine congrArg (m ((c : Thread nD τ).loc main_arg3)) (funext fun a => ?_)
  fin_cases a
  rfl

/-! What the run leaves in a point's buffers is the body's results of the point's blocks. -/

/-- The queries' buffer, -/
theorem left10 (c : Dev nD) (t : Fin cfg0.N) : (dats m 0 c).after 10 t = k0_pay3 (iblk m c 0 t) (iblk m c 1 t) := by
  rw [after0_10]
  frame_out
/-- the keys', -/
theorem left11 (c : Dev nD) (t : Fin cfg0.N) : (dats m 0 c).after 11 t = k0_pay5 (iblk m c 0 t) (iblk m c 2 t) := by
  rw [after0_11]
  frame_out
/-- the values', -/
theorem left12 (c : Dev nD) (t : Fin cfg0.N) : (dats m 0 c).after 12 t = k0_pay7 (iblk m c 0 t) (iblk m c 3 t) := by
  rw [after0_12]
  frame_out
/-- the keys' copy's, -/
theorem left13 (c : Dev nD) (t : Fin cfg0.N) : (dats m 0 c).after 13 t = k0_pay6 (iblk m c 0 t) (iblk m c 2 t) := by
  rw [after0_13]
  frame_out
/-- the values' copy's, -/
theorem left14 (c : Dev nD) (t : Fin cfg0.N) : (dats m 0 c).after 14 t = k0_pay8 (iblk m c 0 t) (iblk m c 4 t) := by
  rw [after0_14]
  frame_out
/-- the indexer's queries', -/
theorem left15 (c : Dev nD) (t : Fin cfg0.N) :
    (dats m 0 c).after 15 t = k0_pay9 (k0_pay2 (iblk m c 0 t)) (iblk m c 5 t) := by
  rw [after0_15]
  frame_out
/-- the indexer's keys', -/
theorem left16 (c : Dev nD) (t : Fin cfg0.N) :
    (dats m 0 c).after 16 t = k0_pay10 (k0_pay2 (iblk m c 0 t)) (iblk m c 6 t) (iblk m c 8 t) (iblk m c 9 t) := by
  rw [after0_16]
  frame_out
/-- and the indexer's head weights'. -/
theorem left17 (c : Dev nD) (t : Fin cfg0.N) :
    (dats m 0 c).after 17 t = k0_pay1 (k0_pay2 (iblk m c 0 t)) (iblk m c 7 t) := by
  rw [after0_17]
  frame_out

/-- One layer's part of a cache: the other layer's entries stay, this layer's are given row by row. -/
def layer (K : Vec Ideal S2x16384x1024 .f32) (rows : Fin 16384 → Fin 1024 → EReal) : Vec Ideal S2x16384x1024 .f32 :=
  fun i => if (i 0).val = 1 then rows (i 1) (i 2) else K i

/-- The queries' array after the run, -/
theorem final10 (c : Dev nD) : (dats m 0 c).arrAt 10 cfg0.N = fun i : S1024x16384.Idx =>
    Rows.query (Rows.prow (m ((c : Thread nD τ).loc main_arg0)) (i 1)) (m ((c : Thread nD τ).loc main_arg1)) (i 0) := by
  refine (dats m 0 c).arrAt_eq_of_covers 10 _ (by decide +kernel) fun t _ y => ?_
  have e : win0_10.index t = ![0, t.val] := (by decide +kernel : ∀ t : Fin grid0.N, win0_10.index t = ![0, t.val]) t
  blk_simp
  rw [left10]
  obtain ⟨l, r, rfl⟩ : ∃ (l : Fin 1024) (r : Fin 512), y = (ix2 l r : S1024x512.Idx) := ⟨y 0, y 1, eq_ix2 y⟩
  have ey : (win0_10.blk t).view.emb (ix2 l r : S1024x512.Idx) = (ix2 l (rowOf t r) : S1024x16384.Idx) := by blk_ext [e, rowOf]
  rw [ey]
  refine (block10 _ _ r l).trans ?_
  rw [in0, in1]
  rfl
/-- the keys', in the layer's part of the cache, -/
theorem final11 (c : Dev nD) : (dats m 0 c).arrAt 11 cfg0.N = layer (m ((c : Thread nD τ).loc main_arg4))
    (fun n => Rows.key (Rows.prow (m ((c : Thread nD τ).loc main_arg0)) n) (m ((c : Thread nD τ).loc main_arg1))) := by
  refine (dats m 0 c).arrAt_eq_of_coversWhere_of_agree 11 _ (fun β => β (0 : Fin _) = 1) (by decide +kernel)
    (fun t _ y => ?_) (fun j hj => ?_)
  · have e : win0_11.index t = ![1, t.val, 0] := (by decide +kernel : ∀ t : Fin grid0.N, win0_11.index t = ![1, t.val, 0]) t
    blk_simp
    rw [left11]
    obtain ⟨a, r, l, rfl⟩ : ∃ (a : Fin 1) (r : Fin 512) (l : Fin 1024), y = (ix3 a r l : S1x512x1024.Idx) :=
      ⟨y 0, y 1, y 2, eq_ix3 y⟩
    obtain rfl : a = 0 := Subsingleton.elim _ _
    have ey : (win0_11.blk t).view.emb (ix3 0 r l : S1x512x1024.Idx) = (ix3 1 (rowOf t r) l : S2x16384x1024.Idx) := by
      blk_ext [e, rowOf]
    rw [ey]
    refine (block11 _ _ r l).trans ?_
    rw [in0, in2]
    rfl
  · have h : ¬(j 0).val = 1 := by
      intro h
      exact hj ((Nat.div_one _).trans h)
    exact (if_neg h).symm
/-- the values', in the layer's part of the cache, -/
theorem final12 (c : Dev nD) : (dats m 0 c).arrAt 12 cfg0.N = layer (m ((c : Thread nD τ).loc main_arg5))
    (fun n => Rows.value (Rows.prow (m ((c : Thread nD τ).loc main_arg0)) n) (m ((c : Thread nD τ).loc main_arg1))) := by
  refine (dats m 0 c).arrAt_eq_of_coversWhere_of_agree 12 _ (fun β => β (0 : Fin _) = 1) (by decide +kernel)
    (fun t _ y => ?_) (fun j hj => ?_)
  · have e : win0_12.index t = ![1, t.val, 0] := (by decide +kernel : ∀ t : Fin grid0.N, win0_12.index t = ![1, t.val, 0]) t
    blk_simp
    rw [left12]
    obtain ⟨a, r, l, rfl⟩ : ∃ (a : Fin 1) (r : Fin 512) (l : Fin 1024), y = (ix3 a r l : S1x512x1024.Idx) :=
      ⟨y 0, y 1, y 2, eq_ix3 y⟩
    obtain rfl : a = 0 := Subsingleton.elim _ _
    have ey : (win0_12.blk t).view.emb (ix3 0 r l : S1x512x1024.Idx) = (ix3 1 (rowOf t r) l : S2x16384x1024.Idx) := by
      blk_ext [e, rowOf]
    rw [ey]
    refine (block12 _ _ r l).trans ?_
    rw [in0, in3]
    rfl
  · have h : ¬(j 0).val = 1 := by
      intro h
      exact hj ((Nat.div_one _).trans h)
    exact (if_neg h).symm
/-- the keys' copy, -/
theorem final13 (c : Dev nD) : (dats m 0 c).arrAt 13 cfg0.N = fun i : S16384x1024.Idx =>
    Rows.key (Rows.prow (m ((c : Thread nD τ).loc main_arg0)) (i 0)) (m ((c : Thread nD τ).loc main_arg1)) (i 1) := by
  refine (dats m 0 c).arrAt_eq_of_covers 13 _ (by decide +kernel) fun t _ y => ?_
  have e : win0_13.index t = ![t.val, 0] := (by decide +kernel : ∀ t : Fin grid0.N, win0_13.index t = ![t.val, 0]) t
  blk_simp
  rw [left13]
  obtain ⟨r, l, rfl⟩ : ∃ (r : Fin 512) (l : Fin 1024), y = (ix2 r l : S512x1024.Idx) := ⟨y 0, y 1, eq_ix2 y⟩
  have ey : (win0_13.blk t).view.emb (ix2 r l : S512x1024.Idx) = (ix2 (rowOf t r) l : S16384x1024.Idx) := by blk_ext [e, rowOf]
  rw [ey]
  refine (block13 _ _ r l).trans ?_
  rw [in0, in2]
  rfl
/-- the values' copy, transposed, -/
theorem final14 (c : Dev nD) : (dats m 0 c).arrAt 14 cfg0.N = fun i : S1024x16384.Idx =>
    Rows.value (Rows.prow (m ((c : Thread nD τ).loc main_arg0)) (i 1)) (m ((c : Thread nD τ).loc main_arg1)) (i 0) := by
  refine (dats m 0 c).arrAt_eq_of_covers 14 _ (by decide +kernel) fun t _ y => ?_
  have e : win0_14.index t = ![0, t.val] := (by decide +kernel : ∀ t : Fin grid0.N, win0_14.index t = ![0, t.val]) t
  blk_simp
  rw [left14]
  obtain ⟨l, r, rfl⟩ : ∃ (l : Fin 1024) (r : Fin 512), y = (ix2 l r : S1024x512.Idx) := ⟨y 0, y 1, eq_ix2 y⟩
  have ey : (win0_14.blk t).view.emb (ix2 l r : S1024x512.Idx) = (ix2 l (rowOf t r) : S1024x16384.Idx) := by blk_ext [e, rowOf]
  rw [ey]
  refine (block14 _ _ r l).trans ?_
  rw [in0, in4]
  rfl
/-- the indexer's queries', transposed, -/
theorem final15 (c : Dev nD) : (dats m 0 c).arrAt 15 cfg0.N = fun i : S512x16384.Idx =>
    Rows.iquery (Rows.prow (m ((c : Thread nD τ).loc main_arg0)) (i 1)) (m ((c : Thread nD τ).loc main_arg1)) (i 0) := by
  refine (dats m 0 c).arrAt_eq_of_covers 15 _ (by decide +kernel) fun t _ y => ?_
  have e : win0_15.index t = ![0, t.val] := (by decide +kernel : ∀ t : Fin grid0.N, win0_15.index t = ![0, t.val]) t
  blk_simp
  rw [left15]
  obtain ⟨l, r, rfl⟩ : ∃ (l : Fin 512) (r : Fin 512), y = (ix2 l r : S512x512.Idx) := ⟨y 0, y 1, eq_ix2 y⟩
  have ey : (win0_15.blk t).view.emb (ix2 l r : S512x512.Idx) = (ix2 l (rowOf t r) : S512x16384.Idx) := by blk_ext [e, rowOf]
  rw [ey]
  refine (block15 _ _ r l).trans ?_
  rw [in0, in5]
  rfl
/-- the indexer's keys', -/
theorem final16 (c : Dev nD) : (dats m 0 c).arrAt 16 cfg0.N = fun i : S16384x64.Idx =>
    Rows.ikey (Rows.prow (m ((c : Thread nD τ).loc main_arg0)) (i 0)) (m ((c : Thread nD τ).loc main_arg1))
      (m ((c : Thread nD τ).loc main_arg2)) (m ((c : Thread nD τ).loc main_arg3)) (i 1) := by
  refine (dats m 0 c).arrAt_eq_of_covers 16 _ (by decide +kernel) fun t _ y => ?_
  have e : win0_16.index t = ![t.val, 0] := (by decide +kernel : ∀ t : Fin grid0.N, win0_16.index t = ![t.val, 0]) t
  blk_simp
  rw [left16]
  obtain ⟨r, d, rfl⟩ : ∃ (r : Fin 512) (d : Fin 64), y = (ix2 r d : S512x64.Idx) := ⟨y 0, y 1, eq_ix2 y⟩
  have ey : (win0_16.blk t).view.emb (ix2 r d : S512x64.Idx) = (ix2 (rowOf t r) d : S16384x64.Idx) := by blk_ext [e, rowOf]
  rw [ey]
  refine (block16 _ _ _ _ r d).trans ?_
  rw [in0, in6 m c t 0 (by omega), funext (in8 m c t), funext (in9 m c t)]
  rfl
/-- and the indexer's head weights', transposed. -/
theorem final17 (c : Dev nD) : (dats m 0 c).arrAt 17 cfg0.N = fun i : S8x16384.Idx =>
    Rows.weight (Rows.prow (m ((c : Thread nD τ).loc main_arg0)) (i 1)) (m ((c : Thread nD τ).loc main_arg1)) (i 0) := by
  refine (dats m 0 c).arrAt_eq_of_covers 17 _ (by decide +kernel) fun t _ y => ?_
  have e : win0_17.index t = ![0, t.val] := (by decide +kernel : ∀ t : Fin grid0.N, win0_17.index t = ![0, t.val]) t
  blk_simp
  rw [left17]
  obtain ⟨h, r, rfl⟩ : ∃ (h : Fin 8) (r : Fin 512), y = (ix2 h r : S8x512.Idx) := ⟨y 0, y 1, eq_ix2 y⟩
  have ey : (win0_17.blk t).view.emb (ix2 h r : S8x512.Idx) = (ix2 h (rowOf t r) : S8x16384.Idx) := by blk_ext [e, rowOf]
  rw [ey]
  refine (block17 _ _ r h).trans ?_
  rw [in0, in7 m c t 64 (by omega)]
  rfl

/-! ## The reference -/

/-- The reference's one product: every token row with the whole weight. -/
abbrev prod (X : Vec Ideal S2x8192x1024 .f32) (W : Vec Ideal S1024x3656 .f32) : Vec Ideal Cert.Reference4Ideal.S2x8192x3656 .f32 :=
  Host.dotGeneral (F := Ideal) (φ₁ := .f32) (φ₂ := .f32) Cert.Reference4Ideal.dot_S2x8192x1024_S1024x3656_S2x8192x3656_2_0_01_1_n_n none X W

/-- At an element. -/
theorem prod_eq (X : Vec Ideal S2x8192x1024 .f32) (W : Vec Ideal S1024x3656 .f32) (a : Fin 2) (b : Fin 8192) (n : Fin 3656) :
    prod X W (ix3 a b n) = ∑ k : Fin 1024, X (ix3 a b k) * W (ix2 k n) := by
  pointwise [prod]

/-- Some of its columns, its rows flattened. -/
theorem cols_eq {M : Nat} (X : Vec Ideal S2x8192x1024 .f32) (W : Vec Ideal S1024x3656 .f32) (off : Nat) (ho : off + M ≤ 3656)
    (hs : (⟨3, ![2, 8192, 3656]⟩ : Shape).Slices ![0, 0, off] ⟨3, ![2, 8192, M]⟩)
    (h : (⟨3, ![2, 8192, M]⟩ : Shape).ShapeCasts ⟨2, ![16384, M]⟩) (r : Fin 16384) (n : Fin M) :
    shapeCast ⟨2, ![16384, M]⟩ (extractStridedSlice ⟨3, ![2, 8192, M]⟩ ![0, 0, off] (prod X W) hs) h (ix2 r n)
      = Rows.lin (Rows.prow X r) (Rows.cols W off ho) n :=
  (Rows.flat_slice rfl _ off hs h ho r n ⟨r.val / 8192, by omega⟩ ⟨r.val % 8192, by omega⟩
    (by show r.val = r.val / 8192 * 8192 + r.val % 8192; omega)).trans (prod_eq X W _ _ _)

/-- Some of its columns, at an element. -/
theorem slice_eq {M : Nat} (X : Vec Ideal S2x8192x1024 .f32) (W : Vec Ideal S1024x3656 .f32) (off : Nat) (ho : off + M ≤ 3656)
    (hs : (⟨3, ![2, 8192, 3656]⟩ : Shape).Slices ![0, 0, off] ⟨3, ![2, 8192, M]⟩) (r : Fin 16384) (n : Fin M) :
    extractStridedSlice ⟨3, ![2, 8192, M]⟩ ![0, 0, off] (prod X W) hs (ix3 ⟨r.val / 8192, by omega⟩ ⟨r.val % 8192, by omega⟩ n)
      = Rows.lin (Rows.prow X r) (Rows.cols W off ho) n := by
  refine (congrArg (prod X W) (funext fun i => ?_)).trans (prod_eq X W ⟨r.val / 8192, by omega⟩ ⟨r.val % 8192, by omega⟩ ⟨off + n.val, by omega⟩)
  fin_cases i <;> simp [Fin.ext_iff]
  all_goals rfl

/-- The two layers' parts of a cache put together: the first kept, the second given. -/
theorem layers_eq (K : Vec Ideal S2x16384x1024 .f32) (Y : Vec Ideal Cert.Reference4Ideal.S16384x1024 .f32) (a : Fin 2) (r : Fin 16384) (l : Fin 1024) :
    concatenate Cert.Reference4Ideal.S2x16384x1024 0
        [⟨Cert.Reference4Ideal.S1x16384x1024, broadcastInDim Cert.Reference4Ideal.S1x16384x1024 ![1, 2]
            Cert.Reference4Ideal.Gen.bcast_S16384x1024_S1x16384x1024_1_2
            (shapeCast Cert.Reference4Ideal.S16384x1024 (extractStridedSlice Cert.Reference4Ideal.S1x16384x1024 ![0, 0, 0] K
              Cert.Reference4Ideal.Gen.slices_S2x16384x1024_S1x16384x1024_0_0_0) Cert.Reference4Ideal.Gen.shapeCasts_S1x16384x1024_S16384x1024)⟩,
          ⟨Cert.Reference4Ideal.S1x16384x1024, broadcastInDim Cert.Reference4Ideal.S1x16384x1024 ![1, 2]
            Cert.Reference4Ideal.Gen.bcast_S16384x1024_S1x16384x1024_1_2 Y⟩]
        Cert.Reference4Ideal.Gen.concatenates_S1x16384x1024_S1x16384x1024_S2x16384x1024_d0 (ix3 a r l)
      = if a.val = 1 then Y (ix2 r l) else K (ix3 a r l) := by
  have ha : a = 0 ∨ a = 1 := by omega
  rcases ha with rfl | rfl
  · pointwise []
  · pointwise []

set_option maxRecDepth 16384 in
/-- The prompt projections' kernel computes what its reference computes, at the extended reals. -/
theorem algebraic : Cert.algebraic_Kernel4Ideal_Reference4Ideal := by
  intro m g m' g' _ hagree
  refine ⟨_, _, _, _, _, _, _, _, (θ_run defs _ _).mono (fun _ h c =>
    ⟨(h c).1.trans (final10 m c), (h c).2.1.trans (final11 m c), (h c).2.2.1.trans (final12 m c), (h c).2.2.2.1.trans (final13 m c),
      (h c).2.2.2.2.1.trans (final14 m c), (h c).2.2.2.2.2.1.trans (final15 m c), (h c).2.2.2.2.2.2.1.trans (final16 m c),
      (h c).2.2.2.2.2.2.2.1.trans (final17 m c), (h c).2.2.2.2.2.2.2.2⟩) (run_blocks m g), ?_⟩
  refine (θ_run Cert.Reference4Ideal.defs _ _).mono (fun _ h c =>
    ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_, (h c).2.2.2.2.2.2.2.2⟩)
    (Cert.Reference4Ideal.Value.run m' g')
  all_goals
    obtain ⟨h0, h1, h2, h3, h4, h5⟩ := hagree c
    rw [h0, h1]
  · refine funext fun (i : S1024x16384.Idx) => ?_
    obtain ⟨l, r, rfl⟩ : ∃ (l : Fin 1024) (r : Fin 16384), i = ix2 l r := ⟨i 0, i 1, eq_ix2 i⟩
    have hq := cols_eq (m ((c : Thread nD τ).loc main_arg0)) (m ((c : Thread nD τ).loc main_arg1)) 0 (by omega)
      Cert.Reference4Ideal.Gen.slices_S2x8192x3656_S2x8192x1024_0_0_0 Cert.Reference4Ideal.Gen.shapeCasts_S2x8192x1024_S16384x1024 r l
    refine Eq.trans ?_ (congrArg (· * Ideal.ofBits .f32 0x3E0293EE#32) hq)
    beta_reduce
    generalize shapeCast Cert.Reference4Ideal.S16384x1024 (extractStridedSlice (s := Cert.Reference4Ideal.S2x8192x3656) Cert.Reference4Ideal.S2x8192x1024 ![0, 0, 0] _ _) _ = Q
    pointwise []
  · rw [h4]
    refine funext fun (i : S2x16384x1024.Idx) => ?_
    obtain ⟨a, r, l, rfl⟩ : ∃ (a : Fin 2) (r : Fin 16384) (l : Fin 1024), i = ix3 a r l := ⟨i 0, i 1, i 2, eq_ix3 i⟩
    refine (layers_eq _ _ a r l).trans ?_
    exact congrArg (fun z : EReal => if a.val = 1 then z else m ((c : Thread nD τ).loc main_arg4) (ix3 a r l : S2x16384x1024.Idx))
      (cols_eq _ _ 1024 (by omega) Cert.Reference4Ideal.Gen.slices_S2x8192x3656_S2x8192x1024_0_0_1024 Cert.Reference4Ideal.Gen.shapeCasts_S2x8192x1024_S16384x1024 r l)
  · rw [h5]
    refine funext fun (i : S2x16384x1024.Idx) => ?_
    obtain ⟨a, r, l, rfl⟩ : ∃ (a : Fin 2) (r : Fin 16384) (l : Fin 1024), i = ix3 a r l := ⟨i 0, i 1, i 2, eq_ix3 i⟩
    refine (layers_eq _ _ a r l).trans ?_
    exact congrArg (fun z : EReal => if a.val = 1 then z else m ((c : Thread nD τ).loc main_arg5) (ix3 a r l : S2x16384x1024.Idx))
      (cols_eq _ _ 2048 (by omega) Cert.Reference4Ideal.Gen.slices_S2x8192x3656_S2x8192x1024_0_0_2048 Cert.Reference4Ideal.Gen.shapeCasts_S2x8192x1024_S16384x1024 r l)
  · refine funext fun (i : S16384x1024.Idx) => ?_
    obtain ⟨r, l, rfl⟩ : ∃ (r : Fin 16384) (l : Fin 1024), i = ix2 r l := ⟨i 0, i 1, eq_ix2 i⟩
    exact cols_eq _ _ 1024 (by omega) Cert.Reference4Ideal.Gen.slices_S2x8192x3656_S2x8192x1024_0_0_1024 Cert.Reference4Ideal.Gen.shapeCasts_S2x8192x1024_S16384x1024 r l
  · refine funext fun (i : S1024x16384.Idx) => ?_
    obtain ⟨l, r, rfl⟩ : ∃ (l : Fin 1024) (r : Fin 16384), i = ix2 l r := ⟨i 0, i 1, eq_ix2 i⟩
    have hq := cols_eq (m ((c : Thread nD τ).loc main_arg0)) (m ((c : Thread nD τ).loc main_arg1)) 2048 (by omega)
      Cert.Reference4Ideal.Gen.slices_S2x8192x3656_S2x8192x1024_0_0_2048 Cert.Reference4Ideal.Gen.shapeCasts_S2x8192x1024_S16384x1024 r l
    refine Eq.trans ?_ hq
    beta_reduce
    generalize shapeCast Cert.Reference4Ideal.S16384x1024 (extractStridedSlice (s := Cert.Reference4Ideal.S2x8192x3656) Cert.Reference4Ideal.S2x8192x1024 ![0, 0, 2048] _ _) _ = Q
    pointwise []
  · refine funext fun (i : S512x16384.Idx) => ?_
    obtain ⟨l, r, rfl⟩ : ∃ (l : Fin 512) (r : Fin 16384), i = ix2 l r := ⟨i 0, i 1, eq_ix2 i⟩
    have hq := cols_eq (m ((c : Thread nD τ).loc main_arg0)) (m ((c : Thread nD τ).loc main_arg1)) 3072 (by omega)
      Cert.Reference4Ideal.Gen.slices_S2x8192x3656_S2x8192x512_0_0_3072 Cert.Reference4Ideal.Gen.shapeCasts_S2x8192x512_S16384x512 r l
    refine Eq.trans ?_ hq
    beta_reduce
    generalize shapeCast Cert.Reference4Ideal.S16384x512 (extractStridedSlice (s := Cert.Reference4Ideal.S2x8192x3656) Cert.Reference4Ideal.S2x8192x512 ![0, 0, 3072] _ _) _ = Q
    pointwise []
  · refine funext fun (i : S16384x64.Idx) => ?_
    obtain ⟨r, d, rfl⟩ : ∃ (r : Fin 16384) (d : Fin 64), i = ix2 r d := ⟨i 0, i 1, eq_ix2 i⟩
    rw [h2, h3]
    refine (Rows.flat_prow _ _ r d).trans ?_
    have hz : Rows.lin (Rows.prow (m ((c : Thread nD τ).loc main_arg0)) r) (Rows.cols (m ((c : Thread nD τ).loc main_arg1)) 3584 (by omega))
        = fun n : Fin 64 => _ :=
      funext fun n => (slice_eq _ _ 3584 (by omega) Cert.Reference4Ideal.Gen.slices_S2x8192x3656_S2x8192x64_0_0_3584 r n).symm
    show _ = Rows.norm _ (Rows.lin (Rows.prow (m ((c : Thread nD τ).loc main_arg0)) r) (Rows.cols (m ((c : Thread nD τ).loc main_arg1)) 3584 _))
      (fun n => (m ((c : Thread nD τ).loc main_arg2)) (ix1 n)) (fun n => (m ((c : Thread nD τ).loc main_arg3)) (ix1 n)) d
    rw [hz]
    generalize m ((c : Thread nD τ).loc main_arg2) = s
    generalize m ((c : Thread nD τ).loc main_arg3) = b
    generalize extractStridedSlice (s := Cert.Reference4Ideal.S2x8192x3656) Cert.Reference4Ideal.S2x8192x64 ![0, 0, 3584] _ _ = H
    simp only [Rows.norm, Rows.mean]
    pointwise []
  · refine funext fun (i : S8x16384.Idx) => ?_
    obtain ⟨h, r, rfl⟩ : ∃ (h : Fin 8) (r : Fin 16384), i = ix2 h r := ⟨i 0, i 1, eq_ix2 i⟩
    have hq := slice_eq (m ((c : Thread nD τ).loc main_arg0)) (m ((c : Thread nD τ).loc main_arg1)) 3648 (by omega)
      Cert.Reference4Ideal.Gen.slices_S2x8192x3656_S2x8192x8_0_0_3648 r h
    refine Eq.trans ?_ (congrArg (· * Ideal.ofBits .f32 0x3EB504F3#32) hq)
    beta_reduce
    generalize extractStridedSlice (s := Cert.Reference4Ideal.S2x8192x3656) Cert.Reference4Ideal.S2x8192x8 ![0, 0, 3648] _ _ = H
    refine Eq.trans ?_ (Rows.flat_prow (mulf H (broadcastInDim Cert.Reference4Ideal.S2x8192x8 ![] Cert.Reference4Ideal.Gen.bcast_S_S2x8192x8 (constant (F := Ideal) Cert.Reference4Ideal.S_ .f32 0x3EB504F3#32))) Cert.Reference4Ideal.Gen.shapeCasts_S2x8192x8_S16384x8 r h)
    generalize shapeCast (s := Cert.Reference4Ideal.S2x8192x8) Cert.Reference4Ideal.S16384x8 _ _ = Q
    pointwise []

end Cert.Proof.ProjPrompt
-- ==== Proof.ProjSample.lean ====
/- Hand-written: the attention's input projections of the sample's token rows: eight arrays out of one kernel, each the same
   row mathematics as the reference's. -/
module

public import proofs.«01_k».proof.Proof.Gen.Kernel5Ideal.Value
public import proofs.«01_k».proof.Proof.Gen.Reference5Ideal.Run
public import proofs.«01_k».proof.Defs
public import proofs.«01_k».proof.Proof.Rows
public import Idealize.ShloMosaic.Lib.Pipeline.ValueKit

@[expose] public section

noncomputable section

namespace Cert.Proof.ProjSample

open Cert.Kernel5Ideal Cert.Kernel5Ideal.Gen Cert.Kernel5Ideal.Value Idealize.ShloMosaic Idealize.ShloMosaic.TcCoe Idealize.SL.Sem

section
variable (x0 : Vec Ideal S256x1024 .f32) (x1 : Vec Ideal S1024x3072 .bf16) (x2 : Vec Ideal S1024x512 .bf16)
  (x3 : Vec Ideal S1024x128 .bf16) (x4 x5 : Vec Ideal S1x64 .f32) (r : Fin 256)

/-- The rows are read whole. -/
theorem ld0 : View.ld x0 r0_0 = x0 := View.ld_unit_zero Rows.hz _ _

/-- The block of queries, -/
theorem block6 (l : Fin 1024) : out0_6 x0 x1 x2 x3 x4 x5 (ix2 r l)
    = Rows.lin (fun k => x0 (ix2 r k)) (fun k (n : Fin 1024) => x1 (ix2 k ⟨0 + n.val, by omega⟩)) l * Ideal.ofBits .f32 0x3E0293EE#32 := by
  unfold out0_6
  rw [View.canon_unit_zero Rows.hz, ld0]
  simp only [Rows.lin]
  pointwise [k0_pay2, k0_pay1]
/-- of keys, -/
theorem block7 (l : Fin 1024) : out0_7 x0 x1 x2 x3 x4 x5 (ix2 r l)
    = Rows.lin (fun k => x0 (ix2 r k)) (fun k (n : Fin 1024) => x1 (ix2 k ⟨1024 + n.val, by omega⟩)) l := by
  unfold out0_7
  rw [View.canon_unit_zero Rows.hz, ld0]
  simp only [Rows.lin]
  pointwise [k0_pay3, k0_pay1]
/-- of values, -/
theorem block8 (l : Fin 1024) : out0_8 x0 x1 x2 x3 x4 x5 (ix2 r l)
    = Rows.lin (fun k => x0 (ix2 r k)) (fun k (n : Fin 1024) => x1 (ix2 k ⟨2048 + n.val, by omega⟩)) l := by
  unfold out0_8
  rw [View.canon_unit_zero Rows.hz, ld0]
  simp only [Rows.lin]
  pointwise [k0_pay5, k0_pay1]
/-- of the keys' copies, -/
theorem block9 (l : Fin 1024) : out0_9 x0 x1 x2 x3 x4 x5 (ix2 r l)
    = Rows.lin (fun k => x0 (ix2 r k)) (fun k (n : Fin 1024) => x1 (ix2 k ⟨1024 + n.val, by omega⟩)) l := by
  rw [← block7 x0 x1 x2 x3 x4 x5 r l]
  unfold out0_9 out0_7
  rw [View.canon_unit_zero Rows.hz, View.canon_unit_zero Rows.hz]
  rfl
/-- of the values' copies, -/
theorem block10 (l : Fin 1024) : out0_10 x0 x1 x2 x3 x4 x5 (ix2 r l)
    = Rows.lin (fun k => x0 (ix2 r k)) (fun k (n : Fin 1024) => x1 (ix2 k ⟨2048 + n.val, by omega⟩)) l := by
  rw [← block8 x0 x1 x2 x3 x4 x5 r l]
  unfold out0_10 out0_8
  rw [View.canon_unit_zero Rows.hz, View.canon_unit_zero Rows.hz]
  rfl
/-- of the indexer's queries, head by head, -/
theorem block11 (h : Fin 8) (d : Fin 64) : out0_11 x0 x1 x2 x3 x4 x5 (ix3 h r d)
    = Rows.lin (fun k => x0 (ix2 r k)) (fun k (n : Fin 512) => x2 (ix2 k n)) ⟨h.val * 64 + d.val, by omega⟩ := by
  unfold_out out0_11
  have e2 : View.ld x2 r0_4 = x2 := View.ld_unit_zero Rows.hz _ _
  rw [ld0, e2]
  refine (canon11_eq x0 x2 _).trans ?_
  have ei : ix11_0 (ix3 h r d : S8x256x64.Idx) = ix2 r ⟨h.val * 64 + d.val, by omega⟩ := by
    funext a; fin_cases a <;> rfl
  show FloatOps.truncf .bf16 bitsLt_bf16_f32 ((k0_pay7 x0 x2) (ix11_0 (ix3 h r d))) = _
  rw [ei]
  generalize (⟨h.val * 64 + d.val, _⟩ : Fin 512) = n
  simp only [Rows.lin]
  pointwise [k0_pay7, k0_pay1]
/-- of the indexer's keys, -/
theorem block12 (d : Fin 64) : out0_12 x0 x1 x2 x3 x4 x5 (ix2 r d)
    = Rows.norm (Ideal.ofBits .f32 0x42800000#32)
        (Rows.lin (fun k => x0 (ix2 r k)) (fun k (n : Fin 64) => x3 (ix2 k ⟨0 + n.val, by omega⟩)))
        (fun n => x4 (ix2 0 n)) (fun n => x5 (ix2 0 n)) d := by
  unfold_out out0_12
  have e3 : View.ld x3 r0_13 = x3 := View.ld_unit_zero Rows.hz _ _
  have e4 : View.ld x4 r0_14 = x4 := View.ld_unit_zero Rows.hz _ _
  have e5 : View.ld x5 r0_14 = x5 := View.ld_unit_zero Rows.hz _ _
  rw [View.canon_unit_zero Rows.hz, ld0, e3, e4, e5]
  simp only [Rows.norm, Rows.mean, Rows.lin]
  pointwise [k0_pay19, k0_pay18, k0_pay1]
/-- and of the indexer's head weights. -/
theorem block13 (h : Fin 8) : out0_13 x0 x1 x2 x3 x4 x5 (ix2 r h)
    = Rows.lin (fun k => x0 (ix2 r k)) (fun k (n : Fin 8) => x3 (ix2 k ⟨64 + n.val, by omega⟩)) h * Ideal.ofBits .f32 0x3EB504F3#32 := by
  unfold_out out0_13
  have e3 : View.ld x3 r0_13 = x3 := View.ld_unit_zero Rows.hz _ _
  rw [View.canon_unit_zero Rows.hz, ld0, e3]
  simp only [Rows.lin]
  pointwise [k0_pay20, k0_pay18, k0_pay1]
end

variable (m : (ℓ : Loc nD τ sig) → Buf (Elt Ideal) ℓ) (ρ : Dev nD → PrngReg)

/-- The one point takes all of the token rows, -/
theorem in0 (c : Dev nD) (t : Fin cfg0.N) (r : Fin 256) :
    (fun k : Fin 1024 => iblk m c 0 t (ix2 r k : S256x1024.Idx)) = Rows.srow (m ((c : Thread nD τ).loc main_arg0)) r := by
  have e : win0_0.index t = ![0, 0] := (by decide +kernel : ∀ t : Fin grid0.N, win0_0.index t = ![0, 0]) t
  have h : V m c main_v7 = shapeCast S256x1024 (m ((c : Thread nD τ).loc main_arg0)) shapeCasts_S32x8x1024_S256x1024 := rfl
  funext k
  have hi : iblk m c 0 t (ix2 r k : S256x1024.Idx) = V m c main_v7 (ix2 r k : S256x1024.Idx) := by
    blk_ext [iblk, e]
  rw [hi, h]
  exact Rows.flat_srow _ _ _ k
/-- the weight's first columns, -/
theorem in1 (c : Dev nD) (t : Fin cfg0.N) (off : Nat) (ho : off + 1024 ≤ 3072) :
    (fun (k : Fin 1024) (n : Fin 1024) => iblk m c 1 t (ix2 k ⟨off + n.val, by omega⟩ : S1024x3072.Idx))
      = Rows.cols (m ((c : Thread nD τ).loc main_arg1)) off (by omega) := by
  have e : win0_1.index t = ![0, 0] := (by decide +kernel : ∀ t : Fin grid0.N, win0_1.index t = ![0, 0]) t
  have h : V m c main_v1 = truncf (F := Ideal) .bf16
      (extractStridedSlice S1024x3072 ![0, 0] (m ((c : Thread nD τ).loc main_arg1)) slices_S1024x3656_S1024x3072_0_0) bitsLt_bf16_f32 := rfl
  funext k n
  have hi : iblk m c 1 t (ix2 k ⟨off + n.val, by omega⟩ : S1024x3072.Idx) = V m c main_v1 (ix2 k ⟨off + n.val, by omega⟩ : S1024x3072.Idx) := by
    blk_ext [iblk, e]
  rw [hi, h]
  refine congrArg (m ((c : Thread nD τ).loc main_arg1)) (funext fun a => ?_)
  fin_cases a <;> simp [Fin.ext_iff]
/-- its columns for the indexer's queries, -/
theorem in2 (c : Dev nD) (t : Fin cfg0.N) :
    (fun (k : Fin 1024) (n : Fin 512) => iblk m c 2 t (ix2 k n : S1024x512.Idx))
      = Rows.cols (m ((c : Thread nD τ).loc main_arg1)) 3072 (by omega) := by
  have e : win0_2.index t = ![0, 0] := (by decide +kernel : ∀ t : Fin grid0.N, win0_2.index t = ![0, 0]) t
  have h : V m c main_v3 = truncf (F := Ideal) .bf16
      (extractStridedSlice S1024x512 ![0, 3072] (m ((c : Thread nD τ).loc main_arg1)) slices_S1024x3656_S1024x512_0_3072) bitsLt_bf16_f32 := rfl
  funext k n
  have hi : iblk m c 2 t (ix2 k n : S1024x512.Idx) = V m c main_v3 (ix2 k n : S1024x512.Idx) := by
    blk_ext [iblk, e]
  rw [hi, h]
  refine congrArg (m ((c : Thread nD τ).loc main_arg1)) (funext fun a => ?_)
  fin_cases a <;> simp [Fin.ext_iff]
/-- its last columns, padded to whole lanes, -/
theorem in3 (c : Dev nD) (t : Fin cfg0.N) {N : Nat} (off : Nat) (ho : off + N ≤ 72) :
    (fun (k : Fin 1024) (n : Fin N) => iblk m c 3 t (ix2 k ⟨off + n.val, by omega⟩ : S1024x128.Idx))
      = Rows.cols (m ((c : Thread nD τ).loc main_arg1)) (3584 + off) (by omega) := by
  have e : win0_3.index t = ![0, 0] := (by decide +kernel : ∀ t : Fin grid0.N, win0_3.index t = ![0, 0]) t
  have h : V m c main_v6 = truncf (F := Ideal) .bf16 (pad S1024x128 ![0, 0] ![0, 56] ![0, 0]
      (extractStridedSlice S1024x72 ![0, 3584] (m ((c : Thread nD τ).loc main_arg1)) slices_S1024x3656_S1024x72_0_3584)
      (sitofp .f32 (constantI S_ 32 0#32)) pads_S1024x72_S1024x128_000_0560 h_S_) bitsLt_bf16_f32 := rfl
  funext k n
  have hi : iblk m c 3 t (ix2 k ⟨off + n.val, by omega⟩ : S1024x128.Idx) = V m c main_v6 (ix2 k ⟨off + n.val, by omega⟩ : S1024x128.Idx) := by
    blk_ext [iblk, e]
  rw [hi, h]
  exact Rows.pad_cols (m ((c : Thread nD τ).loc main_arg1)) slices_S1024x3656_S1024x72_0_3584
    (sitofp (F := Ideal) .f32 (constantI S_ 32 0#32)) pads_S1024x72_S1024x128_000_0560 h_S_ off ho k n
/-- the scale, -/
theorem in4 (c : Dev nD) (t : Fin cfg0.N) (n : Fin 64) :
    iblk m c 4 t (ix2 0 n : S1x64.Idx) = m ((c : Thread nD τ).loc main_arg2) (ix1 n : S64.Idx) := by
  have e : win0_4.index t = ![0, 0] := (by decide +kernel : ∀ t : Fin grid0.N, win0_4.index t = ![0, 0]) t
  have h : V m c main_v8 = broadcastInDim S1x64 ![1] bcast_S64_S1x64_1 (m ((c : Thread nD τ).loc main_arg2)) := rfl
  have hi : iblk m c 4 t (ix2 0 n : S1x64.Idx) = V m c main_v8 (ix2 0 n : S1x64.Idx) := by
    blk_ext [iblk, e]
  rw [hi, h]
  refine congrArg (m ((c : Thread nD τ).loc main_arg2)) (funext fun a => ?_)
  fin_cases a
  rfl
/-- and the shift. -/
theorem in5 (c : Dev nD) (t : Fin cfg0.N) (n : Fin 64) :
    iblk m c 5 t (ix2 0 n : S1x64.Idx) = m ((c : Thread nD τ).loc main_arg3) (ix1 n : S64.Idx) := by
  have e : win0_5.index t = ![0, 0] := (by decide +kernel : ∀ t : Fin grid0.N, win0_5.index t = ![0, 0]) t
  have h : V m c main_v9 = broadcastInDim S1x64 ![1] bcast_S64_S1x64_1 (m ((c : Thread nD τ).loc main_arg3)) := rfl
  have hi : iblk m c 5 t (ix2 0 n : S1x64.Idx) = V m c main_v9 (ix2 0 n : S1x64.Idx) := by
    blk_ext [iblk, e]
  rw [hi, h]
  refine congrArg (m ((c : Thread nD τ).loc main_arg3)) (funext fun a => ?_)
  fin_cases a
  rfl

/-- The indexer's queries of all rows, head by head. -/
def heads (X : Vec Ideal S32x8x1024 .f32) (W : Vec Ideal S1024x3656 .f32) : Vec Ideal S8x256x64 .bf16 := fun i =>
  Rows.iquery (Rows.srow X (i 1)) W
    ⟨(i 0).val * 64 + (i 2).val, by have h0 : (i 0).val < 8 := (i 0).isLt; have h2 : (i 2).val < 64 := (i 2).isLt; omega⟩

/-- The queries' array after the run, -/
theorem final6 (c : Dev nD) : (dats m 0 c).arrAt 6 cfg0.N = fun i : S256x1024.Idx =>
    Rows.query (Rows.srow (m ((c : Thread nD τ).loc main_arg0)) (i 0)) (m ((c : Thread nD τ).loc main_arg1)) (i 1) := by
  refine (dats m 0 c).arrAt_eq_of_covers 6 _ (by decide +kernel) fun t _ y => ?_
  have e : win0_6.index t = ![0, 0] := (by decide +kernel : ∀ t : Fin grid0.N, win0_6.index t = ![0, 0]) t
  blk_simp
  rw [after0_6]
  obtain ⟨r, l, rfl⟩ : ∃ (r : Fin 256) (l : Fin 1024), y = (ix2 r l : S256x1024.Idx) := ⟨y 0, y 1, eq_ix2 y⟩
  have ey : (win0_6.blk t).view.emb (ix2 r l : S256x1024.Idx) = (ix2 r l : S256x1024.Idx) := by blk_ext [e]
  rw [ey]
  refine (block6 _ _ _ _ _ _ r l).trans ?_
  rw [in0, in1 m c t 0 (by omega)]
  rfl
/-- the keys', -/
theorem final7 (c : Dev nD) : (dats m 0 c).arrAt 7 cfg0.N = fun i : S256x1024.Idx =>
    Rows.key (Rows.srow (m ((c : Thread nD τ).loc main_arg0)) (i 0)) (m ((c : Thread nD τ).loc main_arg1)) (i 1) := by
  refine (dats m 0 c).arrAt_eq_of_covers 7 _ (by decide +kernel) fun t _ y => ?_
  have e : win0_7.index t = ![0, 0] := (by decide +kernel : ∀ t : Fin grid0.N, win0_7.index t = ![0, 0]) t
  blk_simp
  rw [after0_7]
  obtain ⟨r, l, rfl⟩ : ∃ (r : Fin 256) (l : Fin 1024), y = (ix2 r l : S256x1024.Idx) := ⟨y 0, y 1, eq_ix2 y⟩
  have ey : (win0_7.blk t).view.emb (ix2 r l : S256x1024.Idx) = (ix2 r l : S256x1024.Idx) := by blk_ext [e]
  rw [ey]
  refine (block7 _ _ _ _ _ _ r l).trans ?_
  rw [in0, in1 m c t 1024 (by omega)]
  rfl
/-- the values', -/
theorem final8 (c : Dev nD) : (dats m 0 c).arrAt 8 cfg0.N = fun i : S256x1024.Idx =>
    Rows.value (Rows.srow (m ((c : Thread nD τ).loc main_arg0)) (i 0)) (m ((c : Thread nD τ).loc main_arg1)) (i 1) := by
  refine (dats m 0 c).arrAt_eq_of_covers 8 _ (by decide +kernel) fun t _ y => ?_
  have e : win0_8.index t = ![0, 0] := (by decide +kernel : ∀ t : Fin grid0.N, win0_8.index t = ![0, 0]) t
  blk_simp
  rw [after0_8]
  obtain ⟨r, l, rfl⟩ : ∃ (r : Fin 256) (l : Fin 1024), y = (ix2 r l : S256x1024.Idx) := ⟨y 0, y 1, eq_ix2 y⟩
  have ey : (win0_8.blk t).view.emb (ix2 r l : S256x1024.Idx) = (ix2 r l : S256x1024.Idx) := by blk_ext [e]
  rw [ey]
  refine (block8 _ _ _ _ _ _ r l).trans ?_
  rw [in0, in1 m c t 2048 (by omega)]
  rfl
/-- the keys' copy, -/
theorem final9 (c : Dev nD) : (dats m 0 c).arrAt 9 cfg0.N = fun i : S256x1024.Idx =>
    Rows.key (Rows.srow (m ((c : Thread nD τ).loc main_arg0)) (i 0)) (m ((c : Thread nD τ).loc main_arg1)) (i 1) := by
  refine (dats m 0 c).arrAt_eq_of_covers 9 _ (by decide +kernel) fun t _ y => ?_
  have e : win0_9.index t = ![0, 0] := (by decide +kernel : ∀ t : Fin grid0.N, win0_9.index t = ![0, 0]) t
  blk_simp
  rw [after0_9]
  obtain ⟨r, l, rfl⟩ : ∃ (r : Fin 256) (l : Fin 1024), y = (ix2 r l : S256x1024.Idx) := ⟨y 0, y 1, eq_ix2 y⟩
  have ey : (win0_9.blk t).view.emb (ix2 r l : S256x1024.Idx) = (ix2 r l : S256x1024.Idx) := by blk_ext [e]
  rw [ey]
  refine (block9 _ _ _ _ _ _ r l).trans ?_
  rw [in0, in1 m c t 1024 (by omega)]
  rfl
/-- the values' copy, -/
theorem final10 (c : Dev nD) : (dats m 0 c).arrAt 10 cfg0.N = fun i : S256x1024.Idx =>
    Rows.value (Rows.srow (m ((c : Thread nD τ).loc main_arg0)) (i 0)) (m ((c : Thread nD τ).loc main_arg1)) (i 1) := by
  refine (dats m 0 c).arrAt_eq_of_covers 10 _ (by decide +kernel) fun t _ y => ?_
  have e : win0_10.index t = ![0, 0] := (by decide +kernel : ∀ t : Fin grid0.N, win0_10.index t = ![0, 0]) t
  blk_simp
  rw [after0_10]
  obtain ⟨r, l, rfl⟩ : ∃ (r : Fin 256) (l : Fin 1024), y = (ix2 r l : S256x1024.Idx) := ⟨y 0, y 1, eq_ix2 y⟩
  have ey : (win0_10.blk t).view.emb (ix2 r l : S256x1024.Idx) = (ix2 r l : S256x1024.Idx) := by blk_ext [e]
  rw [ey]
  refine (block10 _ _ _ _ _ _ r l).trans ?_
  rw [in0, in1 m c t 2048 (by omega)]
  rfl
/-- the indexer's queries', head by head, -/
theorem final11 (c : Dev nD) : (dats m 0 c).arrAt 11 cfg0.N
    = heads (m ((c : Thread nD τ).loc main_arg0)) (m ((c : Thread nD τ).loc main_arg1)) := by
  refine (dats m 0 c).arrAt_eq_of_covers 11 _ (by decide +kernel) fun t _ y => ?_
  have e : win0_11.index t = ![0, 0, 0] := (by decide +kernel : ∀ t : Fin grid0.N, win0_11.index t = ![0, 0, 0]) t
  blk_simp
  rw [after0_11]
  obtain ⟨h, r, d, rfl⟩ : ∃ (h : Fin 8) (r : Fin 256) (d : Fin 64), y = (ix3 h r d : S8x256x64.Idx) := ⟨y 0, y 1, y 2, eq_ix3 y⟩
  have ey : (win0_11.blk t).view.emb (ix3 h r d : S8x256x64.Idx) = (ix3 h r d : S8x256x64.Idx) := by blk_ext [e]
  rw [ey]
  refine (block11 _ _ _ _ _ _ r h d).trans ?_
  rw [in0, in2]
  rfl
/-- the indexer's keys', -/
theorem final12 (c : Dev nD) : (dats m 0 c).arrAt 12 cfg0.N = fun i : S256x64.Idx =>
    Rows.ikey (Rows.srow (m ((c : Thread nD τ).loc main_arg0)) (i 0)) (m ((c : Thread nD τ).loc main_arg1))
      (m ((c : Thread nD τ).loc main_arg2)) (m ((c : Thread nD τ).loc main_arg3)) (i 1) := by
  refine (dats m 0 c).arrAt_eq_of_covers 12 _ (by decide +kernel) fun t _ y => ?_
  have e : win0_12.index t = ![0, 0] := (by decide +kernel : ∀ t : Fin grid0.N, win0_12.index t = ![0, 0]) t
  blk_simp
  rw [after0_12]
  obtain ⟨r, d, rfl⟩ : ∃ (r : Fin 256) (d : Fin 64), y = (ix2 r d : S256x64.Idx) := ⟨y 0, y 1, eq_ix2 y⟩
  have ey : (win0_12.blk t).view.emb (ix2 r d : S256x64.Idx) = (ix2 r d : S256x64.Idx) := by blk_ext [e]
  rw [ey]
  refine (block12 _ _ _ _ _ _ r d).trans ?_
  rw [in0, in3 m c t 0 (by omega), funext (in4 m c t), funext (in5 m c t)]
  rfl
/-- and the indexer's head weights'. -/
theorem final13 (c : Dev nD) : (dats m 0 c).arrAt 13 cfg0.N = fun i : S256x8.Idx =>
    Rows.weight (Rows.srow (m ((c : Thread nD τ).loc main_arg0)) (i 0)) (m ((c : Thread nD τ).loc main_arg1)) (i 1) := by
  refine (dats m 0 c).arrAt_eq_of_covers 13 _ (by decide +kernel) fun t _ y => ?_
  have e : win0_13.index t = ![0, 0] := (by decide +kernel : ∀ t : Fin grid0.N, win0_13.index t = ![0, 0]) t
  blk_simp
  rw [after0_13]
  obtain ⟨r, h, rfl⟩ : ∃ (r : Fin 256) (h : Fin 8), y = (ix2 r h : S256x8.Idx) := ⟨y 0, y 1, eq_ix2 y⟩
  have ey : (win0_13.blk t).view.emb (ix2 r h : S256x8.Idx) = (ix2 r h : S256x8.Idx) := by blk_ext [e]
  rw [ey]
  refine (block13 _ _ _ _ _ _ r h).trans ?_
  rw [in0, in3 m c t 64 (by omega)]
  rfl

/-! ## The reference -/

/-- The reference's one product: every token row with the whole weight. -/
abbrev prod (X : Vec Ideal S32x8x1024 .f32) (W : Vec Ideal S1024x3656 .f32) : Vec Ideal Cert.Reference5Ideal.S32x8x3656 .f32 :=
  Host.dotGeneral (F := Ideal) (φ₁ := .f32) (φ₂ := .f32) Cert.Reference5Ideal.dot_S32x8x1024_S1024x3656_S32x8x3656_2_0_01_1_n_n none X W

/-- At an element. -/
theorem prod_eq (X : Vec Ideal S32x8x1024 .f32) (W : Vec Ideal S1024x3656 .f32) (a : Fin 32) (b : Fin 8) (n : Fin 3656) :
    prod X W (ix3 a b n) = ∑ k : Fin 1024, X (ix3 a b k) * W (ix2 k n) := by
  pointwise [prod]

/-- Some of its columns, its rows flattened. -/
theorem cols_eq {M : Nat} (X : Vec Ideal S32x8x1024 .f32) (W : Vec Ideal S1024x3656 .f32) (off : Nat) (ho : off + M ≤ 3656)
    (hs : (⟨3, ![32, 8, 3656]⟩ : Shape).Slices ![0, 0, off] ⟨3, ![32, 8, M]⟩)
    (h : (⟨3, ![32, 8, M]⟩ : Shape).ShapeCasts ⟨2, ![256, M]⟩) (r : Fin 256) (n : Fin M) :
    shapeCast ⟨2, ![256, M]⟩ (extractStridedSlice ⟨3, ![32, 8, M]⟩ ![0, 0, off] (prod X W) hs) h (ix2 r n)
      = Rows.lin (Rows.srow X r) (Rows.cols W off ho) n :=
  (Rows.flat_slice rfl _ off hs h ho r n ⟨r.val / 8, by omega⟩ ⟨r.val % 8, by omega⟩
    (by show r.val = r.val / 8 * 8 + r.val % 8; omega)).trans (prod_eq X W _ _ _)

/-- Some of its columns, at an element. -/
theorem slice_eq {M : Nat} (X : Vec Ideal S32x8x1024 .f32) (W : Vec Ideal S1024x3656 .f32) (off : Nat) (ho : off + M ≤ 3656)
    (hs : (⟨3, ![32, 8, 3656]⟩ : Shape).Slices ![0, 0, off] ⟨3, ![32, 8, M]⟩) (r : Fin 256) (n : Fin M) :
    extractStridedSlice ⟨3, ![32, 8, M]⟩ ![0, 0, off] (prod X W) hs (ix3 ⟨r.val / 8, by omega⟩ ⟨r.val % 8, by omega⟩ n)
      = Rows.lin (Rows.srow X r) (Rows.cols W off ho) n := by
  refine (congrArg (prod X W) (funext fun i => ?_)).trans (prod_eq X W ⟨r.val / 8, by omega⟩ ⟨r.val % 8, by omega⟩ ⟨off + n.val, by omega⟩)
  fin_cases i <;> simp [Fin.ext_iff]
  all_goals rfl

set_option maxRecDepth 16384 in
/-- The sample projections' kernel computes what its reference computes, at the extended reals. -/
theorem algebraic : Cert.algebraic_Kernel5Ideal_Reference5Ideal := by
  intro m g m' g' _ hagree
  refine ⟨_, _, _, _, _, _, _, _, (θ_run defs _ _).mono (fun _ h c =>
    ⟨(h c).1.trans (final6 m c), (h c).2.1.trans (final7 m c), (h c).2.2.1.trans (final8 m c), (h c).2.2.2.1.trans (final9 m c),
      (h c).2.2.2.2.1.trans (final10 m c), (h c).2.2.2.2.2.1.trans (final11 m c), (h c).2.2.2.2.2.2.1.trans (final12 m c),
      (h c).2.2.2.2.2.2.2.1.trans (final13 m c), (h c).2.2.2.2.2.2.2.2⟩) (run_blocks m g), ?_⟩
  refine (θ_run Cert.Reference5Ideal.defs _ _).mono (fun _ h c =>
    ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_, (h c).2.2.2.2.2.2.2.2⟩)
    (Cert.Reference5Ideal.Value.run m' g')
  all_goals
    obtain ⟨h0, h1, h2, h3⟩ := hagree c
    rw [h0, h1]
  · refine funext fun (i : S256x1024.Idx) => ?_
    obtain ⟨r, l, rfl⟩ : ∃ (r : Fin 256) (l : Fin 1024), i = ix2 r l := ⟨i 0, i 1, eq_ix2 i⟩
    exact congrArg (· * Ideal.ofBits .f32 0x3E0293EE#32) (cols_eq _ _ 0 (by omega) Cert.Reference5Ideal.Gen.slices_S32x8x3656_S32x8x1024_0_0_0 Cert.Reference5Ideal.Gen.shapeCasts_S32x8x1024_S256x1024 r l)
  · refine funext fun (i : S256x1024.Idx) => ?_
    obtain ⟨r, l, rfl⟩ : ∃ (r : Fin 256) (l : Fin 1024), i = ix2 r l := ⟨i 0, i 1, eq_ix2 i⟩
    exact cols_eq _ _ 1024 (by omega) Cert.Reference5Ideal.Gen.slices_S32x8x3656_S32x8x1024_0_0_1024 Cert.Reference5Ideal.Gen.shapeCasts_S32x8x1024_S256x1024 r l
  · refine funext fun (i : S256x1024.Idx) => ?_
    obtain ⟨r, l, rfl⟩ : ∃ (r : Fin 256) (l : Fin 1024), i = ix2 r l := ⟨i 0, i 1, eq_ix2 i⟩
    exact cols_eq _ _ 2048 (by omega) Cert.Reference5Ideal.Gen.slices_S32x8x3656_S32x8x1024_0_0_2048 Cert.Reference5Ideal.Gen.shapeCasts_S32x8x1024_S256x1024 r l
  · refine funext fun (i : S256x1024.Idx) => ?_
    obtain ⟨r, l, rfl⟩ : ∃ (r : Fin 256) (l : Fin 1024), i = ix2 r l := ⟨i 0, i 1, eq_ix2 i⟩
    exact cols_eq _ _ 1024 (by omega) Cert.Reference5Ideal.Gen.slices_S32x8x3656_S32x8x1024_0_0_1024 Cert.Reference5Ideal.Gen.shapeCasts_S32x8x1024_S256x1024 r l
  · refine funext fun (i : S256x1024.Idx) => ?_
    obtain ⟨r, l, rfl⟩ : ∃ (r : Fin 256) (l : Fin 1024), i = ix2 r l := ⟨i 0, i 1, eq_ix2 i⟩
    exact cols_eq _ _ 2048 (by omega) Cert.Reference5Ideal.Gen.slices_S32x8x3656_S32x8x1024_0_0_2048 Cert.Reference5Ideal.Gen.shapeCasts_S32x8x1024_S256x1024 r l
  · refine funext fun (i : S8x256x64.Idx) => ?_
    obtain ⟨h, r, d, rfl⟩ : ∃ (h : Fin 8) (r : Fin 256) (d : Fin 64), i = ix3 h r d := ⟨i 0, i 1, i 2, eq_ix3 i⟩
    have hq := cols_eq (m ((c : Thread nD τ).loc main_arg0)) (m ((c : Thread nD τ).loc main_arg1)) 3072 (by omega)
      Cert.Reference5Ideal.Gen.slices_S32x8x3656_S32x8x512_0_0_3072 Cert.Reference5Ideal.Gen.shapeCasts_S32x8x512_S256x512 r
      (⟨h.val * 64 + d.val, by omega⟩ : Fin 512)
    refine Eq.trans ?_ hq
    beta_reduce
    generalize shapeCast Cert.Reference5Ideal.S256x512 (extractStridedSlice (s := Cert.Reference5Ideal.S32x8x3656) Cert.Reference5Ideal.S32x8x512 ![0, 0, 3072] _ _) _ = Q
    pointwise []
  · refine funext fun (i : S256x64.Idx) => ?_
    obtain ⟨r, d, rfl⟩ : ∃ (r : Fin 256) (d : Fin 64), i = ix2 r d := ⟨i 0, i 1, eq_ix2 i⟩
    rw [h2, h3]
    refine (Rows.flat_srow _ _ r d).trans ?_
    have hz : Rows.lin (Rows.srow (m ((c : Thread nD τ).loc main_arg0)) r) (Rows.cols (m ((c : Thread nD τ).loc main_arg1)) 3584 (by omega))
        = fun n : Fin 64 => _ :=
      funext fun n => (slice_eq _ _ 3584 (by omega) Cert.Reference5Ideal.Gen.slices_S32x8x3656_S32x8x64_0_0_3584 r n).symm
    show _ = Rows.norm _ (Rows.lin (Rows.srow (m ((c : Thread nD τ).loc main_arg0)) r) (Rows.cols (m ((c : Thread nD τ).loc main_arg1)) 3584 _))
      (fun n => (m ((c : Thread nD τ).loc main_arg2)) (ix1 n)) (fun n => (m ((c : Thread nD τ).loc main_arg3)) (ix1 n)) d
    rw [hz]
    generalize m ((c : Thread nD τ).loc main_arg2) = s
    generalize m ((c : Thread nD τ).loc main_arg3) = b
    generalize extractStridedSlice (s := Cert.Reference5Ideal.S32x8x3656) Cert.Reference5Ideal.S32x8x64 ![0, 0, 3584] _ _ = H
    simp only [Rows.norm, Rows.mean]
    pointwise []
  · refine funext fun (i : S256x8.Idx) => ?_
    obtain ⟨r, h, rfl⟩ : ∃ (r : Fin 256) (h : Fin 8), i = ix2 r h := ⟨i 0, i 1, eq_ix2 i⟩
    refine (Rows.flat_srow _ _ r h).trans ?_
    exact congrArg (· * Ideal.ofBits .f32 0x3EB504F3#32) (slice_eq _ _ 3648 (by omega) Cert.Reference5Ideal.Gen.slices_S32x8x3656_S32x8x8_0_0_3648 r h)

end Cert.Proof.ProjSample
-- ==== Proof.Oproj.lean ====
/- Hand-written: the attention's output projection of the prompt's token rows, with its residual and layer norm: row
   blocks of 512, each the same row mathematics as the reference's. -/
module

public import proofs.«01_k».proof.Proof.Gen.Kernel6Ideal.Value
public import proofs.«01_k».proof.Proof.Gen.Reference6Ideal.Run
public import proofs.«01_k».proof.Defs
public import proofs.«01_k».proof.Proof.Rows
public import Idealize.ShloMosaic.Lib.Pipeline.ValueKit

@[expose] public section

noncomputable section

namespace Cert.Proof.Oproj

open Cert.Kernel6Ideal Cert.Kernel6Ideal.Gen Cert.Kernel6Ideal.Value Idealize.ShloMosaic Idealize.ShloMosaic.TcCoe Idealize.SL.Sem

set_option maxRecDepth 16384 in
/-- The block that the body stores is the row's mathematics. -/
theorem block (x0 : Vec Ideal S512x1024 .bf16) (x1 : Vec Ideal S512x1024 .f32) (x2 : Vec Ideal S1024x1024 .bf16)
    (x3 x4 : Vec Ideal S1x1024 .f32) (r : Fin 512) (l : Fin 1024) :
    out0_5 x0 x1 x2 x3 x4 (ix2 r l)
      = Rows.norm (Ideal.ofBits .f32 0x44800000#32)
          (Rows.resid (fun k => x1 (ix2 r k)) (Rows.lin (fun k => x0 (ix2 r k)) fun k n => x2 (ix2 k n)))
          (fun n => x3 (ix2 0 n)) (fun n => x4 (ix2 0 n)) l := by
  have e0 : View.ld x0 r0_0 = x0 := View.ld_unit_zero Rows.hz _ _
  have e1 : View.ld x1 r0_0 = x1 := View.ld_unit_zero Rows.hz _ _
  have e2 : View.ld x2 r0_1 = x2 := View.ld_unit_zero Rows.hz _ _
  have e3 : View.ld x3 r0_2 = x3 := View.ld_unit_zero Rows.hz _ _
  have e4 : View.ld x4 r0_2 = x4 := View.ld_unit_zero Rows.hz _ _
  unfold out0_5
  rw [View.canon_unit_zero Rows.hz, e0, e1, e2, e3, e4]
  simp only [Rows.norm, Rows.mean, Rows.resid, Rows.lin]
  pointwise [k0_pay1]

/-- The result array as one function of the arguments. -/
def G (O : Vec Ideal S16384x1024 .bf16) (X : Vec Ideal S2x8192x1024 .f32) (W : Vec Ideal S1024x1024 .f32)
    (g b : Vec Ideal S1024 .f32) : Vec Ideal S16384x1024 .f32 :=
  fun i => Rows.norm (Ideal.ofBits .f32 0x44800000#32)
    (Rows.resid (Rows.prow X (i 0)) (Rows.lin (fun k => O (ix2 (i 0) k)) fun k n => W (ix2 k n)))
    (fun n => g (ix1 n)) (fun n => b (ix1 n)) (i 1)

variable (m : (ℓ : Loc nD τ sig) → Buf (Elt Ideal) ℓ) (ρ : Dev nD → PrngReg)

/-- Row `r` of block `t` is row `512 t + r` of the array. -/
def rowOf (t : Fin cfg0.N) (r : Fin 512) : Fin 16384 :=
  ⟨t.val * 512 + r.val, by have h : t.val < 32 := t.isLt; omega⟩

/-- A point takes its 512 rows of the attention's output, -/
theorem in0 (c : Dev nD) (t : Fin cfg0.N) (r : Fin 512) (k : Fin 1024) :
    iblk m c 0 t (ix2 r k : S512x1024.Idx) = m ((c : Thread nD τ).loc main_arg0) (ix2 (rowOf t r) k : S16384x1024.Idx) := by
  have e : win0_0.index t = ![t.val, 0] := (by decide +kernel : ∀ t : Fin grid0.N, win0_0.index t = ![t.val, 0]) t
  blk_ext! [iblk, V, e, rowOf]
/-- and of the layer's input, -/
theorem in1 (c : Dev nD) (t : Fin cfg0.N) (r : Fin 512) :
    (fun k : Fin 1024 => iblk m c 1 t (ix2 r k : S512x1024.Idx)) = Rows.prow (m ((c : Thread nD τ).loc main_arg1)) (rowOf t r) := by
  have e : win0_1.index t = ![t.val, 0] := (by decide +kernel : ∀ t : Fin grid0.N, win0_1.index t = ![t.val, 0]) t
  have h : V m c main_v0 = shapeCast S16384x1024 (m ((c : Thread nD τ).loc main_arg1)) shapeCasts_S2x8192x1024_S16384x1024 := rfl
  funext k
  have hi : iblk m c 1 t (ix2 r k : S512x1024.Idx) = V m c main_v0 (ix2 (rowOf t r) k : S16384x1024.Idx) := by
    blk_ext [iblk, e, rowOf]
  rw [hi, h]
  exact Rows.flat_prow _ _ _ k
/-- the weight whole, -/
theorem in2 (c : Dev nD) (t : Fin cfg0.N) : iblk m c 2 t = m ((c : Thread nD τ).loc main_arg2) := by
  have e : win0_2.index t = ![0, 0] := (by decide +kernel : ∀ t : Fin grid0.N, win0_2.index t = ![0, 0]) t
  blk_ext! [iblk, V, e]
/-- the scale, -/
theorem in3 (c : Dev nD) (t : Fin cfg0.N) (n : Fin 1024) :
    iblk m c 3 t (ix2 0 n : S1x1024.Idx) = m ((c : Thread nD τ).loc main_arg3) (ix1 n : S1024.Idx) := by
  have e : win0_3.index t = ![0, 0] := (by decide +kernel : ∀ t : Fin grid0.N, win0_3.index t = ![0, 0]) t
  blk_ext! [iblk, V, e]
/-- and the shift. -/
theorem in4 (c : Dev nD) (t : Fin cfg0.N) (n : Fin 1024) :
    iblk m c 4 t (ix2 0 n : S1x1024.Idx) = m ((c : Thread nD τ).loc main_arg4) (ix1 n : S1024.Idx) := by
  have e : win0_4.index t = ![0, 0] := (by decide +kernel : ∀ t : Fin grid0.N, win0_4.index t = ![0, 0]) t
  blk_ext! [iblk, V, e]

/-- The result array after the run. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have e : win0_5.index t = ![t.val, 0] := (by decide +kernel : ∀ t : Fin grid0.N, win0_5.index t = ![t.val, 0]) t
  blk_simp
  rw [after0_5]
  obtain ⟨r, l, rfl⟩ : ∃ (r : Fin 512) (l : Fin 1024), y = (ix2 r l : S512x1024.Idx) := ⟨y 0, y 1, eq_ix2 y⟩
  have ey : (win0_5.blk t).view.emb (ix2 r l : S512x1024.Idx) = (ix2 (rowOf t r) l : S16384x1024.Idx) := by blk_ext [e, rowOf]
  rw [ey]
  refine (block _ _ _ _ _ r l).trans ?_
  rw [funext (in0 m c t r), in1, in2, funext (in3 m c t), funext (in4 m c t)]
  rfl

set_option maxRecDepth 16384 in
/-- The output projection's kernel computes what its reference computes, at the extended reals. -/
theorem algebraic : Cert.algebraic_Kernel6Ideal_Reference6Ideal := by
  intro m g m' g' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run defs _ _).mono (fun _ h c => ⟨(h c).1.trans (final m c), (h c).2⟩) (run_blocks m g)
  · refine (θ_run Cert.Reference6Ideal.defs _ _).mono (fun _ h c => ⟨(h c).1.trans ?_, (h c).2⟩)
      (Cert.Reference6Ideal.Value.run m' g')
    obtain ⟨h0, h1, h2, h3, h4⟩ := hagree c
    refine funext fun (i : S16384x1024.Idx) => ?_
    obtain ⟨r, l, rfl⟩ : ∃ (r : Fin 16384) (l : Fin 1024), i = ix2 r l := ⟨i 0, i 1, eq_ix2 i⟩
    rw [h0, h1, h2, h3, h4]
    beta_reduce
    generalize m ((c : Thread nD τ).loc main_arg0) = O
    generalize m ((c : Thread nD τ).loc main_arg1) = X
    generalize m ((c : Thread nD τ).loc main_arg2) = W
    generalize m ((c : Thread nD τ).loc main_arg3) = s
    generalize m ((c : Thread nD τ).loc main_arg4) = b
    have hx : Rows.prow X r = fun k => shapeCast S16384x1024 X shapeCasts_S2x8192x1024_S16384x1024 (ix2 r k) :=
      funext fun k => (Rows.flat_prow X _ r k).symm
    show _ = Rows.norm _ (Rows.resid (Rows.prow X r) (Rows.lin (fun k => O (ix2 r k)) fun k n => W (ix2 k n))) (fun n => s (ix1 n)) (fun n => b (ix1 n)) l
    rw [hx]
    generalize shapeCast S16384x1024 X shapeCasts_S2x8192x1024_S16384x1024 = X2
    simp only [Rows.norm, Rows.mean, Rows.resid, Rows.lin]
    pointwise []

end Cert.Proof.Oproj
-- ==== Proof.Window.lean ====
/- Hand-written: moving sums over the last rows of an array, at the extended reals: the host's window sum, and the sums
   that a rotation and an addition double. -/
module

public import Idealize.ShloMosaic.Lib.KernelVsHost
public import Idealize.ShloMosaic.Lib.Pointwise

@[expose] public section

noncomputable section

namespace Cert.Proof.Window

open Idealize.ShloMosaic

/-- The value `j` rows before row `t`, zero before the first row. -/
def lag {N : Nat} (f : Fin N → EReal) (t : Fin N) (j : Nat) : EReal :=
  if j ≤ t.val then f ⟨t.val - j, by omega⟩ else 0

/-- The sum of the last `w` rows up to row `t`. -/
def last {N : Nat} (w : Nat) (f : Fin N → EReal) (t : Fin N) : EReal := ∑ j ∈ Finset.range w, lag f t j

/-- A fold that adds is its start plus a sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The host's window sum along the middle axis, padded low so that a row's window ends at the row. -/
theorem window {A N C w wm1 : Nat} (hw : wm1 + 1 = w) (x : FVec Ideal (⟨3, ![A, N, C]⟩ : Shape) .f32)
    {u : Shape} (init : FVec Ideal u .f32)
    (h : (⟨3, ![A, N, C]⟩ : Shape).ReduceWindows (![1, w, 1] : Fin 3 → Nat) ![1, 1, 1] ![0, wm1, 0] ![0, 0, 0] ⟨3, ![A, N, C]⟩)
    (hu : 0 < u.numel) (hinit : init (Shape.Idx.first hu) = 0) (a : Fin A) (t : Fin N) (c : Fin C) :
    Host.reduceWindowAdd (![1, w, 1] : Fin 3 → Nat) ![1, 1, 1] ![0, wm1, 0] ![0, 0, 0] x init h hu (ix3 a t c)
      = last w (fun t' => x (ix3 a t' c)) t := by
  subst hw
  show Host.reduceWindow (s := ⟨3, ![A, N, C]⟩) (· + ·) (![1, wm1 + 1, 1] : Fin 3 → Nat) ![1, 1, 1] ![0, wm1, 0] ![0, 0, 0] x
    (fun _ : (⟨0, ![]⟩ : Shape).Idx => init (Shape.Idx.first hu)) h (by decide) (ix3 a t c) = _
  unfold Host.reduceWindow
  rw [hinit]
  dsimp only
  have ht := t.isLt
  have ha := a.isLt
  have hc := c.isLt
  let g : (⟨3, ![1, wm1 + 1, 1]⟩ : Shape).Idx → EReal := fun k =>
    lag (fun t' => x (ix3 a t' c)) t (wm1 - (k 1).val)
  refine (List.foldl_ext _ (fun (r : EReal) n => r + g ((⟨3, ![1, wm1 + 1, 1]⟩ : Shape).rowMajor.symm n)) _ fun r n _ => ?_).trans ?_
  · refine congrArg (r + ·) ?_
    let k : (⟨3, ![1, wm1 + 1, 1]⟩ : Shape).Idx := (⟨3, ![1, wm1 + 1, 1]⟩ : Shape).rowMajor.symm n
    have k0 : (k 0).val < 1 := (k 0).isLt
    have k1 : (k 1).val < wm1 + 1 := (k 1).isLt
    have k2 : (k 2).val < 1 := (k 2).isLt
    show _ = lag (fun t' => x (ix3 a t' c)) t (wm1 - (k 1).val)
    unfold lag
    split
    · next hin =>
      have h1 : wm1 ≤ t.val * 1 + (k 1).val ∧ t.val * 1 + (k 1).val - wm1 < N := hin 1
      rw [if_pos (by omega)]
      refine congrArg x (funext fun b => Fin.ext ?_)
      match b with
      | ⟨0, _⟩ => show a.val * 1 + (k 0).val - 0 = a.val; omega
      | ⟨1, _⟩ => show t.val * 1 + (k 1).val - wm1 = t.val - (wm1 - (k 1).val); omega
      | ⟨2, _⟩ => show c.val * 1 + (k 2).val - 0 = c.val; omega
    · next hin =>
      rw [if_neg fun hle => hin fun b => by
        match b with
        | ⟨0, _⟩ => show 0 ≤ a.val * 1 + (k 0).val ∧ a.val * 1 + (k 0).val - 0 < A; omega
        | ⟨1, _⟩ => show wm1 ≤ t.val * 1 + (k 1).val ∧ t.val * 1 + (k 1).val - wm1 < N; omega
        | ⟨2, _⟩ => show 0 ≤ c.val * 1 + (k 2).val ∧ c.val * 1 + (k 2).val - 0 < C; omega]
  · rw [foldl_add (fun n => g ((⟨3, ![1, wm1 + 1, 1]⟩ : Shape).rowMajor.symm n)), zero_add, ← Fin.sum_univ_def,
      (⟨3, ![1, wm1 + 1, 1]⟩ : Shape).rowMajor.symm.sum_comp g, Idealize.ShloMosaic.sum_idx3 g, Fin.sum_univ_one]
    unfold last
    rw [← Finset.sum_range_reflect, Finset.sum_range]
    refine Finset.sum_congr rfl fun j _ => ?_
    rw [Fin.sum_univ_one]
    show lag _ t (wm1 - j.val) = lag _ t (wm1 + 1 - 1 - j.val)
    rw [Nat.add_sub_cancel]

/-- An array's value at a row given as a natural number. -/
def cell {R C : Nat} (x : (⟨2, ![R, C]⟩ : Shape).Idx → EReal) (c : Fin C) (q : Nat) : EReal := if h : q < R then x (ix2 ⟨q, h⟩ c) else 0

/-- In column `c`, from row `k` on, `s` holds the sums of the last `w` rows of `x`. -/
def Moving {R C : Nat} (x s : (⟨2, ![R, C]⟩ : Shape).Idx → EReal) (c : Fin C) (w k : Nat) : Prop :=
  ∀ q, k ≤ q → q < R → cell s c q = ∑ j ∈ Finset.range w, cell x c (q - j)

/-- An array is its own sums of one row. -/
theorem moving_one {R C : Nat} (x : (⟨2, ![R, C]⟩ : Shape).Idx → EReal) (c : Fin C) : Moving x x c 1 0 := fun q _ _ => by
  rw [Finset.sum_range_one, Nat.sub_zero]

/-- Adding to sums of `w` rows the same sums, `w` rows down, gives sums of twice as many rows. -/
theorem Moving.double {R C : Nat} {x s : FVec Ideal (⟨2, ![R, C]⟩ : Shape) .f32} {c : Fin C} {w k : Nat} (hm : Moving x s c w k)
    (n : BitVec 32) (hn : n.toNat = w) (h : (⟨2, ![R, C]⟩ : Shape).Rotates 0 none) :
    Moving x (addf s (dynamicRotate 0 n none s h)) c (w + w) (k + w) := by
  intro q hk hq
  have e : cell (addf s (dynamicRotate 0 n none s h)) c q = cell s c q + cell s c (q - w) := by
    unfold cell
    rw [dif_pos hq, dif_pos hq, dif_pos (by omega)]
    refine congrArg (s (ix2 ⟨q, hq⟩ c) + ·) (dynamicRotate_apply 0 n s h _ _ fun b => ?_)
    match b with
    | ⟨0, _⟩ =>
      show q - w = (q + R - n.toNat % R) % R
      rw [hn, Nat.mod_eq_of_lt (by omega : w < R), (by omega : q + R - w = q - w + R), Nat.add_mod_right, Nat.mod_eq_of_lt (by omega)]
    | ⟨1, _⟩ => rfl
  rw [e, hm q (by omega) hq, hm (q - w) (by omega) (by omega), Finset.sum_range_add]
  refine congrArg _ (Finset.sum_congr rfl fun j _ => ?_)
  rw [Nat.sub_sub]

end Cert.Proof.Window
-- ==== Proof.Pool.lean ====
/- Hand-written: the pooling mixer of the prompt's token rows, with its residual and layer norm. A block of 512 rows with
   the 16 rows before it has every row that its windows reach; the kernel's doubled rotations are moving sums (`Window`). -/
module

public import proofs.«01_k».proof.Proof.Gen.Kernel7Ideal.Value
public import proofs.«01_k».proof.Proof.Gen.Reference7Ideal.Run
public import proofs.«01_k».proof.Defs
public import proofs.«01_k».proof.Proof.Rows
public import proofs.«01_k».proof.Proof.Window
public import Idealize.ShloMosaic.Lib.Pipeline.ValueKit

@[expose] public section

noncomputable section

namespace Cert.Proof.Pool

open Cert.Kernel7Ideal Cert.Kernel7Ideal.Gen Cert.Kernel7Ideal.Value Idealize.ShloMosaic Idealize.ShloMosaic.TcCoe Idealize.SL.Sem

/-! ## The mathematics of a row -/

/-- How many rows a window of `w` ending at row `t` has, as the float that divides its sum. -/
def count (w : Nat) (t : Nat) : EReal := FloatOps.sitofp (F := Ideal) .f32 (IntOp.minsi (BitVec.ofNat 32 w) (BitVec.ofNat 32 t + 1#32))

/-- The window of each group of columns. -/
def wins : Fin 4 → Nat := ![2, 4, 8, 16]

/-- A column of one of the two sequences. -/
def col (X : Vec Ideal S2x8192x1024 .f32) (b : Fin 2) (c : Fin 1024) : Fin 8192 → EReal := fun t => X (ix3 b t c)

/-- The mean of a window's rows less the row itself. -/
def pooled (w : Nat) (f : Fin 8192 → EReal) (t : Fin 8192) : EReal := Ideal.div (Window.last w f t) (count w t.val) - f t

/-- A group of columns, pooled and mixed by the group's weight. -/
def mix (X : Vec Ideal S2x8192x1024 .f32) (W : Vec Ideal S4x256x256 .f32) (b : Fin 2) (t : Fin 8192) (g : Fin 4) (e : Fin 256) : EReal :=
  ∑ k : Fin 256, pooled (wins g) (col X b ⟨256 * g.val + k.val, by omega⟩) t * W (ix3 g k e)

/-- A row's mixed columns, the four groups side by side. -/
def mixed (X : Vec Ideal S2x8192x1024 .f32) (W : Vec Ideal S4x256x256 .f32) (b : Fin 2) (t : Fin 8192) (n : Fin 1024) : EReal :=
  mix X W b t ⟨n.val / 256, by omega⟩ ⟨n.val % 256, by omega⟩

/-- The result array as one function of the arguments. -/
def G (X : Vec Ideal S2x8192x1024 .f32) (W : Vec Ideal S4x256x256 .f32) (s g b : Vec Ideal S1024 .f32) : Vec Ideal S2x8192x1024 .f32 :=
  fun i => Rows.norm (Ideal.ofBits .f32 0x44800000#32)
    (Rows.resid (fun k => X (ix3 (i 0) (i 1) k)) fun n => mixed X W (i 0) (i 1) n * s (ix1 n))
    (fun n => g (ix1 n)) (fun n => b (ix1 n)) (i 2)

/-! ## The kernel's block -/

section Block

variable (i : grid0.Coords) (x0 : Vec Ideal S1x512x1024 .f32) (x1 : Vec Ideal S1x16x1024 .f32)

/-- Row `r` of the point's block, as a row of its sequence. -/
def at_ (r : Fin 512) : Fin 8192 := ⟨(i 1).val * 512 + r.val, by have h : (i 1).val < 16 := (i 1).isLt; omega⟩

/-- The row's place in its sequence, as the kernel counts it. -/
theorem place (r : Fin 512) : k0_pay4 i (ix2 r 0) = BitVec.ofNat 32 (at_ i r).val := by
  pointwise [k0_pay4]
  show 0#32 + BitVec.ofNat 32 (i 1).val * 512#32 + BitVec.ofNat 32 r.val = BitVec.ofNat 32 ((i 1).val * 512 + r.val)
  simp [BitVec.ofNat_add, BitVec.ofNat_mul]

/-- What a block and its halo hold: the block's rows, and before them, from the second block on, the 16 rows before. -/
structure Holds (X : Vec Ideal S2x8192x1024 .f32) (b : Fin 2) : Prop where
  rows : ∀ (r : Fin 512) (c : Fin 1024), x0 (ix3 0 r c) = X (ix3 b (at_ i r) c)
  halo : ∀ (h : (i 1).val ≠ 0) (q : Fin 16) (c : Fin 1024), x1 (ix3 0 q c)
    = X (ix3 b ⟨(i 1).val * 512 - 16 + q.val, by have h : (i 1).val < 16 := (i 1).isLt; omega⟩ c)

variable {i x0 x1} {X : Vec Ideal S2x8192x1024 .f32} {b : Fin 2}

/-- The block under its halo holds the rows that a window reaches, zero before the sequence's first. -/
theorem Holds.lag (H : Holds i x0 x1 X b) (r : Fin 512) (c : Fin 1024) (j : Nat) (hj : j < 16) :
    Window.cell (k0_pay3 i x0 x1) c (16 + r.val - j) = Window.lag (col X b c) (at_ i r) j := by
  have hi : (i 1).val < 16 := (i 1).isLt
  unfold Window.cell Window.lag
  rw [dif_pos (by omega)]
  pointwise [k0_pay3, k0_pay2]
  by_cases hr : j ≤ r.val
  · rw [dif_neg (by show ¬ 16 + r.val - j < 16; omega), if_pos (show j ≤ (at_ i r).val by show j ≤ (i 1).val * 512 + r.val; omega)]
    refine (H.rows ⟨16 + r.val - j - 16, by omega⟩ c).trans (congrArg X (congrArg (fun z => ix3 b z c) (Fin.ext ?_)))
    show (i 1).val * 512 + (16 + r.val - j - 16) = (i 1).val * 512 + r.val - j
    omega
  · rw [dif_pos (by show 16 + r.val - j < 16; omega)]
    by_cases h0 : (i 1).val = 0
    · rw [if_neg (show ¬ j ≤ (at_ i r).val by show ¬ j ≤ (i 1).val * 512 + r.val; omega), h0]
      rfl
    · rw [if_pos (show j ≤ (at_ i r).val by show j ≤ (i 1).val * 512 + r.val; omega)]
      have hc : Scalar.cmpi CmpIPredicate.eq (BitVec.ofNat 32 (i 1).val) 0#32 = 0#1 := by
        generalize (i 1).val = v at hi h0
        interval_cases v <;> first | exact absurd rfl h0 | rfl
      rw [hc, show ∀ a b : EReal, Scalar.select 0#1 a b = b from fun _ _ => rfl]
      refine (H.halo h0 ⟨16 + r.val - j, by omega⟩ c).trans (congrArg X (congrArg (fun z => ix3 b z c) (Fin.ext ?_)))
      show (i 1).val * 512 - 16 + (16 + r.val - j) = (i 1).val * 512 + r.val - j
      omega

/-- Moving sums over a group of the columns are sums of the sequence's last rows. -/
theorem Holds.sums (H : Holds i x0 x1 X b) {off : Nat} (ho : off + 256 ≤ 1024) (hsl : S528x1024.Slices ![0, off] S528x256)
    {s : FVec Ideal S528x256 .f32} {k : Fin 256} {w K : Nat}
    (hs : Window.Moving (extractStridedSlice S528x256 ![0, off] (k0_pay3 i x0 x1) hsl) s k w K) (hK : K ≤ 16) (hw : w ≤ 16) (r : Fin 512) :
    s (ix2 ⟨16 + r.val, by omega⟩ k) = Window.last w (col X b ⟨off + k.val, by omega⟩) (at_ i r) := by
  have h := hs (16 + r.val) (by omega) (by omega)
  unfold Window.cell at h
  rw [dif_pos (by omega : 16 + r.val < 528)] at h
  refine h.trans (Finset.sum_congr rfl fun j hj => ?_)
  have hj := Finset.mem_range.1 hj
  rw [← H.lag r _ j (by omega)]
  unfold Window.cell
  rw [dif_pos (by omega), dif_pos (by omega)]
  refine congrArg (k0_pay3 i x0 x1) (funext fun a => ?_)
  match a with
  | ⟨0, _⟩ => exact Fin.ext (by show 0 + (16 + r.val - j) = 16 + r.val - j; omega)
  | ⟨1, _⟩ => rfl

/-- A group's product as the kernel forms it: from moving sums `s`, the block `v1` and the rows' places `v12`. -/
def prod {off : Nat} (hsl : S512x1024.Slices ![0, off] S512x256) (w : BitVec 32) (v1 : FVec Ideal S512x1024 .f32) (s : FVec Ideal S528x256 .f32)
    (v12 : IVec S512x1 32) (wt : Vec Ideal S1x256x256 .bf16) : FVec Ideal S512x256 .f32 :=
  matmul dot_S512x256_S256x256_S512x256_1_0_0_1_n_n none
    (truncf .bf16 (subf (divf (extractStridedSlice S512x256 ![16, 0] s slices_S528x256_o16_0_S512x256)
      (broadcastTo S512x256 (sitofp .f32 (minsi (broadcast S512x1 w) (addi v12 (broadcast S512x1 1#32)))) broadcasts_S512x1_S512x256))
      (extractStridedSlice S512x256 ![0, off] v1 hsl)) bitsLt_bf16_f32)
    (shapeCast S256x256 wt shapeCasts_S1x256x256_S256x256 : FVec Ideal S256x256 .bf16) (constant S512x256 .f32 0x00000000#32)

/-- One number of a group's product. -/
theorem prod_at {off : Nat} (ho : off + 256 ≤ 1024) (hsl : S512x1024.Slices ![0, off] S512x256) (w : BitVec 32) (v1 : FVec Ideal S512x1024 .f32)
    (s : FVec Ideal S528x256 .f32) (v12 : IVec S512x1 32) (wt : Vec Ideal S1x256x256 .bf16) (r : Fin 512) (e : Fin 256) :
    prod hsl w v1 s v12 wt (ix2 r e) = ∑ k : Fin 256, (Ideal.div (s (ix2 ⟨16 + r.val, by omega⟩ k))
      (FloatOps.sitofp (F := Ideal) .f32 (IntOp.minsi w (v12 (ix2 r 0) + 1#32))) - v1 (ix2 r ⟨off + k.val, by omega⟩)) * wt (ix3 0 k e) := by
  pointwise [prod]
  rfl

/-- The product of a group is the group's mix. -/
theorem Holds.prod (H : Holds i x0 x1 X b) {off : Nat} (g : Fin 4) (hg : off = 256 * g.val) (ho : off + 256 ≤ 1024)
    (hsl : S512x1024.Slices ![0, off] S512x256) (hsl' : S528x1024.Slices ![0, off] S528x256) (s : FVec Ideal S528x256 .f32) (K : Nat) (hK : K ≤ 16)
    (hs : ∀ k, Window.Moving (extractStridedSlice S528x256 ![0, off] (k0_pay3 i x0 x1) hsl') s k (wins g) K)
    (wt : Vec Ideal S1x256x256 .bf16) (W : Vec Ideal S4x256x256 .f32) (hw : ∀ k e, wt (ix3 0 k e) = W (ix3 g k e)) (r : Fin 512) (e : Fin 256) :
    Pool.prod hsl (BitVec.ofNat 32 (wins g)) (k0_pay2 x0) s (k0_pay4 i) wt (ix2 r e) = mix X W b (at_ i r) g e := by
  subst hg
  rw [prod_at ho]
  refine Finset.sum_congr rfl fun k _ => ?_
  rw [hw, place, H.sums ho hsl' (hs k) hK (by fin_cases g <;> decide) r]
  refine congrArg (· * _) (congrArg (Ideal.div _ _ - ·) ?_)
  refine Eq.trans ?_ (H.rows r ⟨256 * g.val + k.val, by omega⟩)
  pointwise [k0_pay2]

/-- The four groups side by side. -/
def cat (a0 a1 a2 a3 : FVec Ideal S512x256 .f32) : FVec Ideal S512x1024 .f32 :=
  concatenate S512x1024 1 [⟨S512x256, a0⟩, ⟨S512x256, a1⟩, ⟨S512x256, a2⟩, ⟨S512x256, a3⟩] concatenates_S512x256_S512x256_S512x256_S512x256_S512x1024_d1

/-- One number of the four groups side by side. -/
theorem cat_at (M : Fin 4 → Fin 256 → EReal) (a0 a1 a2 a3 : FVec Ideal S512x256 .f32) (r : Fin 512) (h0 : ∀ e, a0 (ix2 r e) = M 0 e)
    (h1 : ∀ e, a1 (ix2 r e) = M 1 e) (h2 : ∀ e, a2 (ix2 r e) = M 2 e) (h3 : ∀ e, a3 (ix2 r e) = M 3 e) (n : Fin 1024) :
    cat a0 a1 a2 a3 (ix2 r n) = M ⟨n.val / 256, by omega⟩ ⟨n.val % 256, by omega⟩ := by
  have hM : ∀ (g : Fin 4) (e : Fin 256), n.val = 256 * g.val + e.val → M g e = M ⟨n.val / 256, by omega⟩ ⟨n.val % 256, by omega⟩ := fun g e h =>
    congrArg₂ M (Fin.ext (by show g.val = n.val / 256; omega)) (Fin.ext (by show e.val = n.val % 256; omega))
  pointwise [cat]
  split
  · next h => exact (h0 _).trans (hM _ _ (by show n.val = 256 * 0 + n.val; omega))
  · next h =>
    split
    · next h' => exact (h1 _).trans (hM _ _ (by show n.val = 256 * 1 + (n.val - 256); omega))
    · next h' =>
      split
      · next h'' => exact (h2 _).trans (hM _ _ (by show n.val = 256 * 2 + (n.val - 256 - 256); omega))
      · next h'' => exact (h3 _).trans (hM _ _ (by show n.val = 256 * 3 + (n.val - 256 - 256 - 256); omega))

set_option maxRecDepth 16384 in
/-- The residual and the layer norm of the four groups, whose last product is formed here. -/
theorem tail (v1 : FVec Ideal S512x1024 .f32) (v12 : IVec S512x1 32) (a0 a1 a2 : FVec Ideal S512x256 .f32) (s : FVec Ideal S528x256 .f32)
    (wt : Vec Ideal S1x256x256 .bf16) (x3 x4 x5 : Vec Ideal S1x1024 .f32) (r : Fin 512) (l : Fin 1024) :
    k0_pay1 (k0_pay11 x5) (k0_pay12 v1 v12 a0 a1 a2 s 1#32 wt x3) (k0_pay13 x4) (ix3 0 r l)
      = Rows.norm (Ideal.ofBits .f32 0x44800000#32)
          (Rows.resid (fun k => v1 (ix2 r k)) fun n =>
            cat a0 a1 a2 (Pool.prod slices_S512x1024_o0_768_S512x256 16#32 v1 s v12 wt) (ix2 r n) * x3 (ix2 0 n))
          (fun n => x4 (ix2 0 n)) (fun n => x5 (ix2 0 n)) l := by
  unfold k0_pay12 cat Pool.prod
  dsimp only
  generalize concatenate S512x1024 1 _ _ = Y
  simp only [Rows.norm, Rows.mean, Rows.resid]
  pointwise [k0_pay1, k0_pay11, k0_pay13]

/-- The offsets of a whole array with three axes, as they print. -/
theorem hz3 : (![0, 0, 0] : Fin 3 → Nat) = fun _ => 0 := funext fun a => by fin_cases a <;> rfl

/-- A group's weight, read out of the whole. -/
theorem weight (x2 : Vec Ideal S4x256x256 .bf16) (k e : Fin 256) :
    View.ld x2 r0_2 (ix3 0 k e) = x2 (ix3 0 k e) ∧ View.ld x2 r0_3 (ix3 0 k e) = x2 (ix3 1 k e)
      ∧ View.ld x2 r0_4 (ix3 0 k e) = x2 (ix3 2 k e) ∧ View.ld x2 r0_5 (ix3 0 k e) = x2 (ix3 3 k e) := by
  refine ⟨?_, ?_, ?_, ?_⟩ <;>
  · rw [View.ld_apply]
    refine congrArg x2 (funext fun a => Fin.ext ?_)
    match a with
    | ⟨0, _⟩ => rfl
    | ⟨1, _⟩ => show 0 + 1 * k.val = k.val; omega
    | ⟨2, _⟩ => show 0 + 1 * e.val = e.val; omega

/-- The block that the body stores is the row's mathematics. -/
theorem block (H : Holds i x0 x1 X b) (x2 : Vec Ideal S4x256x256 .bf16) (x3 x4 x5 : Vec Ideal S1x1024 .f32) (r : Fin 512) (l : Fin 1024) :
    out0_6 i x0 x1 x2 x3 x4 x5 (ix3 0 r l)
      = Rows.norm (Ideal.ofBits .f32 0x44800000#32)
          (Rows.resid (fun k => X (ix3 b (at_ i r) k)) fun n => mixed X x2 b (at_ i r) n * x3 (ix2 0 n))
          (fun n => x4 (ix2 0 n)) (fun n => x5 (ix2 0 n)) l := by
  have e0 : View.ld x0 r0_0 = x0 := View.ld_unit_zero hz3 _ _
  have e1 : View.ld x1 r0_1 = x1 := View.ld_unit_zero hz3 _ _
  have e3 : View.ld x3 r0_6 = x3 := View.ld_unit_zero Rows.hz _ _
  have e4 : View.ld x4 r0_6 = x4 := View.ld_unit_zero Rows.hz _ _
  have e5 : View.ld x5 r0_6 = x5 := View.ld_unit_zero Rows.hz _ _
  unfold out0_6 k0_pay14 k0_pay15 k0_pay16
  rw [View.canon_unit_zero hz3, e0, e1, e3, e4, e5, tail]
  have hx : (fun k => k0_pay2 x0 (ix2 r k)) = fun k => X (ix3 b (at_ i r) k) := funext fun k => by
    refine Eq.trans ?_ (H.rows r k)
    pointwise [k0_pay2]
  rw [hx]
  refine congrArg (fun z => Rows.norm _ (Rows.resid _ z) _ _ l) (funext fun n => congrArg (· * x3 (ix2 0 n)) ?_)
  refine cat_at (mix X x2 b (at_ i r)) _ _ _ _ r (fun e => ?_) (fun e => ?_) (fun e => ?_) (fun e => ?_) n
  · exact H.prod 0 rfl (by omega) slices_S512x1024_o0_0_S512x256 slices_S528x1024_o0_0_S528x256 _ 1 (by omega)
      (fun k => (Window.moving_one _ k).double 1#32 rfl _) _ x2 (fun k e => (weight x2 k e).1) r e
  · exact H.prod 1 rfl (by omega) slices_S512x1024_o0_256_S512x256 slices_S528x1024_o0_256_S528x256 _ 3 (by omega)
      (fun k => ((Window.moving_one _ k).double 1#32 rfl _).double 2#32 rfl _) _ x2 (fun k e => (weight x2 k e).2.1) r e
  · exact H.prod 2 rfl (by omega) slices_S512x1024_o0_512_S512x256 slices_S528x1024_o0_512_S528x256 _ 7 (by omega)
      (fun k => (((Window.moving_one _ k).double 1#32 rfl _).double 2#32 rfl _).double 4#32 rfl _) _ x2 (fun k e => (weight x2 k e).2.2.1) r e
  · exact H.prod 3 rfl (by omega) slices_S512x1024_o0_768_S512x256 slices_S528x1024_o0_768_S528x256 _ 15 (by omega)
      (fun k => ((((Window.moving_one _ k).double 1#32 rfl _).double 2#32 rfl _).double 4#32 rfl _).double 8#32 rfl _) _ x2
      (fun k e => (weight x2 k e).2.2.2) r e

end Block

/-! ## The kernel's run -/

variable (m : (ℓ : Loc nD τ sig) → Buf (Elt Ideal) ℓ) (ρ : Dev nD → PrngReg)

/-- The sequence of grid point `t`. -/
def seqOf (t : Fin cfg0.N) : Fin 2 := ⟨t.val / 16, by have h : t.val < 32 := t.isLt; omega⟩

/-- The block of its sequence that point `t` takes. -/
theorem coord (t : Fin cfg0.N) : ((grid0.coords t) 1).val = t.val % 16 :=
  (by decide +kernel : ∀ t : Fin grid0.N, ((grid0.coords t) 1).val = t.val % 16) t

/-- A point takes its 512 rows and the 16 rows before them, -/
theorem holds (c : Dev nD) (t : Fin cfg0.N) :
    Holds (grid0.coords t) (iblk m c 0 t) (iblk m c 1 t) (m ((c : Thread nD τ).loc main_arg0)) (seqOf t) where
  rows r k := by
    have e : win0_0.index t = ![t.val / 16, t.val % 16, 0] := (by decide +kernel : ∀ t : Fin grid0.N, win0_0.index t = ![t.val / 16, t.val % 16, 0]) t
    have h := coord t
    blk_ext! [iblk, V, e, seqOf, at_, h]
  halo hn q k := by
    have e : win0_1.index t = ![t.val / 16, 32 * (t.val % 16) - 1, 0] := (by decide +kernel : ∀ t : Fin grid0.N, win0_1.index t = ![t.val / 16, 32 * (t.val % 16) - 1, 0]) t
    have h := coord t
    rw [h] at hn
    blk_ext! [iblk, V, e, seqOf, at_, h]
/-- the weights whole, -/
theorem in2 (c : Dev nD) (t : Fin cfg0.N) : iblk m c 2 t = m ((c : Thread nD τ).loc main_arg1) := by
  have e : win0_2.index t = ![0, 0, 0] := (by decide +kernel : ∀ t : Fin grid0.N, win0_2.index t = ![0, 0, 0]) t
  blk_ext! [iblk, V, e]
/-- the mixer's scale, -/
theorem in3 (c : Dev nD) (t : Fin cfg0.N) (n : Fin 1024) :
    iblk m c 3 t (ix2 0 n : S1x1024.Idx) = m ((c : Thread nD τ).loc main_arg2) (ix1 n : S1024.Idx) := by
  have e : win0_3.index t = ![0, 0] := (by decide +kernel : ∀ t : Fin grid0.N, win0_3.index t = ![0, 0]) t
  blk_ext! [iblk, V, e]
/-- the norm's scale, -/
theorem in4 (c : Dev nD) (t : Fin cfg0.N) (n : Fin 1024) :
    iblk m c 4 t (ix2 0 n : S1x1024.Idx) = m ((c : Thread nD τ).loc main_arg3) (ix1 n : S1024.Idx) := by
  have e : win0_4.index t = ![0, 0] := (by decide +kernel : ∀ t : Fin grid0.N, win0_4.index t = ![0, 0]) t
  blk_ext! [iblk, V, e]
/-- and its shift. -/
theorem in5 (c : Dev nD) (t : Fin cfg0.N) (n : Fin 1024) :
    iblk m c 5 t (ix2 0 n : S1x1024.Idx) = m ((c : Thread nD τ).loc main_arg4) (ix1 n : S1024.Idx) := by
  have e : win0_5.index t = ![0, 0] := (by decide +kernel : ∀ t : Fin grid0.N, win0_5.index t = ![0, 0]) t
  blk_ext! [iblk, V, e]

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  have e : win0_6.index t = ![t.val / 16, t.val % 16, 0] := (by decide +kernel : ∀ t : Fin grid0.N, win0_6.index t = ![t.val / 16, t.val % 16, 0]) t
  have h := coord t
  blk_simp
  rw [after0_6]
  obtain ⟨z, r, l, rfl⟩ : ∃ (z : Fin 1) (r : Fin 512) (l : Fin 1024), y = (ix3 z r l : S1x512x1024.Idx) := ⟨y 0, y 1, y 2, eq_ix3 y⟩
  obtain rfl : z = 0 := Subsingleton.elim _ _
  have ey : (win0_6.blk t).view.emb (ix3 0 r l : S1x512x1024.Idx) = (ix3 (seqOf t) (at_ (grid0.coords t) r) l : S2x8192x1024.Idx) := by
    blk_ext [e, seqOf, at_, h]
  rw [ey]
  refine (block (holds m c t) _ _ _ _ r l).trans ?_
  rw [in2, funext (in4 m c t), funext (in5 m c t)]
  simp only [in3]
  rfl

end Cert.Proof.Pool
-- ==== Proof.PoolRef.lean ====
/- Hand-written: the pooling mixer's reference, read one number at a time, and with it the mixer's value claim. -/
module

public import proofs.«01_k».proof.Proof.Pool

@[expose] public section

noncomputable section

namespace Cert.Proof.Pool.Ref

open Cert.Reference7Ideal Cert.Reference7Ideal.Gen Cert.Reference7Ideal.Value Idealize.ShloMosaic Idealize.ShloMosaic.TcCoe Idealize.SL.Sem

/-- The sums of a group's windows. -/
def sums {wm1 off : Nat} (X : Vec Ideal S2x8192x1024 .f32) (hsl : S2x8192x1024.Slices ![0, 0, off] S2x8192x256)
    (h : S2x8192x256.ReduceWindows ![1, wm1 + 1, 1] ![1, 1, 1] ![0, wm1, 0] ![0, 0, 0] S2x8192x256) : FVec Ideal S2x8192x256 .f32 :=
  Host.reduceWindowAdd ![1, wm1 + 1, 1] ![1, 1, 1] ![0, wm1, 0] ![0, 0, 0] (extractStridedSlice S2x8192x256 ![0, 0, off] X hsl)
    (broadcastInDim S_ ![] bcast_S_S_ (constant S_ .f32 0x00000000#32)) h h_S_

/-- The four groups' sums side by side. -/
def cat (X : Vec Ideal S2x8192x1024 .f32) : FVec Ideal S2x8192x1024 .f32 :=
  concatenate S2x8192x1024 2
    [⟨S2x8192x256, sums X slices_S2x8192x1024_S2x8192x256_0_0_0 reduceWindows_S2x8192x256_S2x8192x256_w1s1p0_0_w2s1p1_0_w1s1p0_0⟩,
     ⟨S2x8192x256, sums X slices_S2x8192x1024_S2x8192x256_0_0_256 reduceWindows_S2x8192x256_S2x8192x256_w1s1p0_0_w4s1p3_0_w1s1p0_0⟩,
     ⟨S2x8192x256, sums X slices_S2x8192x1024_S2x8192x256_0_0_512 reduceWindows_S2x8192x256_S2x8192x256_w1s1p0_0_w8s1p7_0_w1s1p0_0⟩,
     ⟨S2x8192x256, sums X slices_S2x8192x1024_S2x8192x256_0_0_768 reduceWindows_S2x8192x256_S2x8192x256_w1s1p0_0_w16s1p15_0_w1s1p0_0⟩]
    concatenates_S2x8192x256_S2x8192x256_S2x8192x256_S2x8192x256_S2x8192x1024_d2

/-- How many rows each group's window has at each row. -/
def counts : IVec S8192x4 32 :=
  minsi (broadcastInDim S8192x4 ![0, 1] bcast_S1x4_S8192x4_0_1 (broadcastInDim S1x4 ![1] bcast_S4_S1x4_1 (fun i => lit0 (S4.rowMajor i))))
    (broadcastInDim S8192x4 ![0, 1] bcast_S8192x1_S8192x4_0_1 (addi (broadcastInDim S8192x1 ![0] bcast_S8192_S8192x1_0 (iotaInDim S8192 32 0))
      (broadcastInDim S8192x1 ![] bcast_S_S8192x1 (constantI S_ 32 1#32))))

/-- The windows' means less the rows. -/
def pool (X : Vec Ideal S2x8192x1024 .f32) : FVec Ideal S2x8192x4x256 .f32 :=
  subf (Host.divf (shapeCast S2x8192x4x256 (cat X) shapeCasts_S2x8192x1024_S2x8192x4x256)
      (broadcastInDim S2x8192x4x256 ![0, 1, 2, 3] bcast_S1x8192x4x1_S2x8192x4x256_0_1_2_3
        (broadcastInDim S1x8192x4x1 ![1, 2] bcast_S8192x4_S1x8192x4x1_1_2 (sitofp .f32 counts))))
    (shapeCast S2x8192x4x256 X shapeCasts_S2x8192x1024_S2x8192x4x256)

/-- The groups mixed. -/
def dot (X : Vec Ideal S2x8192x1024 .f32) (W : Vec Ideal S4x256x256 .f32) : FVec Ideal S2x8192x4x256 .f32 :=
  transpose S2x8192x4x256 [2, 3, 0, 1] (Host.dotGeneral (φ₁ := .f32) dot_S4x256x256_S2x8192x4x256_S4x256x2x8192_1_3_2_01_0_2 none
    W (pool X)) transposes_S4x256x2x8192_S2x8192x4x256_2_3_0_1

/-- A row's mixed columns. -/
def mixer (X : Vec Ideal S2x8192x1024 .f32) (W : Vec Ideal S4x256x256 .f32) : FVec Ideal S2x8192x1024 .f32 :=
  shapeCast S2x8192x1024 (dot X W) shapeCasts_S2x8192x4x256_S2x8192x1024

/-- The scaled rows plus the mixed columns. -/
def resid (X M : FVec Ideal S2x8192x1024 .f32) (s : Vec Ideal S1024 .f32) : FVec Ideal S2x8192x1024 .f32 :=
  addf (mulf (broadcastInDim S2x8192x1024 ![] bcast_S_S2x8192x1024 (constant S_ .f32 0x3FD744FD#32)) X)
    (mulf M (broadcastInDim S2x8192x1024 ![0, 1, 2] bcast_S1x1x1024_S2x8192x1024_0_1_2 (broadcastInDim S1x1x1024 ![2] bcast_S1024_S1x1x1024_2 s)))

/-- The mean of each row. -/
def mean (Z : FVec Ideal S2x8192x1024 .f32) : FVec Ideal S2x8192x1 .f32 :=
  Host.divf (broadcastInDim S2x8192x1 ![0, 1] bcast_S2x8192_S2x8192x1_0_1
      (Host.reduceAdd Z (constant S_ .f32 0x00000000#32) reducesTo_S2x8192x1024_S2x8192_d2 h_S_))
    (broadcastInDim S2x8192x1 ![] bcast_S_S2x8192x1 (constant S_ .f32 0x44800000#32))

/-- The rows less their means. -/
def centred (Z : FVec Ideal S2x8192x1024 .f32) : FVec Ideal S2x8192x1024 .f32 :=
  subf Z (broadcastInDim S2x8192x1024 ![0, 1, 2] bcast_S2x8192x1_S2x8192x1024_0_1_2 (mean Z))

/-- The layer norm of each row. -/
def norm (Z : FVec Ideal S2x8192x1024 .f32) (g b : Vec Ideal S1024 .f32) : FVec Ideal S2x8192x1024 .f32 :=
  addf (mulf (mulf (centred Z)
      (broadcastInDim S2x8192x1024 ![0, 1, 2] bcast_S2x8192x1_S2x8192x1024_0_1_2
        (Host.rsqrt (addf (mean (mulf (centred Z) (centred Z))) (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b))

/-- A number of a group's sums. -/
theorem sums_at {wm1 off : Nat} (X : Vec Ideal S2x8192x1024 .f32) (ho : off + 256 ≤ 1024) (hsl : S2x8192x1024.Slices ![0, 0, off] S2x8192x256)
    (h : S2x8192x256.ReduceWindows ![1, wm1 + 1, 1] ![1, 1, 1] ![0, wm1, 0] ![0, 0, 0] S2x8192x256) (a : Fin 2) (t : Fin 8192) (k : Fin 256) :
    sums X hsl h (ix3 a t k) = Window.last (wm1 + 1) (col X a ⟨off + k.val, by omega⟩) t := by
  refine (Window.window rfl _ _ h h_S_ ?_ a t k).trans ?_
  · pointwise []
  · refine congrArg (Window.last (wm1 + 1) · t) (funext fun t' => ?_)
    show _ = X (ix3 a t' ⟨off + k.val, _⟩)
    pointwise []

/-- A number of the four groups' sums. -/
theorem cat_at (X : Vec Ideal S2x8192x1024 .f32) (a : Fin 2) (t : Fin 8192) (n : Fin 1024) :
    cat X (ix3 a t n) = Window.last (wins ⟨n.val / 256, by omega⟩) (col X a n) t := by
  have hM : ∀ (g : Fin 4) (e : Fin 256) (h : n.val = 256 * g.val + e.val), Window.last (wins g) (col X a ⟨256 * g.val + e.val, by omega⟩) t
      = Window.last (wins ⟨n.val / 256, by omega⟩) (col X a n) t := fun g e h =>
    congrArg₂ (fun w z => Window.last w (col X a z) t) (congrArg wins (Fin.ext (by show g.val = n.val / 256; omega))) (Fin.ext h.symm)
  pointwise [cat]
  split
  · next h => exact (sums_at X (by omega) _ _ a t _).trans (hM 0 ⟨n.val, h⟩ (by show n.val = 256 * 0 + n.val; omega))
  · next h =>
    split
    · next h' => exact (sums_at X (by omega) _ _ a t _).trans (hM 1 ⟨n.val - 256, h'⟩ (by show n.val = 256 * 1 + (n.val - 256); omega))
    · next h' =>
      split
      · next h'' => exact (sums_at X (by omega) _ _ a t _).trans (hM 2 ⟨n.val - 256 - 256, h''⟩ (by show n.val = 256 * 2 + (n.val - 256 - 256); omega))
      · next h'' => exact (sums_at X (by omega) _ _ a t _).trans (hM 3 ⟨n.val - 256 - 256 - 256, by omega⟩ (by show n.val = 256 * 3 + (n.val - 256 - 256 - 256); omega))

/-- The windows' means less the rows, one number. -/
theorem pool_at (X : Vec Ideal S2x8192x1024 .f32) (a : Fin 2) (t : Fin 8192) (g : Fin 4) (k : Fin 256) :
    pool X (ix4 a t g k) = pooled (wins g) (col X a ⟨256 * g.val + k.val, by omega⟩) t := by
  have hw : lit0 (S4.rowMajor (ix1 g)) = BitVec.ofNat 32 (wins g) := by fin_cases g <;> rfl
  have hn : (⟨g.val * 256 + k.val, by omega⟩ : Fin 1024) = ⟨256 * g.val + k.val, by omega⟩ := Fin.ext (by show g.val * 256 + k.val = 256 * g.val + k.val; omega)
  have hg : (⟨(256 * g.val + k.val) / 256, by omega⟩ : Fin 4) = g := Fin.ext (by show (256 * g.val + k.val) / 256 = g.val; omega)
  pointwise [pool, counts]
  rw [hw, hn]
  refine congrArg (Ideal.div · _ - _) ((cat_at X a t _).trans ?_)
  exact congrArg (fun z => Window.last (wins z) _ t) hg

/-- The groups mixed, one number. -/
theorem dot_at (X : Vec Ideal S2x8192x1024 .f32) (W : Vec Ideal S4x256x256 .f32) (a : Fin 2) (t : Fin 8192) (g : Fin 4) (e : Fin 256) :
    dot X W (ix4 a t g e) = mix X W a t g e := by
  have h : dot X W (ix4 a t g e) = ∑ k : Fin 256, W (ix3 g k e) * pool X (ix4 a t g k) := by
    unfold dot
    generalize pool X = P
    pointwise []
  rw [h]
  exact Finset.sum_congr rfl fun k _ => by rw [pool_at, mul_comm]

/-- A row's mixed columns, one number. -/
theorem mixer_at (X : Vec Ideal S2x8192x1024 .f32) (W : Vec Ideal S4x256x256 .f32) (a : Fin 2) (t : Fin 8192) (n : Fin 1024) :
    mixer X W (ix3 a t n) = mixed X W a t n := by
  unfold mixer
  refine Eq.trans ?_ (dot_at X W a t ⟨n.val / 256, by omega⟩ ⟨n.val % 256, by omega⟩)
  generalize dot X W = P
  pointwise []

set_option maxRecDepth 16384 in
/-- The layer norm of the residual, one number. -/
theorem norm_at (X M : FVec Ideal S2x8192x1024 .f32) (s g b : Vec Ideal S1024 .f32) (a : Fin 2) (t : Fin 8192) (l : Fin 1024) :
    norm (resid X M s) g b (ix3 a t l) = Rows.norm (Ideal.ofBits .f32 0x44800000#32)
      (Rows.resid (fun k => X (ix3 a t k)) fun n => M (ix3 a t n) * s (ix1 n)) (fun n => g (ix1 n)) (fun n => b (ix1 n)) l := by
  simp only [Rows.norm, Rows.mean, Rows.resid]
  pointwise [norm, centred, mean, resid]

/-- The reference's result is the mathematics. -/
theorem result (m : (ℓ : Loc nD τ sig) → Buf (Elt Ideal) ℓ) (c : Dev nD) :
    res_main_v62 m c = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (show res_main_v62 m c = norm (resid (m ((c.tc : Thread nD τ).loc main_arg0))
    (mixer (m ((c.tc : Thread nD τ).loc main_arg0)) (m ((c.tc : Thread nD τ).loc main_arg1))) (m ((c.tc : Thread nD τ).loc main_arg2)))
    (m ((c.tc : Thread nD τ).loc main_arg3)) (m ((c.tc : Thread nD τ).loc main_arg4)) from rfl).trans ?_
  refine funext fun (i : S2x8192x1024.Idx) => ?_
  obtain ⟨a, t, l, rfl⟩ : ∃ (a : Fin 2) (t : Fin 8192) (l : Fin 1024), i = ix3 a t l := ⟨i 0, i 1, i 2, eq_ix3 i⟩
  refine (norm_at _ _ _ _ _ a t l).trans ?_
  simp only [mixer_at]
  rfl

end Cert.Proof.Pool.Ref

namespace Cert.Proof.Pool

open Cert.Kernel7Ideal Cert.Kernel7Ideal.Gen Cert.Kernel7Ideal.Value Idealize.ShloMosaic Idealize.ShloMosaic.TcCoe Idealize.SL.Sem

/-! The last 15 rows, kept for the next step. -/

/-- The kernel's second result: the last 15 rows of each sequence. -/
def kept (X : Vec Ideal S2x8192x1024 .f32) : Vec Ideal S2x15x1024 .f32 :=
  extractStridedSlice S2x15x1024 ![0, 8177, 0] X slices_S2x8192x1024_S2x15x1024_0_8177_0

/-- It is the last 15 rows of the sequence behind 15 rows of zeros. -/
theorem kept_eq (X : Vec Ideal S2x8192x1024 .f32) (Z : Vec Ideal Cert.Reference7Ideal.S2x15x1024 .f32) :
    extractStridedSlice Cert.Reference7Ideal.S2x15x1024 ![0, 8192, 0]
        (concatenate Cert.Reference7Ideal.S2x8207x1024 1 [⟨Cert.Reference7Ideal.S2x15x1024, Z⟩, ⟨Cert.Reference7Ideal.S2x8192x1024, X⟩]
          Cert.Reference7Ideal.Gen.concatenates_S2x15x1024_S2x8192x1024_S2x8207x1024_d1)
        Cert.Reference7Ideal.Gen.slices_S2x8207x1024_S2x15x1024_0_8192_0 = kept X := by
  refine funext fun (i : S2x15x1024.Idx) => ?_
  obtain ⟨a, r, l, rfl⟩ : ∃ (a : Fin 2) (r : Fin 15) (l : Fin 1024), i = ix3 a r l := ⟨i 0, i 1, i 2, eq_ix3 i⟩
  unfold kept
  pointwise []
  rw [dif_neg (by omega)]
  exact congrArg (fun n => X (ix3 a n l)) (Fin.ext (by show 8192 + r.val - 15 = 8177 + r.val; omega))

/-- The run: both results named, the arguments kept. -/
theorem run_both (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = (dats m 0 c).arrAt 6 cfg0.N
      ∧ r.2.mem ((c : Thread nD τ).loc main_v0) = V m c main_v0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c, (h c).2 main_v0 (Pipeline.mem_restRefs_of main_v0 (by decide) (by decide)),
      kept_main_arg0 m r h c, kept_main_arg1 m r h c, kept_main_arg2 m r h c, kept_main_arg3 m r h c, kept_main_arg4 m r h c⟩)
    (run_main m ρ)

/-- The pooling mixer's kernel computes what its reference computes, at the extended reals. -/
theorem algebraic : Cert.algebraic_Kernel7Ideal_Reference7Ideal := by
  intro m g m' g' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)),
      fun c => kept (m ((c : Thread nD τ).loc main_arg0)), ?_, ?_⟩
  · exact (θ_run defs _ _).mono (fun _ h c => ⟨(h c).1.trans (final m c), (h c).2.1, (h c).2.2⟩) (run_both m g)
  · refine (θ_run Cert.Reference7Ideal.defs _ _).mono
      (fun _ h c => ⟨((h c).1.trans (Ref.result m' c)).trans ?_, (h c).2.1.trans ?_, (h c).2.2⟩)
      (Cert.Reference7Ideal.Value.run m' g')
    all_goals
      obtain ⟨h0, h1, h2, h3, h4⟩ := hagree c
    · rw [h0, h1, h2, h3, h4]
    · rw [h0]
      exact kept_eq _ _

end Cert.Proof.Pool
-- ==== Proof.OprojSample.lean ====
/- Hand-written: the attention's output projection of the sample's 256 token rows, with its residual and layer norm: one
   block, the mathematics as on the prompt's rows. -/
module

public import proofs.«01_k».proof.Proof.Gen.Kernel8Ideal.Value
public import proofs.«01_k».proof.Proof.Gen.Reference8Ideal.Run
public import proofs.«01_k».proof.Defs
public import proofs.«01_k».proof.Proof.Rows
public import Idealize.ShloMosaic.Lib.Pipeline.ValueKit

@[expose] public section

noncomputable section

namespace Cert.Proof.OprojSample

open Cert.Kernel8Ideal Cert.Kernel8Ideal.Gen Cert.Kernel8Ideal.Value Idealize.ShloMosaic Idealize.ShloMosaic.TcCoe Idealize.SL.Sem

set_option maxRecDepth 16384 in
/-- The block that the body stores is the row's mathematics. -/
theorem block (x0 : Vec Ideal S256x1024 .bf16) (x1 : Vec Ideal S256x1024 .f32) (x2 : Vec Ideal S1024x1024 .bf16)
    (x3 x4 : Vec Ideal S1x1024 .f32) (r : Fin 256) (l : Fin 1024) :
    out0_5 x0 x1 x2 x3 x4 (ix2 r l)
      = Rows.norm (Ideal.ofBits .f32 0x44800000#32)
          (Rows.resid (fun k => x1 (ix2 r k)) (Rows.lin (fun k => x0 (ix2 r k)) fun k n => x2 (ix2 k n)))
          (fun n => x3 (ix2 0 n)) (fun n => x4 (ix2 0 n)) l := by
  have e0 : View.ld x0 r0_0 = x0 := View.ld_unit_zero Rows.hz _ _
  have e1 : View.ld x1 r0_0 = x1 := View.ld_unit_zero Rows.hz _ _
  have e2 : View.ld x2 r0_1 = x2 := View.ld_unit_zero Rows.hz _ _
  have e3 : View.ld x3 r0_2 = x3 := View.ld_unit_zero Rows.hz _ _
  have e4 : View.ld x4 r0_2 = x4 := View.ld_unit_zero Rows.hz _ _
  unfold out0_5
  rw [View.canon_unit_zero Rows.hz, e0, e1, e2, e3, e4]
  simp only [Rows.norm, Rows.mean, Rows.resid, Rows.lin]
  pointwise [k0_pay1]

/-- The result array as one function of the arguments. -/
def G (O : Vec Ideal S256x1024 .bf16) (X : Vec Ideal S32x8x1024 .f32) (W : Vec Ideal S1024x1024 .f32)
    (g b : Vec Ideal S1024 .f32) : Vec Ideal S256x1024 .f32 :=
  fun i => Rows.norm (Ideal.ofBits .f32 0x44800000#32)
    (Rows.resid (Rows.srow X (i 0)) (Rows.lin (fun k => O (ix2 (i 0) k)) fun k n => W (ix2 k n)))
    (fun n => g (ix1 n)) (fun n => b (ix1 n)) (i 1)

variable (m : (ℓ : Loc nD τ sig) → Buf (Elt Ideal) ℓ) (ρ : Dev nD → PrngReg)

/-- The one point takes each operand whole: the attention's output, -/
theorem in0 (c : Dev nD) (t : Fin cfg0.N) (r : Fin 256) (k : Fin 1024) :
    iblk m c 0 t (ix2 r k : S256x1024.Idx) = m ((c : Thread nD τ).loc main_arg0) (ix2 r k : S256x1024.Idx) := by
  have e : win0_0.index t = ![0, 0] := (by decide +kernel : ∀ t : Fin grid0.N, win0_0.index t = ![0, 0]) t
  blk_ext! [iblk, V, e]
/-- the rows of the layer's input, -/
theorem in1 (c : Dev nD) (t : Fin cfg0.N) (r : Fin 256) :
    (fun k : Fin 1024 => iblk m c 1 t (ix2 r k : S256x1024.Idx)) = Rows.srow (m ((c : Thread nD τ).loc main_arg1)) r := by
  have e : win0_1.index t = ![0, 0] := (by decide +kernel : ∀ t : Fin grid0.N, win0_1.index t = ![0, 0]) t
  have h : V m c main_v0 = shapeCast S256x1024 (m ((c : Thread nD τ).loc main_arg1)) shapeCasts_S32x8x1024_S256x1024 := rfl
  funext k
  have hi : iblk m c 1 t (ix2 r k : S256x1024.Idx) = V m c main_v0 (ix2 r k : S256x1024.Idx) := by
    blk_ext [iblk, e]
  rw [hi, h]
  exact Rows.flat_srow _ _ _ k
/-- the weight, -/
theorem in2 (c : Dev nD) (t : Fin cfg0.N) : iblk m c 2 t = m ((c : Thread nD τ).loc main_arg2) := by
  have e : win0_2.index t = ![0, 0] := (by decide +kernel : ∀ t : Fin grid0.N, win0_2.index t = ![0, 0]) t
  blk_ext! [iblk, V, e]
/-- the scale, -/
theorem in3 (c : Dev nD) (t : Fin cfg0.N) (n : Fin 1024) :
    iblk m c 3 t (ix2 0 n : S1x1024.Idx) = m ((c : Thread nD τ).loc main_arg3) (ix1 n : S1024.Idx) := by
  have e : win0_3.index t = ![0, 0] := (by decide +kernel : ∀ t : Fin grid0.N, win0_3.index t = ![0, 0]) t
  blk_ext! [iblk, V, e]
/-- and the shift. -/
theorem in4 (c : Dev nD) (t : Fin cfg0.N) (n : Fin 1024) :
    iblk m c 4 t (ix2 0 n : S1x1024.Idx) = m ((c : Thread nD τ).loc main_arg4) (ix1 n : S1024.Idx) := by
  have e : win0_4.index t = ![0, 0] := (by decide +kernel : ∀ t : Fin grid0.N, win0_4.index t = ![0, 0]) t
  blk_ext! [iblk, V, e]

/-- The result array after the run. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have e : win0_5.index t = ![0, 0] := (by decide +kernel : ∀ t : Fin grid0.N, win0_5.index t = ![0, 0]) t
  blk_simp
  rw [after0_5]
  obtain ⟨r, l, rfl⟩ : ∃ (r : Fin 256) (l : Fin 1024), y = (ix2 r l : S256x1024.Idx) := ⟨y 0, y 1, eq_ix2 y⟩
  have ey : (win0_5.blk t).view.emb (ix2 r l : S256x1024.Idx) = (ix2 r l : S256x1024.Idx) := by blk_ext [e]
  rw [ey]
  refine (block _ _ _ _ _ r l).trans ?_
  rw [funext (in0 m c t r), in1, in2, funext (in3 m c t), funext (in4 m c t)]
  rfl

set_option maxRecDepth 16384 in
/-- The output projection's kernel on the sample's rows computes what its reference computes, at the extended reals. -/
theorem algebraic : Cert.algebraic_Kernel8Ideal_Reference8Ideal := by
  intro m g m' g' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run defs _ _).mono (fun _ h c => ⟨(h c).1.trans (final m c), (h c).2⟩) (run_blocks m g)
  · refine (θ_run Cert.Reference8Ideal.defs _ _).mono (fun _ h c => ⟨(h c).1.trans ?_, (h c).2⟩)
      (Cert.Reference8Ideal.Value.run m' g')
    obtain ⟨h0, h1, h2, h3, h4⟩ := hagree c
    refine funext fun (i : S256x1024.Idx) => ?_
    obtain ⟨r, l, rfl⟩ : ∃ (r : Fin 256) (l : Fin 1024), i = ix2 r l := ⟨i 0, i 1, eq_ix2 i⟩
    rw [h0, h1, h2, h3, h4]
    beta_reduce
    generalize m ((c : Thread nD τ).loc main_arg0) = O
    generalize m ((c : Thread nD τ).loc main_arg1) = X
    generalize m ((c : Thread nD τ).loc main_arg2) = W
    generalize m ((c : Thread nD τ).loc main_arg3) = s
    generalize m ((c : Thread nD τ).loc main_arg4) = b
    have hx : Rows.srow X r = fun k => shapeCast S256x1024 X shapeCasts_S32x8x1024_S256x1024 (ix2 r k) :=
      funext fun k => (Rows.flat_srow X _ r k).symm
    show _ = Rows.norm _ (Rows.resid (Rows.srow X r) (Rows.lin (fun k => O (ix2 r k)) fun k n => W (ix2 k n))) (fun n => s (ix1 n)) (fun n => b (ix1 n)) l
    rw [hx]
    generalize shapeCast S256x1024 X shapeCasts_S32x8x1024_S256x1024 = X2
    simp only [Rows.norm, Rows.mean, Rows.resid, Rows.lin]
    pointwise []

end Cert.Proof.OprojSample
-- ==== Proof.PoolSample.lean ====
/- Hand-written: the pooling mixer of the sample's token rows, with its residual and layer norm. One block for each of the
   32 sequences: its 8 rows under the 15 rows kept from before them, every window whole. -/
module

public import proofs.«01_k».proof.Proof.Gen.Kernel9Ideal.Value
public import proofs.«01_k».proof.Proof.Gen.Reference9Ideal.Run
public import proofs.«01_k».proof.Defs
public import proofs.«01_k».proof.Proof.Pool

@[expose] public section

noncomputable section

namespace Cert.Proof.PoolSample

open Cert.Kernel9Ideal Cert.Kernel9Ideal.Gen Cert.Kernel9Ideal.Value Idealize.ShloMosaic Idealize.ShloMosaic.TcCoe Idealize.SL.Sem
open Cert.Proof.Pool (count wins hz3)

/-! ## The mathematics of a row -/

/-- A column of one of the sequences: the 15 rows kept, then its 8 rows. -/
def col (X : Vec Ideal S32x8x1024 .f32) (B : Vec Ideal S32x15x1024 .f32) (b : Fin 32) (c : Fin 1024) : Fin 23 → EReal := fun t =>
  if h : t.val < 15 then B (ix3 b ⟨t.val, h⟩ c) else X (ix3 b ⟨t.val - 15, by omega⟩ c)

/-- The mean of a window's rows less the row itself. -/
def pooled (w : Nat) (X : Vec Ideal S32x8x1024 .f32) (B : Vec Ideal S32x15x1024 .f32) (b : Fin 32) (t : Fin 8) (c : Fin 1024) : EReal :=
  Ideal.div (Window.last w (col X B b c) ⟨15 + t.val, by omega⟩) (count w (8192 + t.val)) - X (ix3 b t c)

/-- A group of columns, pooled and mixed by the group's weight. -/
def mix (X : Vec Ideal S32x8x1024 .f32) (B : Vec Ideal S32x15x1024 .f32) (W : Vec Ideal S4x256x256 .f32) (b : Fin 32) (t : Fin 8) (g : Fin 4)
    (e : Fin 256) : EReal :=
  ∑ k : Fin 256, pooled (wins g) X B b t ⟨256 * g.val + k.val, by omega⟩ * W (ix3 g k e)

/-- A row's mixed columns, the four groups side by side. -/
def mixed (X : Vec Ideal S32x8x1024 .f32) (B : Vec Ideal S32x15x1024 .f32) (W : Vec Ideal S4x256x256 .f32) (b : Fin 32) (t : Fin 8)
    (n : Fin 1024) : EReal :=
  mix X B W b t ⟨n.val / 256, by omega⟩ ⟨n.val % 256, by omega⟩

/-- The result array as one function of the arguments. -/
def G (X : Vec Ideal S32x8x1024 .f32) (B : Vec Ideal S32x15x1024 .f32) (W : Vec Ideal S4x256x256 .f32) (s g b : Vec Ideal S1024 .f32) :
    Vec Ideal S32x8x1024 .f32 :=
  fun i => Rows.norm (Ideal.ofBits .f32 0x44800000#32)
    (Rows.resid (fun k => X (ix3 (i 0) (i 1) k)) fun n => mixed X B W (i 0) (i 1) n * s (ix1 n))
    (fun n => g (ix1 n)) (fun n => b (ix1 n)) (i 2)

/-! ## The kernel's block -/

section Block

variable (i : grid0.Coords) (x0 : Vec Ideal S1x8x1024 .f32) (x1 : Vec Ideal S1x16x1024 .f32)

/-- The row's place in its sequence, as the kernel counts it. -/
theorem place (r : Fin 8) : k0_pay4 i (ix2 r 0) = BitVec.ofNat 32 (8192 + r.val) := by
  pointwise [k0_pay4]
  show 8192#32 + 0#32 * 8#32 + BitVec.ofNat 32 r.val = BitVec.ofNat 32 (8192 + r.val)
  simp [BitVec.ofNat_add]

/-- What a block and its halo hold: the sequence's rows, and before them the 15 rows kept. -/
structure Holds (X : Vec Ideal S32x8x1024 .f32) (B : Vec Ideal S32x15x1024 .f32) (b : Fin 32) : Prop where
  rows : ∀ (r : Fin 8) (c : Fin 1024), x0 (ix3 0 r c) = X (ix3 b r c)
  halo : ∀ (q : Fin 15) (c : Fin 1024), x1 (ix3 0 ⟨q.val + 1, by omega⟩ c) = B (ix3 b q c)

variable {i x0 x1} {X : Vec Ideal S32x8x1024 .f32} {B : Vec Ideal S32x15x1024 .f32} {b : Fin 32}

/-- The block under its halo holds the rows that a window reaches. -/
theorem Holds.lag (H : Holds x0 x1 X B b) (r : Fin 8) (c : Fin 1024) (j : Nat) (hj : j < 16) :
    Window.cell (k0_pay3 x0 x1) c (16 + r.val - j) = Window.lag (col X B b c) ⟨15 + r.val, by omega⟩ j := by
  unfold Window.cell Window.lag col
  rw [dif_pos (by omega), if_pos (by show j ≤ 15 + r.val; omega)]
  pointwise [k0_pay3, k0_pay2]
  by_cases hr : j ≤ r.val
  · rw [dif_neg (by show ¬ 16 + r.val - j < 16; omega), dif_neg (by show ¬ 15 + r.val - j < 15; omega)]
    refine (H.rows ⟨16 + r.val - j - 16, by omega⟩ c).trans (congrArg X (congrArg (fun z => ix3 b z c) (Fin.ext ?_)))
    show 16 + r.val - j - 16 = 15 + r.val - j - 15
    omega
  · rw [dif_pos (by show 16 + r.val - j < 16; omega), dif_pos (by show 15 + r.val - j < 15; omega)]
    refine Eq.trans (congrArg x1 (congrArg (fun z => ix3 0 z c) (Fin.ext ?_))) (H.halo ⟨15 + r.val - j, by omega⟩ c)
    show 16 + r.val - j = 15 + r.val - j + 1
    omega

/-- Moving sums over a group of the columns are sums of the sequence's last rows. -/
theorem Holds.sums (H : Holds x0 x1 X B b) {off : Nat} (ho : off + 256 ≤ 1024) (hsl : S24x1024.Slices ![0, off] S24x256)
    {s : FVec Ideal S24x256 .f32} {k : Fin 256} {w K : Nat}
    (hs : Window.Moving (extractStridedSlice S24x256 ![0, off] (k0_pay3 x0 x1) hsl) s k w K) (hK : K ≤ 16) (hw : w ≤ 16) (r : Fin 8) :
    s (ix2 ⟨16 + r.val, by omega⟩ k) = Window.last w (col X B b ⟨off + k.val, by omega⟩) ⟨15 + r.val, by omega⟩ := by
  have h := hs (16 + r.val) (by omega) (by omega)
  unfold Window.cell at h
  rw [dif_pos (by omega : 16 + r.val < 24)] at h
  refine h.trans (Finset.sum_congr rfl fun j hj => ?_)
  have hj := Finset.mem_range.1 hj
  rw [← H.lag r _ j (by omega)]
  unfold Window.cell
  rw [dif_pos (by omega), dif_pos (by omega)]
  refine congrArg (k0_pay3 x0 x1) (funext fun a => ?_)
  match a with
  | ⟨0, _⟩ => exact Fin.ext (by show 0 + (16 + r.val - j) = 16 + r.val - j; omega)
  | ⟨1, _⟩ => rfl

/-- A group's product as the kernel forms it: from moving sums `s`, the block `v1` and the rows' places `v12`. -/
def prod {off : Nat} (hsl : S8x1024.Slices ![0, off] S8x256) (w : BitVec 32) (v1 : FVec Ideal S8x1024 .f32) (s : FVec Ideal S24x256 .f32)
    (v12 : IVec S8x1 32) (wt : Vec Ideal S1x256x256 .bf16) : FVec Ideal S8x256 .f32 :=
  matmul dot_S8x256_S256x256_S8x256_1_0_0_1_n_n none
    (truncf .bf16 (subf (divf (extractStridedSlice S8x256 ![16, 0] s slices_S24x256_o16_0_S8x256)
      (broadcastTo S8x256 (sitofp .f32 (minsi (broadcast S8x1 w) (addi v12 (broadcast S8x1 1#32)))) broadcasts_S8x1_S8x256))
      (extractStridedSlice S8x256 ![0, off] v1 hsl)) bitsLt_bf16_f32)
    (shapeCast S256x256 wt shapeCasts_S1x256x256_S256x256 : FVec Ideal S256x256 .bf16) (constant S8x256 .f32 0x00000000#32)

/-- One number of a group's product. -/
theorem prod_at {off : Nat} (ho : off + 256 ≤ 1024) (hsl : S8x1024.Slices ![0, off] S8x256) (w : BitVec 32) (v1 : FVec Ideal S8x1024 .f32)
    (s : FVec Ideal S24x256 .f32) (v12 : IVec S8x1 32) (wt : Vec Ideal S1x256x256 .bf16) (r : Fin 8) (e : Fin 256) :
    prod hsl w v1 s v12 wt (ix2 r e) = ∑ k : Fin 256, (Ideal.div (s (ix2 ⟨16 + r.val, by omega⟩ k))
      (FloatOps.sitofp (F := Ideal) .f32 (IntOp.minsi w (v12 (ix2 r 0) + 1#32))) - v1 (ix2 r ⟨off + k.val, by omega⟩)) * wt (ix3 0 k e) := by
  pointwise [prod]
  rfl

/-- The product of a group is the group's mix. -/
theorem Holds.prod (H : Holds x0 x1 X B b) {off : Nat} (g : Fin 4) (hg : off = 256 * g.val) (ho : off + 256 ≤ 1024)
    (hsl : S8x1024.Slices ![0, off] S8x256) (hsl' : S24x1024.Slices ![0, off] S24x256) (s : FVec Ideal S24x256 .f32) (K : Nat) (hK : K ≤ 16)
    (hs : ∀ k, Window.Moving (extractStridedSlice S24x256 ![0, off] (k0_pay3 x0 x1) hsl') s k (wins g) K)
    (wt : Vec Ideal S1x256x256 .bf16) (W : Vec Ideal S4x256x256 .f32) (hw : ∀ k e, wt (ix3 0 k e) = W (ix3 g k e)) (r : Fin 8) (e : Fin 256) :
    PoolSample.prod hsl (BitVec.ofNat 32 (wins g)) (k0_pay2 x0) s (k0_pay4 i) wt (ix2 r e) = mix X B W b r g e := by
  subst hg
  rw [prod_at ho]
  refine Finset.sum_congr rfl fun k _ => ?_
  rw [hw, place, H.sums ho hsl' (hs k) hK (by fin_cases g <;> decide) r]
  refine congrArg (· * _) (congrArg (Ideal.div _ _ - ·) ?_)
  refine Eq.trans ?_ (H.rows r ⟨256 * g.val + k.val, by omega⟩)
  pointwise [k0_pay2]

/-- The four groups side by side. -/
def cat (a0 a1 a2 a3 : FVec Ideal S8x256 .f32) : FVec Ideal S8x1024 .f32 :=
  concatenate S8x1024 1 [⟨S8x256, a0⟩, ⟨S8x256, a1⟩, ⟨S8x256, a2⟩, ⟨S8x256, a3⟩] concatenates_S8x256_S8x256_S8x256_S8x256_S8x1024_d1

/-- One number of the four groups side by side. -/
theorem cat_at (M : Fin 4 → Fin 256 → EReal) (a0 a1 a2 a3 : FVec Ideal S8x256 .f32) (r : Fin 8) (h0 : ∀ e, a0 (ix2 r e) = M 0 e)
    (h1 : ∀ e, a1 (ix2 r e) = M 1 e) (h2 : ∀ e, a2 (ix2 r e) = M 2 e) (h3 : ∀ e, a3 (ix2 r e) = M 3 e) (n : Fin 1024) :
    cat a0 a1 a2 a3 (ix2 r n) = M ⟨n.val / 256, by omega⟩ ⟨n.val % 256, by omega⟩ := by
  have hM : ∀ (g : Fin 4) (e : Fin 256), n.val = 256 * g.val + e.val → M g e = M ⟨n.val / 256, by omega⟩ ⟨n.val % 256, by omega⟩ := fun g e h =>
    congrArg₂ M (Fin.ext (by show g.val = n.val / 256; omega)) (Fin.ext (by show e.val = n.val % 256; omega))
  pointwise [cat]
  split
  · next h => exact (h0 _).trans (hM _ _ (by show n.val = 256 * 0 + n.val; omega))
  · next h =>
    split
    · next h' => exact (h1 _).trans (hM _ _ (by show n.val = 256 * 1 + (n.val - 256); omega))
    · next h' =>
      split
      · next h'' => exact (h2 _).trans (hM _ _ (by show n.val = 256 * 2 + (n.val - 256 - 256); omega))
      · next h'' => exact (h3 _).trans (hM _ _ (by show n.val = 256 * 3 + (n.val - 256 - 256 - 256); omega))

set_option maxRecDepth 16384 in
/-- The residual and the layer norm of the four groups, whose last product is formed here. -/
theorem tail (v1 : FVec Ideal S8x1024 .f32) (v12 : IVec S8x1 32) (a0 a1 a2 : FVec Ideal S8x256 .f32) (s : FVec Ideal S24x256 .f32)
    (wt : Vec Ideal S1x256x256 .bf16) (x3 x4 x5 : Vec Ideal S1x1024 .f32) (r : Fin 8) (l : Fin 1024) :
    k0_pay1 (k0_pay12 v1 a0 a1 a2 s (k0_pay11 v12) wt x3 x4 x5) (ix3 0 r l)
      = Rows.norm (Ideal.ofBits .f32 0x44800000#32)
          (Rows.resid (fun k => v1 (ix2 r k)) fun n =>
            cat a0 a1 a2 (PoolSample.prod slices_S8x1024_o0_768_S8x256 16#32 v1 s v12 wt) (ix2 r n) * x3 (ix2 0 n))
          (fun n => x4 (ix2 0 n)) (fun n => x5 (ix2 0 n)) l := by
  unfold k0_pay12 k0_pay11 cat PoolSample.prod
  dsimp only
  generalize concatenate S8x1024 1 _ _ = Y
  simp only [Rows.norm, Rows.mean, Rows.resid]
  pointwise [k0_pay1]

/-- A group's weight, read out of the whole. -/
theorem weight (x2 : Vec Ideal S4x256x256 .bf16) (k e : Fin 256) :
    View.ld x2 r0_2 (ix3 0 k e) = x2 (ix3 0 k e) ∧ View.ld x2 r0_3 (ix3 0 k e) = x2 (ix3 1 k e)
      ∧ View.ld x2 r0_4 (ix3 0 k e) = x2 (ix3 2 k e) ∧ View.ld x2 r0_5 (ix3 0 k e) = x2 (ix3 3 k e) := by
  refine ⟨?_, ?_, ?_, ?_⟩ <;>
  · rw [View.ld_apply]
    refine congrArg x2 (funext fun a => Fin.ext ?_)
    match a with
    | ⟨0, _⟩ => rfl
    | ⟨1, _⟩ => show 0 + 1 * k.val = k.val; omega
    | ⟨2, _⟩ => show 0 + 1 * e.val = e.val; omega

/-- The block that the body stores is the row's mathematics. -/
theorem block (H : Holds x0 x1 X B b) (x2 : Vec Ideal S4x256x256 .bf16) (x3 x4 x5 : Vec Ideal S1x1024 .f32) (r : Fin 8) (l : Fin 1024) :
    out0_6 i x0 x1 x2 x3 x4 x5 (ix3 0 r l)
      = Rows.norm (Ideal.ofBits .f32 0x44800000#32)
          (Rows.resid (fun k => X (ix3 b r k)) fun n => mixed X B x2 b r n * x3 (ix2 0 n))
          (fun n => x4 (ix2 0 n)) (fun n => x5 (ix2 0 n)) l := by
  have e0 : View.ld x0 r0_0 = x0 := View.ld_unit_zero hz3 _ _
  have e1 : View.ld x1 r0_1 = x1 := View.ld_unit_zero hz3 _ _
  have e3 : View.ld x3 r0_6 = x3 := View.ld_unit_zero Rows.hz _ _
  have e4 : View.ld x4 r0_6 = x4 := View.ld_unit_zero Rows.hz _ _
  have e5 : View.ld x5 r0_6 = x5 := View.ld_unit_zero Rows.hz _ _
  unfold out0_6 k0_pay13 k0_pay14 k0_pay15
  rw [View.canon_unit_zero hz3, e0, e1, e3, e4, e5, tail]
  have hx : (fun k => k0_pay2 x0 (ix2 r k)) = fun k => X (ix3 b r k) := funext fun k => by
    refine Eq.trans ?_ (H.rows r k)
    pointwise [k0_pay2]
  rw [hx]
  refine congrArg (fun z => Rows.norm _ (Rows.resid _ z) _ _ l) (funext fun n => congrArg (· * x3 (ix2 0 n)) ?_)
  refine cat_at (mix X B x2 b r) _ _ _ _ r (fun e => ?_) (fun e => ?_) (fun e => ?_) (fun e => ?_) n
  · exact H.prod 0 rfl (by omega) slices_S8x1024_o0_0_S8x256 slices_S24x1024_o0_0_S24x256 _ 1 (by omega)
      (fun k => (Window.moving_one _ k).double 1#32 rfl _) _ x2 (fun k e => (weight x2 k e).1) r e
  · exact H.prod 1 rfl (by omega) slices_S8x1024_o0_256_S8x256 slices_S24x1024_o0_256_S24x256 _ 3 (by omega)
      (fun k => ((Window.moving_one _ k).double 1#32 rfl _).double 2#32 rfl _) _ x2 (fun k e => (weight x2 k e).2.1) r e
  · exact H.prod 2 rfl (by omega) slices_S8x1024_o0_512_S8x256 slices_S24x1024_o0_512_S24x256 _ 7 (by omega)
      (fun k => (((Window.moving_one _ k).double 1#32 rfl _).double 2#32 rfl _).double 4#32 rfl _) _ x2 (fun k e => (weight x2 k e).2.2.1) r e
  · exact H.prod 3 rfl (by omega) slices_S8x1024_o0_768_S8x256 slices_S24x1024_o0_768_S24x256 _ 15 (by omega)
      (fun k => ((((Window.moving_one _ k).double 1#32 rfl _).double 2#32 rfl _).double 4#32 rfl _).double 8#32 rfl _) _ x2
      (fun k e => (weight x2 k e).2.2.2) r e

end Block

/-! ## The kernel's run -/

variable (m : (ℓ : Loc nD τ sig) → Buf (Elt Ideal) ℓ) (ρ : Dev nD → PrngReg)

/-- The sequence of grid point `t`. -/
def seqOf (t : Fin cfg0.N) : Fin 32 := ⟨t.val, t.isLt⟩

/-- A point takes its sequence's 8 rows and the 15 rows before them, -/
theorem holds (c : Dev nD) (t : Fin cfg0.N) :
    Holds (iblk m c 0 t) (iblk m c 1 t) (m ((c : Thread nD τ).loc main_arg0)) (m ((c : Thread nD τ).loc main_arg1)) (seqOf t) where
  rows r k := by
    have e : win0_0.index t = ![t.val, 0, 0] := (by decide +kernel : ∀ t : Fin grid0.N, win0_0.index t = ![t.val, 0, 0]) t
    blk_ext! [iblk, V, e, seqOf]
  halo q k := by
    have e : win0_1.index t = ![t.val, 0, 0] := (by decide +kernel : ∀ t : Fin grid0.N, win0_1.index t = ![t.val, 0, 0]) t
    have h : V m c main_v1 = concatenate S32x16x1024 1 [⟨S32x1x1024, broadcastInDim S32x1x1024 ![] bcast_S_S32x1x1024 (constant (F := Ideal) S_ .f32 0x00000000#32)⟩,
      ⟨S32x15x1024, m ((c : Thread nD τ).loc main_arg1)⟩] concatenates_S32x1x1024_S32x15x1024_S32x16x1024_d1 := rfl
    have hi : iblk m c 1 t (ix3 0 ⟨q.val + 1, by omega⟩ k : S1x16x1024.Idx) = V m c main_v1 (ix3 (seqOf t) ⟨q.val + 1, by omega⟩ k : S32x16x1024.Idx) := by
      blk_ext [iblk, e, seqOf]
    rw [hi, h]
    generalize m ((c : Thread nD τ).loc main_arg1) = Y
    pointwise []
    exact (dif_neg (by show ¬ q.val + 1 < 1; omega)).trans rfl
/-- the weights whole, -/
theorem in2 (c : Dev nD) (t : Fin cfg0.N) : iblk m c 2 t = m ((c : Thread nD τ).loc main_arg2) := by
  have e : win0_2.index t = ![0, 0, 0] := (by decide +kernel : ∀ t : Fin grid0.N, win0_2.index t = ![0, 0, 0]) t
  blk_ext! [iblk, V, e]
/-- the mixer's scale, -/
theorem in3 (c : Dev nD) (t : Fin cfg0.N) (n : Fin 1024) :
    iblk m c 3 t (ix2 0 n : S1x1024.Idx) = m ((c : Thread nD τ).loc main_arg3) (ix1 n : S1024.Idx) := by
  have e : win0_3.index t = ![0, 0] := (by decide +kernel : ∀ t : Fin grid0.N, win0_3.index t = ![0, 0]) t
  blk_ext! [iblk, V, e]
/-- the norm's scale, -/
theorem in4 (c : Dev nD) (t : Fin cfg0.N) (n : Fin 1024) :
    iblk m c 4 t (ix2 0 n : S1x1024.Idx) = m ((c : Thread nD τ).loc main_arg4) (ix1 n : S1024.Idx) := by
  have e : win0_4.index t = ![0, 0] := (by decide +kernel : ∀ t : Fin grid0.N, win0_4.index t = ![0, 0]) t
  blk_ext! [iblk, V, e]
/-- and its shift. -/
theorem in5 (c : Dev nD) (t : Fin cfg0.N) (n : Fin 1024) :
    iblk m c 5 t (ix2 0 n : S1x1024.Idx) = m ((c : Thread nD τ).loc main_arg5) (ix1 n : S1024.Idx) := by
  have e : win0_5.index t = ![0, 0] := (by decide +kernel : ∀ t : Fin grid0.N, win0_5.index t = ![0, 0]) t
  blk_ext! [iblk, V, e]

/-- The result array after the run. -/
theorem final (c : Dev nD) : (dats m 0 c).arrAt 6 cfg0.N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  have e : win0_6.index t = ![t.val, 0, 0] := (by decide +kernel : ∀ t : Fin grid0.N, win0_6.index t = ![t.val, 0, 0]) t
  blk_simp
  rw [after0_6]
  obtain ⟨z, r, l, rfl⟩ : ∃ (z : Fin 1) (r : Fin 8) (l : Fin 1024), y = (ix3 z r l : S1x8x1024.Idx) := ⟨y 0, y 1, y 2, eq_ix3 y⟩
  obtain rfl : z = 0 := Subsingleton.elim _ _
  have ey : (win0_6.blk t).view.emb (ix3 0 r l : S1x8x1024.Idx) = (ix3 (seqOf t) r l : S32x8x1024.Idx) := by
    blk_ext [e, seqOf]
  rw [ey]
  refine (block (holds m c t) _ _ _ _ r l).trans ?_
  rw [in2, funext (in4 m c t), funext (in5 m c t)]
  simp only [in3]
  rfl

end Cert.Proof.PoolSample
-- ==== Proof.PoolSampleRef.lean ====
/- Hand-written: the pooling mixer's reference on the sample's rows, read one number at a time, and with it the value claim. -/
module

public import proofs.«01_k».proof.Proof.PoolSample

@[expose] public section

noncomputable section

namespace Cert.Proof.PoolSample.Ref

open Cert.Proof.Pool (wins count)
open Cert.Reference9Ideal Cert.Reference9Ideal.Gen Cert.Reference9Ideal.Value Idealize.ShloMosaic Idealize.ShloMosaic.TcCoe Idealize.SL.Sem

/-- The sums of a group's windows. -/
def sums {wm1 off : Nat} (X : Vec Ideal S32x23x1024 .f32) (hsl : S32x23x1024.Slices ![0, 0, off] S32x23x256)
    (h : S32x23x256.ReduceWindows ![1, wm1 + 1, 1] ![1, 1, 1] ![0, wm1, 0] ![0, 0, 0] S32x23x256) : FVec Ideal S32x23x256 .f32 :=
  Host.reduceWindowAdd ![1, wm1 + 1, 1] ![1, 1, 1] ![0, wm1, 0] ![0, 0, 0] (extractStridedSlice S32x23x256 ![0, 0, off] X hsl)
    (broadcastInDim S_ ![] bcast_S_S_ (constant S_ .f32 0x00000000#32)) h h_S_

/-- The four groups' sums side by side. -/
def cat (X : Vec Ideal S32x23x1024 .f32) : FVec Ideal S32x23x1024 .f32 :=
  concatenate S32x23x1024 2
    [⟨S32x23x256, sums X slices_S32x23x1024_S32x23x256_0_0_0 reduceWindows_S32x23x256_S32x23x256_w1s1p0_0_w2s1p1_0_w1s1p0_0⟩,
     ⟨S32x23x256, sums X slices_S32x23x1024_S32x23x256_0_0_256 reduceWindows_S32x23x256_S32x23x256_w1s1p0_0_w4s1p3_0_w1s1p0_0⟩,
     ⟨S32x23x256, sums X slices_S32x23x1024_S32x23x256_0_0_512 reduceWindows_S32x23x256_S32x23x256_w1s1p0_0_w8s1p7_0_w1s1p0_0⟩,
     ⟨S32x23x256, sums X slices_S32x23x1024_S32x23x256_0_0_768 reduceWindows_S32x23x256_S32x23x256_w1s1p0_0_w16s1p15_0_w1s1p0_0⟩]
    concatenates_S32x23x256_S32x23x256_S32x23x256_S32x23x256_S32x23x1024_d2

/-- The rows kept and the sequences' rows, one array. -/
def rows (X : Vec Ideal S32x8x1024 .f32) (B : Vec Ideal S32x15x1024 .f32) : Vec Ideal S32x23x1024 .f32 :=
  concatenate S32x23x1024 1 [⟨S32x15x1024, B⟩, ⟨S32x8x1024, X⟩] concatenates_S32x15x1024_S32x8x1024_S32x23x1024_d1

/-- A column of it. -/
theorem rows_at (X : Vec Ideal S32x8x1024 .f32) (B : Vec Ideal S32x15x1024 .f32) (a : Fin 32) (n : Fin 1024) :
    (fun t => rows X B (ix3 a t n)) = col X B a n := by
  funext t
  unfold col
  pointwise [rows]

/-- How many rows each group's window has at each row. -/
def counts : IVec S8x4 32 :=
  minsi (broadcastInDim S8x4 ![0, 1] bcast_S1x4_S8x4_0_1 (broadcastInDim S1x4 ![1] bcast_S4_S1x4_1 (fun i => lit0 (S4.rowMajor i))))
    (broadcastInDim S8x4 ![0, 1] bcast_S8x1_S8x4_0_1 (addi (broadcastInDim S8x1 ![0] bcast_S8_S8x1_0 (addi (broadcastInDim S8 ![] bcast_S_S8 (constantI S_ 32 8192#32)) (iotaInDim S8 32 0)))
      (broadcastInDim S8x1 ![] bcast_S_S8x1 (constantI S_ 32 1#32))))

/-- The windows' means less the rows. -/
def pool (X : Vec Ideal S32x8x1024 .f32) (B : Vec Ideal S32x15x1024 .f32) : FVec Ideal S32x8x4x256 .f32 :=
  subf (Host.divf (shapeCast S32x8x4x256 (extractStridedSlice S32x8x1024 ![0, 15, 0] (cat (rows X B)) slices_S32x23x1024_S32x8x1024_0_15_0) shapeCasts_S32x8x1024_S32x8x4x256)
      (broadcastInDim S32x8x4x256 ![0, 1, 2, 3] bcast_S1x8x4x1_S32x8x4x256_0_1_2_3
        (broadcastInDim S1x8x4x1 ![1, 2] bcast_S8x4_S1x8x4x1_1_2 (sitofp .f32 counts))))
    (shapeCast S32x8x4x256 X shapeCasts_S32x8x1024_S32x8x4x256)

/-- The groups mixed. -/
def dot (X : Vec Ideal S32x8x1024 .f32) (B : Vec Ideal S32x15x1024 .f32) (W : Vec Ideal S4x256x256 .f32) : FVec Ideal S32x8x4x256 .f32 :=
  transpose S32x8x4x256 [2, 3, 0, 1] (Host.dotGeneral (φ₁ := .f32) dot_S4x256x256_S32x8x4x256_S4x256x32x8_1_3_2_01_0_2 none
    W (pool X B)) transposes_S4x256x32x8_S32x8x4x256_2_3_0_1

/-- A row's mixed columns. -/
def mixer (X : Vec Ideal S32x8x1024 .f32) (B : Vec Ideal S32x15x1024 .f32) (W : Vec Ideal S4x256x256 .f32) : FVec Ideal S32x8x1024 .f32 :=
  shapeCast S32x8x1024 (dot X B W) shapeCasts_S32x8x4x256_S32x8x1024

/-- The scaled rows plus the mixed columns. -/
def resid (X M : FVec Ideal S32x8x1024 .f32) (s : Vec Ideal S1024 .f32) : FVec Ideal S32x8x1024 .f32 :=
  addf (mulf (broadcastInDim S32x8x1024 ![] bcast_S_S32x8x1024 (constant S_ .f32 0x3FD744FD#32)) X)
    (mulf M (broadcastInDim S32x8x1024 ![0, 1, 2] bcast_S1x1x1024_S32x8x1024_0_1_2 (broadcastInDim S1x1x1024 ![2] bcast_S1024_S1x1x1024_2 s)))

/-- The mean of each row. -/
def mean (Z : FVec Ideal S32x8x1024 .f32) : FVec Ideal S32x8x1 .f32 :=
  Host.divf (broadcastInDim S32x8x1 ![0, 1] bcast_S32x8_S32x8x1_0_1
      (Host.reduceAdd Z (constant S_ .f32 0x00000000#32) reducesTo_S32x8x1024_S32x8_d2 h_S_))
    (broadcastInDim S32x8x1 ![] bcast_S_S32x8x1 (constant S_ .f32 0x44800000#32))

/-- The rows less their means. -/
def centred (Z : FVec Ideal S32x8x1024 .f32) : FVec Ideal S32x8x1024 .f32 :=
  subf Z (broadcastInDim S32x8x1024 ![0, 1, 2] bcast_S32x8x1_S32x8x1024_0_1_2 (mean Z))

/-- The layer norm of each row. -/
def norm (Z : FVec Ideal S32x8x1024 .f32) (g b : Vec Ideal S1024 .f32) : FVec Ideal S32x8x1024 .f32 :=
  addf (mulf (mulf (centred Z)
      (broadcastInDim S32x8x1024 ![0, 1, 2] bcast_S32x8x1_S32x8x1024_0_1_2
        (Host.rsqrt (addf (mean (mulf (centred Z) (centred Z))) (broadcastInDim S32x8x1 ![] bcast_S_S32x8x1 (constant S_ .f32 0x3727C5AC#32))))))
    (broadcastInDim S32x8x1024 ![0, 1, 2] bcast_S1x1x1024_S32x8x1024_0_1_2 (broadcastInDim S1x1x1024 ![2] bcast_S1024_S1x1x1024_2 g)))
    (broadcastInDim S32x8x1024 ![0, 1, 2] bcast_S1x1x1024_S32x8x1024_0_1_2 (broadcastInDim S1x1x1024 ![2] bcast_S1024_S1x1x1024_2 b))

/-- A number of a group's sums. -/
theorem sums_at {wm1 off : Nat} (X : Vec Ideal S32x23x1024 .f32) (ho : off + 256 ≤ 1024) (hsl : S32x23x1024.Slices ![0, 0, off] S32x23x256)
    (h : S32x23x256.ReduceWindows ![1, wm1 + 1, 1] ![1, 1, 1] ![0, wm1, 0] ![0, 0, 0] S32x23x256) (a : Fin 32) (t : Fin 23) (k : Fin 256) :
    sums X hsl h (ix3 a t k) = Window.last (wm1 + 1) (fun t' => X (ix3 a t' ⟨off + k.val, by omega⟩)) t := by
  refine (Window.window rfl _ _ h h_S_ ?_ a t k).trans ?_
  · pointwise []
  · refine congrArg (Window.last (wm1 + 1) · t) (funext fun t' => ?_)
    show _ = X (ix3 a t' ⟨off + k.val, _⟩)
    pointwise []

/-- A number of the four groups' sums. -/
theorem cat_at (X : Vec Ideal S32x23x1024 .f32) (a : Fin 32) (t : Fin 23) (n : Fin 1024) :
    cat X (ix3 a t n) = Window.last (wins ⟨n.val / 256, by omega⟩) (fun t' => X (ix3 a t' n)) t := by
  have hM : ∀ (g : Fin 4) (e : Fin 256) (h : n.val = 256 * g.val + e.val), Window.last (wins g) (fun t' => X (ix3 a t' ⟨256 * g.val + e.val, by omega⟩)) t
      = Window.last (wins ⟨n.val / 256, by omega⟩) (fun t' => X (ix3 a t' n)) t := fun g e h =>
    congrArg₂ (fun w z => Window.last w (fun t' => X (ix3 a t' z)) t) (congrArg wins (Fin.ext (by show g.val = n.val / 256; omega))) (Fin.ext h.symm)
  pointwise [cat]
  split
  · next h => exact (sums_at X (by omega) _ _ a t _).trans (hM 0 ⟨n.val, h⟩ (by show n.val = 256 * 0 + n.val; omega))
  · next h =>
    split
    · next h' => exact (sums_at X (by omega) _ _ a t _).trans (hM 1 ⟨n.val - 256, h'⟩ (by show n.val = 256 * 1 + (n.val - 256); omega))
    · next h' =>
      split
      · next h'' => exact (sums_at X (by omega) _ _ a t _).trans (hM 2 ⟨n.val - 256 - 256, h''⟩ (by show n.val = 256 * 2 + (n.val - 256 - 256); omega))
      · next h'' => exact (sums_at X (by omega) _ _ a t _).trans (hM 3 ⟨n.val - 256 - 256 - 256, by omega⟩ (by show n.val = 256 * 3 + (n.val - 256 - 256 - 256); omega))

/-- The windows' means less the rows, one number. -/
theorem pool_at (X : Vec Ideal S32x8x1024 .f32) (B : Vec Ideal S32x15x1024 .f32) (a : Fin 32) (t : Fin 8) (g : Fin 4) (k : Fin 256) :
    pool X B (ix4 a t g k) = pooled (wins g) X B a t ⟨256 * g.val + k.val, by omega⟩ := by
  have hw : lit0 (S4.rowMajor (ix1 g)) = BitVec.ofNat 32 (wins g) := by fin_cases g <;> rfl
  have hn : (⟨g.val * 256 + k.val, by omega⟩ : Fin 1024) = ⟨256 * g.val + k.val, by omega⟩ := Fin.ext (by show g.val * 256 + k.val = 256 * g.val + k.val; omega)
  have hg : (⟨(256 * g.val + k.val) / 256, by omega⟩ : Fin 4) = g := Fin.ext (by show (256 * g.val + k.val) / 256 = g.val; omega)
  pointwise [pool, counts]
  rw [hw, hn]
  have hc : IntOp.addi 8192#32 (BitVec.ofNat 32 t.val) = BitVec.ofNat 32 (8192 + t.val) := (BitVec.ofNat_add 8192 t.val).symm
  rw [hc]
  refine congrArg (Ideal.div · _ - _) ((cat_at (rows X B) a ⟨15 + t.val, by omega⟩ _).trans ?_)
  rw [rows_at]
  exact congrArg (fun z => Window.last (wins z) _ _) hg

/-- The groups mixed, one number. -/
theorem dot_at (X : Vec Ideal S32x8x1024 .f32) (B : Vec Ideal S32x15x1024 .f32) (W : Vec Ideal S4x256x256 .f32) (a : Fin 32) (t : Fin 8) (g : Fin 4) (e : Fin 256) :
    dot X B W (ix4 a t g e) = mix X B W a t g e := by
  have h : dot X B W (ix4 a t g e) = ∑ k : Fin 256, W (ix3 g k e) * pool X B (ix4 a t g k) := by
    unfold dot
    generalize pool X B = P
    pointwise []
  rw [h]
  exact Finset.sum_congr rfl fun k _ => by rw [pool_at, mul_comm]

/-- A row's mixed columns, one number. -/
theorem mixer_at (X : Vec Ideal S32x8x1024 .f32) (B : Vec Ideal S32x15x1024 .f32) (W : Vec Ideal S4x256x256 .f32) (a : Fin 32) (t : Fin 8) (n : Fin 1024) :
    mixer X B W (ix3 a t n) = mixed X B W a t n := by
  unfold mixer
  refine Eq.trans ?_ (dot_at X B W a t ⟨n.val / 256, by omega⟩ ⟨n.val % 256, by omega⟩)
  generalize dot X B W = P
  pointwise []

set_option maxRecDepth 16384 in
/-- The layer norm of the residual, one number. -/
theorem norm_at (X M : FVec Ideal S32x8x1024 .f32) (s g b : Vec Ideal S1024 .f32) (a : Fin 32) (t : Fin 8) (l : Fin 1024) :
    norm (resid X M s) g b (ix3 a t l) = Rows.norm (Ideal.ofBits .f32 0x44800000#32)
      (Rows.resid (fun k => X (ix3 a t k)) fun n => M (ix3 a t n) * s (ix1 n)) (fun n => g (ix1 n)) (fun n => b (ix1 n)) l := by
  simp only [Rows.norm, Rows.mean, Rows.resid]
  pointwise [norm, centred, mean, resid]

/-- The reference's result is the mathematics. -/
theorem result (m : (ℓ : Loc nD τ sig) → Buf (Elt Ideal) ℓ) (c : Dev nD) :
    res_main_v64 m c = G (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (show res_main_v64 m c = norm (resid (m ((c.tc : Thread nD τ).loc main_arg0))
    (mixer (m ((c.tc : Thread nD τ).loc main_arg0)) (m ((c.tc : Thread nD τ).loc main_arg1)) (m ((c.tc : Thread nD τ).loc main_arg2))) (m ((c.tc : Thread nD τ).loc main_arg3)))
    (m ((c.tc : Thread nD τ).loc main_arg4)) (m ((c.tc : Thread nD τ).loc main_arg5)) from rfl).trans ?_
  refine funext fun (i : S32x8x1024.Idx) => ?_
  obtain ⟨a, t, l, rfl⟩ : ∃ (a : Fin 32) (t : Fin 8) (l : Fin 1024), i = ix3 a t l := ⟨i 0, i 1, i 2, eq_ix3 i⟩
  refine (norm_at _ _ _ _ _ a t l).trans ?_
  simp only [mixer_at]
  rfl

end Cert.Proof.PoolSample.Ref

namespace Cert.Proof.PoolSample

open Cert.Kernel9Ideal Cert.Kernel9Ideal.Gen Cert.Kernel9Ideal.Value Idealize.ShloMosaic Idealize.ShloMosaic.TcCoe Idealize.SL.Sem

/-! The last 15 rows, kept for the next step. -/

/-- The kernel's second result: the last 15 rows of each sequence behind the kept ones. -/
def kept (X : Vec Ideal S32x8x1024 .f32) (B : Vec Ideal S32x15x1024 .f32) : Vec Ideal S32x15x1024 .f32 :=
  extractStridedSlice S32x15x1024 ![0, 9, 0]
    (concatenate S32x24x1024 1 [⟨S32x16x1024, concatenate S32x16x1024 1
        [⟨S32x1x1024, broadcastInDim S32x1x1024 ![] bcast_S_S32x1x1024 (constant (F := Ideal) S_ .f32 0x00000000#32)⟩, ⟨S32x15x1024, B⟩]
        concatenates_S32x1x1024_S32x15x1024_S32x16x1024_d1⟩, ⟨S32x8x1024, X⟩]
      concatenates_S32x16x1024_S32x8x1024_S32x24x1024_d1)
    slices_S32x24x1024_S32x15x1024_0_9_0

/-- The row of zeros in front of them is not among these. -/
theorem kept_eq (X : Vec Ideal S32x8x1024 .f32) (B : Vec Ideal S32x15x1024 .f32) :
    extractStridedSlice Cert.Reference9Ideal.S32x15x1024 ![0, 8, 0]
        (concatenate Cert.Reference9Ideal.S32x23x1024 1 [⟨Cert.Reference9Ideal.S32x15x1024, B⟩, ⟨Cert.Reference9Ideal.S32x8x1024, X⟩]
          Cert.Reference9Ideal.Gen.concatenates_S32x15x1024_S32x8x1024_S32x23x1024_d1)
        Cert.Reference9Ideal.Gen.slices_S32x23x1024_S32x15x1024_0_8_0 = kept X B := by
  refine funext fun (i : S32x15x1024.Idx) => ?_
  obtain ⟨a, r, l, rfl⟩ : ∃ (a : Fin 32) (r : Fin 15) (l : Fin 1024), i = ix3 a r l := ⟨i 0, i 1, i 2, eq_ix3 i⟩
  unfold kept
  pointwise []
  by_cases h : 8 + r.val < 15
  · rw [dif_pos h, dif_pos (by omega), dif_neg (by omega)]
    exact congrArg (fun n => B (ix3 a n l)) (Fin.ext (by show 8 + r.val = 9 + r.val - 1; omega))
  · rw [dif_neg h, dif_neg (by omega)]
    exact congrArg (fun n => X (ix3 a n l)) (Fin.ext (by show 8 + r.val - 15 = 9 + r.val - 16; omega))

/-- The run: both results named, the arguments kept. -/
theorem run_both (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = (dats m 0 c).arrAt 6 cfg0.N
      ∧ r.2.mem ((c : Thread nD τ).loc main_v3) = V m c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c, (h c).2 main_v3 (Pipeline.mem_restRefs_of main_v3 (by decide) (by decide)),
      kept_main_arg0 m r h c, kept_main_arg1 m r h c, kept_main_arg2 m r h c, kept_main_arg3 m r h c, kept_main_arg4 m r h c, kept_main_arg5 m r h c⟩)
    (run_main m ρ)

/-- The pooling mixer's kernel on the sample's rows computes what its reference computes, at the extended reals. -/
theorem algebraic : Cert.algebraic_Kernel9Ideal_Reference9Ideal := by
  intro m g m' g' _ hagree
  refine ⟨fun c => G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)),
      fun c => kept (m ((c : Thread nD τ).loc main_arg0)) (m ((c : Thread nD τ).loc main_arg1)), ?_, ?_⟩
  · exact (θ_run defs _ _).mono (fun _ h c => ⟨(h c).1.trans (final m c), (h c).2.1, (h c).2.2⟩) (run_both m g)
  · refine (θ_run Cert.Reference9Ideal.defs _ _).mono
      (fun _ h c => ⟨((h c).1.trans (Ref.result m' c)).trans ?_, (h c).2.1.trans ?_, (h c).2.2⟩)
      (Cert.Reference9Ideal.Value.run m' g')
    all_goals
      obtain ⟨h0, h1, h2, h3, h4, h5⟩ := hagree c
    · rw [h0, h1, h2, h3, h4, h5]
    · rw [h0, h1]
      exact kept_eq _ _

end Cert.Proof.PoolSample
-- ==== Proof.ProjFirst.lean ====
/- Hand-written: the input projections of the prompt's token rows in the first attention layer. The kernel makes the two
   layers' caches and writes the first layer's part of them alone; the lines after it take that part. The other six arrays are as
   in the second layer (`ProjPrompt`). -/
module

public import proofs.«01_k».proof.Proof.Gen.Kernel10Ideal.Frame
public import proofs.«01_k».proof.Proof.Gen.Reference10Ideal.Run
public import proofs.«01_k».proof.Defs
public import proofs.«01_k».proof.Proof.Rows
public import Idealize.ShloMosaic.Lib.Pipeline.ValueKit

@[expose] public section

noncomputable section

namespace Cert.Proof.ProjFirst

open Cert.Kernel10Ideal Cert.Kernel10Ideal.Gen Idealize.ShloMosaic Idealize.ShloMosaic.TcCoe Idealize.SL.Sem

/-- A column's product with a row: the two factors of every term exchanged. -/
theorem lin_comm {K N : Nat} (row : Fin K → EReal) (W : Fin K → Fin N → EReal) (n : Fin N) :
    ∑ k : Fin K, W k n * row k = Rows.lin row W n :=
  Finset.sum_congr rfl fun k _ => mul_comm (W k n) (row k)

section
variable (x0 : Vec Ideal S512x1024 .f32) (x1 : Vec Ideal S1024x1024 .bf16) (x5 : Vec Ideal S512x1024 .bf16)
  (x6 : Vec Ideal S1024x128 .bf16) (x7 : Vec Ideal S128x1024 .bf16) (x8 x9 : Vec Ideal S1x64 .f32) (r : Fin 512)

/-- The block of queries, transposed, -/
theorem block10 (l : Fin 1024) : k0_pay3 x0 x1 (ix2 l r)
    = Rows.lin (fun k => x0 (ix2 r k)) (fun k (n : Fin 1024) => x1 (ix2 n k)) l * Ideal.ofBits .f32 0x3E0293EE#32 := by
  rw [← lin_comm]
  pointwise [k0_pay3, k0_pay2]
/-- of keys, in the layer's part, -/
theorem block11 (l : Fin 1024) : k0_pay5 x0 x1 (ix3 0 r l)
    = Rows.lin (fun k => x0 (ix2 r k)) (fun k (n : Fin 1024) => x1 (ix2 k n)) l := by
  simp only [Rows.lin]
  pointwise [k0_pay5, k0_pay4, k0_pay2]
/-- of values, in the layer's part, -/
theorem block12 (l : Fin 1024) : k0_pay7 x0 x1 (ix3 0 r l)
    = Rows.lin (fun k => x0 (ix2 r k)) (fun k (n : Fin 1024) => x1 (ix2 k n)) l := by
  simp only [Rows.lin]
  pointwise [k0_pay7, k0_pay2]
/-- of the keys' copies, -/
theorem block13 (l : Fin 1024) : k0_pay6 x0 x1 (ix2 r l)
    = Rows.lin (fun k => x0 (ix2 r k)) (fun k (n : Fin 1024) => x1 (ix2 k n)) l := by
  simp only [Rows.lin]
  pointwise [k0_pay6, k0_pay4, k0_pay2]
/-- of the values' copies, transposed, -/
theorem block14 (l : Fin 1024) : k0_pay8 x0 x1 (ix2 l r)
    = Rows.lin (fun k => x0 (ix2 r k)) (fun k (n : Fin 1024) => x1 (ix2 n k)) l := by
  rw [← lin_comm]
  pointwise [k0_pay8, k0_pay2]
/-- of the indexer's queries, transposed, -/
theorem block15 (l : Fin 512) : k0_pay9 (k0_pay2 x0) x5 (ix2 l r)
    = Rows.lin (fun k => x0 (ix2 r k)) (fun k (n : Fin 512) => x5 (ix2 n k)) l := by
  rw [← lin_comm]
  pointwise [k0_pay9, k0_pay2]
set_option maxRecDepth 16384 in
/-- of the indexer's keys, -/
theorem block16 (d : Fin 64) : k0_pay10 (k0_pay2 x0) x6 x8 x9 (ix2 r d)
    = Rows.norm (Ideal.ofBits .f32 0x42800000#32)
        (Rows.lin (fun k => x0 (ix2 r k)) (fun k (n : Fin 64) => x6 (ix2 k ⟨0 + n.val, by omega⟩)))
        (fun n => x8 (ix2 0 n)) (fun n => x9 (ix2 0 n)) d := by
  simp only [Rows.norm, Rows.mean, Rows.lin]
  pointwise [k0_pay10, k0_pay2]
/-- and of the indexer's head weights, transposed. -/
theorem block17 (h : Fin 8) : k0_pay1 (k0_pay2 x0) x7 (ix2 h r)
    = Rows.lin (fun k => x0 (ix2 r k)) (fun k (n : Fin 8) => x7 (ix2 ⟨64 + n.val, by omega⟩ k)) h * Ideal.ofBits .f32 0x3EB504F3#32 := by
  rw [← lin_comm]
  pointwise [k0_pay1, k0_pay2]
end

variable (m : (ℓ : Loc nD τ sig) → Buf (Elt Ideal) ℓ) (ρ : Dev nD → PrngReg)

/-- Row `r` of block `t` is row `512 t + r` of the array. -/
def rowOf (t : Fin cfg0.N) (r : Fin 512) : Fin 16384 :=
  ⟨t.val * 512 + r.val, by have h : t.val < 32 := t.isLt; omega⟩

/-- A point takes its 512 token rows, -/
theorem in0 (c : Dev nD) (t : Fin cfg0.N) (r : Fin 512) :
    (fun k : Fin 1024 => iblk m c 0 t (ix2 r k : S512x1024.Idx)) = Rows.prow (m ((c : Thread nD τ).loc main_arg0)) (rowOf t r) := by
  have e : win0_0.index t = ![t.val, 0] := (by decide +kernel : ∀ t : Fin grid0.N, win0_0.index t = ![t.val, 0]) t
  have h : V m c main_v0 = shapeCast S16384x1024 (m ((c : Thread nD τ).loc main_arg0)) shapeCasts_S2x8192x1024_S16384x1024 := rfl
  funext k
  have hi : iblk m c 0 t (ix2 r k : S512x1024.Idx) = V m c main_v0 (ix2 (rowOf t r) k : S16384x1024.Idx) := by
    blk_ext [iblk, e, rowOf]
  rw [hi, h]
  exact Rows.flat_prow _ _ _ k
/-- the weight's columns for the queries, transposed, -/
theorem in1 (c : Dev nD) (t : Fin cfg0.N) :
    (fun (k : Fin 1024) (n : Fin 1024) => iblk m c 1 t (ix2 n k : S1024x1024.Idx))
      = Rows.cols (m ((c : Thread nD τ).loc main_arg1)) 0 (by omega) := by
  have e : win0_1.index t = ![0, 0] := (by decide +kernel : ∀ t : Fin grid0.N, win0_1.index t = ![0, 0]) t
  have h : V m c main_v10 = truncf (F := Ideal) .bf16 (transpose S1024x1024 [1, 0]
      (extractStridedSlice S1024x1024 ![0, 0] (m ((c : Thread nD τ).loc main_arg1)) slices_S1024x3656_S1024x1024_0_0)
      transposes_S1024x1024_S1024x1024_1_0) bitsLt_bf16_f32 := rfl
  funext k n
  have hi : iblk m c 1 t (ix2 n k : S1024x1024.Idx) = V m c main_v10 (ix2 n k : S1024x1024.Idx) := by
    blk_ext [iblk, e]
  rw [hi, h]
  refine congrArg (m ((c : Thread nD τ).loc main_arg1)) (funext fun a => ?_)
  fin_cases a <;> simp [Fin.ext_iff]
  all_goals rfl
/-- for the keys, -/
theorem in2 (c : Dev nD) (t : Fin cfg0.N) :
    (fun (k : Fin 1024) (n : Fin 1024) => iblk m c 2 t (ix2 k n : S1024x1024.Idx))
      = Rows.cols (m ((c : Thread nD τ).loc main_arg1)) 1024 (by omega) := by
  have e : win0_2.index t = ![0, 0] := (by decide +kernel : ∀ t : Fin grid0.N, win0_2.index t = ![0, 0]) t
  have h : V m c main_v11 = truncf (F := Ideal) .bf16
      (extractStridedSlice S1024x1024 ![0, 1024] (m ((c : Thread nD τ).loc main_arg1)) slices_S1024x3656_S1024x1024_0_1024) bitsLt_bf16_f32 := rfl
  funext k n
  have hi : iblk m c 2 t (ix2 k n : S1024x1024.Idx) = V m c main_v11 (ix2 k n : S1024x1024.Idx) := by
    blk_ext [iblk, e]
  rw [hi, h]
  refine congrArg (m ((c : Thread nD τ).loc main_arg1)) (funext fun a => ?_)
  fin_cases a <;> simp [Fin.ext_iff]
/-- for the values, -/
theorem in3 (c : Dev nD) (t : Fin cfg0.N) :
    (fun (k : Fin 1024) (n : Fin 1024) => iblk m c 3 t (ix2 k n : S1024x1024.Idx))
      = Rows.cols (m ((c : Thread nD τ).loc main_arg1)) 2048 (by omega) := by
  have e : win0_3.index t = ![0, 0] := (by decide +kernel : ∀ t : Fin grid0.N, win0_3.index t = ![0, 0]) t
  have h : V m c main_v12 = truncf (F := Ideal) .bf16
      (extractStridedSlice S1024x1024 ![0, 2048] (m ((c : Thread nD τ).loc main_arg1)) slices_S1024x3656_S1024x1024_0_2048) bitsLt_bf16_f32 := rfl
  funext k n
  have hi : iblk m c 3 t (ix2 k n : S1024x1024.Idx) = V m c main_v12 (ix2 k n : S1024x1024.Idx) := by
    blk_ext [iblk, e]
  rw [hi, h]
  refine congrArg (m ((c : Thread nD τ).loc main_arg1)) (funext fun a => ?_)
  fin_cases a <;> simp [Fin.ext_iff]
/-- these transposed too, -/
theorem in4 (c : Dev nD) (t : Fin cfg0.N) :
    (fun (k : Fin 1024) (n : Fin 1024) => iblk m c 4 t (ix2 n k : S1024x1024.Idx))
      = Rows.cols (m ((c : Thread nD τ).loc main_arg1)) 2048 (by omega) := by
  have e : win0_4.index t = ![0, 0] := (by decide +kernel : ∀ t : Fin grid0.N, win0_4.index t = ![0, 0]) t
  have h : V m c main_v14 = truncf (F := Ideal) .bf16 (transpose S1024x1024 [1, 0]
      (extractStridedSlice S1024x1024 ![0, 2048] (m ((c : Thread nD τ).loc main_arg1)) slices_S1024x3656_S1024x1024_0_2048)
      transposes_S1024x1024_S1024x1024_1_0) bitsLt_bf16_f32 := rfl
  funext k n
  have hi : iblk m c 4 t (ix2 n k : S1024x1024.Idx) = V m c main_v14 (ix2 n k : S1024x1024.Idx) := by
    blk_ext [iblk, e]
  rw [hi, h]
  refine congrArg (m ((c : Thread nD τ).loc main_arg1)) (funext fun a => ?_)
  fin_cases a <;> simp [Fin.ext_iff]
  all_goals rfl
/-- for the indexer's queries, transposed, -/
theorem in5 (c : Dev nD) (t : Fin cfg0.N) :
    (fun (k : Fin 1024) (n : Fin 512) => iblk m c 5 t (ix2 n k : S512x1024.Idx))
      = Rows.cols (m ((c : Thread nD τ).loc main_arg1)) 3072 (by omega) := by
  have e : win0_5.index t = ![0, 0] := (by decide +kernel : ∀ t : Fin grid0.N, win0_5.index t = ![0, 0]) t
  have h : V m c main_v16 = truncf (F := Ideal) .bf16 (transpose S512x1024 [1, 0]
      (extractStridedSlice S1024x512 ![0, 3072] (m ((c : Thread nD τ).loc main_arg1)) slices_S1024x3656_S1024x512_0_3072)
      transposes_S1024x512_S512x1024_1_0) bitsLt_bf16_f32 := rfl
  funext k n
  have hi : iblk m c 5 t (ix2 n k : S512x1024.Idx) = V m c main_v16 (ix2 n k : S512x1024.Idx) := by
    blk_ext [iblk, e]
  rw [hi, h]
  refine congrArg (m ((c : Thread nD τ).loc main_arg1)) (funext fun a => ?_)
  fin_cases a <;> simp [Fin.ext_iff]
  all_goals rfl
/-- the last columns, padded to whole lanes, -/
theorem in6 (c : Dev nD) (t : Fin cfg0.N) {N : Nat} (off : Nat) (ho : off + N ≤ 72) :
    (fun (k : Fin 1024) (n : Fin N) => iblk m c 6 t (ix2 k ⟨off + n.val, by omega⟩ : S1024x128.Idx))
      = Rows.cols (m ((c : Thread nD τ).loc main_arg1)) (3584 + off) (by omega) := by
  have e : win0_6.index t = ![0, 0] := (by decide +kernel : ∀ t : Fin grid0.N, win0_6.index t = ![0, 0]) t
  have h : V m c main_v17 = truncf (F := Ideal) .bf16 (pad S1024x128 ![0, 0] ![0, 56] ![0, 0]
      (extractStridedSlice S1024x72 ![0, 3584] (m ((c : Thread nD τ).loc main_arg1)) slices_S1024x3656_S1024x72_0_3584)
      (sitofp .f32 (constantI S_ 32 0#32)) pads_S1024x72_S1024x128_000_0560 h_S_) bitsLt_bf16_f32 := rfl
  funext k n
  have hi : iblk m c 6 t (ix2 k ⟨off + n.val, by omega⟩ : S1024x128.Idx) = V m c main_v17 (ix2 k ⟨off + n.val, by omega⟩ : S1024x128.Idx) := by
    blk_ext [iblk, e]
  rw [hi, h]
  exact Rows.pad_cols (m ((c : Thread nD τ).loc main_arg1)) slices_S1024x3656_S1024x72_0_3584
    (sitofp (F := Ideal) .f32 (constantI S_ 32 0#32)) pads_S1024x72_S1024x128_000_0560 h_S_ off ho k n
/-- these transposed too, -/
theorem in7 (c : Dev nD) (t : Fin cfg0.N) {N : Nat} (off : Nat) (ho : off + N ≤ 72) :
    (fun (k : Fin 1024) (n : Fin N) => iblk m c 7 t (ix2 ⟨off + n.val, by omega⟩ k : S128x1024.Idx))
      = Rows.cols (m ((c : Thread nD τ).loc main_arg1)) (3584 + off) (by omega) := by
  have e : win0_7.index t = ![0, 0] := (by decide +kernel : ∀ t : Fin grid0.N, win0_7.index t = ![0, 0]) t
  have h : V m c main_v19 = truncf (F := Ideal) .bf16 (transpose S128x1024 [1, 0] (pad S1024x128 ![0, 0] ![0, 56] ![0, 0]
      (extractStridedSlice S1024x72 ![0, 3584] (m ((c : Thread nD τ).loc main_arg1)) slices_S1024x3656_S1024x72_0_3584)
      (sitofp .f32 (constantI S_ 32 0#32)) pads_S1024x72_S1024x128_000_0560 h_S_) transposes_S1024x128_S128x1024_1_0) bitsLt_bf16_f32 := rfl
  funext k n
  have hi : iblk m c 7 t (ix2 ⟨off + n.val, by omega⟩ k : S128x1024.Idx) = V m c main_v19 (ix2 ⟨off + n.val, by omega⟩ k : S128x1024.Idx) := by
    blk_ext [iblk, e]
  rw [hi, h]
  refine Eq.trans ?_ (Rows.pad_cols (m ((c : Thread nD τ).loc main_arg1)) slices_S1024x3656_S1024x72_0_3584
    (sitofp (F := Ideal) .f32 (constantI S_ 32 0#32)) pads_S1024x72_S1024x128_000_0560 h_S_ off ho k n)
  generalize pad (s := S1024x72) S1024x128 ![0, 0] ![0, 56] ![0, 0] _ _ _ _ = P
  refine congrArg P (funext fun a => ?_)
  fin_cases a <;> rfl
/-- the scale, -/
theorem in8 (c : Dev nD) (t : Fin cfg0.N) (n : Fin 64) :
    iblk m c 8 t (ix2 0 n : S1x64.Idx) = m ((c : Thread nD τ).loc main_arg2) (ix1 n : S64.Idx) := by
  have e : win0_8.index t = ![0, 0] := (by decide +kernel : ∀ t : Fin grid0.N, win0_8.index t = ![0, 0]) t
  have h : V m c main_v1 = broadcastInDim S1x64 ![1] bcast_S64_S1x64_1 (m ((c : Thread nD τ).loc main_arg2)) := rfl
  have hi : iblk m c 8 t (ix2 0 n : S1x64.Idx) = V m c main_v1 (ix2 0 n : S1x64.Idx) := by
    blk_ext [iblk, e]
  rw [hi, h]
  refine congrArg (m ((c : Thread nD τ).loc main_arg2)) (funext fun a => ?_)
  fin_cases a
  rfl
/-- and the shift. -/
theorem in9 (c : Dev nD) (t : Fin cfg0.N) (n : Fin 64) :
    iblk m c 9 t (ix2 0 n : S1x64.Idx) = m ((c : Thread nD τ).loc main_arg3) (ix1 n : S64.Idx) := by
  have e : win0_9.index t = ![0, 0] := (by decide +kernel : ∀ t : Fin grid0.N, win0_9.index t = ![0, 0]) t
  have h : V m c main_v2 = broadcastInDim S1x64 ![1] bcast_S64_S1x64_1 (m ((c : Thread nD τ).loc main_arg3)) := rfl
  have hi : iblk m c 9 t (ix2 0 n : S1x64.Idx) = V m c main_v2 (ix2 0 n : S1x64.Idx) := by
    blk_ext [iblk, e]
  rw [hi, h]
  refine congrArg (m ((c : Thread nD τ).loc main_arg3)) (funext fun a => ?_)
  fin_cases a
  rfl

/-! What the run leaves in a point's buffers is the body's results of the point's blocks. -/

/-- The block of rows that the body reads is the window's. -/
theorem block_rows (x0 : Vec Ideal S512x1024 .f32) (x1 x2 x3 x4 : Vec Ideal S1024x1024 .bf16) (x5 : Vec Ideal S512x1024 .bf16)
    (x6 : Vec Ideal S1024x128 .bf16) (x7 : Vec Ideal S128x1024 .bf16) (x8 x9 : Vec Ideal S1x64 .f32) :
    k0_pay11 x0 x1 x2 x3 x4 x5 x6 x7 x8 x9 = k0_pay2 x0 := by
  unfold k0_pay11
  rw [View.ld_unit_zero]
  all_goals decide

/-- The queries' buffer, -/
theorem left10 (c : Dev nD) (t : Fin cfg0.N) : (dats m 0 c).after 10 t = k0_pay3 (iblk m c 0 t) (iblk m c 1 t) := by
  rw [after0_10]
  frame_out
/-- the keys', -/
theorem left11 (c : Dev nD) (t : Fin cfg0.N) : (dats m 0 c).after 11 t = k0_pay5 (iblk m c 0 t) (iblk m c 2 t) := by
  rw [after0_11]
  frame_out
/-- the values', -/
theorem left12 (c : Dev nD) (t : Fin cfg0.N) : (dats m 0 c).after 12 t = k0_pay7 (iblk m c 0 t) (iblk m c 3 t) := by
  rw [after0_12]
  frame_out
/-- the keys' copy's, -/
theorem left13 (c : Dev nD) (t : Fin cfg0.N) : (dats m 0 c).after 13 t = k0_pay6 (iblk m c 0 t) (iblk m c 2 t) := by
  rw [after0_13]
  frame_out
/-- the values' copy's, -/
theorem left14 (c : Dev nD) (t : Fin cfg0.N) : (dats m 0 c).after 14 t = k0_pay8 (iblk m c 0 t) (iblk m c 4 t) := by
  rw [after0_14]
  frame_out
/-- the indexer's queries', -/
theorem left15 (c : Dev nD) (t : Fin cfg0.N) :
    (dats m 0 c).after 15 t = k0_pay9 (k0_pay2 (iblk m c 0 t)) (iblk m c 5 t) := by
  rw [after0_15]
  frame_out
  rw [block_rows]
/-- the indexer's keys', -/
theorem left16 (c : Dev nD) (t : Fin cfg0.N) :
    (dats m 0 c).after 16 t = k0_pay10 (k0_pay2 (iblk m c 0 t)) (iblk m c 6 t) (iblk m c 8 t) (iblk m c 9 t) := by
  rw [after0_16]
  frame_out
  rw [block_rows]
/-- and the indexer's head weights'. -/
theorem left17 (c : Dev nD) (t : Fin cfg0.N) :
    (dats m 0 c).after 17 t = k0_pay1 (k0_pay2 (iblk m c 0 t)) (iblk m c 7 t) := by
  rw [after0_17]
  frame_out
  rw [block_rows]

/-- One layer's part of a cache: the other layer's entries stay, this layer's are given row by row. -/
def layer (K : Vec Ideal S2x16384x1024 .f32) (rows : Fin 16384 → Fin 1024 → EReal) : Vec Ideal S2x16384x1024 .f32 :=
  fun i => if (i 0).val = 0 then rows (i 1) (i 2) else K i

/-- The queries' array after the run, -/
theorem final10 (c : Dev nD) : (dats m 0 c).arrAt 10 cfg0.N = fun i : S1024x16384.Idx =>
    Rows.query (Rows.prow (m ((c : Thread nD τ).loc main_arg0)) (i 1)) (m ((c : Thread nD τ).loc main_arg1)) (i 0) := by
  refine (dats m 0 c).arrAt_eq_of_covers 10 _ (by decide +kernel) fun t _ y => ?_
  have e : win0_10.index t = ![0, t.val] := (by decide +kernel : ∀ t : Fin grid0.N, win0_10.index t = ![0, t.val]) t
  blk_simp
  rw [left10]
  obtain ⟨l, r, rfl⟩ : ∃ (l : Fin 1024) (r : Fin 512), y = (ix2 l r : S1024x512.Idx) := ⟨y 0, y 1, eq_ix2 y⟩
  have ey : (win0_10.blk t).view.emb (ix2 l r : S1024x512.Idx) = (ix2 l (rowOf t r) : S1024x16384.Idx) := by blk_ext [e, rowOf]
  rw [ey]
  refine (block10 _ _ r l).trans ?_
  rw [in0, in1]
  rfl
/-- the keys', in the layer's part of the cache, -/
theorem final11 (c : Dev nD) : (dats m 0 c).arrAt 11 cfg0.N = layer (V m c main_v20_1)
    (fun n => Rows.key (Rows.prow (m ((c : Thread nD τ).loc main_arg0)) n) (m ((c : Thread nD τ).loc main_arg1))) := by
  refine (dats m 0 c).arrAt_eq_of_coversWhere_of_agree 11 _ (fun β => β (0 : Fin _) = 0) (by decide +kernel)
    (fun t _ y => ?_) (fun j hj => ?_)
  · have e : win0_11.index t = ![0, t.val, 0] := (by decide +kernel : ∀ t : Fin grid0.N, win0_11.index t = ![0, t.val, 0]) t
    blk_simp
    rw [left11]
    obtain ⟨a, r, l, rfl⟩ : ∃ (a : Fin 1) (r : Fin 512) (l : Fin 1024), y = (ix3 a r l : S1x512x1024.Idx) :=
      ⟨y 0, y 1, y 2, eq_ix3 y⟩
    obtain rfl : a = 0 := Subsingleton.elim _ _
    have ey : (win0_11.blk t).view.emb (ix3 0 r l : S1x512x1024.Idx) = (ix3 0 (rowOf t r) l : S2x16384x1024.Idx) := by
      blk_ext [e, rowOf]
    rw [ey]
    refine (block11 _ _ r l).trans ?_
    rw [in0, in2]
    rfl
  · have h : ¬(j 0).val = 0 := by
      intro h
      exact hj ((Nat.div_one _).trans h)
    exact (if_neg h).symm
/-- the values', in the layer's part of the cache, -/
theorem final12 (c : Dev nD) : (dats m 0 c).arrAt 12 cfg0.N = layer (V m c main_v20_2)
    (fun n => Rows.value (Rows.prow (m ((c : Thread nD τ).loc main_arg0)) n) (m ((c : Thread nD τ).loc main_arg1))) := by
  refine (dats m 0 c).arrAt_eq_of_coversWhere_of_agree 12 _ (fun β => β (0 : Fin _) = 0) (by decide +kernel)
    (fun t _ y => ?_) (fun j hj => ?_)
  · have e : win0_12.index t = ![0, t.val, 0] := (by decide +kernel : ∀ t : Fin grid0.N, win0_12.index t = ![0, t.val, 0]) t
    blk_simp
    rw [left12]
    obtain ⟨a, r, l, rfl⟩ : ∃ (a : Fin 1) (r : Fin 512) (l : Fin 1024), y = (ix3 a r l : S1x512x1024.Idx) :=
      ⟨y 0, y 1, y 2, eq_ix3 y⟩
    obtain rfl : a = 0 := Subsingleton.elim _ _
    have ey : (win0_12.blk t).view.emb (ix3 0 r l : S1x512x1024.Idx) = (ix3 0 (rowOf t r) l : S2x16384x1024.Idx) := by
      blk_ext [e, rowOf]
    rw [ey]
    refine (block12 _ _ r l).trans ?_
    rw [in0, in3]
    rfl
  · have h : ¬(j 0).val = 0 := by
      intro h
      exact hj ((Nat.div_one _).trans h)
    exact (if_neg h).symm
/-- the keys' copy, -/
theorem final13 (c : Dev nD) : (dats m 0 c).arrAt 13 cfg0.N = fun i : S16384x1024.Idx =>
    Rows.key (Rows.prow (m ((c : Thread nD τ).loc main_arg0)) (i 0)) (m ((c : Thread nD τ).loc main_arg1)) (i 1) := by
  refine (dats m 0 c).arrAt_eq_of_covers 13 _ (by decide +kernel) fun t _ y => ?_
  have e : win0_13.index t = ![t.val, 0] := (by decide +kernel : ∀ t : Fin grid0.N, win0_13.index t = ![t.val, 0]) t
  blk_simp
  rw [left13]
  obtain ⟨r, l, rfl⟩ : ∃ (r : Fin 512) (l : Fin 1024), y = (ix2 r l : S512x1024.Idx) := ⟨y 0, y 1, eq_ix2 y⟩
  have ey : (win0_13.blk t).view.emb (ix2 r l : S512x1024.Idx) = (ix2 (rowOf t r) l : S16384x1024.Idx) := by blk_ext [e, rowOf]
  rw [ey]
  refine (block13 _ _ r l).trans ?_
  rw [in0, in2]
  rfl
/-- the values' copy, transposed, -/
theorem final14 (c : Dev nD) : (dats m 0 c).arrAt 14 cfg0.N = fun i : S1024x16384.Idx =>
    Rows.value (Rows.prow (m ((c : Thread nD τ).loc main_arg0)) (i 1)) (m ((c : Thread nD τ).loc main_arg1)) (i 0) := by
  refine (dats m 0 c).arrAt_eq_of_covers 14 _ (by decide +kernel) fun t _ y => ?_
  have e : win0_14.index t = ![0, t.val] := (by decide +kernel : ∀ t : Fin grid0.N, win0_14.index t = ![0, t.val]) t
  blk_simp
  rw [left14]
  obtain ⟨l, r, rfl⟩ : ∃ (l : Fin 1024) (r : Fin 512), y = (ix2 l r : S1024x512.Idx) := ⟨y 0, y 1, eq_ix2 y⟩
  have ey : (win0_14.blk t).view.emb (ix2 l r : S1024x512.Idx) = (ix2 l (rowOf t r) : S1024x16384.Idx) := by blk_ext [e, rowOf]
  rw [ey]
  refine (block14 _ _ r l).trans ?_
  rw [in0, in4]
  rfl
/-- the indexer's queries', transposed, -/
theorem final15 (c : Dev nD) : (dats m 0 c).arrAt 15 cfg0.N = fun i : S512x16384.Idx =>
    Rows.iquery (Rows.prow (m ((c : Thread nD τ).loc main_arg0)) (i 1)) (m ((c : Thread nD τ).loc main_arg1)) (i 0) := by
  refine (dats m 0 c).arrAt_eq_of_covers 15 _ (by decide +kernel) fun t _ y => ?_
  have e : win0_15.index t = ![0, t.val] := (by decide +kernel : ∀ t : Fin grid0.N, win0_15.index t = ![0, t.val]) t
  blk_simp
  rw [left15]
  obtain ⟨l, r, rfl⟩ : ∃ (l : Fin 512) (r : Fin 512), y = (ix2 l r : S512x512.Idx) := ⟨y 0, y 1, eq_ix2 y⟩
  have ey : (win0_15.blk t).view.emb (ix2 l r : S512x512.Idx) = (ix2 l (rowOf t r) : S512x16384.Idx) := by blk_ext [e, rowOf]
  rw [ey]
  refine (block15 _ _ r l).trans ?_
  rw [in0, in5]
  rfl
/-- the indexer's keys', -/
theorem final16 (c : Dev nD) : (dats m 0 c).arrAt 16 cfg0.N = fun i : S16384x64.Idx =>
    Rows.ikey (Rows.prow (m ((c : Thread nD τ).loc main_arg0)) (i 0)) (m ((c : Thread nD τ).loc main_arg1))
      (m ((c : Thread nD τ).loc main_arg2)) (m ((c : Thread nD τ).loc main_arg3)) (i 1) := by
  refine (dats m 0 c).arrAt_eq_of_covers 16 _ (by decide +kernel) fun t _ y => ?_
  have e : win0_16.index t = ![t.val, 0] := (by decide +kernel : ∀ t : Fin grid0.N, win0_16.index t = ![t.val, 0]) t
  blk_simp
  rw [left16]
  obtain ⟨r, d, rfl⟩ : ∃ (r : Fin 512) (d : Fin 64), y = (ix2 r d : S512x64.Idx) := ⟨y 0, y 1, eq_ix2 y⟩
  have ey : (win0_16.blk t).view.emb (ix2 r d : S512x64.Idx) = (ix2 (rowOf t r) d : S16384x64.Idx) := by blk_ext [e, rowOf]
  rw [ey]
  refine (block16 _ _ _ _ r d).trans ?_
  rw [in0, in6 m c t 0 (by omega), funext (in8 m c t), funext (in9 m c t)]
  rfl
/-- and the indexer's head weights', transposed. -/
theorem final17 (c : Dev nD) : (dats m 0 c).arrAt 17 cfg0.N = fun i : S8x16384.Idx =>
    Rows.weight (Rows.prow (m ((c : Thread nD τ).loc main_arg0)) (i 1)) (m ((c : Thread nD τ).loc main_arg1)) (i 0) := by
  refine (dats m 0 c).arrAt_eq_of_covers 17 _ (by decide +kernel) fun t _ y => ?_
  have e : win0_17.index t = ![0, t.val] := (by decide +kernel : ∀ t : Fin grid0.N, win0_17.index t = ![0, t.val]) t
  blk_simp
  rw [left17]
  obtain ⟨h, r, rfl⟩ : ∃ (h : Fin 8) (r : Fin 512), y = (ix2 h r : S8x512.Idx) := ⟨y 0, y 1, eq_ix2 y⟩
  have ey : (win0_17.blk t).view.emb (ix2 h r : S8x512.Idx) = (ix2 h (rowOf t r) : S8x16384.Idx) := by blk_ext [e, rowOf]
  rw [ey]
  refine (block17 _ _ r h).trans ?_
  rw [in0, in7 m c t 64 (by omega)]
  rfl

/-! After the run: of the two caches, the first layer's part. -/

/-- The first layer's part of a cache. -/
def part (K : Vec Ideal S2x16384x1024 .f32) : Vec Ideal S16384x1024 .f32 :=
  shapeCast S16384x1024 (extractStridedSlice S1x16384x1024 ![0, 0, 0] K slices_S2x16384x1024_S1x16384x1024_0_0_0)
    shapeCasts_S1x16384x1024_S16384x1024

/-- It is what was given row by row. -/
theorem part_layer (K : Vec Ideal S2x16384x1024 .f32) (rows : Fin 16384 → Fin 1024 → EReal) :
    part (layer K rows) = fun i : S16384x1024.Idx => rows (i 0) (i 1) := by
  refine funext fun (i : S16384x1024.Idx) => ?_
  obtain ⟨r, l, rfl⟩ : ∃ (r : Fin 16384) (l : Fin 1024), i = ix2 r l := ⟨i 0, i 1, eq_ix2 i⟩
  unfold part
  pointwise [layer]

/-- The lines after the region leave the keys' part, -/
theorem tail_keys (c : Dev nD) : Pipeline.afterTail₀ cfgs (dats m) 0 (V0 m) [hostOps1] c main_v22
    = part ((dats m 0 c).arrAt 11 cfg0.N) := by
  unfold Pipeline.afterTail₀
  rw [show [hostOps1 (F := Ideal)].flatten = hostOps1 from List.append_nil _]
  after_results
  exact congrArg part (Pipeline.withArrays_arr spec0 launch0.win.arr_inj c (V0 m c) (fun w => (dats m 0 c).arrAt w cfg0.N) 11)
/-- and the values'. -/
theorem tail_values (c : Dev nD) : Pipeline.afterTail₀ cfgs (dats m) 0 (V0 m) [hostOps1] c main_v24
    = part ((dats m 0 c).arrAt 12 cfg0.N) := by
  unfold Pipeline.afterTail₀
  rw [show [hostOps1 (F := Ideal)].flatten = hostOps1 from List.append_nil _]
  after_results
  exact congrArg part (Pipeline.withArrays_arr spec0 launch0.win.arr_inj c (V0 m c) (fun w => (dats m 0 c).arrAt w cfg0.N) 12)

/-- The first layer's keys, -/
theorem keys (c : Dev nD) : Pipeline.afterTail₀ cfgs (dats m) 0 (V0 m) [hostOps1] c main_v22 = fun i : S16384x1024.Idx =>
    Rows.key (Rows.prow (m ((c : Thread nD τ).loc main_arg0)) (i 0)) (m ((c : Thread nD τ).loc main_arg1)) (i 1) := by
  rw [tail_keys, final11, part_layer]
/-- and values. -/
theorem values (c : Dev nD) : Pipeline.afterTail₀ cfgs (dats m) 0 (V0 m) [hostOps1] c main_v24 = fun i : S16384x1024.Idx =>
    Rows.value (Rows.prow (m ((c : Thread nD τ).loc main_arg0)) (i 0)) (m ((c : Thread nD τ).loc main_arg1)) (i 1) := by
  rw [tail_values, final12, part_layer]

/-- The run: each result named, the arguments kept. -/
theorem run_blocks : θ_run defs (onTc (τ := τ) (main (F := Ideal))) ⟨m, fun _ => 0, ρ⟩ fun r => ∀ c : Dev nD,
      r.2.mem ((c : Thread nD τ).loc main_v20_0) = (dats m 0 c).arrAt 10 cfg0.N
      ∧ r.2.mem ((c : Thread nD τ).loc main_v22) = Pipeline.afterTail₀ cfgs (dats m) 0 (V0 m) [hostOps1] c main_v22
      ∧ r.2.mem ((c : Thread nD τ).loc main_v24) = Pipeline.afterTail₀ cfgs (dats m) 0 (V0 m) [hostOps1] c main_v24
      ∧ r.2.mem ((c : Thread nD τ).loc main_v20_3) = (dats m 0 c).arrAt 13 cfg0.N
      ∧ r.2.mem ((c : Thread nD τ).loc main_v20_4) = (dats m 0 c).arrAt 14 cfg0.N
      ∧ r.2.mem ((c : Thread nD τ).loc main_v20_5) = (dats m 0 c).arrAt 15 cfg0.N
      ∧ r.2.mem ((c : Thread nD τ).loc main_v20_6) = (dats m 0 c).arrAt 16 cfg0.N
      ∧ r.2.mem ((c : Thread nD τ).loc main_v20_7) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10, (h c).2 main_v22 (Pipeline.mem_restRefs_of main_v22 (by decide) (by decide)),
      (h c).2 main_v24 (Pipeline.mem_restRefs_of main_v24 (by decide) (by decide)), (h c).1 13, (h c).1 14, (h c).1 15, (h c).1 16, (h c).1 17,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The reference -/

/-- The reference's one product: every token row with the whole weight. -/
abbrev prod (X : Vec Ideal S2x8192x1024 .f32) (W : Vec Ideal S1024x3656 .f32) : Vec Ideal Cert.Reference10Ideal.S2x8192x3656 .f32 :=
  Host.dotGeneral (F := Ideal) (φ₁ := .f32) (φ₂ := .f32) Cert.Reference10Ideal.dot_S2x8192x1024_S1024x3656_S2x8192x3656_2_0_01_1_n_n none X W

/-- At an element. -/
theorem prod_eq (X : Vec Ideal S2x8192x1024 .f32) (W : Vec Ideal S1024x3656 .f32) (a : Fin 2) (b : Fin 8192) (n : Fin 3656) :
    prod X W (ix3 a b n) = ∑ k : Fin 1024, X (ix3 a b k) * W (ix2 k n) := by
  pointwise [prod]

/-- Some of its columns, its rows flattened. -/
theorem cols_eq {M : Nat} (X : Vec Ideal S2x8192x1024 .f32) (W : Vec Ideal S1024x3656 .f32) (off : Nat) (ho : off + M ≤ 3656)
    (hs : (⟨3, ![2, 8192, 3656]⟩ : Shape).Slices ![0, 0, off] ⟨3, ![2, 8192, M]⟩)
    (h : (⟨3, ![2, 8192, M]⟩ : Shape).ShapeCasts ⟨2, ![16384, M]⟩) (r : Fin 16384) (n : Fin M) :
    shapeCast ⟨2, ![16384, M]⟩ (extractStridedSlice ⟨3, ![2, 8192, M]⟩ ![0, 0, off] (prod X W) hs) h (ix2 r n)
      = Rows.lin (Rows.prow X r) (Rows.cols W off ho) n :=
  (Rows.flat_slice rfl _ off hs h ho r n ⟨r.val / 8192, by omega⟩ ⟨r.val % 8192, by omega⟩
    (by show r.val = r.val / 8192 * 8192 + r.val % 8192; omega)).trans (prod_eq X W _ _ _)

/-- Some of its columns, at an element. -/
theorem slice_eq {M : Nat} (X : Vec Ideal S2x8192x1024 .f32) (W : Vec Ideal S1024x3656 .f32) (off : Nat) (ho : off + M ≤ 3656)
    (hs : (⟨3, ![2, 8192, 3656]⟩ : Shape).Slices ![0, 0, off] ⟨3, ![2, 8192, M]⟩) (r : Fin 16384) (n : Fin M) :
    extractStridedSlice ⟨3, ![2, 8192, M]⟩ ![0, 0, off] (prod X W) hs (ix3 ⟨r.val / 8192, by omega⟩ ⟨r.val % 8192, by omega⟩ n)
      = Rows.lin (Rows.prow X r) (Rows.cols W off ho) n := by
  refine (congrArg (prod X W) (funext fun i => ?_)).trans (prod_eq X W ⟨r.val / 8192, by omega⟩ ⟨r.val % 8192, by omega⟩ ⟨off + n.val, by omega⟩)
  fin_cases i <;> simp [Fin.ext_iff]
  all_goals rfl

set_option maxRecDepth 16384 in
/-- The prompt projections' kernel in the first layer computes what its reference computes, at the extended reals. -/
theorem algebraic : Cert.algebraic_Kernel10Ideal_Reference10Ideal := by
  intro m g m' g' _ hagree
  refine ⟨_, _, _, _, _, _, _, _, (θ_run defs _ _).mono (fun _ h c =>
    ⟨(h c).1.trans (final10 m c), (h c).2.1.trans (keys m c), (h c).2.2.1.trans (values m c), (h c).2.2.2.1.trans (final13 m c),
      (h c).2.2.2.2.1.trans (final14 m c), (h c).2.2.2.2.2.1.trans (final15 m c), (h c).2.2.2.2.2.2.1.trans (final16 m c),
      (h c).2.2.2.2.2.2.2.1.trans (final17 m c), (h c).2.2.2.2.2.2.2.2⟩) (run_blocks m g), ?_⟩
  refine (θ_run Cert.Reference10Ideal.defs _ _).mono (fun _ h c =>
    ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_, (h c).2.2.2.2.2.2.2.2⟩)
    (Cert.Reference10Ideal.Value.run m' g')
  all_goals
    obtain ⟨h0, h1, h2, h3⟩ := hagree c
    rw [h0, h1]
  · refine funext fun (i : S1024x16384.Idx) => ?_
    obtain ⟨l, r, rfl⟩ : ∃ (l : Fin 1024) (r : Fin 16384), i = ix2 l r := ⟨i 0, i 1, eq_ix2 i⟩
    have hq := cols_eq (m ((c : Thread nD τ).loc main_arg0)) (m ((c : Thread nD τ).loc main_arg1)) 0 (by omega)
      Cert.Reference10Ideal.Gen.slices_S2x8192x3656_S2x8192x1024_0_0_0 Cert.Reference10Ideal.Gen.shapeCasts_S2x8192x1024_S16384x1024 r l
    refine Eq.trans ?_ (congrArg (· * Ideal.ofBits .f32 0x3E0293EE#32) hq)
    beta_reduce
    generalize shapeCast Cert.Reference10Ideal.S16384x1024 (extractStridedSlice (s := Cert.Reference10Ideal.S2x8192x3656) Cert.Reference10Ideal.S2x8192x1024 ![0, 0, 0] _ _) _ = Q
    pointwise []
  · refine funext fun (i : S16384x1024.Idx) => ?_
    obtain ⟨r, l, rfl⟩ : ∃ (r : Fin 16384) (l : Fin 1024), i = ix2 r l := ⟨i 0, i 1, eq_ix2 i⟩
    exact cols_eq _ _ 1024 (by omega) Cert.Reference10Ideal.Gen.slices_S2x8192x3656_S2x8192x1024_0_0_1024 Cert.Reference10Ideal.Gen.shapeCasts_S2x8192x1024_S16384x1024 r l
  · refine funext fun (i : S16384x1024.Idx) => ?_
    obtain ⟨r, l, rfl⟩ : ∃ (r : Fin 16384) (l : Fin 1024), i = ix2 r l := ⟨i 0, i 1, eq_ix2 i⟩
    exact cols_eq _ _ 2048 (by omega) Cert.Reference10Ideal.Gen.slices_S2x8192x3656_S2x8192x1024_0_0_2048 Cert.Reference10Ideal.Gen.shapeCasts_S2x8192x1024_S16384x1024 r l
  · refine funext fun (i : S16384x1024.Idx) => ?_
    obtain ⟨r, l, rfl⟩ : ∃ (r : Fin 16384) (l : Fin 1024), i = ix2 r l := ⟨i 0, i 1, eq_ix2 i⟩
    exact cols_eq _ _ 1024 (by omega) Cert.Reference10Ideal.Gen.slices_S2x8192x3656_S2x8192x1024_0_0_1024 Cert.Reference10Ideal.Gen.shapeCasts_S2x8192x1024_S16384x1024 r l
  · refine funext fun (i : S1024x16384.Idx) => ?_
    obtain ⟨l, r, rfl⟩ : ∃ (l : Fin 1024) (r : Fin 16384), i = ix2 l r := ⟨i 0, i 1, eq_ix2 i⟩
    have hq := cols_eq (m ((c : Thread nD τ).loc main_arg0)) (m ((c : Thread nD τ).loc main_arg1)) 2048 (by omega)
      Cert.Reference10Ideal.Gen.slices_S2x8192x3656_S2x8192x1024_0_0_2048 Cert.Reference10Ideal.Gen.shapeCasts_S2x8192x1024_S16384x1024 r l
    refine Eq.trans ?_ hq
    beta_reduce
    generalize shapeCast Cert.Reference10Ideal.S16384x1024 (extractStridedSlice (s := Cert.Reference10Ideal.S2x8192x3656) Cert.Reference10Ideal.S2x8192x1024 ![0, 0, 2048] _ _) _ = Q
    pointwise []
  · refine funext fun (i : S512x16384.Idx) => ?_
    obtain ⟨l, r, rfl⟩ : ∃ (l : Fin 512) (r : Fin 16384), i = ix2 l r := ⟨i 0, i 1, eq_ix2 i⟩
    have hq := cols_eq (m ((c : Thread nD τ).loc main_arg0)) (m ((c : Thread nD τ).loc main_arg1)) 3072 (by omega)
      Cert.Reference10Ideal.Gen.slices_S2x8192x3656_S2x8192x512_0_0_3072 Cert.Reference10Ideal.Gen.shapeCasts_S2x8192x512_S16384x512 r l
    refine Eq.trans ?_ hq
    beta_reduce
    generalize shapeCast Cert.Reference10Ideal.S16384x512 (extractStridedSlice (s := Cert.Reference10Ideal.S2x8192x3656) Cert.Reference10Ideal.S2x8192x512 ![0, 0, 3072] _ _) _ = Q
    pointwise []
  · refine funext fun (i : S16384x64.Idx) => ?_
    obtain ⟨r, d, rfl⟩ : ∃ (r : Fin 16384) (d : Fin 64), i = ix2 r d := ⟨i 0, i 1, eq_ix2 i⟩
    rw [h2, h3]
    refine (Rows.flat_prow _ _ r d).trans ?_
    have hz : Rows.lin (Rows.prow (m ((c : Thread nD τ).loc main_arg0)) r) (Rows.cols (m ((c : Thread nD τ).loc main_arg1)) 3584 (by omega))
        = fun n : Fin 64 => _ :=
      funext fun n => (slice_eq _ _ 3584 (by omega) Cert.Reference10Ideal.Gen.slices_S2x8192x3656_S2x8192x64_0_0_3584 r n).symm
    show _ = Rows.norm _ (Rows.lin (Rows.prow (m ((c : Thread nD τ).loc main_arg0)) r) (Rows.cols (m ((c : Thread nD τ).loc main_arg1)) 3584 _))
      (fun n => (m ((c : Thread nD τ).loc main_arg2)) (ix1 n)) (fun n => (m ((c : Thread nD τ).loc main_arg3)) (ix1 n)) d
    rw [hz]
    generalize m ((c : Thread nD τ).loc main_arg2) = s
    generalize m ((c : Thread nD τ).loc main_arg3) = b
    generalize extractStridedSlice (s := Cert.Reference10Ideal.S2x8192x3656) Cert.Reference10Ideal.S2x8192x64 ![0, 0, 3584] _ _ = H
    simp only [Rows.norm, Rows.mean]
    pointwise []
  · refine funext fun (i : S8x16384.Idx) => ?_
    obtain ⟨h, r, rfl⟩ : ∃ (h : Fin 8) (r : Fin 16384), i = ix2 h r := ⟨i 0, i 1, eq_ix2 i⟩
    have hq := slice_eq (m ((c : Thread nD τ).loc main_arg0)) (m ((c : Thread nD τ).loc main_arg1)) 3648 (by omega)
      Cert.Reference10Ideal.Gen.slices_S2x8192x3656_S2x8192x8_0_0_3648 r h
    refine Eq.trans ?_ (congrArg (· * Ideal.ofBits .f32 0x3EB504F3#32) hq)
    beta_reduce
    generalize extractStridedSlice (s := Cert.Reference10Ideal.S2x8192x3656) Cert.Reference10Ideal.S2x8192x8 ![0, 0, 3648] _ _ = H
    refine Eq.trans ?_ (Rows.flat_prow (mulf H (broadcastInDim Cert.Reference10Ideal.S2x8192x8 ![] Cert.Reference10Ideal.Gen.bcast_S_S2x8192x8 (constant (F := Ideal) Cert.Reference10Ideal.S_ .f32 0x3EB504F3#32))) Cert.Reference10Ideal.Gen.shapeCasts_S2x8192x8_S16384x8 r h)
    generalize shapeCast (s := Cert.Reference10Ideal.S2x8192x8) Cert.Reference10Ideal.S16384x8 _ _ = Q
    pointwise []

end Cert.Proof.ProjFirst
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Frames
public import proofs.«01_k».proof.Proof.Sel.Run
public import proofs.«01_k».proof.Proof.Sel.Join
public import proofs.«01_k».proof.Proof.SelK.Run
public import proofs.«01_k».proof.Proof.Mlp
public import proofs.«01_k».proof.Proof.MlpSample
public import proofs.«01_k».proof.Proof.ProjPrompt
public import proofs.«01_k».proof.Proof.ProjSample
public import proofs.«01_k».proof.Proof.Oproj
public import proofs.«01_k».proof.Proof.PoolRef
public import proofs.«01_k».proof.Proof.OprojSample
public import proofs.«01_k».proof.Proof.PoolSampleRef
public import proofs.«01_k».proof.Proof.ProjFirst

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Sel.preFacts,
  SelK.frame_kernel, Sel.frame_kernelIdeal, fun m ρ _ => Sel.run_main m ρ, Frames.reference1, fun m ρ _ => Frames.reference1 m ρ trivial,
  fun m ρ _ => Cert.Kernel2.Gen.frame m ρ, fun m ρ _ => Cert.Kernel2Ideal.Gen.frame m ρ, Frames.reference2,
  fun m ρ _ => Cert.Kernel3.Gen.frame m ρ, fun m ρ _ => Cert.Kernel3Ideal.Gen.frame m ρ, Frames.reference3,
  fun m ρ _ => Cert.Kernel4.Gen.frame m ρ, fun m ρ _ => Cert.Kernel4Ideal.Gen.frame m ρ, Frames.reference4,
  fun m ρ _ => Cert.Kernel5.Gen.frame m ρ, fun m ρ _ => Cert.Kernel5Ideal.Gen.frame m ρ, Frames.reference5,
  fun m ρ _ => Cert.Kernel6.Gen.frame m ρ, fun m ρ _ => Cert.Kernel6Ideal.Gen.frame m ρ, Frames.reference6,
  fun m ρ _ => Cert.Kernel7.Gen.frame m ρ, fun m ρ _ => Cert.Kernel7Ideal.Gen.frame m ρ, Frames.reference7,
  fun m ρ _ => Cert.Kernel8.Gen.frame m ρ, fun m ρ _ => Cert.Kernel8Ideal.Gen.frame m ρ, Frames.reference8,
  fun m ρ _ => Cert.Kernel9.Gen.frame m ρ, fun m ρ _ => Cert.Kernel9Ideal.Gen.frame m ρ, Frames.reference9,
  fun m ρ _ => Cert.Kernel10.Gen.frame m ρ, fun m ρ _ => Cert.Kernel10Ideal.Gen.frame m ρ, Frames.reference10,
  trivial, Sel.algebraic, trivial, Mlp.algebraic, trivial, MlpSample.algebraic, trivial, ProjPrompt.algebraic,
  trivial, ProjSample.algebraic, trivial, Oproj.algebraic, trivial, Pool.algebraic,
  trivial, OprojSample.algebraic, trivial, PoolSample.algebraic,
  trivial, ProjFirst.algebraic⟩

end Cert.Proof

end
